-- ==== Defs.lean ====
def Pre_KernelPacked [hPre_segments : Cert.Pre_segments.Facts] (m : (ℓ : Loc Cert.KernelPacked.nD Cert.KernelPacked.τ Cert.KernelPacked.sig) → Buf (Elt Bits) ℓ) : Prop :=
  ∀ c : Dev Cert.KernelPacked.nD,
    (Cert.Pre_segments.fn (F := Bits) (m ((c.tc : Thread Cert.KernelPacked.nD Cert.KernelPacked.τ).loc Cert.KernelPacked.main_arg0)) (m ((c.tc : Thread Cert.KernelPacked.nD Cert.KernelPacked.τ).loc Cert.KernelPacked.main_arg1)) (m ((c.tc : Thread Cert.KernelPacked.nD Cert.KernelPacked.τ).loc Cert.KernelPacked.main_arg2)) (m ((c.tc : Thread Cert.KernelPacked.nD Cert.KernelPacked.τ).loc Cert.KernelPacked.main_arg3)) (m ((c.tc : Thread Cert.KernelPacked.nD Cert.KernelPacked.τ).loc Cert.KernelPacked.main_arg4)) (m ((c.tc : Thread Cert.KernelPacked.nD Cert.KernelPacked.τ).loc Cert.KernelPacked.main_arg5)) (m ((c.tc : Thread Cert.KernelPacked.nD Cert.KernelPacked.τ).loc Cert.KernelPacked.main_arg6)) (m ((c.tc : Thread Cert.KernelPacked.nD Cert.KernelPacked.τ).loc Cert.KernelPacked.main_arg7))) = (fun _ => 1#1)

def Pre_Kernel [hPre_segments : Cert.Pre_segments.Facts] (m : (ℓ : Loc Cert.Kernel.nD Cert.Kernel.τ Cert.Kernel.sig) → Buf (Elt Bits) ℓ) : Prop :=
  ∀ c : Dev Cert.Kernel.nD,
    (Cert.Pre_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_segments : Cert.Pre_segments.Facts] (m : (ℓ : Loc Cert.KernelIdeal.nD Cert.KernelIdeal.τ Cert.KernelIdeal.sig) → Buf (Elt Ideal) ℓ) : Prop :=
  ∀ c : Dev Cert.KernelIdeal.nD,
    (Cert.Pre_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_segments : Cert.Pre_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_KernelPacked [hKernelPacked : Cert.KernelPacked.Facts] [hPre_segments : Cert.Pre_segments.Facts] : Prop :=
  ∀ (m : (ℓ : Loc Cert.KernelPacked.nD Cert.KernelPacked.τ Cert.KernelPacked.sig) → Buf (Elt Bits) ℓ) (g : Dev Cert.KernelPacked.nD → PrngReg), Pre_KernelPacked m →
    θ_run (Cert.KernelPacked.defs (F := Bits)) (onTc (τ := Cert.KernelPacked.τ) (Cert.KernelPacked.main (F := Bits))) ⟨m, fun _ => 0, g⟩ (fun r => (∀ c : Dev Cert.KernelPacked.nD,
      r.2.mem ((c.tc : Thread Cert.KernelPacked.nD Cert.KernelPacked.τ).loc Cert.KernelPacked.main_arg0) = m ((c.tc : Thread Cert.KernelPacked.nD Cert.KernelPacked.τ).loc Cert.KernelPacked.main_arg0)
      ∧ r.2.mem ((c.tc : Thread Cert.KernelPacked.nD Cert.KernelPacked.τ).loc Cert.KernelPacked.main_arg1) = m ((c.tc : Thread Cert.KernelPacked.nD Cert.KernelPacked.τ).loc Cert.KernelPacked.main_arg1)
      ∧ r.2.mem ((c.tc : Thread Cert.KernelPacked.nD Cert.KernelPacked.τ).loc Cert.KernelPacked.main_arg2) = m ((c.tc : Thread Cert.KernelPacked.nD Cert.KernelPacked.τ).loc Cert.KernelPacked.main_arg2)
      ∧ r.2.mem ((c.tc : Thread Cert.KernelPacked.nD Cert.KernelPacked.τ).loc Cert.KernelPacked.main_arg3) = m ((c.tc : Thread Cert.KernelPacked.nD Cert.KernelPacked.τ).loc Cert.KernelPacked.main_arg3)
      ∧ r.2.mem ((c.tc : Thread Cert.KernelPacked.nD Cert.KernelPacked.τ).loc Cert.KernelPacked.main_arg4) = m ((c.tc : Thread Cert.KernelPacked.nD Cert.KernelPacked.τ).loc Cert.KernelPacked.main_arg4)
      ∧ r.2.mem ((c.tc : Thread Cert.KernelPacked.nD Cert.KernelPacked.τ).loc Cert.KernelPacked.main_arg5) = m ((c.tc : Thread Cert.KernelPacked.nD Cert.KernelPacked.τ).loc Cert.KernelPacked.main_arg5)
      ∧ r.2.mem ((c.tc : Thread Cert.KernelPacked.nD Cert.KernelPacked.τ).loc Cert.KernelPacked.main_arg6) = m ((c.tc : Thread Cert.KernelPacked.nD Cert.KernelPacked.τ).loc Cert.KernelPacked.main_arg6)
      ∧ r.2.mem ((c.tc : Thread Cert.KernelPacked.nD Cert.KernelPacked.τ).loc Cert.KernelPacked.main_arg7) = m ((c.tc : Thread Cert.KernelPacked.nD Cert.KernelPacked.τ).loc Cert.KernelPacked.main_arg7))
      ∧ r.2.sem = fun _ => 0)

def quiescent_Kernel [hKernel : Cert.Kernel.Facts] [hPre_segments : Cert.Pre_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_segments : Cert.Pre_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_segments : Cert.Pre_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v7_0)) (v1 : (c : Dev Cert.MixKernelIdeal.nD) → Buf (Elt Ideal) ((c.tc : Thread Cert.MixKernelIdeal.nD Cert.MixKernelIdeal.τ).loc Cert.MixKernelIdeal.main_v7_1)) (v2 : (c : Dev Cert.MixKernelIdeal.nD) → Buf (Elt Ideal) ((c.tc : Thread Cert.MixKernelIdeal.nD Cert.MixKernelIdeal.τ).loc Cert.MixKernelIdeal.main_v7_2)) (v3 : (c : Dev Cert.MixKernelIdeal.nD) → Buf (Elt Ideal) ((c.tc : Thread Cert.MixKernelIdeal.nD Cert.MixKernelIdeal.τ).loc Cert.MixKernelIdeal.main_v7_3)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v7_0) = v0 c
          ∧ r.2.mem ((c.tc : Thread Cert.MixKernelIdeal.nD Cert.MixKernelIdeal.τ).loc Cert.MixKernelIdeal.main_v7_1) = v1 c
          ∧ r.2.mem ((c.tc : Thread Cert.MixKernelIdeal.nD Cert.MixKernelIdeal.τ).loc Cert.MixKernelIdeal.main_v7_2) = v2 c
          ∧ r.2.mem ((c.tc : Thread Cert.MixKernelIdeal.nD Cert.MixKernelIdeal.τ).loc Cert.MixKernelIdeal.main_v7_3) = v3 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v85) = v0 c
          ∧ r.2.mem ((c.tc : Thread Cert.MixReferenceIdeal.nD Cert.MixReferenceIdeal.τ).loc Cert.MixReferenceIdeal.main_v90) = v1 c
          ∧ r.2.mem ((c.tc : Thread Cert.MixReferenceIdeal.nD Cert.MixReferenceIdeal.τ).loc Cert.MixReferenceIdeal.main_v91) = v2 c
          ∧ r.2.mem ((c.tc : Thread Cert.MixReferenceIdeal.nD Cert.MixReferenceIdeal.τ).loc Cert.MixReferenceIdeal.main_v94) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)) →
    ∃ (v0 : (c : Dev Cert.OutKernelIdeal.nD) → Buf (Elt Ideal) ((c.tc : Thread Cert.OutKernelIdeal.nD Cert.OutKernelIdeal.τ).loc Cert.OutKernelIdeal.main_v5_0)) (v1 : (c : Dev Cert.OutKernelIdeal.nD) → Buf (Elt Ideal) ((c.tc : Thread Cert.OutKernelIdeal.nD Cert.OutKernelIdeal.τ).loc Cert.OutKernelIdeal.main_v5_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5_0) = v0 c
          ∧ r.2.mem ((c.tc : Thread Cert.OutKernelIdeal.nD Cert.OutKernelIdeal.τ).loc Cert.OutKernelIdeal.main_v5_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v5) = v0 c
          ∧ r.2.mem ((c.tc : Thread Cert.OutReferenceIdeal.nD Cert.OutReferenceIdeal.τ).loc Cert.OutReferenceIdeal.main_v19) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6))

def Claim : Prop :=
  ∃ (hKernelPacked : Cert.KernelPacked.Facts) (hKernel : Cert.Kernel.Facts) (hKernelIdeal : Cert.KernelIdeal.Facts) (hReferenceIdeal : Cert.ReferenceIdeal.Facts) (hMixKernel : Cert.MixKernel.Facts) (hMixKernelIdeal : Cert.MixKernelIdeal.Facts) (hMixReferenceIdeal : Cert.MixReferenceIdeal.Facts) (hOutKernel : Cert.OutKernel.Facts) (hOutKernelIdeal : Cert.OutKernelIdeal.Facts) (hOutReferenceIdeal : Cert.OutReferenceIdeal.Facts) (hPre_segments : Cert.Pre_segments.Facts),
    quiescent_KernelPacked (hKernelPacked := hKernelPacked) (hPre_segments := hPre_segments)
    ∧ quiescent_Kernel (hKernel := hKernel) (hPre_segments := hPre_segments)
    ∧ quiescent_KernelIdeal (hKernelIdeal := hKernelIdeal) (hPre_segments := hPre_segments)
    ∧ quiescent_ReferenceIdeal (hReferenceIdeal := hReferenceIdeal) (hPre_segments := hPre_segments)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal) (hPre_segments := hPre_segments)
    ∧ preserves_MixKernel_MixKernelIdeal
    ∧ algebraic_MixKernelIdeal_MixReferenceIdeal (hMixKernelIdeal := hMixKernelIdeal) (hMixReferenceIdeal := hMixReferenceIdeal)
    ∧ preserves_OutKernel_OutKernelIdeal
    ∧ algebraic_OutKernelIdeal_OutReferenceIdeal (hOutKernelIdeal := hOutKernelIdeal) (hOutReferenceIdeal := hOutReferenceIdeal)
-- ==== Pre_segments.lean ====
abbrev S32 : Shape := ⟨1, ![32]⟩
abbrev S1 : Shape := ⟨1, ![1]⟩
abbrev S307200x512 : Shape := ⟨2, ![307200, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S31 : Shape := ⟨1, ![31]⟩
abbrev S_ : Shape := ⟨0, ![]⟩

class Facts : Prop where
  bcast_S1_S32_0 : S1.BroadcastsInDim S32 (![0] : Fin 1 → Fin S32.rank)
  slices_S32_S31_1 : S32.Slices ![1] S31
  bcast_S_S1 : S_.BroadcastsInDim S1 (![] : Fin 0 → Fin S1.rank)
  concatenates_S31_S1_S32_d0 : Shape.Concatenates [S31, S1] S32 0
  bcast_S_S32 : S_.BroadcastsInDim S32 (![] : Fin 0 → Fin S32.rank)

variable [Facts]

def fn_part1 {F : FTy → Type} [FloatOps F] (main_arg0 : IVec S32 32) (main_arg1 : IVec S32 32) (main_v0 : IVec S32 32) (main_v1 : IVec S32 32) (main_v5 : IVec S32 32) (main_v16 : IVec S32 1) (main_v17 : IVec S32 32) : IVec S32 1 :=
  let main_v18 : IVec S32 1 := cmpi .sge main_v1 main_v17
  let main_v19 : IVec S32 1 := andi main_v16 main_v18
  let main_c_5 : IVec S_ 32 := constantI S_ 32 600#32
  let main_v20 : IVec S32 32 := broadcastInDim S32 ![] bcast_S_S32 main_c_5
  let main_v21 : IVec S32 1 := cmpi .sle main_v1 main_v20
  let main_v22 : IVec S32 1 := andi main_v19 main_v21
  let main_c_6 : IVec S_ 32 := constantI S_ 32 511#32
  let main_v23 : IVec S32 32 := broadcastInDim S32 ![] bcast_S_S32 main_c_6
  let main_v24 : IVec S32 32 := andi main_arg1 main_v23
  let main_c_7 : IVec S_ 32 := constantI S_ 32 0#32
  let main_v25 : IVec S32 32 := broadcastInDim S32 ![] bcast_S_S32 main_c_7
  let main_v26 : IVec S32 1 := cmpi .eq main_v24 main_v25
  let main_v27 : IVec S32 1 := andi main_v22 main_v26
  let main_c_8 : IVec S_ 32 := constantI S_ 32 0#32
  let main_v28 : IVec S32 32 := broadcastInDim S32 ![] bcast_S_S32 main_c_8
  let main_v29 : IVec S32 1 := cmpi .ne main_v0 main_v28
  let main_c_9 : IVec S_ 32 := constantI S_ 32 0#32
  let main_v30 : IVec S32 32 := broadcastInDim S32 ![] bcast_S_S32 main_c_9
  let main_v31 : IVec S32 1 := cmpi .eq main_arg0 main_v30
  let main_v32 : IVec S32 1 := ori main_v29 main_v31
  let main_v33 : IVec S32 1 := andi main_v27 main_v32
  let main_v34 : IVec S32 32 := addi main_arg0 main_arg1
  let main_v35 : IVec S32 1 := cmpi .eq main_v34 main_v5
  let main_v36 : IVec S32 1 := andi main_v33 main_v35
  main_v36

def fn {F : FTy → Type} [FloatOps F] (main_arg0 : IVec S32 32) (main_arg1 : IVec S32 32) (main_arg2 : IVec S1 32) (main_arg3 : IVec S307200x512 32) (main_arg4 : FVec F S32x1024x2048 .f32) (main_arg5 : FVec F S32x2048 .f32) (main_arg6 : FVec F S32x1024x1024 .f32) (main_arg7 : FVec F S32x1024 .f32) : IVec S32 1 :=
  let main_v0 : IVec S32 32 := iotaInDim S32 32 0
  let main_v1 : IVec S32 32 := broadcastInDim S32 ![0] bcast_S1_S32_0 main_arg2
  let main_v2 : IVec S31 32 := (extractStridedSlice S31 ![1] · slices_S32_S31_1) main_arg0
  let main_c : IVec S_ 32 := constantI S_ 32 512#32
  let main_v3 : IVec S1 32 := broadcastInDim S1 ![] bcast_S_S1 main_c
  let main_v4 : IVec S1 32 := muli main_arg2 main_v3
  let main_v5 : IVec S32 32 := (fun a b => concatenate S32 0 [⟨S31, a⟩, ⟨S1, b⟩] concatenates_S31_S1_S32_d0) main_v2 main_v4
  let main_c_0 : IVec S_ 32 := constantI S_ 32 0#32
  let main_v6 : IVec S32 32 := broadcastInDim S32 ![] bcast_S_S32 main_c_0
  let main_v7 : IVec S32 1 := cmpi .sge main_arg0 main_v6
  let main_c_1 : IVec S_ 32 := constantI S_ 32 307200#32
  let main_v8 : IVec S32 32 := broadcastInDim S32 ![] bcast_S_S32 main_c_1
  let main_v9 : IVec S32 1 := cmpi .sle main_arg0 main_v8
  let main_v10 : IVec S32 1 := andi main_v7 main_v9
  let main_c_2 : IVec S_ 32 := constantI S_ 32 0#32
  let main_v11 : IVec S32 32 := broadcastInDim S32 ![] bcast_S_S32 main_c_2
  let main_v12 : IVec S32 1 := cmpi .sge main_arg1 main_v11
  let main_v13 : IVec S32 1 := andi main_v10 main_v12
  let main_c_3 : IVec S_ 32 := constantI S_ 32 307200#32
  let main_v14 : IVec S32 32 := broadcastInDim S32 ![] bcast_S_S32 main_c_3
  let main_v15 : IVec S32 1 := cmpi .sle main_arg1 main_v14
  let main_v16 : IVec S32 1 := andi main_v13 main_v15
  let main_c_4 : IVec S_ 32 := constantI S_ 32 0#32
  let main_v17 : IVec S32 32 := broadcastInDim S32 ![] bcast_S_S32 main_c_4
  fn_part1 (F := F) main_arg0 main_arg1 main_v0 main_v1 main_v5 main_v16 main_v17
-- ==== KernelPacked.lean ====
abbrev S32 : Shape := ⟨1, ![32]⟩
abbrev S1 : Shape := ⟨1, ![1]⟩
abbrev S307200x512 : Shape := ⟨2, ![307200, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S2x512x512 : Shape := ⟨3, ![2, 512, 512]⟩
abbrev S2 : Shape := ⟨1, ![2]⟩
abbrev S_ : Shape := ⟨0, ![]⟩
abbrev S1x512x512 : Shape := ⟨3, ![1, 512, 512]⟩
abbrev S512x512 : Shape := ⟨2, ![512, 512]⟩
abbrev S256x256 : Shape := ⟨2, ![256, 256]⟩
abbrev S1x1024x256 : Shape := ⟨3, ![1, 1024, 256]⟩
abbrev S1024x256 : Shape := ⟨2, ![1024, 256]⟩
abbrev S512x1024 : Shape := ⟨2, ![512, 1024]⟩
abbrev S512x2048 : Shape := ⟨2, ![512, 2048]⟩
abbrev S1x2048 : Shape := ⟨2, ![1, 2048]⟩
abbrev S512x128 : Shape := ⟨2, ![512, 128]⟩
abbrev S1x1024 : Shape := ⟨2, ![1, 1024]⟩

abbrev nBuf : Space → Nat
  | .hbm => 10
  | .vmem => 12
  | .smem => 3
  | _ => 0

abbrev bufTy : (tb : Table) → Fin (tcTables nBuf tb) → BufTy
  | .hbm, ⟨0, _⟩ => ⟨S307200x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x8x128x2, .f32⟩
  | .hbm, ⟨6, _⟩ => ⟨S32x8x2x128, .f32⟩
  | .hbm, ⟨7, _⟩ => ⟨S32x1x2048, .f32⟩
  | .hbm, ⟨8, _⟩ => ⟨S32x1x1024, .f32⟩
  | .hbm, ⟨9, _⟩ => ⟨S307200x512, .i32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .bf16⟩
  | .local _ .vmem, ⟨9, _⟩ => ⟨S1024x1024, .bf16⟩
  | .local _ .vmem, ⟨10, _⟩ => ⟨S2x512x512, .i32⟩
  | .local _ .vmem, ⟨11, _⟩ => ⟨S2x512x512, .i32⟩
  | .local _ .smem, ⟨0, _⟩ => ⟨S32, .i32⟩
  | .local _ .smem, ⟨1, _⟩ => ⟨S32, .i32⟩
  | .local _ .smem, ⟨2, _⟩ => ⟨S1, .i32⟩
  | _, _ => ⟨S307200x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![32], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_mult1 : BitVec 32 :=
  let c0_i32_22 : BitVec 32 := 0#32
  c0_i32_22
@[reducible] def k0_t1_loop (v21 : BitVec 32) : Scf.Loop 32 :=
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_19 : BitVec 32 := 1#32
  ⟨c0_i32_17, v51, c1_i32_19⟩

def k0_mult2 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_23 : BitVec 32 := 512#32
  let v57 : BitVec 32 := Scalar.muli v55 c512_i32_23
  v57
def k0_off2 (v2 : BitVec 32) (v21 : BitVec 32) (k0_t1 : Fin (k0_t1_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  ![v56.toNat]
def k0_off3 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let c0_i32_24 : BitVec 32 := 0#32
  let c0_i32_25 : BitVec 32 := 0#32
  ![v56.toNat, 0, 0]
def k0_off4 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_23 : BitVec 32 := 512#32
  let v57 : BitVec 32 := Scalar.muli v55 c512_i32_23
  let v58 : BitVec 32 := v57
  let c0_i32_26 : BitVec 32 := 0#32
  ![v58.toNat, 0]
def k0_mult3 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_105 : BitVec 32 := 1#32
  let v265 : BitVec 32 := Scalar.addi v55 c1_i32_105
  let c512_i32_107 : BitVec 32 := 512#32
  let v267 : BitVec 32 := Scalar.muli v265 c512_i32_107
  v267
def k0_cond3 (v0 : BitVec 32) (v2 : BitVec 32) (v21 : BitVec 32) (k0_t1 : Fin (k0_t1_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_27 : BitVec 32 := 1#32
  let v64 : BitVec 32 := Scalar.addi v55 c1_i32_27
  let v65 : BitVec 1 := Scalar.cmpi .slt v64 v0
  let v66 : BitVec 32 := Scalar.extui v65
  let c0_i32_28 : BitVec 32 := 0#32
  let v67 : BitVec 1 := Scalar.cmpi .ne v66 c0_i32_28
  v67

def k0_off5 (v2 : BitVec 32) (v21 : BitVec 32) (k0_t1 : Fin (k0_t1_loop v21).trips) : Fin 1 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v266 : BitVec 32 := Scalar.subi c1_i32_106 v56
  ![v266.toNat]
def k0_off6 (v2 : BitVec 32) (v21 : BitVec 32) (k0_t1 : Fin (k0_t1_loop v21).trips) : Fin 3 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v266 : BitVec 32 := Scalar.subi c1_i32_106 v56
  let c0_i32_108 : BitVec 32 := 0#32
  let c0_i32_109 : BitVec 32 := 0#32
  ![v266.toNat, 0, 0]
def k0_off7 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_105 : BitVec 32 := 1#32
  let v265 : BitVec 32 := Scalar.addi v55 c1_i32_105
  let c512_i32_107 : BitVec 32 := 512#32
  let v267 : BitVec 32 := Scalar.muli v265 c512_i32_107
  let v268 : BitVec 32 := v267
  let c0_i32_110 : BitVec 32 := 0#32
  ![v268.toNat, 0]
def k0_mult4 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c2_i32_105 : BitVec 32 := 2#32
  let v265 : BitVec 32 := Scalar.subi v55 c2_i32_105
  let c512_i32_106 : BitVec 32 := 512#32
  let v266 : BitVec 32 := Scalar.muli v265 c512_i32_106
  v266
def k0_cond4 (v2 : BitVec 32) (v21 : BitVec 32) (k0_t1 : Fin (k0_t1_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c2_i32 : BitVec 32 := 2#32
  let v68 : BitVec 1 := Scalar.cmpi .sge v55 c2_i32
  let v69 : BitVec 32 := Scalar.extui v68
  let c0_i32_29 : BitVec 32 := 0#32
  let v70 : BitVec 1 := Scalar.cmpi .ne v69 c0_i32_29
  v70

def k0_off8 (v2 : BitVec 32) (v21 : BitVec 32) (k0_t1 : Fin (k0_t1_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  ![v56.toNat]
def k0_off9 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c2_i32_105 : BitVec 32 := 2#32
  let v265 : BitVec 32 := Scalar.subi v55 c2_i32_105
  let c512_i32_106 : BitVec 32 := 512#32
  let v266 : BitVec 32 := Scalar.muli v265 c512_i32_106
  let v267 : BitVec 32 := v266
  let c0_i32_107 : BitVec 32 := 0#32
  ![v267.toNat, 0]
def k0_off10 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let c0_i32_108 : BitVec 32 := 0#32
  let c0_i32_109 : BitVec 32 := 0#32
  ![v56.toNat, 0, 0]
def k0_off11 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v71 : Index := Scalar.indexCast v56
  let c0_30 : Index := 0#32
  let c0_31 : Index := 0#32
  ![v71.toNat, 0, 0]
def k0_mult5 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_101 : BitVec 32 := 512#32
  let v258 : BitVec 32 := Scalar.muli v55 c512_i32_101
  v258
@[reducible] def k0_t2_loop (v21 : BitVec 32) : Scf.Loop 32 :=
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let v48 : BitVec 32 := Scalar.addi c0_i32_17 v47
  let c1_i32_20 : BitVec 32 := 1#32
  ⟨v51, v48, c1_i32_20⟩
def k0_mult6 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_23 : BitVec 32 := 512#32
  let v57 : BitVec 32 := Scalar.muli v55 c512_i32_23
  v57
def k0_off12 (v2 : BitVec 32) (v21 : BitVec 32) (k0_t2 : Fin (k0_t2_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  ![v56.toNat]
def k0_off13 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let c0_i32_24 : BitVec 32 := 0#32
  let c0_i32_25 : BitVec 32 := 0#32
  ![v56.toNat, 0, 0]
def k0_off14 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_23 : BitVec 32 := 512#32
  let v57 : BitVec 32 := Scalar.muli v55 c512_i32_23
  let v58 : BitVec 32 := v57
  let c0_i32_26 : BitVec 32 := 0#32
  ![v58.toNat, 0]
def k0_mult7 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_105 : BitVec 32 := 1#32
  let v265 : BitVec 32 := Scalar.addi v55 c1_i32_105
  let c512_i32_107 : BitVec 32 := 512#32
  let v267 : BitVec 32 := Scalar.muli v265 c512_i32_107
  v267
def k0_cond5 (v0 : BitVec 32) (v2 : BitVec 32) (v21 : BitVec 32) (k0_t2 : Fin (k0_t2_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_27 : BitVec 32 := 1#32
  let v64 : BitVec 32 := Scalar.addi v55 c1_i32_27
  let v65 : BitVec 1 := Scalar.cmpi .slt v64 v0
  let v66 : BitVec 32 := Scalar.extui v65
  let c0_i32_28 : BitVec 32 := 0#32
  let v67 : BitVec 1 := Scalar.cmpi .ne v66 c0_i32_28
  v67

def k0_off15 (v2 : BitVec 32) (v21 : BitVec 32) (k0_t2 : Fin (k0_t2_loop v21).trips) : Fin 1 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v266 : BitVec 32 := Scalar.subi c1_i32_106 v56
  ![v266.toNat]
def k0_off16 (v2 : BitVec 32) (v21 : BitVec 32) (k0_t2 : Fin (k0_t2_loop v21).trips) : Fin 3 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v266 : BitVec 32 := Scalar.subi c1_i32_106 v56
  let c0_i32_108 : BitVec 32 := 0#32
  let c0_i32_109 : BitVec 32 := 0#32
  ![v266.toNat, 0, 0]
def k0_off17 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_105 : BitVec 32 := 1#32
  let v265 : BitVec 32 := Scalar.addi v55 c1_i32_105
  let c512_i32_107 : BitVec 32 := 512#32
  let v267 : BitVec 32 := Scalar.muli v265 c512_i32_107
  let v268 : BitVec 32 := v267
  let c0_i32_110 : BitVec 32 := 0#32
  ![v268.toNat, 0]
def k0_mult8 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c2_i32_105 : BitVec 32 := 2#32
  let v265 : BitVec 32 := Scalar.subi v55 c2_i32_105
  let c512_i32_106 : BitVec 32 := 512#32
  let v266 : BitVec 32 := Scalar.muli v265 c512_i32_106
  v266
def k0_cond6 (v2 : BitVec 32) (v21 : BitVec 32) (k0_t2 : Fin (k0_t2_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c2_i32 : BitVec 32 := 2#32
  let v68 : BitVec 1 := Scalar.cmpi .sge v55 c2_i32
  let v69 : BitVec 32 := Scalar.extui v68
  let c0_i32_29 : BitVec 32 := 0#32
  let v70 : BitVec 1 := Scalar.cmpi .ne v69 c0_i32_29
  v70

def k0_off18 (v2 : BitVec 32) (v21 : BitVec 32) (k0_t2 : Fin (k0_t2_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  ![v56.toNat]
def k0_off19 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c2_i32_105 : BitVec 32 := 2#32
  let v265 : BitVec 32 := Scalar.subi v55 c2_i32_105
  let c512_i32_106 : BitVec 32 := 512#32
  let v266 : BitVec 32 := Scalar.muli v265 c512_i32_106
  let v267 : BitVec 32 := v266
  let c0_i32_107 : BitVec 32 := 0#32
  ![v267.toNat, 0]
def k0_off20 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let c0_i32_108 : BitVec 32 := 0#32
  let c0_i32_109 : BitVec 32 := 0#32
  ![v56.toNat, 0, 0]
def k0_off21 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v71 : Index := Scalar.indexCast v56
  let c0_30 : Index := 0#32
  let c0_31 : Index := 0#32
  ![v71.toNat, 0, 0]
def k0_mult9 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_101 : BitVec 32 := 512#32
  let v258 : BitVec 32 := Scalar.muli v55 c512_i32_101
  v258

def k0_chk1 (v0 : BitVec 32) (v2 : BitVec 32) (v21 : BitVec 32) : Prop :=
  ((k0_t1_loop v21).OK) ∧
  (∀ k0_t1 : Fin (k0_t1_loop v21).trips, 512 ∣ (k0_mult2 v2 v21 k0_t1).toNat) ∧
  (∀ k0_t1 : Fin (k0_t1_loop v21).trips, ∀ a, (k0_off2 v2 v21 k0_t1) a + S1.size a ≤ S2.size a) ∧
  (∀ k0_t1 : Fin (k0_t1_loop v21).trips, ∀ a, (k0_off3 v2 v21 k0_t1) a + S1x512x512.size a ≤ S2x512x512.size a) ∧
  (∀ k0_t1 : Fin (k0_t1_loop v21).trips, ∀ a, (k0_off4 v2 v21 k0_t1) a + S512x512.size a ≤ S307200x512.size a) ∧
  (∀ k0_t1 : Fin (k0_t1_loop v21).trips, ∀ (k0_h3 : k0_cond3 v0 v2 v21 k0_t1 = 1#1), 512 ∣ (k0_mult3 v2 v21 k0_t1).toNat) ∧
  (∀ k0_t1 : Fin (k0_t1_loop v21).trips, ∀ (k0_h3 : k0_cond3 v0 v2 v21 k0_t1 = 1#1), ∀ a, (k0_off5 v2 v21 k0_t1) a + S1.size a ≤ S2.size a) ∧
  (∀ k0_t1 : Fin (k0_t1_loop v21).trips, ∀ (k0_h3 : k0_cond3 v0 v2 v21 k0_t1 = 1#1), ∀ a, (k0_off6 v2 v21 k0_t1) a + S1x512x512.size a ≤ S2x512x512.size a) ∧
  (∀ k0_t1 : Fin (k0_t1_loop v21).trips, ∀ (k0_h3 : k0_cond3 v0 v2 v21 k0_t1 = 1#1), ∀ a, (k0_off7 v2 v21 k0_t1) a + S512x512.size a ≤ S307200x512.size a) ∧
  (∀ k0_t1 : Fin (k0_t1_loop v21).trips, ∀ (k0_h4 : k0_cond4 v2 v21 k0_t1 = 1#1), 512 ∣ (k0_mult4 v2 v21 k0_t1).toNat) ∧
  (∀ k0_t1 : Fin (k0_t1_loop v21).trips, ∀ (k0_h4 : k0_cond4 v2 v21 k0_t1 = 1#1), ∀ a, (k0_off8 v2 v21 k0_t1) a + S1.size a ≤ S2.size a) ∧
  (∀ k0_t1 : Fin (k0_t1_loop v21).trips, ∀ (k0_h4 : k0_cond4 v2 v21 k0_t1 = 1#1), ∀ a, (k0_off9 v2 v21 k0_t1) a + S512x512.size a ≤ S307200x512.size a) ∧
  (∀ k0_t1 : Fin (k0_t1_loop v21).trips, ∀ (k0_h4 : k0_cond4 v2 v21 k0_t1 = 1#1), ∀ a, (k0_off10 v2 v21 k0_t1) a + S1x512x512.size a ≤ S2x512x512.size a) ∧
  (∀ k0_t1 : Fin (k0_t1_loop v21).trips, ∀ a, (k0_off11 v2 v21 k0_t1) a + S1x512x512.size a ≤ S2x512x512.size a) ∧
  (∀ k0_t1 : Fin (k0_t1_loop v21).trips, 512 ∣ (k0_mult5 v2 v21 k0_t1).toNat) ∧
  ((k0_t2_loop v21).OK) ∧
  (∀ k0_t2 : Fin (k0_t2_loop v21).trips, 512 ∣ (k0_mult6 v2 v21 k0_t2).toNat) ∧
  (∀ k0_t2 : Fin (k0_t2_loop v21).trips, ∀ a, (k0_off12 v2 v21 k0_t2) a + S1.size a ≤ S2.size a) ∧
  (∀ k0_t2 : Fin (k0_t2_loop v21).trips, ∀ a, (k0_off13 v2 v21 k0_t2) a + S1x512x512.size a ≤ S2x512x512.size a) ∧
  (∀ k0_t2 : Fin (k0_t2_loop v21).trips, ∀ a, (k0_off14 v2 v21 k0_t2) a + S512x512.size a ≤ S307200x512.size a) ∧
  (∀ k0_t2 : Fin (k0_t2_loop v21).trips, ∀ (k0_h5 : k0_cond5 v0 v2 v21 k0_t2 = 1#1), 512 ∣ (k0_mult7 v2 v21 k0_t2).toNat) ∧
  (∀ k0_t2 : Fin (k0_t2_loop v21).trips, ∀ (k0_h5 : k0_cond5 v0 v2 v21 k0_t2 = 1#1), ∀ a, (k0_off15 v2 v21 k0_t2) a + S1.size a ≤ S2.size a) ∧
  (∀ k0_t2 : Fin (k0_t2_loop v21).trips, ∀ (k0_h5 : k0_cond5 v0 v2 v21 k0_t2 = 1#1), ∀ a, (k0_off16 v2 v21 k0_t2) a + S1x512x512.size a ≤ S2x512x512.size a) ∧
  (∀ k0_t2 : Fin (k0_t2_loop v21).trips, ∀ (k0_h5 : k0_cond5 v0 v2 v21 k0_t2 = 1#1), ∀ a, (k0_off17 v2 v21 k0_t2) a + S512x512.size a ≤ S307200x512.size a) ∧
  (∀ k0_t2 : Fin (k0_t2_loop v21).trips, ∀ (k0_h6 : k0_cond6 v2 v21 k0_t2 = 1#1), 512 ∣ (k0_mult8 v2 v21 k0_t2).toNat) ∧
  (∀ k0_t2 : Fin (k0_t2_loop v21).trips, ∀ (k0_h6 : k0_cond6 v2 v21 k0_t2 = 1#1), ∀ a, (k0_off18 v2 v21 k0_t2) a + S1.size a ≤ S2.size a) ∧
  (∀ k0_t2 : Fin (k0_t2_loop v21).trips, ∀ (k0_h6 : k0_cond6 v2 v21 k0_t2 = 1#1), ∀ a, (k0_off19 v2 v21 k0_t2) a + S512x512.size a ≤ S307200x512.size a) ∧
  (∀ k0_t2 : Fin (k0_t2_loop v21).trips, ∀ (k0_h6 : k0_cond6 v2 v21 k0_t2 = 1#1), ∀ a, (k0_off20 v2 v21 k0_t2) a + S1x512x512.size a ≤ S2x512x512.size a) ∧
  (∀ k0_t2 : Fin (k0_t2_loop v21).trips, ∀ a, (k0_off21 v2 v21 k0_t2) a + S1x512x512.size a ≤ S2x512x512.size a) ∧
  (∀ k0_t2 : Fin (k0_t2_loop v21).trips, 512 ∣ (k0_mult9 v2 v21 k0_t2).toNat)
theorem k0_t1_ok : ∀ (v0 : BitVec 32) (v2 : BitVec 32) (v21 : BitVec 32) (k0_hw1 : k0_chk1 v0 v2 v21), (k0_t1_loop v21).OK := fun v0 v2 v21 k0_hw1 => k0_hw1.1
theorem k0_mult2_dvd : ∀ (v0 : BitVec 32) (v2 : BitVec 32) (v21 : BitVec 32) (k0_hw1 : k0_chk1 v0 v2 v21) (k0_t1 : Fin (k0_t1_loop v21).trips), 512 ∣ (k0_mult2 v2 v21 k0_t1).toNat := fun v0 v2 v21 k0_hw1 k0_t1 => k0_hw1.2.1 k0_t1
theorem k0_off2_inb : ∀ (v0 : BitVec 32) (v2 : BitVec 32) (v21 : BitVec 32) (k0_hw1 : k0_chk1 v0 v2 v21) (k0_t1 : Fin (k0_t1_loop v21).trips), ∀ a, (k0_off2 v2 v21 k0_t1) a + S1.size a ≤ S2.size a := fun v0 v2 v21 k0_hw1 k0_t1 => k0_hw1.2.2.1 k0_t1
theorem k0_off3_inb : ∀ (v0 : BitVec 32) (v2 : BitVec 32) (v21 : BitVec 32) (k0_hw1 : k0_chk1 v0 v2 v21) (k0_t1 : Fin (k0_t1_loop v21).trips), ∀ a, (k0_off3 v2 v21 k0_t1) a + S1x512x512.size a ≤ S2x512x512.size a := fun v0 v2 v21 k0_hw1 k0_t1 => k0_hw1.2.2.2.1 k0_t1
theorem k0_off4_inb : ∀ (v0 : BitVec 32) (v2 : BitVec 32) (v21 : BitVec 32) (k0_hw1 : k0_chk1 v0 v2 v21) (k0_t1 : Fin (k0_t1_loop v21).trips), ∀ a, (k0_off4 v2 v21 k0_t1) a + S512x512.size a ≤ S307200x512.size a := fun v0 v2 v21 k0_hw1 k0_t1 => k0_hw1.2.2.2.2.1 k0_t1
theorem k0_mult3_dvd : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), 512 ∣ (k0_mult3 v2 v21 k0_t1).toNat := fun v0 v2 v21 k0_hw1 k0_t1 k0_h3 => k0_hw1.2.2.2.2.2.1 k0_t1 k0_h3
theorem k0_off5_inb : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), ∀ a, (k0_off5 v2 v21 k0_t1) a + S1.size a ≤ S2.size a := fun v0 v2 v21 k0_hw1 k0_t1 k0_h3 => k0_hw1.2.2.2.2.2.2.1 k0_t1 k0_h3
theorem k0_off6_inb : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), ∀ a, (k0_off6 v2 v21 k0_t1) a + S1x512x512.size a ≤ S2x512x512.size a := fun v0 v2 v21 k0_hw1 k0_t1 k0_h3 => k0_hw1.2.2.2.2.2.2.2.1 k0_t1 k0_h3
theorem k0_off7_inb : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), ∀ a, (k0_off7 v2 v21 k0_t1) a + S512x512.size a ≤ S307200x512.size a := fun v0 v2 v21 k0_hw1 k0_t1 k0_h3 => k0_hw1.2.2.2.2.2.2.2.2.1 k0_t1 k0_h3
theorem k0_mult4_dvd : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), 512 ∣ (k0_mult4 v2 v21 k0_t1).toNat := fun v0 v2 v21 k0_hw1 k0_t1 k0_h4 => k0_hw1.2.2.2.2.2.2.2.2.2.1 k0_t1 k0_h4
theorem k0_off8_inb : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), ∀ a, (k0_off8 v2 v21 k0_t1) a + S1.size a ≤ S2.size a := fun v0 v2 v21 k0_hw1 k0_t1 k0_h4 => k0_hw1.2.2.2.2.2.2.2.2.2.2.1 k0_t1 k0_h4
theorem k0_off9_inb : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), ∀ a, (k0_off9 v2 v21 k0_t1) a + S512x512.size a ≤ S307200x512.size a := fun v0 v2 v21 k0_hw1 k0_t1 k0_h4 => k0_hw1.2.2.2.2.2.2.2.2.2.2.2.1 k0_t1 k0_h4
theorem k0_off10_inb : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), ∀ a, (k0_off10 v2 v21 k0_t1) a + S1x512x512.size a ≤ S2x512x512.size a := fun v0 v2 v21 k0_hw1 k0_t1 k0_h4 => k0_hw1.2.2.2.2.2.2.2.2.2.2.2.2.1 k0_t1 k0_h4
theorem k0_off11_inb : ∀ (v0 : BitVec 32) (v2 : BitVec 32) (v21 : BitVec 32) (k0_hw1 : k0_chk1 v0 v2 v21) (k0_t1 : Fin (k0_t1_loop v21).trips), ∀ a, (k0_off11 v2 v21 k0_t1) a + S1x512x512.size a ≤ S2x512x512.size a := fun v0 v2 v21 k0_hw1 k0_t1 => k0_hw1.2.2.2.2.2.2.2.2.2.2.2.2.2.1 k0_t1
theorem k0_mult5_dvd : ∀ (v0 : BitVec 32) (v2 : BitVec 32) (v21 : BitVec 32) (k0_hw1 : k0_chk1 v0 v2 v21) (k0_t1 : Fin (k0_t1_loop v21).trips), 512 ∣ (k0_mult5 v2 v21 k0_t1).toNat := fun v0 v2 v21 k0_hw1 k0_t1 => k0_hw1.2.2.2.2.2.2.2.2.2.2.2.2.2.2.1 k0_t1
theorem k0_t2_ok : ∀ (v0 : BitVec 32) (v2 : BitVec 32) (v21 : BitVec 32) (k0_hw1 : k0_chk1 v0 v2 v21), (k0_t2_loop v21).OK := fun v0 v2 v21 k0_hw1 => k0_hw1.2.2.2.2.2.2.2.2.2.2.2.2.2.2.2.1
theorem k0_mult6_dvd : ∀ (v0 : BitVec 32) (v2 : BitVec 32) (v21 : BitVec 32) (k0_hw1 : k0_chk1 v0 v2 v21) (k0_t2 : Fin (k0_t2_loop v21).trips), 512 ∣ (k0_mult6 v2 v21 k0_t2).toNat := fun v0 v2 v21 k0_hw1 k0_t2 => k0_hw1.2.2.2.2.2.2.2.2.2.2.2.2.2.2.2.2.1 k0_t2
theorem k0_off12_inb : ∀ (v0 : BitVec 32) (v2 : BitVec 32) (v21 : BitVec 32) (k0_hw1 : k0_chk1 v0 v2 v21) (k0_t2 : Fin (k0_t2_loop v21).trips), ∀ a, (k0_off12 v2 v21 k0_t2) a + S1.size a ≤ S2.size a := fun v0 v2 v21 k0_hw1 k0_t2 => k0_hw1.2.2.2.2.2.2.2.2.2.2.2.2.2.2.2.2.2.1 k0_t2
theorem k0_off13_inb : ∀ (v0 : BitVec 32) (v2 : BitVec 32) (v21 : BitVec 32) (k0_hw1 : k0_chk1 v0 v2 v21) (k0_t2 : Fin (k0_t2_loop v21).trips), ∀ a, (k0_off13 v2 v21 k0_t2) a + S1x512x512.size a ≤ S2x512x512.size a := fun v0 v2 v21 k0_hw1 k0_t2 => k0_hw1.2.2.2.2.2.2.2.2.2.2.2.2.2.2.2.2.2.2.1 k0_t2
theorem k0_off14_inb : ∀ (v0 : BitVec 32) (v2 : BitVec 32) (v21 : BitVec 32) (k0_hw1 : k0_chk1 v0 v2 v21) (k0_t2 : Fin (k0_t2_loop v21).trips), ∀ a, (k0_off14 v2 v21 k0_t2) a + S512x512.size a ≤ S307200x512.size a := fun v0 v2 v21 k0_hw1 k0_t2 => k0_hw1.2.2.2.2.2.2.2.2.2.2.2.2.2.2.2.2.2.2.2.1 k0_t2
theorem k0_mult7_dvd : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), 512 ∣ (k0_mult7 v2 v21 k0_t2).toNat := fun v0 v2 v21 k0_hw1 k0_t2 k0_h5 => k0_hw1.2.2.2.2.2.2.2.2.2.2.2.2.2.2.2.2.2.2.2.2.1 k0_t2 k0_h5
theorem k0_off15_inb : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), ∀ a, (k0_off15 v2 v21 k0_t2) a + S1.size a ≤ S2.size a := fun v0 v2 v21 k0_hw1 k0_t2 k0_h5 => k0_hw1.2.2.2.2.2.2.2.2.2.2.2.2.2.2.2.2.2.2.2.2.2.1 k0_t2 k0_h5
theorem k0_off16_inb : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), ∀ a, (k0_off16 v2 v21 k0_t2) a + S1x512x512.size a ≤ S2x512x512.size a := fun v0 v2 v21 k0_hw1 k0_t2 k0_h5 => k0_hw1.2.2.2.2.2.2.2.2.2.2.2.2.2.2.2.2.2.2.2.2.2.2.1 k0_t2 k0_h5
theorem k0_off17_inb : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), ∀ a, (k0_off17 v2 v21 k0_t2) a + S512x512.size a ≤ S307200x512.size a := fun v0 v2 v21 k0_hw1 k0_t2 k0_h5 => k0_hw1.2.2.2.2.2.2.2.2.2.2.2.2.2.2.2.2.2.2.2.2.2.2.2.1 k0_t2 k0_h5
theorem k0_mult8_dvd : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), 512 ∣ (k0_mult8 v2 v21 k0_t2).toNat := fun v0 v2 v21 k0_hw1 k0_t2 k0_h6 => k0_hw1.2.2.2.2.2.2.2.2.2.2.2.2.2.2.2.2.2.2.2.2.2.2.2.2.1 k0_t2 k0_h6
theorem k0_off18_inb : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), ∀ a, (k0_off18 v2 v21 k0_t2) a + S1.size a ≤ S2.size a := fun v0 v2 v21 k0_hw1 k0_t2 k0_h6 => k0_hw1.2.2.2.2.2.2.2.2.2.2.2.2.2.2.2.2.2.2.2.2.2.2.2.2.2.1 k0_t2 k0_h6
theorem k0_off19_inb : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), ∀ a, (k0_off19 v2 v21 k0_t2) a + S512x512.size a ≤ S307200x512.size a := fun v0 v2 v21 k0_hw1 k0_t2 k0_h6 => k0_hw1.2.2.2.2.2.2.2.2.2.2.2.2.2.2.2.2.2.2.2.2.2.2.2.2.2.2.1 k0_t2 k0_h6
theorem k0_off20_inb : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), ∀ a, (k0_off20 v2 v21 k0_t2) a + S1x512x512.size a ≤ S2x512x512.size a := fun v0 v2 v21 k0_hw1 k0_t2 k0_h6 => k0_hw1.2.2.2.2.2.2.2.2.2.2.2.2.2.2.2.2.2.2.2.2.2.2.2.2.2.2.2.1 k0_t2 k0_h6
theorem k0_off21_inb : ∀ (v0 : BitVec 32) (v2 : BitVec 32) (v21 : BitVec 32) (k0_hw1 : k0_chk1 v0 v2 v21) (k0_t2 : Fin (k0_t2_loop v21).trips), ∀ a, (k0_off21 v2 v21 k0_t2) a + S1x512x512.size a ≤ S2x512x512.size a := fun v0 v2 v21 k0_hw1 k0_t2 => k0_hw1.2.2.2.2.2.2.2.2.2.2.2.2.2.2.2.2.2.2.2.2.2.2.2.2.2.2.2.2.1 k0_t2
theorem k0_mult9_dvd : ∀ (v0 : BitVec 32) (v2 : BitVec 32) (v21 : BitVec 32) (k0_hw1 : k0_chk1 v0 v2 v21) (k0_t2 : Fin (k0_t2_loop v21).trips), 512 ∣ (k0_mult9 v2 v21 k0_t2).toNat := fun v0 v2 v21 k0_hw1 k0_t2 => k0_hw1.2.2.2.2.2.2.2.2.2.2.2.2.2.2.2.2.2.2.2.2.2.2.2.2.2.2.2.2.2 k0_t2

def k0_cond7 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_21 : BitVec 32 := 0#32
  let v54 : BitVec 1 := Scalar.cmpi .ne v53 c0_i32_21
  v54

def k0_mult10 (v0 : BitVec 32) : BitVec 32 :=
  let c2_i32_38 : BitVec 32 := 2#32
  let v79 : BitVec 32 := Scalar.subi v0 c2_i32_38
  let c512_i32_41 : BitVec 32 := 512#32
  let v82 : BitVec 32 := Scalar.muli v79 c512_i32_41
  v82
def k0_cond8 (v0 : BitVec 32) : BitVec 1 :=
  let c2_i32 : BitVec 32 := 2#32
  let v55 : BitVec 1 := Scalar.cmpi .sge v0 c2_i32
  let v56 : BitVec 32 := Scalar.extui v55
  let c0_i32_22 : BitVec 32 := 0#32
  let v57 : BitVec 1 := Scalar.cmpi .ne v56 c0_i32_22
  v57

def k0_off22 (v0 : BitVec 32) : Fin 1 → Nat :=
  let c2_i32_39 : BitVec 32 := 2#32
  let v80 : BitVec 32 := Scalar.subi v0 c2_i32_39
  let c1_i32_40 : BitVec 32 := 1#32
  let v81 : BitVec 32 := Scalar.andi v80 c1_i32_40
  ![v81.toNat]
def k0_off23 (v0 : BitVec 32) : Fin 2 → Nat :=
  let c2_i32_38 : BitVec 32 := 2#32
  let v79 : BitVec 32 := Scalar.subi v0 c2_i32_38
  let c512_i32_41 : BitVec 32 := 512#32
  let v82 : BitVec 32 := Scalar.muli v79 c512_i32_41
  let v83 : BitVec 32 := v82
  let c0_i32_42 : BitVec 32 := 0#32
  ![v83.toNat, 0]
def k0_off24 (v0 : BitVec 32) : Fin 3 → Nat :=
  let c2_i32_39 : BitVec 32 := 2#32
  let v80 : BitVec 32 := Scalar.subi v0 c2_i32_39
  let c1_i32_40 : BitVec 32 := 1#32
  let v81 : BitVec 32 := Scalar.andi v80 c1_i32_40
  let c0_i32_43 : BitVec 32 := 0#32
  let c0_i32_44 : BitVec 32 := 0#32
  ![v81.toNat, 0, 0]
def k0_mult11 (v0 : BitVec 32) : BitVec 32 :=
  let c1_i32_38 : BitVec 32 := 1#32
  let v79 : BitVec 32 := Scalar.subi v0 c1_i32_38
  let c512_i32_41 : BitVec 32 := 512#32
  let v82 : BitVec 32 := Scalar.muli v79 c512_i32_41
  v82
def k0_cond9 (v0 : BitVec 32) : BitVec 1 :=
  let c1_i32_23 : BitVec 32 := 1#32
  let v58 : BitVec 1 := Scalar.cmpi .sge v0 c1_i32_23
  let v59 : BitVec 32 := Scalar.extui v58
  let c0_i32_24 : BitVec 32 := 0#32
  let v60 : BitVec 1 := Scalar.cmpi .ne v59 c0_i32_24
  v60

def k0_off25 (v0 : BitVec 32) : Fin 1 → Nat :=
  let c1_i32_39 : BitVec 32 := 1#32
  let v80 : BitVec 32 := Scalar.subi v0 c1_i32_39
  let c1_i32_40 : BitVec 32 := 1#32
  let v81 : BitVec 32 := Scalar.andi v80 c1_i32_40
  ![v81.toNat]
def k0_off26 (v0 : BitVec 32) : Fin 2 → Nat :=
  let c1_i32_38 : BitVec 32 := 1#32
  let v79 : BitVec 32 := Scalar.subi v0 c1_i32_38
  let c512_i32_41 : BitVec 32 := 512#32
  let v82 : BitVec 32 := Scalar.muli v79 c512_i32_41
  let v83 : BitVec 32 := v82
  let c0_i32_42 : BitVec 32 := 0#32
  ![v83.toNat, 0]
def k0_off27 (v0 : BitVec 32) : Fin 3 → Nat :=
  let c1_i32_39 : BitVec 32 := 1#32
  let v80 : BitVec 32 := Scalar.subi v0 c1_i32_39
  let c1_i32_40 : BitVec 32 := 1#32
  let v81 : BitVec 32 := Scalar.andi v80 c1_i32_40
  let c0_i32_43 : BitVec 32 := 0#32
  let c0_i32_44 : BitVec 32 := 0#32
  ![v81.toNat, 0, 0]
@[reducible] def k0_t3_loop (v0 : BitVec 32) : Scf.Loop 32 :=
  let c0_i32_29 : BitVec 32 := 0#32
  let c600_i32 : BitVec 32 := 600#32
  let v68 : BitVec 32 := Scalar.subi c600_i32 v0
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_31 : BitVec 32 := 1#32
  ⟨c0_i32_29, v73, c1_i32_31⟩
def k0_mult12 (v0 : BitVec 32) (k0_t3 : Fin (k0_t3_loop v0).trips) : BitVec 32 :=
  let c0_i32_29 : BitVec 32 := 0#32
  let c1_i32_31 : BitVec 32 := 1#32
  let arg16 : BitVec 32 := Scf.iv c0_i32_29 c1_i32_31 k0_t3
  let v79 : BitVec 32 := Scalar.addi v0 arg16
  let c512_i32_38 : BitVec 32 := 512#32
  let v80 : BitVec 32 := Scalar.muli v79 c512_i32_38
  v80
def k0_off28 (v0 : BitVec 32) (k0_t3 : Fin (k0_t3_loop v0).trips) : Fin 2 → Nat :=
  let c0_i32_29 : BitVec 32 := 0#32
  let c1_i32_31 : BitVec 32 := 1#32
  let arg16 : BitVec 32 := Scf.iv c0_i32_29 c1_i32_31 k0_t3
  let v79 : BitVec 32 := Scalar.addi v0 arg16
  let c512_i32_38 : BitVec 32 := 512#32
  let v80 : BitVec 32 := Scalar.muli v79 c512_i32_38
  let v81 : BitVec 32 := v80
  let c0_i32_41 : BitVec 32 := 0#32
  ![v81.toNat, 0]
@[reducible] def k0_t4_loop (v0 : BitVec 32) : Scf.Loop 32 :=
  let c0_i32_29 : BitVec 32 := 0#32
  let c600_i32 : BitVec 32 := 600#32
  let v68 : BitVec 32 := Scalar.subi c600_i32 v0
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let v70 : BitVec 32 := Scalar.addi c0_i32_29 v69
  let c1_i32_32 : BitVec 32 := 1#32
  ⟨v73, v70, c1_i32_32⟩
def k0_mult13 (v0 : BitVec 32) (k0_t4 : Fin (k0_t4_loop v0).trips) : BitVec 32 :=
  let c0_i32_29 : BitVec 32 := 0#32
  let c600_i32 : BitVec 32 := 600#32
  let v68 : BitVec 32 := Scalar.subi c600_i32 v0
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg16 : BitVec 32 := Scf.iv v73 c1_i32_32 k0_t4
  let v79 : BitVec 32 := Scalar.addi v0 arg16
  let c512_i32_38 : BitVec 32 := 512#32
  let v80 : BitVec 32 := Scalar.muli v79 c512_i32_38
  v80
def k0_off29 (v0 : BitVec 32) (k0_t4 : Fin (k0_t4_loop v0).trips) : Fin 2 → Nat :=
  let c0_i32_29 : BitVec 32 := 0#32
  let c600_i32 : BitVec 32 := 600#32
  let v68 : BitVec 32 := Scalar.subi c600_i32 v0
  let v69 : BitVec 32 := Scalar.subi v68 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg16 : BitVec 32 := Scf.iv v73 c1_i32_32 k0_t4
  let v79 : BitVec 32 := Scalar.addi v0 arg16
  let c512_i32_38 : BitVec 32 := 512#32
  let v80 : BitVec 32 := Scalar.muli v79 c512_i32_38
  let v81 : BitVec 32 := v80
  let c0_i32_41 : BitVec 32 := 0#32
  ![v81.toNat, 0]
@[reducible] def k0_t5_loop (v0 : BitVec 32) : Scf.Loop 32 :=
  let c0_i32_34 : BitVec 32 := 0#32
  let c600_i32 : BitVec 32 := 600#32
  let v68 : BitVec 32 := Scalar.subi c600_i32 v0
  let v74 : BitVec 32 := Scalar.subi v68 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_36 : BitVec 32 := 1#32
  ⟨c0_i32_34, v78, c1_i32_36⟩
def k0_mult14 (v0 : BitVec 32) (k0_t5 : Fin (k0_t5_loop v0).trips) : BitVec 32 :=
  let c0_i32_34 : BitVec 32 := 0#32
  let c1_i32_36 : BitVec 32 := 1#32
  let arg16 : BitVec 32 := Scf.iv c0_i32_34 c1_i32_36 k0_t5
  let v79 : BitVec 32 := Scalar.addi v0 arg16
  let c512_i32_38 : BitVec 32 := 512#32
  let v80 : BitVec 32 := Scalar.muli v79 c512_i32_38
  v80
def k0_off30 (v0 : BitVec 32) (k0_t5 : Fin (k0_t5_loop v0).trips) : Fin 2 → Nat :=
  let c0_i32_34 : BitVec 32 := 0#32
  let c1_i32_36 : BitVec 32 := 1#32
  let arg16 : BitVec 32 := Scf.iv c0_i32_34 c1_i32_36 k0_t5
  let v79 : BitVec 32 := Scalar.addi v0 arg16
  let c512_i32_38 : BitVec 32 := 512#32
  let v80 : BitVec 32 := Scalar.muli v79 c512_i32_38
  let v81 : BitVec 32 := v80
  let c0_i32_41 : BitVec 32 := 0#32
  ![v81.toNat, 0]
@[reducible] def k0_t6_loop (v0 : BitVec 32) : Scf.Loop 32 :=
  let c0_i32_34 : BitVec 32 := 0#32
  let c600_i32 : BitVec 32 := 600#32
  let v68 : BitVec 32 := Scalar.subi c600_i32 v0
  let v74 : BitVec 32 := Scalar.subi v68 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let v75 : BitVec 32 := Scalar.addi c0_i32_34 v74
  let c1_i32_37 : BitVec 32 := 1#32
  ⟨v78, v75, c1_i32_37⟩
def k0_mult15 (v0 : BitVec 32) (k0_t6 : Fin (k0_t6_loop v0).trips) : BitVec 32 :=
  let c0_i32_34 : BitVec 32 := 0#32
  let c600_i32 : BitVec 32 := 600#32
  let v68 : BitVec 32 := Scalar.subi c600_i32 v0
  let v74 : BitVec 32 := Scalar.subi v68 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_37 : BitVec 32 := 1#32
  let arg16 : BitVec 32 := Scf.iv v78 c1_i32_37 k0_t6
  let v79 : BitVec 32 := Scalar.addi v0 arg16
  let c512_i32_38 : BitVec 32 := 512#32
  let v80 : BitVec 32 := Scalar.muli v79 c512_i32_38
  v80
def k0_off31 (v0 : BitVec 32) (k0_t6 : Fin (k0_t6_loop v0).trips) : Fin 2 → Nat :=
  let c0_i32_34 : BitVec 32 := 0#32
  let c600_i32 : BitVec 32 := 600#32
  let v68 : BitVec 32 := Scalar.subi c600_i32 v0
  let v74 : BitVec 32 := Scalar.subi v68 c0_i32_34
  let c1_i32_35 : BitVec 32 := 1#32
  let v76 : BitVec 32 := Scalar.divsi v74 c1_i32_35
  let v77 : BitVec 32 := Scalar.muli v76 c1_i32_35
  let v78 : BitVec 32 := Scalar.addi c0_i32_34 v77
  let c1_i32_37 : BitVec 32 := 1#32
  let arg16 : BitVec 32 := Scf.iv v78 c1_i32_37 k0_t6
  let v79 : BitVec 32 := Scalar.addi v0 arg16
  let c512_i32_38 : BitVec 32 := 512#32
  let v80 : BitVec 32 := Scalar.muli v79 c512_i32_38
  let v81 : BitVec 32 := v80
  let c0_i32_41 : BitVec 32 := 0#32
  ![v81.toNat, 0]

def k0_chk2 (i : grid0.Coords) (v0 : BitVec 32) : Prop :=
  (∀ (k0_h7 : k0_cond7 i = 1#1), ∀ (k0_h8 : k0_cond8 v0 = 1#1), 512 ∣ (k0_mult10 v0).toNat) ∧
  (∀ (k0_h7 : k0_cond7 i = 1#1), ∀ (k0_h8 : k0_cond8 v0 = 1#1), ∀ a, (k0_off22 v0) a + S1.size a ≤ S2.size a) ∧
  (∀ (k0_h7 : k0_cond7 i = 1#1), ∀ (k0_h8 : k0_cond8 v0 = 1#1), ∀ a, (k0_off23 v0) a + S512x512.size a ≤ S307200x512.size a) ∧
  (∀ (k0_h7 : k0_cond7 i = 1#1), ∀ (k0_h8 : k0_cond8 v0 = 1#1), ∀ a, (k0_off24 v0) a + S1x512x512.size a ≤ S2x512x512.size a) ∧
  (∀ (k0_h7 : k0_cond7 i = 1#1), ∀ (k0_h9 : k0_cond9 v0 = 1#1), 512 ∣ (k0_mult11 v0).toNat) ∧
  (∀ (k0_h7 : k0_cond7 i = 1#1), ∀ (k0_h9 : k0_cond9 v0 = 1#1), ∀ a, (k0_off25 v0) a + S1.size a ≤ S2.size a) ∧
  (∀ (k0_h7 : k0_cond7 i = 1#1), ∀ (k0_h9 : k0_cond9 v0 = 1#1), ∀ a, (k0_off26 v0) a + S512x512.size a ≤ S307200x512.size a) ∧
  (∀ (k0_h7 : k0_cond7 i = 1#1), ∀ (k0_h9 : k0_cond9 v0 = 1#1), ∀ a, (k0_off27 v0) a + S1x512x512.size a ≤ S2x512x512.size a) ∧
  (∀ (k0_h7 : k0_cond7 i = 1#1), (k0_t3_loop v0).OK) ∧
  (∀ k0_t3 : Fin (k0_t3_loop v0).trips, ∀ (k0_h7 : k0_cond7 i = 1#1), 512 ∣ (k0_mult12 v0 k0_t3).toNat) ∧
  (∀ k0_t3 : Fin (k0_t3_loop v0).trips, ∀ (k0_h7 : k0_cond7 i = 1#1), ∀ a, (k0_off28 v0 k0_t3) a + S512x512.size a ≤ S307200x512.size a) ∧
  (∀ (k0_h7 : k0_cond7 i = 1#1), (k0_t4_loop v0).OK) ∧
  (∀ k0_t4 : Fin (k0_t4_loop v0).trips, ∀ (k0_h7 : k0_cond7 i = 1#1), 512 ∣ (k0_mult13 v0 k0_t4).toNat) ∧
  (∀ k0_t4 : Fin (k0_t4_loop v0).trips, ∀ (k0_h7 : k0_cond7 i = 1#1), ∀ a, (k0_off29 v0 k0_t4) a + S512x512.size a ≤ S307200x512.size a) ∧
  (∀ (k0_h7 : k0_cond7 i = 1#1), (k0_t5_loop v0).OK) ∧
  (∀ k0_t5 : Fin (k0_t5_loop v0).trips, ∀ (k0_h7 : k0_cond7 i = 1#1), 512 ∣ (k0_mult14 v0 k0_t5).toNat) ∧
  (∀ k0_t5 : Fin (k0_t5_loop v0).trips, ∀ (k0_h7 : k0_cond7 i = 1#1), ∀ a, (k0_off30 v0 k0_t5) a + S512x512.size a ≤ S307200x512.size a) ∧
  (∀ (k0_h7 : k0_cond7 i = 1#1), (k0_t6_loop v0).OK) ∧
  (∀ k0_t6 : Fin (k0_t6_loop v0).trips, ∀ (k0_h7 : k0_cond7 i = 1#1), 512 ∣ (k0_mult15 v0 k0_t6).toNat) ∧
  (∀ k0_t6 : Fin (k0_t6_loop v0).trips, ∀ (k0_h7 : k0_cond7 i = 1#1), ∀ a, (k0_off31 v0 k0_t6) a + S512x512.size a ≤ S307200x512.size a)
theorem k0_mult10_dvd : ∀ (i : grid0.Coords) (v0 : BitVec 32) (k0_hw2 : k0_chk2 i v0), ∀ (k0_h7 : k0_cond7 i = 1#1), ∀ (k0_h8 : k0_cond8 v0 = 1#1), 512 ∣ (k0_mult10 v0).toNat := fun i v0 k0_hw2 k0_h7 k0_h8 => k0_hw2.1 k0_h7 k0_h8
theorem k0_off22_inb : ∀ (i : grid0.Coords) (v0 : BitVec 32) (k0_hw2 : k0_chk2 i v0), ∀ (k0_h7 : k0_cond7 i = 1#1), ∀ (k0_h8 : k0_cond8 v0 = 1#1), ∀ a, (k0_off22 v0) a + S1.size a ≤ S2.size a := fun i v0 k0_hw2 k0_h7 k0_h8 => k0_hw2.2.1 k0_h7 k0_h8
theorem k0_off23_inb : ∀ (i : grid0.Coords) (v0 : BitVec 32) (k0_hw2 : k0_chk2 i v0), ∀ (k0_h7 : k0_cond7 i = 1#1), ∀ (k0_h8 : k0_cond8 v0 = 1#1), ∀ a, (k0_off23 v0) a + S512x512.size a ≤ S307200x512.size a := fun i v0 k0_hw2 k0_h7 k0_h8 => k0_hw2.2.2.1 k0_h7 k0_h8
theorem k0_off24_inb : ∀ (i : grid0.Coords) (v0 : BitVec 32) (k0_hw2 : k0_chk2 i v0), ∀ (k0_h7 : k0_cond7 i = 1#1), ∀ (k0_h8 : k0_cond8 v0 = 1#1), ∀ a, (k0_off24 v0) a + S1x512x512.size a ≤ S2x512x512.size a := fun i v0 k0_hw2 k0_h7 k0_h8 => k0_hw2.2.2.2.1 k0_h7 k0_h8
theorem k0_mult11_dvd : ∀ (i : grid0.Coords) (v0 : BitVec 32) (k0_hw2 : k0_chk2 i v0), ∀ (k0_h7 : k0_cond7 i = 1#1), ∀ (k0_h9 : k0_cond9 v0 = 1#1), 512 ∣ (k0_mult11 v0).toNat := fun i v0 k0_hw2 k0_h7 k0_h9 => k0_hw2.2.2.2.2.1 k0_h7 k0_h9
theorem k0_off25_inb : ∀ (i : grid0.Coords) (v0 : BitVec 32) (k0_hw2 : k0_chk2 i v0), ∀ (k0_h7 : k0_cond7 i = 1#1), ∀ (k0_h9 : k0_cond9 v0 = 1#1), ∀ a, (k0_off25 v0) a + S1.size a ≤ S2.size a := fun i v0 k0_hw2 k0_h7 k0_h9 => k0_hw2.2.2.2.2.2.1 k0_h7 k0_h9
theorem k0_off26_inb : ∀ (i : grid0.Coords) (v0 : BitVec 32) (k0_hw2 : k0_chk2 i v0), ∀ (k0_h7 : k0_cond7 i = 1#1), ∀ (k0_h9 : k0_cond9 v0 = 1#1), ∀ a, (k0_off26 v0) a + S512x512.size a ≤ S307200x512.size a := fun i v0 k0_hw2 k0_h7 k0_h9 => k0_hw2.2.2.2.2.2.2.1 k0_h7 k0_h9
theorem k0_off27_inb : ∀ (i : grid0.Coords) (v0 : BitVec 32) (k0_hw2 : k0_chk2 i v0), ∀ (k0_h7 : k0_cond7 i = 1#1), ∀ (k0_h9 : k0_cond9 v0 = 1#1), ∀ a, (k0_off27 v0) a + S1x512x512.size a ≤ S2x512x512.size a := fun i v0 k0_hw2 k0_h7 k0_h9 => k0_hw2.2.2.2.2.2.2.2.1 k0_h7 k0_h9
theorem k0_t3_ok : ∀ (i : grid0.Coords) (v0 : BitVec 32) (k0_hw2 : k0_chk2 i v0), ∀ (k0_h7 : k0_cond7 i = 1#1), (k0_t3_loop v0).OK := fun i v0 k0_hw2 k0_h7 => k0_hw2.2.2.2.2.2.2.2.2.1 k0_h7
theorem k0_mult12_dvd : ∀ (i : grid0.Coords) (v0 : BitVec 32) (k0_hw2 : k0_chk2 i v0) (k0_t3 : Fin (k0_t3_loop v0).trips), ∀ (k0_h7 : k0_cond7 i = 1#1), 512 ∣ (k0_mult12 v0 k0_t3).toNat := fun i v0 k0_hw2 k0_t3 k0_h7 => k0_hw2.2.2.2.2.2.2.2.2.2.1 k0_t3 k0_h7
theorem k0_off28_inb : ∀ (i : grid0.Coords) (v0 : BitVec 32) (k0_hw2 : k0_chk2 i v0) (k0_t3 : Fin (k0_t3_loop v0).trips), ∀ (k0_h7 : k0_cond7 i = 1#1), ∀ a, (k0_off28 v0 k0_t3) a + S512x512.size a ≤ S307200x512.size a := fun i v0 k0_hw2 k0_t3 k0_h7 => k0_hw2.2.2.2.2.2.2.2.2.2.2.1 k0_t3 k0_h7
theorem k0_t4_ok : ∀ (i : grid0.Coords) (v0 : BitVec 32) (k0_hw2 : k0_chk2 i v0), ∀ (k0_h7 : k0_cond7 i = 1#1), (k0_t4_loop v0).OK := fun i v0 k0_hw2 k0_h7 => k0_hw2.2.2.2.2.2.2.2.2.2.2.2.1 k0_h7
theorem k0_mult13_dvd : ∀ (i : grid0.Coords) (v0 : BitVec 32) (k0_hw2 : k0_chk2 i v0) (k0_t4 : Fin (k0_t4_loop v0).trips), ∀ (k0_h7 : k0_cond7 i = 1#1), 512 ∣ (k0_mult13 v0 k0_t4).toNat := fun i v0 k0_hw2 k0_t4 k0_h7 => k0_hw2.2.2.2.2.2.2.2.2.2.2.2.2.1 k0_t4 k0_h7
theorem k0_off29_inb : ∀ (i : grid0.Coords) (v0 : BitVec 32) (k0_hw2 : k0_chk2 i v0) (k0_t4 : Fin (k0_t4_loop v0).trips), ∀ (k0_h7 : k0_cond7 i = 1#1), ∀ a, (k0_off29 v0 k0_t4) a + S512x512.size a ≤ S307200x512.size a := fun i v0 k0_hw2 k0_t4 k0_h7 => k0_hw2.2.2.2.2.2.2.2.2.2.2.2.2.2.1 k0_t4 k0_h7
theorem k0_t5_ok : ∀ (i : grid0.Coords) (v0 : BitVec 32) (k0_hw2 : k0_chk2 i v0), ∀ (k0_h7 : k0_cond7 i = 1#1), (k0_t5_loop v0).OK := fun i v0 k0_hw2 k0_h7 => k0_hw2.2.2.2.2.2.2.2.2.2.2.2.2.2.2.1 k0_h7
theorem k0_mult14_dvd : ∀ (i : grid0.Coords) (v0 : BitVec 32) (k0_hw2 : k0_chk2 i v0) (k0_t5 : Fin (k0_t5_loop v0).trips), ∀ (k0_h7 : k0_cond7 i = 1#1), 512 ∣ (k0_mult14 v0 k0_t5).toNat := fun i v0 k0_hw2 k0_t5 k0_h7 => k0_hw2.2.2.2.2.2.2.2.2.2.2.2.2.2.2.2.1 k0_t5 k0_h7
theorem k0_off30_inb : ∀ (i : grid0.Coords) (v0 : BitVec 32) (k0_hw2 : k0_chk2 i v0) (k0_t5 : Fin (k0_t5_loop v0).trips), ∀ (k0_h7 : k0_cond7 i = 1#1), ∀ a, (k0_off30 v0 k0_t5) a + S512x512.size a ≤ S307200x512.size a := fun i v0 k0_hw2 k0_t5 k0_h7 => k0_hw2.2.2.2.2.2.2.2.2.2.2.2.2.2.2.2.2.1 k0_t5 k0_h7
theorem k0_t6_ok : ∀ (i : grid0.Coords) (v0 : BitVec 32) (k0_hw2 : k0_chk2 i v0), ∀ (k0_h7 : k0_cond7 i = 1#1), (k0_t6_loop v0).OK := fun i v0 k0_hw2 k0_h7 => k0_hw2.2.2.2.2.2.2.2.2.2.2.2.2.2.2.2.2.2.1 k0_h7
theorem k0_mult15_dvd : ∀ (i : grid0.Coords) (v0 : BitVec 32) (k0_hw2 : k0_chk2 i v0) (k0_t6 : Fin (k0_t6_loop v0).trips), ∀ (k0_h7 : k0_cond7 i = 1#1), 512 ∣ (k0_mult15 v0 k0_t6).toNat := fun i v0 k0_hw2 k0_t6 k0_h7 => k0_hw2.2.2.2.2.2.2.2.2.2.2.2.2.2.2.2.2.2.2.1 k0_t6 k0_h7
theorem k0_off31_inb : ∀ (i : grid0.Coords) (v0 : BitVec 32) (k0_hw2 : k0_chk2 i v0) (k0_t6 : Fin (k0_t6_loop v0).trips), ∀ (k0_h7 : k0_cond7 i = 1#1), ∀ a, (k0_off31 v0 k0_t6) a + S512x512.size a ≤ S307200x512.size a := fun i v0 k0_hw2 k0_t6 k0_h7 => k0_hw2.2.2.2.2.2.2.2.2.2.2.2.2.2.2.2.2.2.2.2 k0_t6 k0_h7

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel.lean ====
abbrev S32 : Shape := ⟨1, ![32]⟩
abbrev S1 : Shape := ⟨1, ![1]⟩
abbrev S307200x512 : Shape := ⟨2, ![307200, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x8x128x2 : Shape := ⟨4, ![32, 8, 128, 2]⟩
abbrev S32x8x2x128 : Shape := ⟨4, ![32, 8, 2, 128]⟩
abbrev S32x1x2048 : Shape := ⟨3, ![32, 1, 2048]⟩
abbrev S32x1x1024 : Shape := ⟨3, ![32, 1, 1024]⟩
abbrev S307200x1024 : Shape := ⟨2, ![307200, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S2x512x512 : Shape := ⟨3, ![2, 512, 512]⟩
abbrev S2x512x1024 : Shape := ⟨3, ![2, 512, 1024]⟩
abbrev S2 : Shape := ⟨1, ![2]⟩
abbrev S_ : Shape := ⟨0, ![]⟩
abbrev S1x512x512 : Shape := ⟨3, ![1, 512, 512]⟩
abbrev S512x512 : Shape := ⟨2, ![512, 512]⟩
abbrev S256x256 : Shape := ⟨2, ![256, 256]⟩
abbrev S1x1024x256 : Shape := ⟨3, ![1, 1024, 256]⟩
abbrev S1024x256 : Shape := ⟨2, ![1024, 256]⟩
abbrev S512x1024 : Shape := ⟨2, ![512, 1024]⟩
abbrev S1x512x1024 : Shape := ⟨3, ![1, 512, 1024]⟩
abbrev S512x2048 : Shape := ⟨2, ![512, 2048]⟩
abbrev S1x2048 : Shape := ⟨2, ![1, 2048]⟩
abbrev S512x128 : Shape := ⟨2, ![512, 128]⟩
abbrev S1x1024 : Shape := ⟨2, ![1, 1024]⟩

abbrev nBuf : Space → Nat
  | .hbm => 10
  | .vmem => 12
  | .smem => 3
  | _ => 0

abbrev bufTy : (tb : Table) → Fin (tcTables nBuf tb) → BufTy
  | .hbm, ⟨0, _⟩ => ⟨S307200x512, .i32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x8x128x2, .f32⟩
  | .hbm, ⟨6, _⟩ => ⟨S32x8x2x128, .f32⟩
  | .hbm, ⟨7, _⟩ => ⟨S32x1x2048, .f32⟩
  | .hbm, ⟨8, _⟩ => ⟨S32x1x1024, .f32⟩
  | .hbm, ⟨9, _⟩ => ⟨S307200x1024, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2048, .bf16⟩
  | .local _ .vmem, ⟨9, _⟩ => ⟨S1024x1024, .bf16⟩
  | .local _ .vmem, ⟨10, _⟩ => ⟨S2x512x512, .i32⟩
  | .local _ .vmem, ⟨11, _⟩ => ⟨S2x512x1024, .bf16⟩
  | .local _ .smem, ⟨0, _⟩ => ⟨S32, .i32⟩
  | .local _ .smem, ⟨1, _⟩ => ⟨S32, .i32⟩
  | .local _ .smem, ⟨2, _⟩ => ⟨S1, .i32⟩
  | _, _ => ⟨S307200x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_mult1 : BitVec 32 :=
  let c0_i32_22 : BitVec 32 := 0#32
  c0_i32_22
@[reducible] def k0_t1_loop (v21 : BitVec 32) : Scf.Loop 32 :=
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_19 : BitVec 32 := 1#32
  ⟨c0_i32_17, v51, c1_i32_19⟩

def k0_mult2 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_23 : BitVec 32 := 512#32
  let v57 : BitVec 32 := Scalar.muli v55 c512_i32_23
  v57
def k0_off2 (v2 : BitVec 32) (v21 : BitVec 32) (k0_t1 : Fin (k0_t1_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  ![v56.toNat]
def k0_off3 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let c0_i32_24 : BitVec 32 := 0#32
  let c0_i32_25 : BitVec 32 := 0#32
  ![v56.toNat, 0, 0]
def k0_off4 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_23 : BitVec 32 := 512#32
  let v57 : BitVec 32 := Scalar.muli v55 c512_i32_23
  let v58 : BitVec 32 := v57
  let c0_i32_26 : BitVec 32 := 0#32
  ![v58.toNat, 0]
def k0_mult3 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_105 : BitVec 32 := 1#32
  let v263 : BitVec 32 := Scalar.addi v55 c1_i32_105
  let c512_i32_107 : BitVec 32 := 512#32
  let v265 : BitVec 32 := Scalar.muli v263 c512_i32_107
  v265
def k0_cond3 (v0 : BitVec 32) (v2 : BitVec 32) (v21 : BitVec 32) (k0_t1 : Fin (k0_t1_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_27 : BitVec 32 := 1#32
  let v64 : BitVec 32 := Scalar.addi v55 c1_i32_27
  let v65 : BitVec 1 := Scalar.cmpi .slt v64 v0
  let v66 : BitVec 32 := Scalar.extui v65
  let c0_i32_28 : BitVec 32 := 0#32
  let v67 : BitVec 1 := Scalar.cmpi .ne v66 c0_i32_28
  v67

def k0_off5 (v2 : BitVec 32) (v21 : BitVec 32) (k0_t1 : Fin (k0_t1_loop v21).trips) : Fin 1 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v264 : BitVec 32 := Scalar.subi c1_i32_106 v56
  ![v264.toNat]
def k0_off6 (v2 : BitVec 32) (v21 : BitVec 32) (k0_t1 : Fin (k0_t1_loop v21).trips) : Fin 3 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v264 : BitVec 32 := Scalar.subi c1_i32_106 v56
  let c0_i32_108 : BitVec 32 := 0#32
  let c0_i32_109 : BitVec 32 := 0#32
  ![v264.toNat, 0, 0]
def k0_off7 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_105 : BitVec 32 := 1#32
  let v263 : BitVec 32 := Scalar.addi v55 c1_i32_105
  let c512_i32_107 : BitVec 32 := 512#32
  let v265 : BitVec 32 := Scalar.muli v263 c512_i32_107
  let v266 : BitVec 32 := v265
  let c0_i32_110 : BitVec 32 := 0#32
  ![v266.toNat, 0]
def k0_mult4 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c2_i32_105 : BitVec 32 := 2#32
  let v263 : BitVec 32 := Scalar.subi v55 c2_i32_105
  let c512_i32_106 : BitVec 32 := 512#32
  let v264 : BitVec 32 := Scalar.muli v263 c512_i32_106
  v264
def k0_cond4 (v2 : BitVec 32) (v21 : BitVec 32) (k0_t1 : Fin (k0_t1_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c2_i32 : BitVec 32 := 2#32
  let v68 : BitVec 1 := Scalar.cmpi .sge v55 c2_i32
  let v69 : BitVec 32 := Scalar.extui v68
  let c0_i32_29 : BitVec 32 := 0#32
  let v70 : BitVec 1 := Scalar.cmpi .ne v69 c0_i32_29
  v70

def k0_off8 (v2 : BitVec 32) (v21 : BitVec 32) (k0_t1 : Fin (k0_t1_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  ![v56.toNat]
def k0_off9 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c2_i32_105 : BitVec 32 := 2#32
  let v263 : BitVec 32 := Scalar.subi v55 c2_i32_105
  let c512_i32_106 : BitVec 32 := 512#32
  let v264 : BitVec 32 := Scalar.muli v263 c512_i32_106
  let v265 : BitVec 32 := v264
  let c0_i32_107 : BitVec 32 := 0#32
  ![v265.toNat, 0]
def k0_off10 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let c0_i32_108 : BitVec 32 := 0#32
  let c0_i32_109 : BitVec 32 := 0#32
  ![v56.toNat, 0, 0]
def k0_off11 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v71 : Index := Scalar.indexCast v56
  let c0_30 : Index := 0#32
  let c0_31 : Index := 0#32
  ![v71.toNat, 0, 0]
def k0_off12 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let v252 : Index := Scalar.indexCast v56
  let c0_99 : Index := 0#32
  let c0_100 : Index := 0#32
  ![v252.toNat, 0, 0]
def k0_mult5 (v2 : BitVec 32) (v21 : BitVec 32) (k0_t1 : Fin (k0_t1_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_101 : BitVec 32 := 512#32
  let v256 : BitVec 32 := Scalar.muli v55 c512_i32_101
  v256
def k0_off13 (v2 : BitVec 32) (v21 : BitVec 32) (k0_t1 : Fin (k0_t1_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c512_i32_101 : BitVec 32 := 512#32
  let v256 : BitVec 32 := Scalar.muli v55 c512_i32_101
  let v257 : BitVec 32 := v256
  let c0_i32_102 : BitVec 32 := 0#32
  ![v257.toNat, 0]
def k0_off14 (v2 : BitVec 32) (v21 : BitVec 32) (k0_t1 : Fin (k0_t1_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c1_i32_19 : BitVec 32 := 1#32
  let arg16 : BitVec 32 := Scf.iv c0_i32_17 c1_i32_19 k0_t1
  let v55 : BitVec 32 := Scalar.addi v19 arg16
  let c1_i32_22 : BitVec 32 := 1#32
  let v56 : BitVec 32 := Scalar.andi v55 c1_i32_22
  let c0_i32_103 : BitVec 32 := 0#32
  let c0_i32_104 : BitVec 32 := 0#32
  ![v56.toNat, 0, 0]
@[reducible] def k0_t2_loop (v21 : BitVec 32) : Scf.Loop 32 :=
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let v48 : BitVec 32 := Scalar.addi c0_i32_17 v47
  let c1_i32_20 : BitVec 32 := 1#32
  ⟨v51, v48, c1_i32_20⟩
def k0_mult6 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_23 : BitVec 32 := 512#32
  let v57 : BitVec 32 := Scalar.muli v55 c512_i32_23
  v57
def k0_off15 (v2 : BitVec 32) (v21 : BitVec 32) (k0_t2 : Fin (k0_t2_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  ![v56.toNat]
def k0_off16 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let c0_i32_24 : BitVec 32 := 0#32
  let c0_i32_25 : BitVec 32 := 0#32
  ![v56.toNat, 0, 0]
def k0_off17 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_23 : BitVec 32 := 512#32
  let v57 : BitVec 32 := Scalar.muli v55 c512_i32_23
  let v58 : BitVec 32 := v57
  let c0_i32_26 : BitVec 32 := 0#32
  ![v58.toNat, 0]
def k0_mult7 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_105 : BitVec 32 := 1#32
  let v263 : BitVec 32 := Scalar.addi v55 c1_i32_105
  let c512_i32_107 : BitVec 32 := 512#32
  let v265 : BitVec 32 := Scalar.muli v263 c512_i32_107
  v265
def k0_cond5 (v0 : BitVec 32) (v2 : BitVec 32) (v21 : BitVec 32) (k0_t2 : Fin (k0_t2_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_27 : BitVec 32 := 1#32
  let v64 : BitVec 32 := Scalar.addi v55 c1_i32_27
  let v65 : BitVec 1 := Scalar.cmpi .slt v64 v0
  let v66 : BitVec 32 := Scalar.extui v65
  let c0_i32_28 : BitVec 32 := 0#32
  let v67 : BitVec 1 := Scalar.cmpi .ne v66 c0_i32_28
  v67

def k0_off18 (v2 : BitVec 32) (v21 : BitVec 32) (k0_t2 : Fin (k0_t2_loop v21).trips) : Fin 1 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v264 : BitVec 32 := Scalar.subi c1_i32_106 v56
  ![v264.toNat]
def k0_off19 (v2 : BitVec 32) (v21 : BitVec 32) (k0_t2 : Fin (k0_t2_loop v21).trips) : Fin 3 → Nat :=
  let c1_i32_106 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v264 : BitVec 32 := Scalar.subi c1_i32_106 v56
  let c0_i32_108 : BitVec 32 := 0#32
  let c0_i32_109 : BitVec 32 := 0#32
  ![v264.toNat, 0, 0]
def k0_off20 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_105 : BitVec 32 := 1#32
  let v263 : BitVec 32 := Scalar.addi v55 c1_i32_105
  let c512_i32_107 : BitVec 32 := 512#32
  let v265 : BitVec 32 := Scalar.muli v263 c512_i32_107
  let v266 : BitVec 32 := v265
  let c0_i32_110 : BitVec 32 := 0#32
  ![v266.toNat, 0]
def k0_mult8 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c2_i32_105 : BitVec 32 := 2#32
  let v263 : BitVec 32 := Scalar.subi v55 c2_i32_105
  let c512_i32_106 : BitVec 32 := 512#32
  let v264 : BitVec 32 := Scalar.muli v263 c512_i32_106
  v264
def k0_cond6 (v2 : BitVec 32) (v21 : BitVec 32) (k0_t2 : Fin (k0_t2_loop v21).trips) : BitVec 1 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c2_i32 : BitVec 32 := 2#32
  let v68 : BitVec 1 := Scalar.cmpi .sge v55 c2_i32
  let v69 : BitVec 32 := Scalar.extui v68
  let c0_i32_29 : BitVec 32 := 0#32
  let v70 : BitVec 1 := Scalar.cmpi .ne v69 c0_i32_29
  v70

def k0_off21 (v2 : BitVec 32) (v21 : BitVec 32) (k0_t2 : Fin (k0_t2_loop v21).trips) : Fin 1 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  ![v56.toNat]
def k0_off22 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c2_i32_105 : BitVec 32 := 2#32
  let v263 : BitVec 32 := Scalar.subi v55 c2_i32_105
  let c512_i32_106 : BitVec 32 := 512#32
  let v264 : BitVec 32 := Scalar.muli v263 c512_i32_106
  let v265 : BitVec 32 := v264
  let c0_i32_107 : BitVec 32 := 0#32
  ![v265.toNat, 0]
def k0_off23 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let c0_i32_108 : BitVec 32 := 0#32
  let c0_i32_109 : BitVec 32 := 0#32
  ![v56.toNat, 0, 0]
def k0_off24 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v71 : Index := Scalar.indexCast v56
  let c0_30 : Index := 0#32
  let c0_31 : Index := 0#32
  ![v71.toNat, 0, 0]
def k0_off25 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let v252 : Index := Scalar.indexCast v56
  let c0_99 : Index := 0#32
  let c0_100 : Index := 0#32
  ![v252.toNat, 0, 0]
def k0_mult9 (v2 : BitVec 32) (v21 : BitVec 32) (k0_t2 : Fin (k0_t2_loop v21).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_101 : BitVec 32 := 512#32
  let v256 : BitVec 32 := Scalar.muli v55 c512_i32_101
  v256
def k0_off26 (v2 : BitVec 32) (v21 : BitVec 32) (k0_t2 : Fin (k0_t2_loop v21).trips) : Fin 2 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c512_i32_101 : BitVec 32 := 512#32
  let v256 : BitVec 32 := Scalar.muli v55 c512_i32_101
  let v257 : BitVec 32 := v256
  let c0_i32_102 : BitVec 32 := 0#32
  ![v257.toNat, 0]
def k0_off27 (v2 : BitVec 32) (v21 : BitVec 32) (k0_t2 : Fin (k0_t2_loop v21).trips) : Fin 3 → Nat :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c512_i32 : BitVec 32 := 512#32
  let c0_i32_1 : BitVec 32 := 0#32
  let v9 : BitVec 1 := Scalar.cmpi .sgt c512_i32 c0_i32_1
  let v10 : BitVec 32 := Scalar.extui v9
  let c0_i32_2 : BitVec 32 := 0#32
  let v11 : BitVec 1 := Scalar.cmpi .slt c512_i32 c0_i32_2
  let v12 : BitVec 32 := Scalar.extui v11
  let v13 : BitVec 32 := Scalar.subi v10 v12
  let v14 : BitVec 1 := Scalar.cmpi .ne v8 v13
  let v15 : BitVec 32 := Scalar.remsi v2 c512_i32
  let c0_i32_3 : BitVec 32 := 0#32
  let v16 : BitVec 1 := Scalar.cmpi .ne v15 c0_i32_3
  let v17 : BitVec 1 := Scalar.andi v14 v16
  let v3 : BitVec 32 := Scalar.divsi v2 c512_i32
  let c1_i32 : BitVec 32 := 1#32
  let v18 : BitVec 32 := Scalar.subi v3 c1_i32
  let v19 : BitVec 32 := Scalar.select v17 v18 v3
  let c0_i32_17 : BitVec 32 := 0#32
  let c0_i32_5 : BitVec 32 := 0#32
  let v23 : BitVec 1 := Scalar.cmpi .sgt v21 c0_i32_5
  let v24 : BitVec 32 := Scalar.extui v23
  let c0_i32_6 : BitVec 32 := 0#32
  let v25 : BitVec 1 := Scalar.cmpi .slt v21 c0_i32_6
  let v26 : BitVec 32 := Scalar.extui v25
  let v27 : BitVec 32 := Scalar.subi v24 v26
  let c512_i32_4 : BitVec 32 := 512#32
  let c0_i32_7 : BitVec 32 := 0#32
  let v28 : BitVec 1 := Scalar.cmpi .sgt c512_i32_4 c0_i32_7
  let v29 : BitVec 32 := Scalar.extui v28
  let c0_i32_8 : BitVec 32 := 0#32
  let v30 : BitVec 1 := Scalar.cmpi .slt c512_i32_4 c0_i32_8
  let v31 : BitVec 32 := Scalar.extui v30
  let v32 : BitVec 32 := Scalar.subi v29 v31
  let v33 : BitVec 1 := Scalar.cmpi .ne v27 v32
  let v34 : BitVec 32 := Scalar.remsi v21 c512_i32_4
  let c0_i32_9 : BitVec 32 := 0#32
  let v35 : BitVec 1 := Scalar.cmpi .ne v34 c0_i32_9
  let v36 : BitVec 1 := Scalar.andi v33 v35
  let v22 : BitVec 32 := Scalar.divsi v21 c512_i32_4
  let c1_i32_10 : BitVec 32 := 1#32
  let v37 : BitVec 32 := Scalar.subi v22 c1_i32_10
  let v38 : BitVec 32 := Scalar.select v36 v37 v22
  let v47 : BitVec 32 := Scalar.subi v38 c0_i32_17
  let c1_i32_18 : BitVec 32 := 1#32
  let v49 : BitVec 32 := Scalar.divsi v47 c1_i32_18
  let v50 : BitVec 32 := Scalar.muli v49 c1_i32_18
  let v51 : BitVec 32 := Scalar.addi c0_i32_17 v50
  let c1_i32_20 : BitVec 32 := 1#32
  let arg16 : BitVec 32 := Scf.iv v51 c1_i32_20 k0_t2
  let v55 : BitVec 32 := Scalar.addi v19 arg16
  let c1_i32_22 : BitVec 32 := 1#32
  let v56 : BitVec 32 := Scalar.andi v55 c1_i32_22
  let c0_i32_103 : BitVec 32 := 0#32
  let c0_i32_104 : BitVec 32 := 0#32
  ![v56.toNat, 0, 0]

def k0_chk1_0 (v0 : BitVec 32) (v2 : BitVec 32) (v21 : BitVec 32) : Prop :=
  ((k0_t1_loop v21).OK) ∧
  (∀ k0_t1 : Fin (k0_t1_loop v21).trips, 512 ∣ (k0_mult2 v2 v21 k0_t1).toNat) ∧
  (∀ k0_t1 : Fin (k0_t1_loop v21).trips, ∀ a, (k0_off2 v2 v21 k0_t1) a + S1.size a ≤ S2.size a) ∧
  (∀ k0_t1 : Fin (k0_t1_loop v21).trips, ∀ a, (k0_off3 v2 v21 k0_t1) a + S1x512x512.size a ≤ S2x512x512.size a) ∧
  (∀ k0_t1 : Fin (k0_t1_loop v21).trips, ∀ a, (k0_off4 v2 v21 k0_t1) a + S512x512.size a ≤ S307200x512.size a) ∧
  (∀ k0_t1 : Fin (k0_t1_loop v21).trips, ∀ (k0_h3 : k0_cond3 v0 v2 v21 k0_t1 = 1#1), 512 ∣ (k0_mult3 v2 v21 k0_t1).toNat) ∧
  (∀ k0_t1 : Fin (k0_t1_loop v21).trips, ∀ (k0_h3 : k0_cond3 v0 v2 v21 k0_t1 = 1#1), ∀ a, (k0_off5 v2 v21 k0_t1) a + S1.size a ≤ S2.size a) ∧
  (∀ k0_t1 : Fin (k0_t1_loop v21).trips, ∀ (k0_h3 : k0_cond3 v0 v2 v21 k0_t1 = 1#1), ∀ a, (k0_off6 v2 v21 k0_t1) a + S1x512x512.size a ≤ S2x512x512.size a) ∧
  (∀ k0_t1 : Fin (k0_t1_loop v21).trips, ∀ (k0_h3 : k0_cond3 v0 v2 v21 k0_t1 = 1#1), ∀ a, (k0_off7 v2 v21 k0_t1) a + S512x512.size a ≤ S307200x512.size a) ∧
  (∀ k0_t1 : Fin (k0_t1_loop v21).trips, ∀ (k0_h4 : k0_cond4 v2 v21 k0_t1 = 1#1), 512 ∣ (k0_mult4 v2 v21 k0_t1).toNat) ∧
  (∀ k0_t1 : Fin (k0_t1_loop v21).trips, ∀ (k0_h4 : k0_cond4 v2 v21 k0_t1 = 1#1), ∀ a, (k0_off8 v2 v21 k0_t1) a + S1.size a ≤ S2.size a) ∧
  (∀ k0_t1 : Fin (k0_t1_loop v21).trips, ∀ (k0_h4 : k0_cond4 v2 v21 k0_t1 = 1#1), ∀ a, (k0_off9 v2 v21 k0_t1) a + S512x1024.size a ≤ S307200x1024.size a) ∧
  (∀ k0_t1 : Fin (k0_t1_loop v21).trips, ∀ (k0_h4 : k0_cond4 v2 v21 k0_t1 = 1#1), ∀ a, (k0_off10 v2 v21 k0_t1) a + S1x512x1024.size a ≤ S2x512x1024.size a) ∧
  (∀ k0_t1 : Fin (k0_t1_loop v21).trips, ∀ (k0_h4 : k0_cond4 v2 v21 k0_t1 = 1#1), ∀ (hinb : ∀ a, (k0_off10 v2 v21 k0_t1) a + S1x512x1024.size a ≤ S2x512x1024.size a), (Rect.unit (s := S2x512x1024) (k0_off10 v2 v21 k0_t1) S1x512x1024.size hinb).WholeWords (EltTy.packing .bf16)) ∧
  (∀ k0_t1 : Fin (k0_t1_loop v21).trips, ∀ (k0_h4 : k0_cond4 v2 v21 k0_t1 = 1#1), ∀ (hinb : ∀ a, (k0_off9 v2 v21 k0_t1) a + S512x1024.size a ≤ S307200x1024.size a), (Rect.unit (s := S307200x1024) (k0_off9 v2 v21 k0_t1) S512x1024.size hinb).WholeWords (EltTy.packing .bf16)) ∧
  (∀ k0_t1 : Fin (k0_t1_loop v21).trips, ∀ a, (k0_off11 v2 v21 k0_t1) a + S1x512x512.size a ≤ S2x512x512.size a) ∧
  (∀ k0_t1 : Fin (k0_t1_loop v21).trips, ∀ a, (k0_off12 v2 v21 k0_t1) a + S1x512x1024.size a ≤ S2x512x1024.size a) ∧
  (∀ k0_t1 : Fin (k0_t1_loop v21).trips, ∀ (hinb : ∀ a, (k0_off12 v2 v21 k0_t1) a + S1x512x1024.size a ≤ S2x512x1024.size a), (Rect.unit (s := S2x512x1024) (k0_off12 v2 v21 k0_t1) S1x512x1024.size hinb).PackedRows (EltTy.packing .bf16)) ∧
  (∀ k0_t1 : Fin (k0_t1_loop v21).trips, 512 ∣ (k0_mult5 v2 v21 k0_t1).toNat) ∧
  (∀ k0_t1 : Fin (k0_t1_loop v21).trips, ∀ a, (k0_off13 v2 v21 k0_t1) a + S512x1024.size a ≤ S307200x1024.size a) ∧
  (∀ k0_t1 : Fin (k0_t1_loop v21).trips, ∀ a, (k0_off14 v2 v21 k0_t1) a + S1x512x1024.size a ≤ S2x512x1024.size a) ∧
  (∀ k0_t1 : Fin (k0_t1_loop v21).trips, ∀ (hinb : ∀ a, (k0_off14 v2 v21 k0_t1) a + S1x512x1024.size a ≤ S2x512x1024.size a), (Rect.unit (s := S2x512x1024) (k0_off14 v2 v21 k0_t1) S1x512x1024.size hinb).WholeWords (EltTy.packing .bf16)) ∧
  (∀ k0_t1 : Fin (k0_t1_loop v21).trips, ∀ (hinb : ∀ a, (k0_off13 v2 v21 k0_t1) a + S512x1024.size a ≤ S307200x1024.size a), (Rect.unit (s := S307200x1024) (k0_off13 v2 v21 k0_t1) S512x1024.size hinb).WholeWords (EltTy.packing .bf16)) ∧
  ((k0_t2_loop v21).OK) ∧
  (∀ k0_t2 : Fin (k0_t2_loop v21).trips, 512 ∣ (k0_mult6 v2 v21 k0_t2).toNat) ∧
  (∀ k0_t2 : Fin (k0_t2_loop v21).trips, ∀ a, (k0_off15 v2 v21 k0_t2) a + S1.size a ≤ S2.size a) ∧
  (∀ k0_t2 : Fin (k0_t2_loop v21).trips, ∀ a, (k0_off16 v2 v21 k0_t2) a + S1x512x512.size a ≤ S2x512x512.size a) ∧
  (∀ k0_t2 : Fin (k0_t2_loop v21).trips, ∀ a, (k0_off17 v2 v21 k0_t2) a + S512x512.size a ≤ S307200x512.size a) ∧
  (∀ k0_t2 : Fin (k0_t2_loop v21).trips, ∀ (k0_h5 : k0_cond5 v0 v2 v21 k0_t2 = 1#1), 512 ∣ (k0_mult7 v2 v21 k0_t2).toNat) ∧
  (∀ k0_t2 : Fin (k0_t2_loop v21).trips, ∀ (k0_h5 : k0_cond5 v0 v2 v21 k0_t2 = 1#1), ∀ a, (k0_off18 v2 v21 k0_t2) a + S1.size a ≤ S2.size a) ∧
  (∀ k0_t2 : Fin (k0_t2_loop v21).trips, ∀ (k0_h5 : k0_cond5 v0 v2 v21 k0_t2 = 1#1), ∀ a, (k0_off19 v2 v21 k0_t2) a + S1x512x512.size a ≤ S2x512x512.size a) ∧
  (∀ k0_t2 : Fin (k0_t2_loop v21).trips, ∀ (k0_h5 : k0_cond5 v0 v2 v21 k0_t2 = 1#1), ∀ a, (k0_off20 v2 v21 k0_t2) a + S512x512.size a ≤ S307200x512.size a)
def k0_chk1_1 (v0 : BitVec 32) (v2 : BitVec 32) (v21 : BitVec 32) : Prop :=
  (∀ k0_t2 : Fin (k0_t2_loop v21).trips, ∀ (k0_h6 : k0_cond6 v2 v21 k0_t2 = 1#1), 512 ∣ (k0_mult8 v2 v21 k0_t2).toNat) ∧
  (∀ k0_t2 : Fin (k0_t2_loop v21).trips, ∀ (k0_h6 : k0_cond6 v2 v21 k0_t2 = 1#1), ∀ a, (k0_off21 v2 v21 k0_t2) a + S1.size a ≤ S2.size a) ∧
  (∀ k0_t2 : Fin (k0_t2_loop v21).trips, ∀ (k0_h6 : k0_cond6 v2 v21 k0_t2 = 1#1), ∀ a, (k0_off22 v2 v21 k0_t2) a + S512x1024.size a ≤ S307200x1024.size a) ∧
  (∀ k0_t2 : Fin (k0_t2_loop v21).trips, ∀ (k0_h6 : k0_cond6 v2 v21 k0_t2 = 1#1), ∀ a, (k0_off23 v2 v21 k0_t2) a + S1x512x1024.size a ≤ S2x512x1024.size a) ∧
  (∀ k0_t2 : Fin (k0_t2_loop v21).trips, ∀ (k0_h6 : k0_cond6 v2 v21 k0_t2 = 1#1), ∀ (hinb : ∀ a, (k0_off23 v2 v21 k0_t2) a + S1x512x1024.size a ≤ S2x512x1024.size a), (Rect.unit (s := S2x512x1024) (k0_off23 v2 v21 k0_t2) S1x512x1024.size hinb).WholeWords (EltTy.packing .bf16)) ∧
  (∀ k0_t2 : Fin (k0_t2_loop v21).trips, ∀ (k0_h6 : k0_cond6 v2 v21 k0_t2 = 1#1), ∀ (hinb : ∀ a, (k0_off22 v2 v21 k0_t2) a + S512x1024.size a ≤ S307200x1024.size a), (Rect.unit (s := S307200x1024) (k0_off22 v2 v21 k0_t2) S512x1024.size hinb).WholeWords (EltTy.packing .bf16)) ∧
  (∀ k0_t2 : Fin (k0_t2_loop v21).trips, ∀ a, (k0_off24 v2 v21 k0_t2) a + S1x512x512.size a ≤ S2x512x512.size a) ∧
  (∀ k0_t2 : Fin (k0_t2_loop v21).trips, ∀ a, (k0_off25 v2 v21 k0_t2) a + S1x512x1024.size a ≤ S2x512x1024.size a) ∧
  (∀ k0_t2 : Fin (k0_t2_loop v21).trips, ∀ (hinb : ∀ a, (k0_off25 v2 v21 k0_t2) a + S1x512x1024.size a ≤ S2x512x1024.size a), (Rect.unit (s := S2x512x1024) (k0_off25 v2 v21 k0_t2) S1x512x1024.size hinb).PackedRows (EltTy.packing .bf16)) ∧
  (∀ k0_t2 : Fin (k0_t2_loop v21).trips, 512 ∣ (k0_mult9 v2 v21 k0_t2).toNat) ∧
  (∀ k0_t2 : Fin (k0_t2_loop v21).trips, ∀ a, (k0_off26 v2 v21 k0_t2) a + S512x1024.size a ≤ S307200x1024.size a) ∧
  (∀ k0_t2 : Fin (k0_t2_loop v21).trips, ∀ a, (k0_off27 v2 v21 k0_t2) a + S1x512x1024.size a ≤ S2x512x1024.size a) ∧
  (∀ k0_t2 : Fin (k0_t2_loop v21).trips, ∀ (hinb : ∀ a, (k0_off27 v2 v21 k0_t2) a + S1x512x1024.size a ≤ S2x512x1024.size a), (Rect.unit (s := S2x512x1024) (k0_off27 v2 v21 k0_t2) S1x512x1024.size hinb).WholeWords (EltTy.packing .bf16)) ∧
  (∀ k0_t2 : Fin (k0_t2_loop v21).trips, ∀ (hinb : ∀ a, (k0_off26 v2 v21 k0_t2) a + S512x1024.size a ≤ S307200x1024.size a), (Rect.unit (s := S307200x1024) (k0_off26 v2 v21 k0_t2) S512x1024.size hinb).WholeWords (EltTy.packing .bf16))
def k0_chk1 (v0 : BitVec 32) (v2 : BitVec 32) (v21 : BitVec 32) : Prop :=
  k0_chk1_0 v0 v2 v21 ∧
  k0_chk1_1 v0 v2 v21
theorem k0_t1_ok : ∀ (v0 : BitVec 32) (v2 : BitVec 32) (v21 : BitVec 32) (k0_hw1 : k0_chk1 v0 v2 v21), (k0_t1_loop v21).OK := fun v0 v2 v21 k0_hw1 => k0_hw1.1.1
theorem k0_mult2_dvd : ∀ (v0 : BitVec 32) (v2 : BitVec 32) (v21 : BitVec 32) (k0_hw1 : k0_chk1 v0 v2 v21) (k0_t1 : Fin (k0_t1_loop v21).trips), 512 ∣ (k0_mult2 v2 v21 k0_t1).toNat := fun v0 v2 v21 k0_hw1 k0_t1 => k0_hw1.1.2.1 k0_t1
theorem k0_off2_inb : ∀ (v0 : BitVec 32) (v2 : BitVec 32) (v21 : BitVec 32) (k0_hw1 : k0_chk1 v0 v2 v21) (k0_t1 : Fin (k0_t1_loop v21).trips), ∀ a, (k0_off2 v2 v21 k0_t1) a + S1.size a ≤ S2.size a := fun v0 v2 v21 k0_hw1 k0_t1 => k0_hw1.1.2.2.1 k0_t1
theorem k0_off3_inb : ∀ (v0 : BitVec 32) (v2 : BitVec 32) (v21 : BitVec 32) (k0_hw1 : k0_chk1 v0 v2 v21) (k0_t1 : Fin (k0_t1_loop v21).trips), ∀ a, (k0_off3 v2 v21 k0_t1) a + S1x512x512.size a ≤ S2x512x512.size a := fun v0 v2 v21 k0_hw1 k0_t1 => k0_hw1.1.2.2.2.1 k0_t1
theorem k0_off4_inb : ∀ (v0 : BitVec 32) (v2 : BitVec 32) (v21 : BitVec 32) (k0_hw1 : k0_chk1 v0 v2 v21) (k0_t1 : Fin (k0_t1_loop v21).trips), ∀ a, (k0_off4 v2 v21 k0_t1) a + S512x512.size a ≤ S307200x512.size a := fun v0 v2 v21 k0_hw1 k0_t1 => k0_hw1.1.2.2.2.2.1 k0_t1
theorem k0_mult3_dvd : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), 512 ∣ (k0_mult3 v2 v21 k0_t1).toNat := fun v0 v2 v21 k0_hw1 k0_t1 k0_h3 => k0_hw1.1.2.2.2.2.2.1 k0_t1 k0_h3
theorem k0_off5_inb : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), ∀ a, (k0_off5 v2 v21 k0_t1) a + S1.size a ≤ S2.size a := fun v0 v2 v21 k0_hw1 k0_t1 k0_h3 => k0_hw1.1.2.2.2.2.2.2.1 k0_t1 k0_h3
theorem k0_off6_inb : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), ∀ a, (k0_off6 v2 v21 k0_t1) a + S1x512x512.size a ≤ S2x512x512.size a := fun v0 v2 v21 k0_hw1 k0_t1 k0_h3 => k0_hw1.1.2.2.2.2.2.2.2.1 k0_t1 k0_h3
theorem k0_off7_inb : ∀ (v0 : BitVec 32) (v2 : BitVec 32) (v21 : BitVec 32) (k0_hw1 : k0_chk1 v0 v2 v21) (k0_t1 : Fin (k0_t1_loop v21).trips), ∀ (k0_h3 : k0_cond3 v0 v2 v21 k0_t1 = 1#1), ∀ a, (k0_off7 v2 v21 k0_t1) a + S512x512.size a ≤ S307200x512.size a := fun v0 v2 v21 k0_hw1 k0_t1 k0_h3 => k0_hw1.1.2.2.2.2.2.2.2.2.1 k0_t1 k0_h3
theorem k0_mult4_dvd : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), 512 ∣ (k0_mult4 v2 v21 k0_t1).toNat := fun v0 v2 v21 k0_hw1 k0_t1 k0_h4 => k0_hw1.1.2.2.2.2.2.2.2.2.2.1 k0_t1 k0_h4
theorem k0_off8_inb : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), ∀ a, (k0_off8 v2 v21 k0_t1) a + S1.size a ≤ S2.size a := fun v0 v2 v21 k0_hw1 k0_t1 k0_h4 => k0_hw1.1.2.2.2.2.2.2.2.2.2.2.1 k0_t1 k0_h4
theorem k0_off9_inb : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), ∀ a, (k0_off9 v2 v21 k0_t1) a + S512x1024.size a ≤ S307200x1024.size a := fun v0 v2 v21 k0_hw1 k0_t1 k0_h4 => k0_hw1.1.2.2.2.2.2.2.2.2.2.2.2.1 k0_t1 k0_h4
theorem k0_off10_inb : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), ∀ a, (k0_off10 v2 v21 k0_t1) a + S1x512x1024.size a ≤ S2x512x1024.size a := fun v0 v2 v21 k0_hw1 k0_t1 k0_h4 => k0_hw1.1.2.2.2.2.2.2.2.2.2.2.2.2.1 k0_t1 k0_h4
theorem k0_off10_wordsbf16 : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), (Rect.unit (s := S2x512x1024) (k0_off10 v2 v21 k0_t1) S1x512x1024.size (k0_off10_inb v0 v2 v21 k0_hw1 k0_t1 k0_h4)).WholeWords (EltTy.packing .bf16) := fun v0 v2 v21 k0_hw1 k0_t1 k0_h4 => k0_hw1.1.2.2.2.2.2.2.2.2.2.2.2.2.2.1 k0_t1 k0_h4 (k0_off10_inb v0 v2 v21 k0_hw1 k0_t1 k0_h4)
theorem k0_off9_wordsbf16 : ∀ (v0 : BitVec 32) (v2 : BitVec 32) (v21 : BitVec 32) (k0_hw1 : k0_chk1 v0 v2 v21) (k0_t1 : Fin (k0_t1_loop v21).trips), ∀ (k0_h4 : k0_cond4 v2 v21 k0_t1 = 1#1), (Rect.unit (s := S307200x1024) (k0_off9 v2 v21 k0_t1) S512x1024.size (k0_off9_inb v0 v2 v21 k0_hw1 k0_t1 k0_h4)).WholeWords (EltTy.packing .bf16) := fun v0 v2 v21 k0_hw1 k0_t1 k0_h4 => k0_hw1.1.2.2.2.2.2.2.2.2.2.2.2.2.2.2.1 k0_t1 k0_h4 (k0_off9_inb v0 v2 v21 k0_hw1 k0_t1 k0_h4)
theorem k0_off11_inb : ∀ (v0 : BitVec 32) (v2 : BitVec 32) (v21 : BitVec 32) (k0_hw1 : k0_chk1 v0 v2 v21) (k0_t1 : Fin (k0_t1_loop v21).trips), ∀ a, (k0_off11 v2 v21 k0_t1) a + S1x512x512.size a ≤ S2x512x512.size a := fun v0 v2 v21 k0_hw1 k0_t1 => k0_hw1.1.2.2.2.2.2.2.2.2.2.2.2.2.2.2.2.1 k0_t1
theorem k0_off12_inb : ∀ (v0 : BitVec 32) (v2 : BitVec 32) (v21 : BitVec 32) (k0_hw1 : k0_chk1 v0 v2 v21) (k0_t1 : Fin (k0_t1_loop v21).trips), ∀ a, (k0_off12 v2 v21 k0_t1) a + S1x512x1024.size a ≤ S2x512x1024.size a := fun v0 v2 v21 k0_hw1 k0_t1 => k0_hw1.1.2.2.2.2.2.2.2.2.2.2.2.2.2.2.2.2.1 k0_t1
theorem k0_off12_packedbf16 : ∀ (v0 : BitVec 32) (v2 : BitVec 32) (v21 : BitVec 32) (k0_hw1 : k0_chk1 v0 v2 v21) (k0_t1 : Fin (k0_t1_loop v21).trips), (Rect.unit (s := S2x512x1024) (k0_off12 v2 v21 k0_t1) S1x512x1024.size (k0_off12_inb v0 v2 v21 k0_hw1 k0_t1)).PackedRows (EltTy.packing .bf16) := fun v0 v2 v21 k0_hw1 k0_t1 => k0_hw1.1.2.2.2.2.2.2.2.2.2.2.2.2.2.2.2.2.2.1 k0_t1 (k0_off12_inb v0 v2 v21 k0_hw1 k0_t1)
theorem k0_mult5_dvd : ∀ (v0 : BitVec 32) (v2 : BitVec 32) (v21 : BitVec 32) (k0_hw1 : k0_chk1 v0 v2 v21) (k0_t1 : Fin (k0_t1_loop v21).trips), 512 ∣ (k0_mult5 v2 v21 k0_t1).toNat := fun v0 v2 v21 k0_hw1 k0_t1 => k0_hw1.1.2.2.2.2.2.2.2.2.2.2.2.2.2.2.2.2.2.2.1 k0_t1
theorem k0_off13_inb : ∀ (v0 : BitVec 32) (v2 : BitVec 32) (v21 : BitVec 32) (k0_hw1 : k0_chk1 v0 v2 v21) (k0_t1 : Fin (k0_t1_loop v21).trips), ∀ a, (k0_off13 v2 v21 k0_t1) a + S512x1024.size a ≤ S307200x1024.size a := fun v0 v2 v21 k0_hw1 k0_t1 => k0_hw1.1.2.2.2.2.2.2.2.2.2.2.2.2.2.2.2.2.2.2.2.1 k0_t1
theorem k0_off14_inb : ∀ (v0 : BitVec 32) (v2 : BitVec 32) (v21 : BitVec 32) (k0_hw1 : k0_chk1 v0 v2 v21) (k0_t1 : Fin (k0_t1_loop v21).trips), ∀ a, (k0_off14 v2 v21 k0_t1) a + S1x512x1024.size a ≤ S2x512x1024.size a := fun v0 v2 v21 k0_hw1 k0_t1 => k0_hw1.1.2.2.2.2.2.2.2.2.2.2.2.2.2.2.2.2.2.2.2.2.1 k0_t1
theorem k0_off14_wordsbf16 : ∀ (v0 : BitVec 32) (v2 : BitVec 32) (v21 : BitVec 32) (k0_hw1 : k0_chk1 v0 v2 v21) (k0_t1 : Fin (k0_t1_loop v21).trips), (Rect.unit (s := S2x512x1024) (k0_off14 v2 v21 k0_t1) S1x512x1024.size (k0_off14_inb v0 v2 v21 k0_hw1 k0_t1)).WholeWords (EltTy.packing .bf16) := fun v0 v2 v21 k0_hw1 k0_t1 => k0_hw1.1.2.2.2.2.2.2.2.2.2.2.2.2.2.2.2.2.2.2.2.2.2.1 k0_t1 (k0_off14_inb v0 v2 v21 k0_hw1 k0_t1)
theorem k0_off13_wordsbf16 : ∀ (v0 : BitVec 32) (v2 : BitVec 32) (v21 : BitVec 32) (k0_hw1 : k0_chk1 v0 v2 v21) (k0_t1 : Fin (k0_t1_loop v21).trips), (Rect.unit (s := S307200x1024) (k0_off13 v2 v21 k0_t1) S512x1024.size (k0_off13_inb v0 v2 v21 k0_hw1 k0_t1)).WholeWords (EltTy.packing .bf16) := fun v0 v2 v21 k0_hw1 k0_t1 => k0_hw1.1.2.2.2.2.2.2.2.2.2.2.2.2.2.2.2.2.2.2.2.2.2.2.1 k0_t1 (k0_off13_inb v0 v2 v21 k0_hw1 k0_t1)
theorem k0_t2_ok : ∀ (v0 : BitVec 32) (v2 : BitVec 32) (v21 : BitVec 32) (k0_hw1 : k0_chk1 v0 v2 v21), (k0_t2_loop v21).OK := fun v0 v2 v21 k0_hw1 => k0_hw1.1.2.2.2.2.2.2.2.2.2.2.2.2.2.2.2.2.2.2.2.2.2.2.2.1
theorem k0_mult6_dvd : ∀ (v0 : BitVec 32) (v2 : BitVec 32) (v21 : BitVec 32) (k0_hw1 : k0_chk1 v0 v2 v21) (k0_t2 : Fin (k0_t2_loop v21).trips), 512 ∣ (k0_mult6 v2 v21 k0_t2).toNat := fun v0 v2 v21 k0_hw1 k0_t2 => k0_hw1.1.2.2.2.2.2.2.2.2.2.2.2.2.2.2.2.2.2.2.2.2.2.2.2.2.1 k0_t2
theorem k0_off15_inb : ∀ (v0 : BitVec 32) (v2 : BitVec 32) (v21 : BitVec 32) (k0_hw1 : k0_chk1 v0 v2 v21) (k0_t2 : Fin (k0_t2_loop v21).trips), ∀ a, (k0_off15 v2 v21 k0_t2) a + S1.size a ≤ S2.size a := fun v0 v2 v21 k0_hw1 k0_t2 => k0_hw1.1.2.2.2.2.2.2.2.2.2.2.2.2.2.2.2.2.2.2.2.2.2.2.2.2.2.1 k0_t2
theorem k0_off16_inb : ∀ (v0 : BitVec 32) (v2 : BitVec 32) (v21 : BitVec 32) (k0_hw1 : k0_chk1 v0 v2 v21) (k0_t2 : Fin (k0_t2_loop v21).trips), ∀ a, (k0_off16 v2 v21 k0_t2) a + S1x512x512.size a ≤ S2x512x512.size a := fun v0 v2 v21 k0_hw1 k0_t2 => k0_hw1.1.2.2.2.2.2.2.2.2.2.2.2.2.2.2.2.2.2.2.2.2.2.2.2.2.2.2.1 k0_t2
theorem k0_off17_inb : ∀ (v0 : BitVec 32) (v2 : BitVec 32) (v21 : BitVec 32) (k0_hw1 : k0_chk1 v0 v2 v21) (k0_t2 : Fin (k0_t2_loop v21).trips), ∀ a, (k0_off17 v2 v21 k0_t2) a + S512x512.size a ≤ S307200x512.size a := fun v0 v2 v21 k0_hw1 k0_t2 => k0_hw1.1.2.2.2.2.2.2.2.2.2.2.2.2.2.2.2.2.2.2.2.2.2.2.2.2.2.2.2.1 k0_t2
theorem k0_mult7_dvd : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), 512 ∣ (k0_mult7 v2 v21 k0_t2).toNat := fun v0 v2 v21 k0_hw1 k0_t2 k0_h5 => k0_hw1.1.2.2.2.2.2.2.2.2.2.2.2.2.2.2.2.2.2.2.2.2.2.2.2.2.2.2.2.2.1 k0_t2 k0_h5
theorem k0_off18_inb : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), ∀ a, (k0_off18 v2 v21 k0_t2) a + S1.size a ≤ S2.size a := fun v0 v2 v21 k0_hw1 k0_t2 k0_h5 => k0_hw1.1.2.2.2.2.2.2.2.2.2.2.2.2.2.2.2.2.2.2.2.2.2.2.2.2.2.2.2.2.2.1 k0_t2 k0_h5
theorem k0_off19_inb : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), ∀ a, (k0_off19 v2 v21 k0_t2) a + S1x512x512.size a ≤ S2x512x512.size a := fun v0 v2 v21 k0_hw1 k0_t2 k0_h5 => k0_hw1.1.2.2.2.2.2.2.2.2.2.2.2.2.2.2.2.2.2.2.2.2.2.2.2.2.2.2.2.2.2.2.1 k0_t2 k0_h5
theorem k0_off20_inb : ∀ (v0 : BitVec 32) (v2 : BitVec 32) (v21 : BitVec 32) (k0_hw1 : k0_chk1 v0 v2 v21) (k0_t2 : Fin (k0_t2_loop v21).trips), ∀ (k0_h5 : k0_cond5 v0 v2 v21 k0_t2 = 1#1), ∀ a, (k0_off20 v2 v21 k0_t2) a + S512x512.size a ≤ S307200x512.size a := fun v0 v2 v21 k0_hw1 k0_t2 k0_h5 => k0_hw1.1.2.2.2.2.2.2.2.2.2.2.2.2.2.2.2.2.2.2.2.2.2.2.2.2.2.2.2.2.2.2.2 k0_t2 k0_h5
theorem k0_mult8_dvd : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), 512 ∣ (k0_mult8 v2 v21 k0_t2).toNat := fun v0 v2 v21 k0_hw1 k0_t2 k0_h6 => k0_hw1.2.1 k0_t2 k0_h6
theorem k0_off21_inb : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), ∀ a, (k0_off21 v2 v21 k0_t2) a + S1.size a ≤ S2.size a := fun v0 v2 v21 k0_hw1 k0_t2 k0_h6 => k0_hw1.2.2.1 k0_t2 k0_h6
theorem k0_off22_inb : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), ∀ a, (k0_off22 v2 v21 k0_t2) a + S512x1024.size a ≤ S307200x1024.size a := fun v0 v2 v21 k0_hw1 k0_t2 k0_h6 => k0_hw1.2.2.2.1 k0_t2 k0_h6
theorem k0_off23_inb : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), ∀ a, (k0_off23 v2 v21 k0_t2) a + S1x512x1024.size a ≤ S2x512x1024.size a := fun v0 v2 v21 k0_hw1 k0_t2 k0_h6 => k0_hw1.2.2.2.2.1 k0_t2 k0_h6
theorem k0_off23_wordsbf16 : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), (Rect.unit (s := S2x512x1024) (k0_off23 v2 v21 k0_t2) S1x512x1024.size (k0_off23_inb v0 v2 v21 k0_hw1 k0_t2 k0_h6)).WholeWords (EltTy.packing .bf16) := fun v0 v2 v21 k0_hw1 k0_t2 k0_h6 => k0_hw1.2.2.2.2.2.1 k0_t2 k0_h6 (k0_off23_inb v0 v2 v21 k0_hw1 k0_t2 k0_h6)
theorem k0_off22_wordsbf16 : ∀ (v0 : BitVec 32) (v2 : BitVec 32) (v21 : BitVec 32) (k0_hw1 : k0_chk1 v0 v2 v21) (k0_t2 : Fin (k0_t2_loop v21).trips), ∀ (k0_h6 : k0_cond6 v2 v21 k0_t2 = 1#1), (Rect.unit (s := S307200x1024) (k0_off22 v2 v21 k0_t2) S512x1024.size (k0_off22_inb v0 v2 v21 k0_hw1 k0_t2 k0_h6)).WholeWords (EltTy.packing .bf16) := fun v0 v2 v21 k0_hw1 k0_t2 k0_h6 => k0_hw1.2.2.2.2.2.2.1 k0_t2 k0_h6 (k0_off22_inb v0 v2 v21 k0_hw1 k0_t2 k0_h6)
theorem k0_off24_inb : ∀ (v0 : BitVec 32) (v2 : BitVec 32) (v21 : BitVec 32) (k0_hw1 : k0_chk1 v0 v2 v21) (k0_t2 : Fin (k0_t2_loop v21).trips), ∀ a, (k0_off24 v2 v21 k0_t2) a + S1x512x512.size a ≤ S2x512x512.size a := fun v0 v2 v21 k0_hw1 k0_t2 => k0_hw1.2.2.2.2.2.2.2.1 k0_t2
theorem k0_off25_inb : ∀ (v0 : BitVec 32) (v2 : BitVec 32) (v21 : BitVec 32) (k0_hw1 : k0_chk1 v0 v2 v21) (k0_t2 : Fin (k0_t2_loop v21).trips), ∀ a, (k0_off25 v2 v21 k0_t2) a + S1x512x1024.size a ≤ S2x512x1024.size a := fun v0 v2 v21 k0_hw1 k0_t2 => k0_hw1.2.2.2.2.2.2.2.2.1 k0_t2
theorem k0_off25_packedbf16 : ∀ (v0 : BitVec 32) (v2 : BitVec 32) (v21 : BitVec 32) (k0_hw1 : k0_chk1 v0 v2 v21) (k0_t2 : Fin (k0_t2_loop v21).trips), (Rect.unit (s := S2x512x1024) (k0_off25 v2 v21 k0_t2) S1x512x1024.size (k0_off25_inb v0 v2 v21 k0_hw1 k0_t2)).PackedRows (EltTy.packing .bf16) := fun v0 v2 v21 k0_hw1 k0_t2 => k0_hw1.2.2.2.2.2.2.2.2.2.1 k0_t2 (k0_off25_inb v0 v2 v21 k0_hw1 k0_t2)
theorem k0_mult9_dvd : ∀ (v0 : BitVec 32) (v2 : BitVec 32) (v21 : BitVec 32) (k0_hw1 : k0_chk1 v0 v2 v21) (k0_t2 : Fin (k0_t2_loop v21).trips), 512 ∣ (k0_mult9 v2 v21 k0_t2).toNat := fun v0 v2 v21 k0_hw1 k0_t2 => k0_hw1.2.2.2.2.2.2.2.2.2.2.1 k0_t2
theorem k0_off26_inb : ∀ (v0 : BitVec 32) (v2 : BitVec 32) (v21 : BitVec 32) (k0_hw1 : k0_chk1 v0 v2 v21) (k0_t2 : Fin (k0_t2_loop v21).trips), ∀ a, (k0_off26 v2 v21 k0_t2) a + S512x1024.size a ≤ S307200x1024.size a := fun v0 v2 v21 k0_hw1 k0_t2 => k0_hw1.2.2.2.2.2.2.2.2.2.2.2.1 k0_t2
theorem k0_off27_inb : ∀ (v0 : BitVec 32) (v2 : BitVec 32) (v21 : BitVec 32) (k0_hw1 : k0_chk1 v0 v2 v21) (k0_t2 : Fin (k0_t2_loop v21).trips), ∀ a, (k0_off27 v2 v21 k0_t2) a + S1x512x1024.size a ≤ S2x512x1024.size a := fun v0 v2 v21 k0_hw1 k0_t2 => k0_hw1.2.2.2.2.2.2.2.2.2.2.2.2.1 k0_t2
theorem k0_off27_wordsbf16 : ∀ (v0 : BitVec 32) (v2 : BitVec 32) (v21 : BitVec 32) (k0_hw1 : k0_chk1 v0 v2 v21) (k0_t2 : Fin (k0_t2_loop v21).trips), (Rect.unit (s := S2x512x1024) (k0_off27 v2 v21 k0_t2) S1x512x1024.size (k0_off27_inb v0 v2 v21 k0_hw1 k0_t2)).WholeWords (EltTy.packing .bf16) := fun v0 v2 v21 k0_hw1 k0_t2 => k0_hw1.2.2.2.2.2.2.2.2.2.2.2.2.2.1 k0_t2 (k0_off27_inb v0 v2 v21 k0_hw1 k0_t2)
theorem k0_off26_wordsbf16 : ∀ (v0 : BitVec 32) (v2 : BitVec 32) (v21 : BitVec 32) (k0_hw1 : k0_chk1 v0 v2 v21) (k0_t2 : Fin (k0_t2_loop v21).trips), (Rect.unit (s := S307200x1024) (k0_off26 v2 v21 k0_t2) S512x1024.size (k0_off26_inb v0 v2 v21 k0_hw1 k0_t2)).WholeWords (EltTy.packing .bf16) := fun v0 v2 v21 k0_hw1 k0_t2 => k0_hw1.2.2.2.2.2.2.2.2.2.2.2.2.2.2 k0_t2 (k0_off26_inb v0 v2 v21 k0_hw1 k0_t2)

def k0_cond7 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_21 : BitVec 32 := 0#32
  let v54 : BitVec 1 := Scalar.cmpi .ne v53 c0_i32_21
  v54

def k0_mult10 (v0 : BitVec 32) : BitVec 32 :=
  let c2_i32_38 : BitVec 32 := 2#32
  let v76 : BitVec 32 := Scalar.subi v0 c2_i32_38
  let c512_i32_41 : BitVec 32 := 512#32
  let v79 : BitVec 32 := Scalar.muli v76 c512_i32_41
  v79
def k0_cond8 (v0 : BitVec 32) : BitVec 1 :=
  let c2_i32 : BitVec 32 := 2#32
  let v55 : BitVec 1 := Scalar.cmpi .sge v0 c2_i32
  let v56 : BitVec 32 := Scalar.extui v55
  let c0_i32_22 : BitVec 32 := 0#32
  let v57 : BitVec 1 := Scalar.cmpi .ne v56 c0_i32_22
  v57

def k0_off28 (v0 : BitVec 32) : Fin 1 → Nat :=
  let c2_i32_39 : BitVec 32 := 2#32
  let v77 : BitVec 32 := Scalar.subi v0 c2_i32_39
  let c1_i32_40 : BitVec 32 := 1#32
  let v78 : BitVec 32 := Scalar.andi v77 c1_i32_40
  ![v78.toNat]
def k0_off29 (v0 : BitVec 32) : Fin 2 → Nat :=
  let c2_i32_38 : BitVec 32 := 2#32
  let v76 : BitVec 32 := Scalar.subi v0 c2_i32_38
  let c512_i32_41 : BitVec 32 := 512#32
  let v79 : BitVec 32 := Scalar.muli v76 c512_i32_41
  let v80 : BitVec 32 := v79
  let c0_i32_42 : BitVec 32 := 0#32
  ![v80.toNat, 0]
def k0_off30 (v0 : BitVec 32) : Fin 3 → Nat :=
  let c2_i32_39 : BitVec 32 := 2#32
  let v77 : BitVec 32 := Scalar.subi v0 c2_i32_39
  let c1_i32_40 : BitVec 32 := 1#32
  let v78 : BitVec 32 := Scalar.andi v77 c1_i32_40
  let c0_i32_43 : BitVec 32 := 0#32
  let c0_i32_44 : BitVec 32 := 0#32
  ![v78.toNat, 0, 0]
def k0_mult11 (v0 : BitVec 32) : BitVec 32 :=
  let c1_i32_38 : BitVec 32 := 1#32
  let v76 : BitVec 32 := Scalar.subi v0 c1_i32_38
  let c512_i32_41 : BitVec 32 := 512#32
  let v79 : BitVec 32 := Scalar.muli v76 c512_i32_41
  v79
def k0_cond9 (v0 : BitVec 32) : BitVec 1 :=
  let c1_i32_23 : BitVec 32 := 1#32
  let v58 : BitVec 1 := Scalar.cmpi .sge v0 c1_i32_23
  let v59 : BitVec 32 := Scalar.extui v58
  let c0_i32_24 : BitVec 32 := 0#32
  let v60 : BitVec 1 := Scalar.cmpi .ne v59 c0_i32_24
  v60

def k0_off31 (v0 : BitVec 32) : Fin 1 → Nat :=
  let c1_i32_39 : BitVec 32 := 1#32
  let v77 : BitVec 32 := Scalar.subi v0 c1_i32_39
  let c1_i32_40 : BitVec 32 := 1#32
  let v78 : BitVec 32 := Scalar.andi v77 c1_i32_40
  ![v78.toNat]
def k0_off32 (v0 : BitVec 32) : Fin 2 → Nat :=
  let c1_i32_38 : BitVec 32 := 1#32
  let v76 : BitVec 32 := Scalar.subi v0 c1_i32_38
  let c512_i32_41 : BitVec 32 := 512#32
  let v79 : BitVec 32 := Scalar.muli v76 c512_i32_41
  let v80 : BitVec 32 := v79
  let c0_i32_42 : BitVec 32 := 0#32
  ![v80.toNat, 0]
def k0_off33 (v0 : BitVec 32) : Fin 3 → Nat :=
  let c1_i32_39 : BitVec 32 := 1#32
  let v77 : BitVec 32 := Scalar.subi v0 c1_i32_39
  let c1_i32_40 : BitVec 32 := 1#32
  let v78 : BitVec 32 := Scalar.andi v77 c1_i32_40
  let c0_i32_43 : BitVec 32 := 0#32
  let c0_i32_44 : BitVec 32 := 0#32
  ![v78.toNat, 0, 0]
@[reducible] def k0_t3_loop (v0 : BitVec 32) : Scf.Loop 32 :=
  let c0_i32_29 : BitVec 32 := 0#32
  let c600_i32 : BitVec 32 := 600#32
  let v65 : BitVec 32 := Scalar.subi c600_i32 v0
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_31 : BitVec 32 := 1#32
  ⟨c0_i32_29, v70, c1_i32_31⟩
def k0_mult12 (v0 : BitVec 32) (k0_t3 : Fin (k0_t3_loop v0).trips) : BitVec 32 :=
  let c0_i32_29 : BitVec 32 := 0#32
  let c1_i32_31 : BitVec 32 := 1#32
  let arg16 : BitVec 32 := Scf.iv c0_i32_29 c1_i32_31 k0_t3
  let v76 : BitVec 32 := Scalar.addi v0 arg16
  let c512_i32_38 : BitVec 32 := 512#32
  let v77 : BitVec 32 := Scalar.muli v76 c512_i32_38
  v77
def k0_off34 (v0 : BitVec 32) (k0_t3 : Fin (k0_t3_loop v0).trips) : Fin 2 → Nat :=
  let c0_i32_29 : BitVec 32 := 0#32
  let c1_i32_31 : BitVec 32 := 1#32
  let arg16 : BitVec 32 := Scf.iv c0_i32_29 c1_i32_31 k0_t3
  let v76 : BitVec 32 := Scalar.addi v0 arg16
  let c512_i32_38 : BitVec 32 := 512#32
  let v77 : BitVec 32 := Scalar.muli v76 c512_i32_38
  let v78 : BitVec 32 := v77
  let c0_i32_41 : BitVec 32 := 0#32
  ![v78.toNat, 0]
@[reducible] def k0_t4_loop (v0 : BitVec 32) : Scf.Loop 32 :=
  let c0_i32_29 : BitVec 32 := 0#32
  let c600_i32 : BitVec 32 := 600#32
  let v65 : BitVec 32 := Scalar.subi c600_i32 v0
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let v67 : BitVec 32 := Scalar.addi c0_i32_29 v66
  let c1_i32_32 : BitVec 32 := 1#32
  ⟨v70, v67, c1_i32_32⟩
def k0_mult13 (v0 : BitVec 32) (k0_t4 : Fin (k0_t4_loop v0).trips) : BitVec 32 :=
  let c0_i32_29 : BitVec 32 := 0#32
  let c600_i32 : BitVec 32 := 600#32
  let v65 : BitVec 32 := Scalar.subi c600_i32 v0
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg16 : BitVec 32 := Scf.iv v70 c1_i32_32 k0_t4
  let v76 : BitVec 32 := Scalar.addi v0 arg16
  let c512_i32_38 : BitVec 32 := 512#32
  let v77 : BitVec 32 := Scalar.muli v76 c512_i32_38
  v77
def k0_off35 (v0 : BitVec 32) (k0_t4 : Fin (k0_t4_loop v0).trips) : Fin 2 → Nat :=
  let c0_i32_29 : BitVec 32 := 0#32
  let c600_i32 : BitVec 32 := 600#32
  let v65 : BitVec 32 := Scalar.subi c600_i32 v0
  let v66 : BitVec 32 := Scalar.subi v65 c0_i32_29
  let c1_i32_30 : BitVec 32 := 1#32
  let v68 : BitVec 32 := Scalar.divsi v66 c1_i32_30
  let v69 : BitVec 32 := Scalar.muli v68 c1_i32_30
  let v70 : BitVec 32 := Scalar.addi c0_i32_29 v69
  let c1_i32_32 : BitVec 32 := 1#32
  let arg16 : BitVec 32 := Scf.iv v70 c1_i32_32 k0_t4
  let v76 : BitVec 32 := Scalar.addi v0 arg16
  let c512_i32_38 : BitVec 32 := 512#32
  let v77 : BitVec 32 := Scalar.muli v76 c512_i32_38
  let v78 : BitVec 32 := v77
  let c0_i32_41 : BitVec 32 := 0#32
  ![v78.toNat, 0]
@[reducible] def k0_t5_loop (v0 : BitVec 32) : Scf.Loop 32 :=
  let c0_i32_34 : BitVec 32 := 0#32
  let c600_i32 : BitVec 32 := 600#32
  let v65 : BitVec 32 := Scalar.subi c600_i32 v0
  let v71 : BitVec 32 := Scalar.subi v65 c0_i32_34
  let c1_i32_35 : BitVec 32 := 1#32
  let v73 : BitVec 32 := Scalar.divsi v71 c1_i32_35
  let v74 : BitVec 32 := Scalar.muli v73 c1_i32_35
  let v75 : BitVec 32 := Scalar.addi c0_i32_34 v74
  let c1_i32_36 : BitVec 32 := 1#32
  ⟨c0_i32_34, v75, c1_i32_36⟩
def k0_mult14 (v0 : BitVec 32) (k0_t5 : Fin (k0_t5_loop v0).trips) : BitVec 32 :=
  let c0_i32_34 : BitVec 32 := 0#32
  let c1_i32_36 : BitVec 32 := 1#32
  let arg16 : BitVec 32 := Scf.iv c0_i32_34 c1_i32_36 k0_t5
  let v76 : BitVec 32 := Scalar.addi v0 arg16
  let c512_i32_38 : BitVec 32 := 512#32
  let v77 : BitVec 32 := Scalar.muli v76 c512_i32_38
  v77
def k0_off36 (v0 : BitVec 32) (k0_t5 : Fin (k0_t5_loop v0).trips) : Fin 2 → Nat :=
  let c0_i32_34 : BitVec 32 := 0#32
  let c1_i32_36 : BitVec 32 := 1#32
  let arg16 : BitVec 32 := Scf.iv c0_i32_34 c1_i32_36 k0_t5
  let v76 : BitVec 32 := Scalar.addi v0 arg16
  let c512_i32_38 : BitVec 32 := 512#32
  let v77 : BitVec 32 := Scalar.muli v76 c512_i32_38
  let v78 : BitVec 32 := v77
  let c0_i32_41 : BitVec 32 := 0#32
  ![v78.toNat, 0]
@[reducible] def k0_t6_loop (v0 : BitVec 32) : Scf.Loop 32 :=
  let c0_i32_34 : BitVec 32 := 0#32
  let c600_i32 : BitVec 32 := 600#32
  let v65 : BitVec 32 := Scalar.subi c600_i32 v0
  let v71 : BitVec 32 := Scalar.subi v65 c0_i32_34
  let c1_i32_35 : BitVec 32 := 1#32
  let v73 : BitVec 32 := Scalar.divsi v71 c1_i32_35
  let v74 : BitVec 32 := Scalar.muli v73 c1_i32_35
  let v75 : BitVec 32 := Scalar.addi c0_i32_34 v74
  let v72 : BitVec 32 := Scalar.addi c0_i32_34 v71
  let c1_i32_37 : BitVec 32 := 1#32
  ⟨v75, v72, c1_i32_37⟩
def k0_mult15 (v0 : BitVec 32) (k0_t6 : Fin (k0_t6_loop v0).trips) : BitVec 32 :=
  let c0_i32_34 : BitVec 32 := 0#32
  let c600_i32 : BitVec 32 := 600#32
  let v65 : BitVec 32 := Scalar.subi c600_i32 v0
  let v71 : BitVec 32 := Scalar.subi v65 c0_i32_34
  let c1_i32_35 : BitVec 32 := 1#32
  let v73 : BitVec 32 := Scalar.divsi v71 c1_i32_35
  let v74 : BitVec 32 := Scalar.muli v73 c1_i32_35
  let v75 : BitVec 32 := Scalar.addi c0_i32_34 v74
  let c1_i32_37 : BitVec 32 := 1#32
  let arg16 : BitVec 32 := Scf.iv v75 c1_i32_37 k0_t6
  let v76 : BitVec 32 := Scalar.addi v0 arg16
  let c512_i32_38 : BitVec 32 := 512#32
  let v77 : BitVec 32 := Scalar.muli v76 c512_i32_38
  v77
def k0_off37 (v0 : BitVec 32) (k0_t6 : Fin (k0_t6_loop v0).trips) : Fin 2 → Nat :=
  let c0_i32_34 : BitVec 32 := 0#32
  let c600_i32 : BitVec 32 := 600#32
  let v65 : BitVec 32 := Scalar.subi c600_i32 v0
  let v71 : BitVec 32 := Scalar.subi v65 c0_i32_34
  let c1_i32_35 : BitVec 32 := 1#32
  let v73 : BitVec 32 := Scalar.divsi v71 c1_i32_35
  let v74 : BitVec 32 := Scalar.muli v73 c1_i32_35
  let v75 : BitVec 32 := Scalar.addi c0_i32_34 v74
  let c1_i32_37 : BitVec 32 := 1#32
  let arg16 : BitVec 32 := Scf.iv v75 c1_i32_37 k0_t6
  let v76 : BitVec 32 := Scalar.addi v0 arg16
  let c512_i32_38 : BitVec 32 := 512#32
  let v77 : BitVec 32 := Scalar.muli v76 c512_i32_38
  let v78 : BitVec 32 := v77
  let c0_i32_41 : BitVec 32 := 0#32
  ![v78.toNat, 0]

def k0_chk2 (i : grid0.Coords) (v0 : BitVec 32) : Prop :=
  (∀ (k0_h7 : k0_cond7 i = 1#1), ∀ (k0_h8 : k0_cond8 v0 = 1#1), 512 ∣ (k0_mult10 v0).toNat) ∧
  (∀ (k0_h7 : k0_cond7 i = 1#1), ∀ (k0_h8 : k0_cond8 v0 = 1#1), ∀ a, (k0_off28 v0) a + S1.size a ≤ S2.size a) ∧
  (∀ (k0_h7 : k0_cond7 i = 1#1), ∀ (k0_h8 : k0_cond8 v0 = 1#1), ∀ a, (k0_off29 v0) a + S512x1024.size a ≤ S307200x1024.size a) ∧
  (∀ (k0_h7 : k0_cond7 i = 1#1), ∀ (k0_h8 : k0_cond8 v0 = 1#1), ∀ a, (k0_off30 v0) a + S1x512x1024.size a ≤ S2x512x1024.size a) ∧
  (∀ (k0_h7 : k0_cond7 i = 1#1), ∀ (k0_h8 : k0_cond8 v0 = 1#1), ∀ (hinb : ∀ a, (k0_off30 v0) a + S1x512x1024.size a ≤ S2x512x1024.size a), (Rect.unit (s := S2x512x1024) (k0_off30 v0) S1x512x1024.size hinb).WholeWords (EltTy.packing .bf16)) ∧
  (∀ (k0_h7 : k0_cond7 i = 1#1), ∀ (k0_h8 : k0_cond8 v0 = 1#1), ∀ (hinb : ∀ a, (k0_off29 v0) a + S512x1024.size a ≤ S307200x1024.size a), (Rect.unit (s := S307200x1024) (k0_off29 v0) S512x1024.size hinb).WholeWords (EltTy.packing .bf16)) ∧
  (∀ (k0_h7 : k0_cond7 i = 1#1), ∀ (k0_h9 : k0_cond9 v0 = 1#1), 512 ∣ (k0_mult11 v0).toNat) ∧
  (∀ (k0_h7 : k0_cond7 i = 1#1), ∀ (k0_h9 : k0_cond9 v0 = 1#1), ∀ a, (k0_off31 v0) a + S1.size a ≤ S2.size a) ∧
  (∀ (k0_h7 : k0_cond7 i = 1#1), ∀ (k0_h9 : k0_cond9 v0 = 1#1), ∀ a, (k0_off32 v0) a + S512x1024.size a ≤ S307200x1024.size a) ∧
  (∀ (k0_h7 : k0_cond7 i = 1#1), ∀ (k0_h9 : k0_cond9 v0 = 1#1), ∀ a, (k0_off33 v0) a + S1x512x1024.size a ≤ S2x512x1024.size a) ∧
  (∀ (k0_h7 : k0_cond7 i = 1#1), ∀ (k0_h9 : k0_cond9 v0 = 1#1), ∀ (hinb : ∀ a, (k0_off33 v0) a + S1x512x1024.size a ≤ S2x512x1024.size a), (Rect.unit (s := S2x512x1024) (k0_off33 v0) S1x512x1024.size hinb).WholeWords (EltTy.packing .bf16)) ∧
  (∀ (k0_h7 : k0_cond7 i = 1#1), ∀ (k0_h9 : k0_cond9 v0 = 1#1), ∀ (hinb : ∀ a, (k0_off32 v0) a + S512x1024.size a ≤ S307200x1024.size a), (Rect.unit (s := S307200x1024) (k0_off32 v0) S512x1024.size hinb).WholeWords (EltTy.packing .bf16)) ∧
  (∀ (k0_h7 : k0_cond7 i = 1#1), (k0_t3_loop v0).OK) ∧
  (∀ k0_t3 : Fin (k0_t3_loop v0).trips, ∀ (k0_h7 : k0_cond7 i = 1#1), 512 ∣ (k0_mult12 v0 k0_t3).toNat) ∧
  (∀ k0_t3 : Fin (k0_t3_loop v0).trips, ∀ (k0_h7 : k0_cond7 i = 1#1), ∀ a, (k0_off34 v0 k0_t3) a + S512x1024.size a ≤ S307200x1024.size a) ∧
  (∀ k0_t3 : Fin (k0_t3_loop v0).trips, ∀ (k0_h7 : k0_cond7 i = 1#1), ∀ (hinb : ∀ a, (k0_off34 v0 k0_t3) a + S512x1024.size a ≤ S307200x1024.size a), (Rect.unit (s := S307200x1024) (k0_off34 v0 k0_t3) S512x1024.size hinb).WholeWords (EltTy.packing .bf16)) ∧
  (∀ (k0_h7 : k0_cond7 i = 1#1), (k0_t4_loop v0).OK) ∧
  (∀ k0_t4 : Fin (k0_t4_loop v0).trips, ∀ (k0_h7 : k0_cond7 i = 1#1), 512 ∣ (k0_mult13 v0 k0_t4).toNat) ∧
  (∀ k0_t4 : Fin (k0_t4_loop v0).trips, ∀ (k0_h7 : k0_cond7 i = 1#1), ∀ a, (k0_off35 v0 k0_t4) a + S512x1024.size a ≤ S307200x1024.size a) ∧
  (∀ k0_t4 : Fin (k0_t4_loop v0).trips, ∀ (k0_h7 : k0_cond7 i = 1#1), ∀ (hinb : ∀ a, (k0_off35 v0 k0_t4) a + S512x1024.size a ≤ S307200x1024.size a), (Rect.unit (s := S307200x1024) (k0_off35 v0 k0_t4) S512x1024.size hinb).WholeWords (EltTy.packing .bf16)) ∧
  (∀ (k0_h7 : k0_cond7 i = 1#1), (k0_t5_loop v0).OK) ∧
  (∀ k0_t5 : Fin (k0_t5_loop v0).trips, ∀ (k0_h7 : k0_cond7 i = 1#1), 512 ∣ (k0_mult14 v0 k0_t5).toNat) ∧
  (∀ k0_t5 : Fin (k0_t5_loop v0).trips, ∀ (k0_h7 : k0_cond7 i = 1#1), ∀ a, (k0_off36 v0 k0_t5) a + S512x1024.size a ≤ S307200x1024.size a) ∧
  (∀ k0_t5 : Fin (k0_t5_loop v0).trips, ∀ (k0_h7 : k0_cond7 i = 1#1), ∀ (hinb : ∀ a, (k0_off36 v0 k0_t5) a + S512x1024.size a ≤ S307200x1024.size a), (Rect.unit (s := S307200x1024) (k0_off36 v0 k0_t5) S512x1024.size hinb).WholeWords (EltTy.packing .bf16)) ∧
  (∀ (k0_h7 : k0_cond7 i = 1#1), (k0_t6_loop v0).OK) ∧
  (∀ k0_t6 : Fin (k0_t6_loop v0).trips, ∀ (k0_h7 : k0_cond7 i = 1#1), 512 ∣ (k0_mult15 v0 k0_t6).toNat) ∧
  (∀ k0_t6 : Fin (k0_t6_loop v0).trips, ∀ (k0_h7 : k0_cond7 i = 1#1), ∀ a, (k0_off37 v0 k0_t6) a + S512x1024.size a ≤ S307200x1024.size a) ∧
  (∀ k0_t6 : Fin (k0_t6_loop v0).trips, ∀ (k0_h7 : k0_cond7 i = 1#1), ∀ (hinb : ∀ a, (k0_off37 v0 k0_t6) a + S512x1024.size a ≤ S307200x1024.size a), (Rect.unit (s := S307200x1024) (k0_off37 v0 k0_t6) S512x1024.size hinb).WholeWords (EltTy.packing .bf16))
theorem k0_mult10_dvd : ∀ (i : grid0.Coords) (v0 : BitVec 32) (k0_hw2 : k0_chk2 i v0), ∀ (k0_h7 : k0_cond7 i = 1#1), ∀ (k0_h8 : k0_cond8 v0 = 1#1), 512 ∣ (k0_mult10 v0).toNat := fun i v0 k0_hw2 k0_h7 k0_h8 => k0_hw2.1 k0_h7 k0_h8
theorem k0_off28_inb : ∀ (i : grid0.Coords) (v0 : BitVec 32) (k0_hw2 : k0_chk2 i v0), ∀ (k0_h7 : k0_cond7 i = 1#1), ∀ (k0_h8 : k0_cond8 v0 = 1#1), ∀ a, (k0_off28 v0) a + S1.size a ≤ S2.size a := fun i v0 k0_hw2 k0_h7 k0_h8 => k0_hw2.2.1 k0_h7 k0_h8
theorem k0_off29_inb : ∀ (i : grid0.Coords) (v0 : BitVec 32) (k0_hw2 : k0_chk2 i v0), ∀ (k0_h7 : k0_cond7 i = 1#1), ∀ (k0_h8 : k0_cond8 v0 = 1#1), ∀ a, (k0_off29 v0) a + S512x1024.size a ≤ S307200x1024.size a := fun i v0 k0_hw2 k0_h7 k0_h8 => k0_hw2.2.2.1 k0_h7 k0_h8
theorem k0_off30_inb : ∀ (i : grid0.Coords) (v0 : BitVec 32) (k0_hw2 : k0_chk2 i v0), ∀ (k0_h7 : k0_cond7 i = 1#1), ∀ (k0_h8 : k0_cond8 v0 = 1#1), ∀ a, (k0_off30 v0) a + S1x512x1024.size a ≤ S2x512x1024.size a := fun i v0 k0_hw2 k0_h7 k0_h8 => k0_hw2.2.2.2.1 k0_h7 k0_h8
theorem k0_off30_wordsbf16 : ∀ (i : grid0.Coords) (v0 : BitVec 32) (k0_hw2 : k0_chk2 i v0), ∀ (k0_h7 : k0_cond7 i = 1#1), ∀ (k0_h8 : k0_cond8 v0 = 1#1), (Rect.unit (s := S2x512x1024) (k0_off30 v0) S1x512x1024.size (k0_off30_inb i v0 k0_hw2 k0_h7 k0_h8)).WholeWords (EltTy.packing .bf16) := fun i v0 k0_hw2 k0_h7 k0_h8 => k0_hw2.2.2.2.2.1 k0_h7 k0_h8 (k0_off30_inb i v0 k0_hw2 k0_h7 k0_h8)
theorem k0_off29_wordsbf16 : ∀ (i : grid0.Coords) (v0 : BitVec 32) (k0_hw2 : k0_chk2 i v0), ∀ (k0_h7 : k0_cond7 i = 1#1), ∀ (k0_h8 : k0_cond8 v0 = 1#1), (Rect.unit (s := S307200x1024) (k0_off29 v0) S512x1024.size (k0_off29_inb i v0 k0_hw2 k0_h7 k0_h8)).WholeWords (EltTy.packing .bf16) := fun i v0 k0_hw2 k0_h7 k0_h8 => k0_hw2.2.2.2.2.2.1 k0_h7 k0_h8 (k0_off29_inb i v0 k0_hw2 k0_h7 k0_h8)
theorem k0_mult11_dvd : ∀ (i : grid0.Coords) (v0 : BitVec 32) (k0_hw2 : k0_chk2 i v0), ∀ (k0_h7 : k0_cond7 i = 1#1), ∀ (k0_h9 : k0_cond9 v0 = 1#1), 512 ∣ (k0_mult11 v0).toNat := fun i v0 k0_hw2 k0_h7 k0_h9 => k0_hw2.2.2.2.2.2.2.1 k0_h7 k0_h9
theorem k0_off31_inb : ∀ (i : grid0.Coords) (v0 : BitVec 32) (k0_hw2 : k0_chk2 i v0), ∀ (k0_h7 : k0_cond7 i = 1#1), ∀ (k0_h9 : k0_cond9 v0 = 1#1), ∀ a, (k0_off31 v0) a + S1.size a ≤ S2.size a := fun i v0 k0_hw2 k0_h7 k0_h9 => k0_hw2.2.2.2.2.2.2.2.1 k0_h7 k0_h9
theorem k0_off32_inb : ∀ (i : grid0.Coords) (v0 : BitVec 32) (k0_hw2 : k0_chk2 i v0), ∀ (k0_h7 : k0_cond7 i = 1#1), ∀ (k0_h9 : k0_cond9 v0 = 1#1), ∀ a, (k0_off32 v0) a + S512x1024.size a ≤ S307200x1024.size a := fun i v0 k0_hw2 k0_h7 k0_h9 => k0_hw2.2.2.2.2.2.2.2.2.1 k0_h7 k0_h9
theorem k0_off33_inb : ∀ (i : grid0.Coords) (v0 : BitVec 32) (k0_hw2 : k0_chk2 i v0), ∀ (k0_h7 : k0_cond7 i = 1#1), ∀ (k0_h9 : k0_cond9 v0 = 1#1), ∀ a, (k0_off33 v0) a + S1x512x1024.size a ≤ S2x512x1024.size a := fun i v0 k0_hw2 k0_h7 k0_h9 => k0_hw2.2.2.2.2.2.2.2.2.2.1 k0_h7 k0_h9
theorem k0_off33_wordsbf16 : ∀ (i : grid0.Coords) (v0 : BitVec 32) (k0_hw2 : k0_chk2 i v0), ∀ (k0_h7 : k0_cond7 i = 1#1), ∀ (k0_h9 : k0_cond9 v0 = 1#1), (Rect.unit (s := S2x512x1024) (k0_off33 v0) S1x512x1024.size (k0_off33_inb i v0 k0_hw2 k0_h7 k0_h9)).WholeWords (EltTy.packing .bf16) := fun i v0 k0_hw2 k0_h7 k0_h9 => k0_hw2.2.2.2.2.2.2.2.2.2.2.1 k0_h7 k0_h9 (k0_off33_inb i v0 k0_hw2 k0_h7 k0_h9)
theorem k0_off32_wordsbf16 : ∀ (i : grid0.Coords) (v0 : BitVec 32) (k0_hw2 : k0_chk2 i v0), ∀ (k0_h7 : k0_cond7 i = 1#1), ∀ (k0_h9 : k0_cond9 v0 = 1#1), (Rect.unit (s := S307200x1024) (k0_off32 v0) S512x1024.size (k0_off32_inb i v0 k0_hw2 k0_h7 k0_h9)).WholeWords (EltTy.packing .bf16) := fun i v0 k0_hw2 k0_h7 k0_h9 => k0_hw2.2.2.2.2.2.2.2.2.2.2.2.1 k0_h7 k0_h9 (k0_off32_inb i v0 k0_hw2 k0_h7 k0_h9)
theorem k0_t3_ok : ∀ (i : grid0.Coords) (v0 : BitVec 32) (k0_hw2 : k0_chk2 i v0), ∀ (k0_h7 : k0_cond7 i = 1#1), (k0_t3_loop v0).OK := fun i v0 k0_hw2 k0_h7 => k0_hw2.2.2.2.2.2.2.2.2.2.2.2.2.1 k0_h7
theorem k0_mult12_dvd : ∀ (i : grid0.Coords) (v0 : BitVec 32) (k0_hw2 : k0_chk2 i v0) (k0_t3 : Fin (k0_t3_loop v0).trips), ∀ (k0_h7 : k0_cond7 i = 1#1), 512 ∣ (k0_mult12 v0 k0_t3).toNat := fun i v0 k0_hw2 k0_t3 k0_h7 => k0_hw2.2.2.2.2.2.2.2.2.2.2.2.2.2.1 k0_t3 k0_h7
theorem k0_off34_inb : ∀ (i : grid0.Coords) (v0 : BitVec 32) (k0_hw2 : k0_chk2 i v0) (k0_t3 : Fin (k0_t3_loop v0).trips), ∀ (k0_h7 : k0_cond7 i = 1#1), ∀ a, (k0_off34 v0 k0_t3) a + S512x1024.size a ≤ S307200x1024.size a := fun i v0 k0_hw2 k0_t3 k0_h7 => k0_hw2.2.2.2.2.2.2.2.2.2.2.2.2.2.2.1 k0_t3 k0_h7
theorem k0_off34_wordsbf16 : ∀ (i : grid0.Coords) (v0 : BitVec 32) (k0_hw2 : k0_chk2 i v0) (k0_t3 : Fin (k0_t3_loop v0).trips), ∀ (k0_h7 : k0_cond7 i = 1#1), (Rect.unit (s := S307200x1024) (k0_off34 v0 k0_t3) S512x1024.size (k0_off34_inb i v0 k0_hw2 k0_t3 k0_h7)).WholeWords (EltTy.packing .bf16) := fun i v0 k0_hw2 k0_t3 k0_h7 => k0_hw2.2.2.2.2.2.2.2.2.2.2.2.2.2.2.2.1 k0_t3 k0_h7 (k0_off34_inb i v0 k0_hw2 k0_t3 k0_h7)
theorem k0_t4_ok : ∀ (i : grid0.Coords) (v0 : BitVec 32) (k0_hw2 : k0_chk2 i v0), ∀ (k0_h7 : k0_cond7 i = 1#1), (k0_t4_loop v0).OK := fun i v0 k0_hw2 k0_h7 => k0_hw2.2.2.2.2.2.2.2.2.2.2.2.2.2.2.2.2.1 k0_h7
theorem k0_mult13_dvd : ∀ (i : grid0.Coords) (v0 : BitVec 32) (k0_hw2 : k0_chk2 i v0) (k0_t4 : Fin (k0_t4_loop v0).trips), ∀ (k0_h7 : k0_cond7 i = 1#1), 512 ∣ (k0_mult13 v0 k0_t4).toNat := fun i v0 k0_hw2 k0_t4 k0_h7 => k0_hw2.2.2.2.2.2.2.2.2.2.2.2.2.2.2.2.2.2.1 k0_t4 k0_h7
theorem k0_off35_inb : ∀ (i : grid0.Coords) (v0 : BitVec 32) (k0_hw2 : k0_chk2 i v0) (k0_t4 : Fin (k0_t4_loop v0).trips), ∀ (k0_h7 : k0_cond7 i = 1#1), ∀ a, (k0_off35 v0 k0_t4) a + S512x1024.size a ≤ S307200x1024.size a := fun i v0 k0_hw2 k0_t4 k0_h7 => k0_hw2.2.2.2.2.2.2.2.2.2.2.2.2.2.2.2.2.2.2.1 k0_t4 k0_h7
theorem k0_off35_wordsbf16 : ∀ (i : grid0.Coords) (v0 : BitVec 32) (k0_hw2 : k0_chk2 i v0) (k0_t4 : Fin (k0_t4_loop v0).trips), ∀ (k0_h7 : k0_cond7 i = 1#1), (Rect.unit (s := S307200x1024) (k0_off35 v0 k0_t4) S512x1024.size (k0_off35_inb i v0 k0_hw2 k0_t4 k0_h7)).WholeWords (EltTy.packing .bf16) := fun i v0 k0_hw2 k0_t4 k0_h7 => k0_hw2.2.2.2.2.2.2.2.2.2.2.2.2.2.2.2.2.2.2.2.1 k0_t4 k0_h7 (k0_off35_inb i v0 k0_hw2 k0_t4 k0_h7)
theorem k0_t5_ok : ∀ (i : grid0.Coords) (v0 : BitVec 32) (k0_hw2 : k0_chk2 i v0), ∀ (k0_h7 : k0_cond7 i = 1#1), (k0_t5_loop v0).OK := fun i v0 k0_hw2 k0_h7 => k0_hw2.2.2.2.2.2.2.2.2.2.2.2.2.2.2.2.2.2.2.2.2.1 k0_h7
theorem k0_mult14_dvd : ∀ (i : grid0.Coords) (v0 : BitVec 32) (k0_hw2 : k0_chk2 i v0) (k0_t5 : Fin (k0_t5_loop v0).trips), ∀ (k0_h7 : k0_cond7 i = 1#1), 512 ∣ (k0_mult14 v0 k0_t5).toNat := fun i v0 k0_hw2 k0_t5 k0_h7 => k0_hw2.2.2.2.2.2.2.2.2.2.2.2.2.2.2.2.2.2.2.2.2.2.1 k0_t5 k0_h7
theorem k0_off36_inb : ∀ (i : grid0.Coords) (v0 : BitVec 32) (k0_hw2 : k0_chk2 i v0) (k0_t5 : Fin (k0_t5_loop v0).trips), ∀ (k0_h7 : k0_cond7 i = 1#1), ∀ a, (k0_off36 v0 k0_t5) a + S512x1024.size a ≤ S307200x1024.size a := fun i v0 k0_hw2 k0_t5 k0_h7 => k0_hw2.2.2.2.2.2.2.2.2.2.2.2.2.2.2.2.2.2.2.2.2.2.2.1 k0_t5 k0_h7
theorem k0_off36_wordsbf16 : ∀ (i : grid0.Coords) (v0 : BitVec 32) (k0_hw2 : k0_chk2 i v0) (k0_t5 : Fin (k0_t5_loop v0).trips), ∀ (k0_h7 : k0_cond7 i = 1#1), (Rect.unit (s := S307200x1024) (k0_off36 v0 k0_t5) S512x1024.size (k0_off36_inb i v0 k0_hw2 k0_t5 k0_h7)).WholeWords (EltTy.packing .bf16) := fun i v0 k0_hw2 k0_t5 k0_h7 => k0_hw2.2.2.2.2.2.2.2.2.2.2.2.2.2.2.2.2.2.2.2.2.2.2.2.1 k0_t5 k0_h7 (k0_off36_inb i v0 k0_hw2 k0_t5 k0_h7)
theorem k0_t6_ok : ∀ (i : grid0.Coords) (v0 : BitVec 32) (k0_hw2 : k0_chk2 i v0), ∀ (k0_h7 : k0_cond7 i = 1#1), (k0_t6_loop v0).OK := fun i v0 k0_hw2 k0_h7 => k0_hw2.2.2.2.2.2.2.2.2.2.2.2.2.2.2.2.2.2.2.2.2.2.2.2.2.1 k0_h7
theorem k0_mult15_dvd : ∀ (i : grid0.Coords) (v0 : BitVec 32) (k0_hw2 : k0_chk2 i v0) (k0_t6 : Fin (k0_t6_loop v0).trips), ∀ (k0_h7 : k0_cond7 i = 1#1), 512 ∣ (k0_mult15 v0 k0_t6).toNat := fun i v0 k0_hw2 k0_t6 k0_h7 => k0_hw2.2.2.2.2.2.2.2.2.2.2.2.2.2.2.2.2.2.2.2.2.2.2.2.2.2.1 k0_t6 k0_h7
theorem k0_off37_inb : ∀ (i : grid0.Coords) (v0 : BitVec 32) (k0_hw2 : k0_chk2 i v0) (k0_t6 : Fin (k0_t6_loop v0).trips), ∀ (k0_h7 : k0_cond7 i = 1#1), ∀ a, (k0_off37 v0 k0_t6) a + S512x1024.size a ≤ S307200x1024.size a := fun i v0 k0_hw2 k0_t6 k0_h7 => k0_hw2.2.2.2.2.2.2.2.2.2.2.2.2.2.2.2.2.2.2.2.2.2.2.2.2.2.2.1 k0_t6 k0_h7
theorem k0_off37_wordsbf16 : ∀ (i : grid0.Coords) (v0 : BitVec 32) (k0_hw2 : k0_chk2 i v0) (k0_t6 : Fin (k0_t6_loop v0).trips), ∀ (k0_h7 : k0_cond7 i = 1#1), (Rect.unit (s := S307200x1024) (k0_off37 v0 k0_t6) S512x1024.size (k0_off37_inb i v0 k0_hw2 k0_t6 k0_h7)).WholeWords (EltTy.packing .bf16) := fun i v0 k0_hw2 k0_t6 k0_h7 => k0_hw2.2.2.2.2.2.2.2.2.2.2.2.2.2.2.2.2.2.2.2.2.2.2.2.2.2.2.2 k0_t6 k0_h7 (k0_off37_inb i v0 k0_hw2 k0_t6 k0_h7)

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32 : Shape := ⟨1, ![32]⟩
abbrev S1 : Shape := ⟨1, ![1]⟩
abbrev S307200x512 : Shape := ⟨2, ![307200, 512]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S307200x1024 : Shape := ⟨2, ![307200, 1024]⟩
abbrev S32x2048x307200 : Shape := ⟨3, ![32, 2048, 307200]⟩
abbrev S32x307200x2048 : Shape := ⟨3, ![32, 307200, 2048]⟩
abbrev S32x1x2048 : Shape := ⟨3, ![32, 1, 2048]⟩
abbrev S32x307200x1024 : Shape := ⟨3, ![32, 307200, 1024]⟩
abbrev S32x1x1024 : Shape := ⟨3, ![32, 1, 1024]⟩
abbrev S307200 : Shape := ⟨1, ![307200]⟩
abbrev S32x1 : Shape := ⟨2, ![32, 1]⟩
abbrev S1x307200 : Shape := ⟨2, ![1, 307200]⟩
abbrev S32x307200 : Shape := ⟨2, ![32, 307200]⟩
abbrev S32x307200x1 : Shape := ⟨3, ![32, 307200, 1]⟩

abbrev nBuf : Space → Nat
  | .hbm => 74
  | .vmem => 0
  | .smem => 0
  | _ => 0

abbrev bufTy : (tb : Table) → Fin (tcTables nBuf tb) → BufTy
  | .hbm, ⟨0, _⟩ => ⟨S32, .i32⟩
  | .hbm, ⟨1, _⟩ => ⟨S32, .i32⟩
  | .hbm, ⟨2, _⟩ => ⟨S1, .i32⟩
  | .hbm, ⟨3, _⟩ => ⟨S307200x512, .i32⟩
  | .hbm, ⟨4, _⟩ => ⟨S32x1024x2048, .f32⟩
  | .hbm, ⟨5, _⟩ => ⟨S32x2048, .f32⟩
  | .hbm, ⟨6, _⟩ => ⟨S32x1024x1024, .f32⟩
  | .hbm, ⟨7, _⟩ => ⟨S32x1024, .f32⟩
  | .hbm, ⟨8, _⟩ => ⟨S_, .i32⟩
  | .hbm, ⟨9, _⟩ => ⟨S307200x512, .i32⟩
  | .hbm, ⟨10, _⟩ => ⟨S307200x512, .i32⟩
  | .hbm, ⟨11, _⟩ => ⟨S307200x512, .f32⟩
  | .hbm, ⟨12, _⟩ => ⟨S_, .i32⟩
  | .hbm, ⟨13, _⟩ => ⟨S307200x512, .i32⟩
  | .hbm, ⟨14, _⟩ => ⟨S307200x512, .i32⟩
  | .hbm, ⟨15, _⟩ => ⟨S307200x512, .f32⟩
  | .hbm, ⟨16, _⟩ => ⟨S307200x1024, .f32⟩
  | .hbm, ⟨17, _⟩ => ⟨S32x2048x307200, .f32⟩
  | .hbm, ⟨18, _⟩ => ⟨S32x307200x2048, .f32⟩
  | .hbm, ⟨19, _⟩ => ⟨S32x1x2048, .f32⟩
  | .hbm, ⟨20, _⟩ => ⟨S32x307200x2048, .f32⟩
  | .hbm, ⟨21, _⟩ => ⟨S32x307200x2048, .f32⟩
  | .hbm, ⟨22, _⟩ => ⟨S32x307200x1024, .f32⟩
  | .hbm, ⟨23, _⟩ => ⟨S_, .f32⟩
  | .hbm, ⟨24, _⟩ => ⟨S32x307200x1024, .f32⟩
  | .hbm, ⟨25, _⟩ => ⟨S32x307200x1024, .f32⟩
  | .hbm, ⟨26, _⟩ => ⟨S32x307200x1024, .f32⟩
  | .hbm, ⟨27, _⟩ => ⟨S_, .f32⟩
  | .hbm, ⟨28, _⟩ => ⟨S32x307200x1024, .f32⟩
  | .hbm, ⟨29, _⟩ => ⟨S32x307200x1024, .f32⟩
  | .hbm, ⟨30, _⟩ => ⟨S_, .f32⟩
  | .hbm, ⟨31, _⟩ => ⟨S32x307200x1024, .f32⟩
  | .hbm, ⟨32, _⟩ => ⟨S32x307200x1024, .f32⟩
  | .hbm, ⟨33, _⟩ => ⟨S_, .f32⟩
  | .hbm, ⟨34, _⟩ => ⟨S32x307200x1024, .f32⟩
  | .hbm, ⟨35, _⟩ => ⟨S32x307200x1024, .f32⟩
  | .hbm, ⟨36, _⟩ => ⟨S32x307200x1024, .f32⟩
  | .hbm, ⟨37, _⟩ => ⟨S32x307200x1024, .f32⟩
  | .hbm, ⟨38, _⟩ => ⟨S_, .f32⟩
  | .hbm, ⟨39, _⟩ => ⟨S32x307200x1024, .f32⟩
  | .hbm, ⟨40, _⟩ => ⟨S32x307200x1024, .f32⟩
  | .hbm, ⟨41, _⟩ => ⟨S_, .f32⟩
  | .hbm, ⟨42, _⟩ => ⟨S32x307200x1024, .f32⟩
  | .hbm, ⟨43, _⟩ => ⟨S32x307200x1024, .f32⟩
  | .hbm, ⟨44, _⟩ => ⟨S32x307200x1024, .f32⟩
  | .hbm, ⟨45, _⟩ => ⟨S_, .f32⟩
  | .hbm, ⟨46, _⟩ => ⟨S32x307200x1024, .f32⟩
  | .hbm, ⟨47, _⟩ => ⟨S32x307200x1024, .f32⟩
  | .hbm, ⟨48, _⟩ => ⟨S32x307200x1024, .f32⟩
  | .hbm, ⟨49, _⟩ => ⟨S32x307200x1024, .f32⟩
  | .hbm, ⟨50, _⟩ => ⟨S32x1x1024, .f32⟩
  | .hbm, ⟨51, _⟩ => ⟨S32x307200x1024, .f32⟩
  | .hbm, ⟨52, _⟩ => ⟨S32x307200x1024, .f32⟩
  | .hbm, ⟨53, _⟩ => ⟨S307200, .i32⟩
  | .hbm, ⟨54, _⟩ => ⟨S32x1, .i32⟩
  | .hbm, ⟨55, _⟩ => ⟨S1x307200, .i32⟩
  | .hbm, ⟨56, _⟩ => ⟨S32x307200, .i32⟩
  | .hbm, ⟨57, _⟩ => ⟨S32x307200, .i32⟩
  | .hbm, ⟨58, _⟩ => ⟨S32x307200, .i1⟩
  | .hbm, ⟨59, _⟩ => ⟨S1x307200, .i32⟩
  | .hbm, ⟨60, _⟩ => ⟨S32, .i32⟩
  | .hbm, ⟨61, _⟩ => ⟨S32x1, .i32⟩
  | .hbm, ⟨62, _⟩ => ⟨S32x307200, .i32⟩
  | .hbm, ⟨63, _⟩ => ⟨S32x307200, .i32⟩
  | .hbm, ⟨64, _⟩ => ⟨S32x307200, .i1⟩
  | .hbm, ⟨65, _⟩ => ⟨S32x307200, .i1⟩
  | .hbm, ⟨66, _⟩ => ⟨S32x307200x1, .i1⟩
  | .hbm, ⟨67, _⟩ => ⟨S32x307200x1024, .i1⟩
  | .hbm, ⟨68, _⟩ => ⟨S_, .f32⟩
  | .hbm, ⟨69, _⟩ => ⟨S32x307200x1024, .f32⟩
  | .hbm, ⟨70, _⟩ => ⟨S32x307200x1024, .f32⟩
  | .hbm, ⟨71, _⟩ => ⟨S_, .f32⟩
  | .hbm, ⟨72, _⟩ => ⟨S307200x1024, .f32⟩
  | .hbm, ⟨73, _⟩ => ⟨S307200x1024, .bf16⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== MixKernel.lean ====
abbrev S8x8192x1024 : Shape := ⟨3, ![8, 8192, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S65536x1024 : Shape := ⟨2, ![65536, 1024]⟩
abbrev S1x1024 : Shape := ⟨2, ![1, 1024]⟩
abbrev S1x512 : Shape := ⟨2, ![1, 512]⟩
abbrev S4x128x1 : Shape := ⟨3, ![4, 128, 1]⟩
abbrev S65536x512 : Shape := ⟨2, ![65536, 512]⟩
abbrev S4x128x128x512 : Shape := ⟨4, ![4, 128, 128, 512]⟩
abbrev S4x65536x128 : Shape := ⟨3, ![4, 65536, 128]⟩
abbrev S512x1024 : Shape := ⟨2, ![512, 1024]⟩
abbrev S512x512 : Shape := ⟨2, ![512, 512]⟩
abbrev S4x1x128x512 : Shape := ⟨4, ![4, 1, 128, 512]⟩
abbrev S4x512x128 : Shape := ⟨3, ![4, 512, 128]⟩
abbrev S512x1 : Shape := ⟨2, ![512, 1]⟩
abbrev S1024x1024 : Shape := ⟨2, ![1024, 1024]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128x512 : Shape := ⟨2, ![128, 512]⟩
abbrev S1024x1536 : Shape := ⟨2, ![1024, 1536]⟩
abbrev S512x1536 : Shape := ⟨2, ![512, 1536]⟩
abbrev S512x128 : Shape := ⟨2, ![512, 128]⟩
abbrev S1x512x128 : Shape := ⟨3, ![1, 512, 128]⟩
abbrev S1x1x128x512 : Shape := ⟨4, ![1, 1, 128, 512]⟩

abbrev nBuf : Space → Nat
  | .hbm => 19
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2560, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S512, .f32⟩
  | .hbm, ⟨8, _⟩ => ⟨S65536x1024, .f32⟩
  | .hbm, ⟨9, _⟩ => ⟨S1x1024, .f32⟩
  | .hbm, ⟨10, _⟩ => ⟨S1024x2560, .bf16⟩
  | .hbm, ⟨11, _⟩ => ⟨S1x512, .f32⟩
  | .hbm, ⟨12, _⟩ => ⟨S1x512, .f32⟩
  | .hbm, ⟨13, _⟩ => ⟨S4x128x1, .f32⟩
  | .hbm, ⟨14, _⟩ => ⟨S1x512, .f32⟩
  | .hbm, ⟨15, _⟩ => ⟨S65536x512, .bf16⟩
  | .hbm, ⟨16, _⟩ => ⟨S4x128x128x512, .bf16⟩
  | .hbm, ⟨17, _⟩ => ⟨S4x65536x128, .bf16⟩
  | .hbm, ⟨18, _⟩ => ⟨S4x128x128x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S4x128x1, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S4x1x128x512, .bf16⟩
  | .local _ .vmem, ⟨12, _⟩ => ⟨S4x1x128x512, .bf16⟩
  | .local _ .vmem, ⟨13, _⟩ => ⟨S4x512x128, .bf16⟩
  | .local _ .vmem, ⟨14, _⟩ => ⟨S4x512x128, .bf16⟩
  | .local _ .vmem, ⟨15, _⟩ => ⟨S4x1x128x512, .bf16⟩
  | .local _ .vmem, ⟨16, _⟩ => ⟨S4x1x128x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S8x8192x1024 : Shape := ⟨3, ![8, 8192, 1024]⟩
abbrev S1024 : Shape := ⟨1, ![1024]⟩
abbrev S1024x2560 : Shape := ⟨2, ![1024, 2560]⟩
abbrev S512 : Shape := ⟨1, ![512]⟩
abbrev S4x128x128 : Shape := ⟨3, ![4, 128, 128]⟩
abbrev S4x128 : Shape := ⟨2, ![4, 128]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2560 : Shape := ⟨2, ![65536, 2560]⟩
abbrev S65536x512 : Shape := ⟨2, ![65536, 512]⟩
abbrev S1x512 : Shape := ⟨2, ![1, 512]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S512x128x4x128 : Shape := ⟨4, ![512, 128, 4, 128]⟩
abbrev S4x512x128x128 : Shape := ⟨4, ![4, 512, 128, 128]⟩
abbrev S128x4 : Shape := ⟨2, ![128, 4]⟩
abbrev S1x128x4x1 : Shape := ⟨4, ![1, 128, 4, 1]⟩
abbrev S65536x4x128 : Shape := ⟨3, ![65536, 4, 128]⟩
abbrev S4x65536x128 : Shape := ⟨3, ![4, 65536, 128]⟩
abbrev S128x512x4x128 : Shape := ⟨4, ![128, 512, 4, 128]⟩
abbrev S4x128x128x512 : Shape := ⟨4, ![4, 128, 128, 512]⟩

abbrev nBuf : Space → Nat
  | .hbm => 156
  | .vmem => 0
  | .smem => 0
  | _ => 0

abbrev hbmTy0_0 (i : Nat) : BufTy := match i % 128 with
  | 0 => ⟨S8x8192x1024, .f32⟩
  | 1 => ⟨S1024, .f32⟩
  | 2 => ⟨S1024x2560, .f32⟩
  | 3 => ⟨S512, .f32⟩
  | 4 => ⟨S512, .f32⟩
  | 5 => ⟨S4x128x128, .f32⟩
  | 6 => ⟨S4x128, .f32⟩
  | 7 => ⟨S512, .f32⟩
  | 8 => ⟨S65536x1024, .f32⟩
  | 9 => ⟨S65536x1024, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x1, .f32⟩
  | 20 => ⟨S65536x1024, .f32⟩
  | 21 => ⟨S65536x1024, .f32⟩
  | 22 => ⟨S1x1024, .f32⟩
  | 23 => ⟨S65536x1024, .f32⟩
  | 24 => ⟨S65536x1024, .f32⟩
  | 25 => ⟨S65536x2560, .f32⟩
  | 26 => ⟨S65536x1024, .f32⟩
  | 27 => ⟨S65536x512, .f32⟩
  | 28 => ⟨S65536x512, .f32⟩
  | 29 => ⟨S65536x512, .f32⟩
  | 30 => ⟨S_, .f32⟩
  | 31 => ⟨S65536x1024, .f32⟩
  | 32 => ⟨S65536x1024, .f32⟩
  | 33 => ⟨S_, .f32⟩
  | 34 => ⟨S65536x1024, .f32⟩
  | 35 => ⟨S65536x1024, .f32⟩
  | 36 => ⟨S65536x1024, .f32⟩
  | 37 => ⟨S_, .f32⟩
  | 38 => ⟨S65536x1024, .f32⟩
  | 39 => ⟨S65536x1024, .f32⟩
  | 40 => ⟨S65536x1024, .f32⟩
  | 41 => ⟨S65536x512, .f32⟩
  | 42 => ⟨S_, .f32⟩
  | 43 => ⟨S65536, .f32⟩
  | 44 => ⟨S65536x1, .f32⟩
  | 45 => ⟨S_, .f32⟩
  | 46 => ⟨S65536x1, .f32⟩
  | 47 => ⟨S65536x1, .f32⟩
  | 48 => ⟨S65536x512, .f32⟩
  | 49 => ⟨S65536x512, .f32⟩
  | 50 => ⟨S65536x512, .f32⟩
  | 51 => ⟨S_, .f32⟩
  | 52 => ⟨S65536, .f32⟩
  | 53 => ⟨S65536x1, .f32⟩
  | 54 => ⟨S_, .f32⟩
  | 55 => ⟨S65536x1, .f32⟩
  | 56 => ⟨S65536x1, .f32⟩
  | 57 => ⟨S_, .f32⟩
  | 58 => ⟨S65536x1, .f32⟩
  | 59 => ⟨S65536x1, .f32⟩
  | 60 => ⟨S65536x1, .f32⟩
  | 61 => ⟨S65536x512, .f32⟩
  | 62 => ⟨S65536x512, .f32⟩
  | 63 => ⟨S1x512, .f32⟩
  | 64 => ⟨S65536x512, .f32⟩
  | 65 => ⟨S65536x512, .f32⟩
  | 66 => ⟨S1x512, .f32⟩
  | 67 => ⟨S65536x512, .f32⟩
  | 68 => ⟨S65536x512, .f32⟩
  | 69 => ⟨S128, .i32⟩
  | 70 => ⟨S1x128, .i32⟩
  | 71 => ⟨S_, .i32⟩
  | 72 => ⟨S_, .i32⟩
  | 73 => ⟨S1x128, .i32⟩
  | 74 => ⟨S1x128, .i32⟩
  | 75 => ⟨S1x128, .i32⟩
  | 76 => ⟨S_, .i32⟩
  | 77 => ⟨S1x128, .i32⟩
  | 78 => ⟨S1x128, .i1⟩
  | 79 => ⟨S1x128, .i32⟩
  | 80 => ⟨S1x128, .i32⟩
  | 81 => ⟨S_, .i32⟩
  | 82 => ⟨S1x128, .i32⟩
  | 83 => ⟨S1x128, .i1⟩
  | 84 => ⟨S1x128, .i1⟩
  | 85 => ⟨S_, .i32⟩
  | 86 => ⟨S1x128, .i32⟩
  | 87 => ⟨S1x128, .i32⟩
  | 88 => ⟨S1x128, .i32⟩
  | 89 => ⟨S128x1, .i32⟩
  | 90 => ⟨S_, .i32⟩
  | 91 => ⟨S_, .i32⟩
  | 92 => ⟨S128x1, .i32⟩
  | 93 => ⟨S128x1, .i32⟩
  | 94 => ⟨S128x1, .i32⟩
  | 95 => ⟨S_, .i32⟩
  | 96 => ⟨S128x1, .i32⟩
  | 97 => ⟨S128x1, .i1⟩
  | 98 => ⟨S128x1, .i32⟩
  | 99 => ⟨S128x1, .i32⟩
  | 100 => ⟨S_, .i32⟩
  | 101 => ⟨S128x1, .i32⟩
  | 102 => ⟨S128x1, .i1⟩
  | 103 => ⟨S128x1, .i1⟩
  | 104 => ⟨S_, .i32⟩
  | 105 => ⟨S128x1, .i32⟩
  | 106 => ⟨S128x1, .i32⟩
  | 107 => ⟨S128x1, .i32⟩
  | 108 => ⟨S128x128, .i32⟩
  | 109 => ⟨S128x128, .i32⟩
  | 110 => ⟨S128x128, .i1⟩
  | 111 => ⟨S1x128x128, .i1⟩
  | 112 => ⟨S_, .f32⟩
  | 113 => ⟨S_, .f32⟩
  | 114 => ⟨S4x128x128, .i1⟩
  | 115 => ⟨S4x128x128, .f32⟩
  | 116 => ⟨S4x128x128, .f32⟩
  | 117 => ⟨S512x128x4x128, .f32⟩
  | 118 => ⟨S4x512x128x128, .f32⟩
  | 119 => ⟨S512x128x4x128, .f32⟩
  | 120 => ⟨S128x4, .f32⟩
  | 121 => ⟨S1x128x4x1, .f32⟩
  | 122 => ⟨S512x128x4x128, .f32⟩
  | 123 => ⟨S512x128x4x128, .f32⟩
  | 124 => ⟨S65536x512, .f32⟩
  | 125 => ⟨S65536x512, .f32⟩
  | 126 => ⟨S65536x512, .f32⟩
  | 127 => ⟨S65536x512, .f32⟩
  | _ => ⟨S8x8192x1024, .f32⟩

abbrev hbmTy0_1 (i : Nat) : BufTy := match i % 128 with
  | 0 => ⟨S_, .f32⟩
  | 1 => ⟨S65536, .f32⟩
  | 2 => ⟨S65536x1, .f32⟩
  | 3 => ⟨S_, .f32⟩
  | 4 => ⟨S65536x1, .f32⟩
  | 5 => ⟨S65536x1, .f32⟩
  | 6 => ⟨S_, .f32⟩
  | 7 => ⟨S65536x1, .f32⟩
  | 8 => ⟨S65536x1, .f32⟩
  | 9 => ⟨S65536x1, .f32⟩
  | 10 => ⟨S65536x512, .f32⟩
  | 11 => ⟨S65536x512, .f32⟩
  | 12 => ⟨S1x512, .f32⟩
  | 13 => ⟨S65536x512, .f32⟩
  | 14 => ⟨S65536x512, .f32⟩
  | 15 => ⟨S65536x4x128, .f32⟩
  | 16 => ⟨S4x65536x128, .f32⟩
  | 17 => ⟨S65536x512, .bf16⟩
  | 18 => ⟨S_, .f32⟩
  | 19 => ⟨S65536x512, .f32⟩
  | 20 => ⟨S65536x512, .f32⟩
  | 21 => ⟨S128x512x4x128, .f32⟩
  | 22 => ⟨S4x128x128x512, .f32⟩
  | 23 => ⟨S4x128x128x512, .bf16⟩
  | 24 => ⟨S4x65536x128, .bf16⟩
  | 25 => ⟨S128x512x4x128, .f32⟩
  | 26 => ⟨S4x128x128x512, .f32⟩
  | 27 => ⟨S4x128x128x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v52 : Ref sig .tc := ⟨.hbm, 88, rfl⟩
abbrev main_v53 : Ref sig .tc := ⟨.hbm, 89, rfl⟩
abbrev main_c_10 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_v8 : Ref sig .tc := ⟨.hbm, 99, rfl⟩
abbrev main_call1_c : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_c_0 : Ref sig .tc := ⟨.hbm, 104, rfl⟩
abbrev main_call1_v12 : Ref sig .tc := ⟨.hbm, 105, rfl⟩
abbrev main_call1_v13 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_cst_11 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_12 : Ref sig .tc := ⟨.hbm, 128, rfl⟩
abbrev main_v71 : Ref sig .tc := ⟨.hbm, 129, rfl⟩
abbrev main_v72 : Ref sig .tc := ⟨.hbm, 130, rfl⟩
abbrev main_cst_13 : Ref sig .tc := ⟨.hbm, 131, rfl⟩
abbrev main_v73 : Ref sig .tc := ⟨.hbm, 132, rfl⟩
abbrev main_v74 : Ref sig .tc := ⟨.hbm, 133, rfl⟩
abbrev main_cst_14 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_15 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩

abbrev nD : Nat := 1
abbrev τ : Topo := Topo.v7x

variable {F : FTy → Type} [FloatOps F]
-- ==== OutKernel.lean ====
abbrev S8x8192x1024 : Shape := ⟨3, ![8, 8192, 1024]⟩
abbrev S65536x512 : Shape := ⟨2, ![65536, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S65536x1024 : Shape := ⟨2, ![65536, 1024]⟩
abbrev S1x1024 : Shape := ⟨2, ![1, 1024]⟩
abbrev S32x1024 : Shape := ⟨2, ![32, 1024]⟩
abbrev S32x1 : Shape := ⟨2, ![32, 1]⟩
abbrev S4x65536 : Shape := ⟨2, ![4, 65536]⟩
abbrev S4096x128 : Shape := ⟨2, ![4096, 128]⟩
abbrev S32x128 : Shape := ⟨2, ![32, 128]⟩
abbrev S512x1024 : Shape := ⟨2, ![512, 1024]⟩
abbrev S512x512 : Shape := ⟨2, ![512, 512]⟩
abbrev S4x512 : Shape := ⟨2, ![4, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S32x32 : Shape := ⟨2, ![32, 32]⟩

abbrev nBuf : Space → Nat
  | .hbm => 20
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S65536x1024, .f32⟩
  | .hbm, ⟨8, _⟩ => ⟨S1024x1024, .bf16⟩
  | .hbm, ⟨9, _⟩ => ⟨S1x1024, .f32⟩
  | .hbm, ⟨10, _⟩ => ⟨S32x1024, .f32⟩
  | .hbm, ⟨11, _⟩ => ⟨S32x1, .f32⟩
  | .hbm, ⟨12, _⟩ => ⟨S65536x1024, .f32⟩
  | .hbm, ⟨13, _⟩ => ⟨S65536x1024, .bf16⟩
  | .hbm, ⟨14, _⟩ => ⟨S4x65536, .f32⟩
  | .hbm, ⟨15, _⟩ => ⟨S4x65536, .i32⟩
  | .hbm, ⟨16, _⟩ => ⟨S4096x128, .i32⟩
  | .hbm, ⟨17, _⟩ => ⟨S4096x128, .i32⟩
  | .hbm, ⟨18, _⟩ => ⟨S4096x128, .i32⟩
  | .hbm, ⟨19, _⟩ => ⟨S32x128, .i32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S32x1024, .f32⟩
  | .local _ .vmem, ⟨9, _⟩ => ⟨S32x1, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S4x512, .f32⟩
  | .local _ .vmem, ⟨15, _⟩ => ⟨S4x512, .f32⟩
  | .local _ .vmem, ⟨16, _⟩ => ⟨S4x512, .i32⟩
  | .local _ .vmem, ⟨17, _⟩ => ⟨S4x512, .i32⟩
  | .local _ .vmem, ⟨18, _⟩ => ⟨S32x128, .i32⟩
  | .local _ .vmem, ⟨19, _⟩ => ⟨S32x128, .i32⟩
  | .local _ .vmem, ⟨20, _⟩ => ⟨S32x128, .i32⟩
  | .local _ .vmem, ⟨21, _⟩ => ⟨S32x128, .i32⟩
  | .local _ .vmem, ⟨22, _⟩ => ⟨S32x128, .i32⟩
  | .local _ .vmem, ⟨23, _⟩ => ⟨S32x128, .i32⟩
  | .local _ .vmem, ⟨24, _⟩ => ⟨S32x128, .i32⟩
  | .local _ .vmem, ⟨25, _⟩ => ⟨S32x1, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x128 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x128 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OutReferenceIdeal.lean ====
abbrev S8x8192x1024 : Shape := ⟨3, ![8, 8192, 1024]⟩
abbrev S65536x512 : Shape := ⟨2, ![65536, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S65536x512, .f32⟩
  | .hbm, ⟨8, _⟩ => ⟨S65536x512, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S_, .f32⟩
  | .hbm, ⟨21, _⟩ => ⟨S65536x1, .f32⟩
  | .hbm, ⟨22, _⟩ => ⟨S65536x1, .f32⟩
  | .hbm, ⟨23, _⟩ => ⟨S65536x1, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.Words.lean ====
/- The program's words: what the grid point's table words make of the counted loops' bounds, the offsets and the branch
   conditions, in closed form over the block number; and the side conditions the body assumes, from those. -/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe

/-- The floor division by 512 as the kernel computes it. -/
def fdiv (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 512#32 0#32)) (Scalar.extui (Scalar.cmpi .slt 512#32 0#32) : BitVec 32)))
    (Scalar.cmpi .ne (Scalar.remsi w 512#32) 0#32)) (Scalar.subi (Scalar.divsi w 512#32) 1#32) (Scalar.divsi w 512#32)

theorem fdiv_fin : ∀ p : Fin 601, fdiv (BitVec.ofNat 32 (512 * p.val)) = BitVec.ofNat 32 p.val := by decide +kernel
theorem fdiv_eq {p : ℕ} (hp : p ≤ 600) : fdiv (BitVec.ofNat 32 (512 * p)) = BitVec.ofNat 32 p := fdiv_fin ⟨p, by omega⟩

/-- The number of the block that trip `t` of the expert whose rows start at word `w` works on. -/
def gw (w : BitVec 32) (t : ℕ) : BitVec 32 := Scalar.addi (fdiv w) (Scf.iv 0#32 1#32 t)

theorem gw_eq {p t : ℕ} (hp : p ≤ 600) : gw (BitVec.ofNat 32 (512 * p)) t = BitVec.ofNat 32 (p + t) := by
  unfold gw; rw [fdiv_eq hp]; unfold Scf.iv Scalar.addi
  show BitVec.ofNat 32 p + (0#32 + BitVec.ofNat 32 t * 1#32) = _
  rw [BitVec.mul_one, BitVec.zero_add, ← BitVec.ofNat_add]

/-- The word facts of one block number, decided. -/
theorem w_fin : ∀ g : Fin 600,
    (Scalar.andi (BitVec.ofNat 32 g.val) 1#32).toNat = g.val % 2
    ∧ (Scalar.subi 1#32 (Scalar.andi (BitVec.ofNat 32 g.val) 1#32)).toNat = (g.val + 1) % 2
    ∧ (Scalar.muli (BitVec.ofNat 32 g.val) 512#32).toNat = 512 * g.val
    ∧ (Scalar.muli (Scalar.addi (BitVec.ofNat 32 g.val) 1#32) 512#32).toNat = 512 * (g.val + 1)
    ∧ (Scalar.cmpi .ne (Scalar.extui (Scalar.cmpi .sge (BitVec.ofNat 32 g.val) 2#32) : BitVec 32) 0#32 = 1#1 ↔ 2 ≤ g.val)
    ∧ (2 ≤ g.val → (Scalar.muli (Scalar.subi (BitVec.ofNat 32 g.val) 2#32) 512#32).toNat = 512 * (g.val - 2)) := by decide +kernel

theorem slt_ofNat {a b : ℕ} (ha : a ≤ 601) (hb : b ≤ 601) :
    (Scalar.cmpi .ne (Scalar.extui (Scalar.cmpi .slt (BitVec.ofNat 32 a) (BitVec.ofNat 32 b)) : BitVec 32) 0#32 = 1#1 ↔ a < b) := by
  have e : (BitVec.ofNat 32 a).slt (BitVec.ofNat 32 b) = decide (a < b) := by
    rw [BitVec.slt_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    congr 1; apply propext; omega
  by_cases h : a < b
  · have : Scalar.cmpi .slt (BitVec.ofNat 32 a) (BitVec.ofNat 32 b) = 1#1 := by
      show BitVec.ofBool ((BitVec.ofNat 32 a).slt (BitVec.ofNat 32 b)) = 1#1
      rw [e, decide_eq_true h]; rfl
    rw [this]; exact iff_of_true (by decide) h
  · have : Scalar.cmpi .slt (BitVec.ofNat 32 a) (BitVec.ofNat 32 b) = 0#1 := by
      show BitVec.ofBool ((BitVec.ofNat 32 a).slt (BitVec.ofNat 32 b)) = 0#1
      rw [e, decide_eq_false h]; rfl
    rw [this]; exact iff_of_false (by decide) h

/-! ## The loops -/

theorem div1_fin : ∀ k : Fin 601, Scalar.addi 0#32 (Scalar.muli (Scalar.divsi (Scalar.subi (BitVec.ofNat 32 k.val) 0#32) 1#32) 1#32) = BitVec.ofNat 32 k.val
    ∧ (Scf.Loop.mk 0#32 (BitVec.ofNat 32 k.val) 1#32).trips = k.val ∧ (Scf.Loop.mk 0#32 (BitVec.ofNat 32 k.val) 1#32).OK
    ∧ (Scf.Loop.mk (BitVec.ofNat 32 k.val) (Scalar.addi 0#32 (Scalar.subi (BitVec.ofNat 32 k.val) 0#32)) 1#32).trips = 0
    ∧ (Scf.Loop.mk (BitVec.ofNat 32 k.val) (Scalar.addi 0#32 (Scalar.subi (BitVec.ofNat 32 k.val) 0#32)) 1#32).OK
    ∧ Scalar.subi 600#32 (BitVec.ofNat 32 k.val) = BitVec.ofNat 32 (600 - k.val) := by decide +kernel

variable {p K n : ℕ}

theorem t1_loop_eq (hK : K ≤ 600) : k0_t1_loop (BitVec.ofNat 32 (512 * K)) = ⟨0#32, BitVec.ofNat 32 K, 1#32⟩ := by
  show Scf.Loop.mk 0#32 (Scalar.addi 0#32 (Scalar.muli (Scalar.divsi (Scalar.subi (fdiv (BitVec.ofNat 32 (512 * K))) 0#32) 1#32) 1#32)) 1#32 = _
  rw [fdiv_eq hK, (div1_fin ⟨K, by omega⟩).1]
theorem t2_loop_eq (hK : K ≤ 600) : k0_t2_loop (BitVec.ofNat 32 (512 * K))
    = ⟨BitVec.ofNat 32 K, Scalar.addi 0#32 (Scalar.subi (BitVec.ofNat 32 K) 0#32), 1#32⟩ := by
  show Scf.Loop.mk (Scalar.addi 0#32 (Scalar.muli (Scalar.divsi (Scalar.subi (fdiv (BitVec.ofNat 32 (512 * K))) 0#32) 1#32) 1#32))
    (Scalar.addi 0#32 (Scalar.subi (fdiv (BitVec.ofNat 32 (512 * K))) 0#32)) 1#32 = _
  rw [fdiv_eq hK, (div1_fin ⟨K, by omega⟩).1]
theorem t3_loop_eq (hn : n ≤ 600) : k0_t3_loop (BitVec.ofNat 32 n) = ⟨0#32, BitVec.ofNat 32 (600 - n), 1#32⟩ := by
  show Scf.Loop.mk 0#32 (Scalar.addi 0#32 (Scalar.muli (Scalar.divsi (Scalar.subi (Scalar.subi 600#32 (BitVec.ofNat 32 n)) 0#32) 1#32) 1#32)) 1#32 = _
  rw [(div1_fin ⟨n, by omega⟩).2.2.2.2.2, (div1_fin ⟨600 - n, by omega⟩).1]
theorem t5_loop_eq (hn : n ≤ 600) : k0_t5_loop (BitVec.ofNat 32 n) = ⟨0#32, BitVec.ofNat 32 (600 - n), 1#32⟩ := t3_loop_eq hn
theorem t4_loop_eq (hn : n ≤ 600) : k0_t4_loop (BitVec.ofNat 32 n)
    = ⟨BitVec.ofNat 32 (600 - n), Scalar.addi 0#32 (Scalar.subi (BitVec.ofNat 32 (600 - n)) 0#32), 1#32⟩ := by
  show Scf.Loop.mk (Scalar.addi 0#32 (Scalar.muli (Scalar.divsi (Scalar.subi (Scalar.subi 600#32 (BitVec.ofNat 32 n)) 0#32) 1#32) 1#32))
    (Scalar.addi 0#32 (Scalar.subi (Scalar.subi 600#32 (BitVec.ofNat 32 n)) 0#32)) 1#32 = _
  rw [(div1_fin ⟨n, by omega⟩).2.2.2.2.2, (div1_fin ⟨600 - n, by omega⟩).1]
theorem t6_loop_eq (hn : n ≤ 600) : k0_t6_loop (BitVec.ofNat 32 n)
    = ⟨BitVec.ofNat 32 (600 - n), Scalar.addi 0#32 (Scalar.subi (BitVec.ofNat 32 (600 - n)) 0#32), 1#32⟩ := t4_loop_eq hn

theorem t1_trips (hK : K ≤ 600) : (k0_t1_loop (BitVec.ofNat 32 (512 * K))).trips = K := by
  rw [t1_loop_eq hK]; exact (div1_fin ⟨K, by omega⟩).2.1
theorem t2_trips (hK : K ≤ 600) : (k0_t2_loop (BitVec.ofNat 32 (512 * K))).trips = 0 := by
  rw [t2_loop_eq hK]; exact (div1_fin ⟨K, by omega⟩).2.2.2.1
theorem t3_trips (hn : n ≤ 600) : (k0_t3_loop (BitVec.ofNat 32 n)).trips = 600 - n := by
  rw [t3_loop_eq hn]; exact (div1_fin ⟨600 - n, by omega⟩).2.1
theorem t5_trips (hn : n ≤ 600) : (k0_t5_loop (BitVec.ofNat 32 n)).trips = 600 - n := t3_trips hn
theorem t4_trips (hn : n ≤ 600) : (k0_t4_loop (BitVec.ofNat 32 n)).trips = 0 := by
  rw [t4_loop_eq hn]; exact (div1_fin ⟨600 - n, by omega⟩).2.2.2.1
theorem t6_trips (hn : n ≤ 600) : (k0_t6_loop (BitVec.ofNat 32 n)).trips = 0 := t4_trips hn

/-! ## Offsets and conditions of a trip over block `p + t` -/

section trip
variable {v21 : BitVec 32} (t : Fin (k0_t1_loop v21).trips) {g : ℕ}

theorem bw_eq (hp : p ≤ 600) (hg : p + t.val = g) : gw (BitVec.ofNat 32 (512 * p)) t.val = BitVec.ofNat 32 g := by
  rw [gw_eq hp, hg]

theorem off2_eq (hp : p ≤ 600) (hg : p + t.val = g) (h : g < 600) : k0_off2 (BitVec.ofNat 32 (512 * p)) v21 t = ![g % 2] := by
  show ![(Scalar.andi (gw (BitVec.ofNat 32 (512 * p)) t.val) 1#32).toNat] = _
  rw [bw_eq t hp hg, (w_fin ⟨g, h⟩).1]
theorem off3_eq (hp : p ≤ 600) (hg : p + t.val = g) (h : g < 600) : k0_off3 (BitVec.ofNat 32 (512 * p)) v21 t = ![g % 2, 0, 0] := by
  show ![(Scalar.andi (gw (BitVec.ofNat 32 (512 * p)) t.val) 1#32).toNat, 0, 0] = _
  rw [bw_eq t hp hg, (w_fin ⟨g, h⟩).1]
theorem off8_eq (hp : p ≤ 600) (hg : p + t.val = g) (h : g < 600) : k0_off8 (BitVec.ofNat 32 (512 * p)) v21 t = ![g % 2] := off2_eq t hp hg h
theorem off10_eq (hp : p ≤ 600) (hg : p + t.val = g) (h : g < 600) : k0_off10 (BitVec.ofNat 32 (512 * p)) v21 t = ![g % 2, 0, 0] := off3_eq t hp hg h
theorem off11_eq (hp : p ≤ 600) (hg : p + t.val = g) (h : g < 600) : k0_off11 (BitVec.ofNat 32 (512 * p)) v21 t = ![g % 2, 0, 0] := off3_eq t hp hg h
theorem off12_eq (hp : p ≤ 600) (hg : p + t.val = g) (h : g < 600) : k0_off12 (BitVec.ofNat 32 (512 * p)) v21 t = ![g % 2, 0, 0] := off3_eq t hp hg h
theorem off14_eq (hp : p ≤ 600) (hg : p + t.val = g) (h : g < 600) : k0_off14 (BitVec.ofNat 32 (512 * p)) v21 t = ![g % 2, 0, 0] := off3_eq t hp hg h
theorem off5_eq (hp : p ≤ 600) (hg : p + t.val = g) (h : g < 600) : k0_off5 (BitVec.ofNat 32 (512 * p)) v21 t = ![(g + 1) % 2] := by
  show ![(Scalar.subi 1#32 (Scalar.andi (gw (BitVec.ofNat 32 (512 * p)) t.val) 1#32)).toNat] = _
  rw [bw_eq t hp hg, (w_fin ⟨g, h⟩).2.1]
theorem off6_eq (hp : p ≤ 600) (hg : p + t.val = g) (h : g < 600) : k0_off6 (BitVec.ofNat 32 (512 * p)) v21 t = ![(g + 1) % 2, 0, 0] := by
  show ![(Scalar.subi 1#32 (Scalar.andi (gw (BitVec.ofNat 32 (512 * p)) t.val) 1#32)).toNat, 0, 0] = _
  rw [bw_eq t hp hg, (w_fin ⟨g, h⟩).2.1]
theorem mult2_eq (hp : p ≤ 600) (hg : p + t.val = g) (h : g < 600) : (k0_mult2 (BitVec.ofNat 32 (512 * p)) v21 t).toNat = 512 * g := by
  show (Scalar.muli (gw (BitVec.ofNat 32 (512 * p)) t.val) 512#32).toNat = _
  rw [bw_eq t hp hg, (w_fin ⟨g, h⟩).2.2.1]
theorem off4_eq (hp : p ≤ 600) (hg : p + t.val = g) (h : g < 600) : k0_off4 (BitVec.ofNat 32 (512 * p)) v21 t = ![512 * g, 0] :=
  congrArg (fun x => ![x, 0]) (mult2_eq t hp hg h)
theorem off13_eq (hp : p ≤ 600) (hg : p + t.val = g) (h : g < 600) : k0_off13 (BitVec.ofNat 32 (512 * p)) v21 t = ![512 * g, 0] :=
  congrArg (fun x => ![x, 0]) (mult2_eq t hp hg h)
theorem mult3_eq (hp : p ≤ 600) (hg : p + t.val = g) (h : g < 600) : (k0_mult3 (BitVec.ofNat 32 (512 * p)) v21 t).toNat = 512 * (g + 1) := by
  show (Scalar.muli (Scalar.addi (gw (BitVec.ofNat 32 (512 * p)) t.val) 1#32) 512#32).toNat = _
  rw [bw_eq t hp hg, (w_fin ⟨g, h⟩).2.2.2.1]
theorem off7_eq (hp : p ≤ 600) (hg : p + t.val = g) (h : g < 600) : k0_off7 (BitVec.ofNat 32 (512 * p)) v21 t = ![512 * (g + 1), 0] :=
  congrArg (fun x => ![x, 0]) (mult3_eq t hp hg h)
theorem cond4_iff (hp : p ≤ 600) (hg : p + t.val = g) (h : g < 600) : k0_cond4 (BitVec.ofNat 32 (512 * p)) v21 t = 1#1 ↔ 2 ≤ g := by
  show Scalar.cmpi .ne (Scalar.extui (Scalar.cmpi .sge (gw (BitVec.ofNat 32 (512 * p)) t.val) 2#32) : BitVec 32) 0#32 = 1#1 ↔ _
  rw [bw_eq t hp hg]; exact (w_fin ⟨g, h⟩).2.2.2.2.1
theorem mult4_eq (hp : p ≤ 600) (hg : p + t.val = g) (h : g < 600) (h2 : 2 ≤ g) : (k0_mult4 (BitVec.ofNat 32 (512 * p)) v21 t).toNat = 512 * (g - 2) := by
  show (Scalar.muli (Scalar.subi (gw (BitVec.ofNat 32 (512 * p)) t.val) 2#32) 512#32).toNat = _
  rw [bw_eq t hp hg, (w_fin ⟨g, h⟩).2.2.2.2.2 h2]
theorem off9_eq (hp : p ≤ 600) (hg : p + t.val = g) (h : g < 600) (h2 : 2 ≤ g) : k0_off9 (BitVec.ofNat 32 (512 * p)) v21 t = ![512 * (g - 2), 0] :=
  congrArg (fun x => ![x, 0]) (mult4_eq t hp hg h h2)
theorem cond3_iff (hp : p ≤ 600) (hg : p + t.val = g) (h : g < 600) (hn : n ≤ 600) :
    k0_cond3 (BitVec.ofNat 32 n) (BitVec.ofNat 32 (512 * p)) v21 t = 1#1 ↔ g + 1 < n := by
  show Scalar.cmpi .ne (Scalar.extui (Scalar.cmpi .slt (Scalar.addi (gw (BitVec.ofNat 32 (512 * p)) t.val) 1#32) (BitVec.ofNat 32 n)) : BitVec 32) 0#32 = 1#1 ↔ _
  rw [bw_eq t hp hg]
  have e : Scalar.addi (BitVec.ofNat 32 g) 1#32 = BitVec.ofNat 32 (g + 1) := (BitVec.ofNat_add g 1).symm
  rw [e]; exact slt_ofNat (by omega) (by omega)
end trip

/-! ## The last grid point's words -/

theorem d_fin : ∀ n : Fin 601,
    (k0_cond8 (BitVec.ofNat 32 n.val) = 1#1 ↔ 2 ≤ n.val) ∧ (k0_cond9 (BitVec.ofNat 32 n.val) = 1#1 ↔ 1 ≤ n.val)
    ∧ (2 ≤ n.val → (k0_mult10 (BitVec.ofNat 32 n.val)).toNat = 512 * (n.val - 2)
        ∧ (Scalar.andi (Scalar.subi (BitVec.ofNat 32 n.val) 2#32) 1#32).toNat = n.val % 2)
    ∧ (1 ≤ n.val → (k0_mult11 (BitVec.ofNat 32 n.val)).toNat = 512 * (n.val - 1)
        ∧ (Scalar.andi (Scalar.subi (BitVec.ofNat 32 n.val) 1#32) 1#32).toNat = (n.val + 1) % 2)
    ∧ (Scalar.muli (BitVec.ofNat 32 n.val) 512#32).toNat = 512 * n.val
    ∧ (Scalar.cmpi .sgt (BitVec.ofNat 32 n.val) 0#32 = 1#1 ↔ 0 < n.val) := by decide +kernel

theorem cond8_iff (hn : n ≤ 600) : k0_cond8 (BitVec.ofNat 32 n) = 1#1 ↔ 2 ≤ n := (d_fin ⟨n, by omega⟩).1
theorem cond9_iff (hn : n ≤ 600) : k0_cond9 (BitVec.ofNat 32 n) = 1#1 ↔ 1 ≤ n := (d_fin ⟨n, by omega⟩).2.1
theorem off28_eq (hn : n ≤ 600) (h : 2 ≤ n) : k0_off28 (BitVec.ofNat 32 n) = ![n % 2] := congrArg (fun x => ![x]) ((d_fin ⟨n, by omega⟩).2.2.1 h).2
theorem off29_eq (hn : n ≤ 600) (h : 2 ≤ n) : k0_off29 (BitVec.ofNat 32 n) = ![512 * (n - 2), 0] := congrArg (fun x => ![x, 0]) ((d_fin ⟨n, by omega⟩).2.2.1 h).1
theorem off30_eq (hn : n ≤ 600) (h : 2 ≤ n) : k0_off30 (BitVec.ofNat 32 n) = ![n % 2, 0, 0] := congrArg (fun x => ![x, 0, 0]) ((d_fin ⟨n, by omega⟩).2.2.1 h).2
theorem off31_eq (hn : n ≤ 600) (h : 1 ≤ n) : k0_off31 (BitVec.ofNat 32 n) = ![(n + 1) % 2] := congrArg (fun x => ![x]) ((d_fin ⟨n, by omega⟩).2.2.2.1 h).2
theorem off32_eq (hn : n ≤ 600) (h : 1 ≤ n) : k0_off32 (BitVec.ofNat 32 n) = ![512 * (n - 1), 0] := congrArg (fun x => ![x, 0]) ((d_fin ⟨n, by omega⟩).2.2.2.1 h).1
theorem off33_eq (hn : n ≤ 600) (h : 1 ≤ n) : k0_off33 (BitVec.ofNat 32 n) = ![(n + 1) % 2, 0, 0] := congrArg (fun x => ![x, 0, 0]) ((d_fin ⟨n, by omega⟩).2.2.2.1 h).2
theorem mult12_eq (hn : n ≤ 600) (t : Fin (k0_t3_loop (BitVec.ofNat 32 n)).trips) : (k0_mult12 (BitVec.ofNat 32 n) t).toNat = 512 * (n + t.val) := by
  have ht : t.val < 600 - n := lt_of_lt_of_eq t.isLt (t3_trips hn)
  show (Scalar.muli (Scalar.addi (BitVec.ofNat 32 n) (Scf.iv 0#32 1#32 t.val)) 512#32).toNat = _
  have e : Scalar.addi (BitVec.ofNat 32 n) (Scf.iv 0#32 1#32 t.val) = BitVec.ofNat 32 (n + t.val) := by
    show BitVec.ofNat 32 n + (0#32 + BitVec.ofNat 32 t.val * 1#32) = _
    rw [BitVec.mul_one, BitVec.zero_add, ← BitVec.ofNat_add]
  rw [e]; exact (d_fin ⟨n + t.val, by omega⟩).2.2.2.2.1
theorem off34_eq (hn : n ≤ 600) (t : Fin (k0_t3_loop (BitVec.ofNat 32 n)).trips) : k0_off34 (BitVec.ofNat 32 n) t = ![512 * (n + t.val), 0] :=
  congrArg (fun x => ![x, 0]) (mult12_eq hn t)
theorem off36_eq (hn : n ≤ 600) (t : Fin (k0_t5_loop (BitVec.ofNat 32 n)).trips) : k0_off36 (BitVec.ofNat 32 n) t = ![512 * (n + t.val), 0] :=
  off34_eq hn t
theorem cond7_fin : ∀ j : Fin 32, Scalar.cmpi .ne (Scalar.extui (Scalar.cmpi .eq (BitVec.ofNat 32 j.val) 31#32) : BitVec 32) 0#32 = 1#1 ↔ j.val = 31 := by decide +kernel
theorem cond7_iff (i : grid0.Coords) : k0_cond7 i = 1#1 ↔ (i 0).val = 31 := cond7_fin (i 0)

/-! ## The side conditions -/

theorem rows_packed {o : Fin 2 → ℕ} {g : ℕ} (ho : o = ![512 * g, 0]) (h : ∀ a, o a + S512x1024.size a ≤ S307200x1024.size a) :
    (Rect.unit (s := S307200x1024) o S512x1024.size h).PackedRows (EltTy.packing .bf16) := by
  subst ho; exact .inr ⟨by decide, rfl, .inl ⟨⟨256 * g, by show 512 * g = 2 * (256 * g); omega⟩, ⟨256, rfl⟩⟩⟩
theorem slot_packed {o : Fin 3 → ℕ} {b : ℕ} (ho : o = ![b, 0, 0]) (h : ∀ a, o a + S1x512x1024.size a ≤ S2x512x1024.size a) :
    (Rect.unit (s := S2x512x1024) o S1x512x1024.size h).PackedRows (EltTy.packing .bf16) := by
  subst ho; exact .inr ⟨by decide, rfl, .inl ⟨⟨0, rfl⟩, ⟨256, rfl⟩⟩⟩
theorem inb_sem {o : Fin 1 → ℕ} {b : ℕ} (ho : o = ![b % 2]) : ∀ a, o a + S1.size a ≤ S2.size a := by
  subst ho; intro a; fin_cases a; show b % 2 + 1 ≤ 2; omega
theorem inb_xslot {o : Fin 3 → ℕ} {b : ℕ} (ho : o = ![b % 2, 0, 0]) : ∀ a, o a + S1x512x512.size a ≤ S2x512x512.size a := by
  subst ho; intro a; fin_cases a
  · show b % 2 + 1 ≤ 2; omega
  · show 0 + 512 ≤ 512; omega
  · show 0 + 512 ≤ 512; omega
theorem inb_yslot {o : Fin 3 → ℕ} {b : ℕ} (ho : o = ![b % 2, 0, 0]) : ∀ a, o a + S1x512x1024.size a ≤ S2x512x1024.size a := by
  subst ho; intro a; fin_cases a
  · show b % 2 + 1 ≤ 2; omega
  · show 0 + 512 ≤ 512; omega
  · show 0 + 1024 ≤ 1024; omega
theorem inb_xrows {o : Fin 2 → ℕ} {g : ℕ} (ho : o = ![512 * g, 0]) (hg : g < 600) : ∀ a, o a + S512x512.size a ≤ S307200x512.size a := by
  subst ho; intro a; fin_cases a
  · show 512 * g + 512 ≤ 307200; omega
  · show 0 + 512 ≤ 512; omega
theorem inb_yrows {o : Fin 2 → ℕ} {g : ℕ} (ho : o = ![512 * g, 0]) (hg : g < 600) : ∀ a, o a + S512x1024.size a ≤ S307200x1024.size a := by
  subst ho; intro a; fin_cases a
  · show 512 * g + 512 ≤ 307200; omega
  · show 0 + 1024 ≤ 1024; omega
theorem dvd_of {w m : ℕ} (h : w = 512 * m) : 512 ∣ w := ⟨m, h⟩

theorem chk1_ok (hpK : p + K ≤ n) (hn : n ≤ 600) : k0_chk1 (BitVec.ofNat 32 n) (BitVec.ofNat 32 (512 * p)) (BitVec.ofNat 32 (512 * K)) := by
  have hp : p ≤ 600 := by omega
  have hK : K ≤ 600 := by omega
  have hlt (t : Fin (k0_t1_loop (BitVec.ofNat 32 (512 * K))).trips) : p + t.val < 600 := by
    have := t.isLt.trans_eq (t1_trips hK); omega
  have hlt' (t : Fin (k0_t1_loop (BitVec.ofNat 32 (512 * K))).trips) (h : k0_cond3 (BitVec.ofNat 32 n) (BitVec.ofNat 32 (512 * p)) _ t = 1#1) : p + t.val + 1 < 600 := by
    have := (cond3_iff t hp rfl (hlt t) hn).1 h; omega
  have h2 (t : Fin (k0_t1_loop (BitVec.ofNat 32 (512 * K))).trips) (h : k0_cond4 (BitVec.ofNat 32 (512 * p)) _ t = 1#1) : 2 ≤ p + t.val :=
    (cond4_iff t hp rfl (hlt t)).1 h
  have no (t : Fin (k0_t2_loop (BitVec.ofNat 32 (512 * K))).trips) : False := by
    have := t.isLt.trans_eq (t2_trips hK); omega
  refine ⟨⟨?_, fun t => dvd_of (mult2_eq t hp rfl (hlt t)), fun t => inb_sem (off2_eq t hp rfl (hlt t)), fun t => inb_xslot (off3_eq t hp rfl (hlt t)),
    fun t => inb_xrows (off4_eq t hp rfl (hlt t)) (hlt t),
    fun t h => dvd_of (mult3_eq t hp rfl (hlt t)), fun t h => inb_sem (off5_eq t hp rfl (hlt t)), fun t h => inb_xslot (off6_eq t hp rfl (hlt t)),
    fun t h => inb_xrows (off7_eq t hp rfl (hlt t)) (hlt' t h),
    fun t h => dvd_of (mult4_eq t hp rfl (hlt t) (h2 t h)), fun t h => inb_sem (off8_eq t hp rfl (hlt t)),
    fun t h => inb_yrows (off9_eq t hp rfl (hlt t) (h2 t h)) (by have := hlt t; omega), fun t h => inb_yslot (off10_eq t hp rfl (hlt t)),
    fun t h hi => .inl (slot_packed (off10_eq t hp rfl (hlt t)) hi), fun t h hi => .inl (rows_packed (off9_eq t hp rfl (hlt t) (h2 t h)) hi),
    fun t => inb_xslot (off11_eq t hp rfl (hlt t)), fun t => inb_yslot (off12_eq t hp rfl (hlt t)),
    fun t hi => slot_packed (off12_eq t hp rfl (hlt t)) hi, fun t => dvd_of (mult2_eq t hp rfl (hlt t)),
    fun t => inb_yrows (off13_eq t hp rfl (hlt t)) (hlt t), fun t => inb_yslot (off14_eq t hp rfl (hlt t)),
    fun t hi => .inl (slot_packed (off14_eq t hp rfl (hlt t)) hi), fun t hi => .inl (rows_packed (off13_eq t hp rfl (hlt t)) hi), ?_,
    fun t => (no t).elim, fun t => (no t).elim, fun t => (no t).elim, fun t => (no t).elim, fun t => (no t).elim, fun t => (no t).elim, fun t => (no t).elim, fun t => (no t).elim⟩,
    fun t => (no t).elim, fun t => (no t).elim, fun t => (no t).elim, fun t => (no t).elim, fun t => (no t).elim, fun t => (no t).elim, fun t => (no t).elim,
    fun t => (no t).elim, fun t => (no t).elim, fun t => (no t).elim, fun t => (no t).elim, fun t => (no t).elim, fun t => (no t).elim, fun t => (no t).elim⟩
  · rw [t1_loop_eq hK]; exact (div1_fin ⟨K, by omega⟩).2.2.1
  · rw [t2_loop_eq hK]; exact (div1_fin ⟨K, by omega⟩).2.2.2.2.1

theorem chk2_ok (i : grid0.Coords) (hn : n ≤ 600) : k0_chk2 i (BitVec.ofNat 32 n) := by
  have l8 (h : k0_cond8 (BitVec.ofNat 32 n) = 1#1) : 2 ≤ n := (cond8_iff hn).1 h
  have l9 (h : k0_cond9 (BitVec.ofNat 32 n) = 1#1) : 1 ≤ n := (cond9_iff hn).1 h
  have lt (t : Fin (k0_t3_loop (BitVec.ofNat 32 n)).trips) : n + t.val < 600 := by
    have := t.isLt.trans_eq (t3_trips hn); omega
  have no (t : Fin (k0_t4_loop (BitVec.ofNat 32 n)).trips) : False := by
    have := t.isLt.trans_eq (t4_trips hn); omega
  have ok1 : (k0_t3_loop (BitVec.ofNat 32 n)).OK := by rw [t3_loop_eq hn]; exact (div1_fin ⟨600 - n, by omega⟩).2.2.1
  have ok2 : (k0_t4_loop (BitVec.ofNat 32 n)).OK := by rw [t4_loop_eq hn]; exact (div1_fin ⟨600 - n, by omega⟩).2.2.2.2.1
  exact ⟨fun _ h => dvd_of ((d_fin ⟨n, by omega⟩).2.2.1 (l8 h)).1, fun _ h => inb_sem (off28_eq hn (l8 h)),
    fun _ h => inb_yrows (off29_eq hn (l8 h)) (by have := l8 h; omega), fun _ h => inb_yslot (off30_eq hn (l8 h)),
    fun _ h hi => .inl (slot_packed (off30_eq hn (l8 h)) hi), fun _ h hi => .inl (rows_packed (off29_eq hn (l8 h)) hi),
    fun _ h => dvd_of ((d_fin ⟨n, by omega⟩).2.2.2.1 (l9 h)).1, fun _ h => inb_sem (off31_eq hn (l9 h)),
    fun _ h => inb_yrows (off32_eq hn (l9 h)) (by have := l9 h; omega), fun _ h => inb_yslot (off33_eq hn (l9 h)),
    fun _ h hi => .inl (slot_packed (off33_eq hn (l9 h)) hi), fun _ h hi => .inl (rows_packed (off32_eq hn (l9 h)) hi),
    fun _ => ok1, fun t _ => dvd_of (mult12_eq hn t), fun t _ => inb_yrows (off34_eq hn t) (lt t), fun t _ hi => .inl (rows_packed (off34_eq hn t) hi),
    fun _ => ok2, fun t => (no t).elim, fun t => (no t).elim, fun t => (no t).elim,
    fun _ => ok1, fun t _ => dvd_of (mult12_eq hn t), fun t _ => inb_yrows (off36_eq hn t) (lt t), fun t _ hi => .inl (rows_packed (off36_eq hn t) hi),
    fun _ => ok2, fun t => (no t).elim, fun t => (no t).elim, fun t => (no t).elim⟩

end Cert.KernelIdeal.Hand
-- ==== Proof.Ring.lean ====
/- The kernel's two rings of staging slots: the views its transfers name, the contents they carry, and the rules of the
   operations at them, over the slot's and the block's number. -/
module

public import proofs.«01_k».proof.Proof.Words
public import proofs.«01_k».proof.Proof.Gen.KernelIdeal.Launch
public import proofs.«01_k».proof.Proof.Gen.KernelIdeal.Loops
public import Idealize.ShloMosaic.Lib.Pipeline.FrameBody
public import Idealize.ShloMosaic.Lib.Batch
public import Idealize.ShloMosaic.Lib.Tactic
public import Idealize.ShloMosaic.Lib.ValueIdxCore
public import Idealize.ShloMosaic.Lib.ViewIndex

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The views -/

abbrev xM : Memref sig .tc .vmem S2x512x512 .i32 := Memref.whole cc0_scratch2
abbrev yM : Memref sig .tc .vmem S2x512x1024 .bf16 := Memref.whole cc0_scratch3
abbrev xH : Memref sig .tc .hbm S307200x512 .i32 := Memref.whole main_arg3
abbrev yH : Memref sig .tc .hbm S307200x1024 .bf16 := Memref.whole main_v4

abbrev xSlotAt (o : Fin 3 → ℕ) (h : ∀ a, o a + S1x512x512.size a ≤ S2x512x512.size a) : Memref sig .tc .vmem S512x512 .i32 :=
  (xM.slice (Rect.unit (s := S2x512x512) o S1x512x512.size h) (fun _ => rfl)).squeeze S512x512 squeezes_S1x512x512_S512x512
abbrev ySlotAt (o : Fin 3 → ℕ) (h : ∀ a, o a + S1x512x1024.size a ≤ S2x512x1024.size a) : Memref sig .tc .vmem S512x1024 .bf16 :=
  (yM.slice (Rect.unit (s := S2x512x1024) o S1x512x1024.size h) (fun _ => rfl)).squeeze S512x1024 squeezes_S1x512x1024_S512x1024
abbrev xBlkAt (o : Fin 2 → ℕ) (h : ∀ a, o a + S512x512.size a ≤ S307200x512.size a) : Memref sig .tc .hbm S512x512 .i32 :=
  xH.slice (Rect.unit (s := S307200x512) o S512x512.size h) (fun _ => rfl)
abbrev yBlkAt (o : Fin 2 → ℕ) (h : ∀ a, o a + S512x1024.size a ≤ S307200x1024.size a) : Memref sig .tc .hbm S512x1024 .bf16 :=
  yH.slice (Rect.unit (s := S307200x1024) o S512x1024.size h) (fun _ => rfl)
abbrev semAt (s : DmaSems sig S2) (o : Fin 1 → ℕ) (h : ∀ a, o a + S1.size a ≤ S2.size a) : DmaSem sig :=
  ((s.slice (Rect.unit (s := S2) o S1.size h)).squeeze S_ squeezes_S1_S_).sem

def par (g : ℕ) : Fin 2 := ⟨g % 2, Nat.mod_lt _ (by norm_num)⟩
def bk (g : ℕ) : Fin 600 := ⟨g % 600, Nat.mod_lt _ (by norm_num)⟩
theorem bk_val {g : ℕ} (h : g < 600) : (bk g).val = g := Nat.mod_eq_of_lt h

theorem inb1 (β : Fin 2) : ∀ a, (![β.val] : Fin 1 → ℕ) a + S1.size a ≤ S2.size a :=
  inb_sem (b := β.val) (by rw [Nat.mod_eq_of_lt β.isLt])
theorem inb3x (β : Fin 2) : ∀ a, (![β.val, 0, 0] : Fin 3 → ℕ) a + S1x512x512.size a ≤ S2x512x512.size a :=
  inb_xslot (b := β.val) (by rw [Nat.mod_eq_of_lt β.isLt])
theorem inb3y (β : Fin 2) : ∀ a, (![β.val, 0, 0] : Fin 3 → ℕ) a + S1x512x1024.size a ≤ S2x512x1024.size a :=
  inb_yslot (b := β.val) (by rw [Nat.mod_eq_of_lt β.isLt])
theorem inb2x (γ : Fin 600) : ∀ a, (![512 * γ.val, 0] : Fin 2 → ℕ) a + S512x512.size a ≤ S307200x512.size a := inb_xrows rfl γ.isLt
theorem inb2y (γ : Fin 600) : ∀ a, (![512 * γ.val, 0] : Fin 2 → ℕ) a + S512x1024.size a ≤ S307200x1024.size a := inb_yrows rfl γ.isLt

abbrev xSlot (β : Fin 2) := xSlotAt ![β.val, 0, 0] (inb3x β)
abbrev ySlot (β : Fin 2) := ySlotAt ![β.val, 0, 0] (inb3y β)
abbrev xBlk (γ : Fin 600) := xBlkAt ![512 * γ.val, 0] (inb2x γ)
abbrev yBlk (γ : Fin 600) := yBlkAt ![512 * γ.val, 0] (inb2y γ)
abbrev xsem (β : Fin 2) : DmaSem sig := semAt cc0_scratch4 ![β.val] (inb1 β)
abbrev ysem (β : Fin 2) : DmaSem sig := semAt cc0_scratch5 ![β.val] (inb1 β)

abbrev xL (c : Dev nD) : Loc nD τ sig := (c : Thread nD τ).loc cc0_scratch2
abbrev yL (c : Dev nD) : Loc nD τ sig := (c : Thread nD τ).loc cc0_scratch3
abbrev xG (c : Dev nD) : Loc nD τ sig := (c : Thread nD τ).loc main_arg3
abbrev yG (c : Dev nD) : Loc nD τ sig := (c : Thread nD τ).loc main_v4

/-! ## The element sets -/

def xSet (β : Fin 2) : Finset S2x512x512.Idx := Finset.univ.filter fun i => (i 0).val = β.val
def ySet (β : Fin 2) : Finset S2x512x1024.Idx := Finset.univ.filter fun i => (i 0).val = β.val
def xRows (a b : ℕ) : Finset S307200x512.Idx := Finset.univ.filter fun i => 512 * a ≤ (i 0).val ∧ (i 0).val < 512 * b
def yRows (a b : ℕ) : Finset S307200x1024.Idx := Finset.univ.filter fun i => 512 * a ≤ (i 0).val ∧ (i 0).val < 512 * b

theorem xSlice_set (β : Fin 2) : (xM.access (Rect.unit (s := S2x512x512) ![β.val, 0, 0] S1x512x512.size (inb3x β))).set = xSet β := by
  refine (View.set_slice_whole _ _).trans ?_
  ext i
  rw [Rect.mem_set_unit]
  unfold xSet; rw [Finset.mem_filter]
  constructor
  · intro h; exact ⟨Finset.mem_univ _, by have := h 0; have h1 : β.val ≤ (i 0).val := this.1; have h2 : (i 0).val < β.val + 1 := this.2; omega⟩
  · rintro ⟨-, h⟩ a
    fin_cases a
    · show β.val ≤ (i 0).val ∧ (i 0).val < β.val + 1; omega
    · exact ⟨Nat.zero_le _, lt_of_lt_of_eq (i 1).isLt (Nat.zero_add _).symm⟩
    · exact ⟨Nat.zero_le _, lt_of_lt_of_eq (i 2).isLt (Nat.zero_add _).symm⟩
theorem xSlot_set (β : Fin 2) : (xSlot β).view.set = xSet β := (View.set_reshape _ _).trans (xSlice_set β)
theorem ySlice_set (β : Fin 2) : (yM.access (Rect.unit (s := S2x512x1024) ![β.val, 0, 0] S1x512x1024.size (inb3y β))).set = ySet β := by
  refine (View.set_slice_whole _ _).trans ?_
  ext i
  rw [Rect.mem_set_unit]
  unfold ySet; rw [Finset.mem_filter]
  constructor
  · intro h; exact ⟨Finset.mem_univ _, by have := h 0; have h1 : β.val ≤ (i 0).val := this.1; have h2 : (i 0).val < β.val + 1 := this.2; omega⟩
  · rintro ⟨-, h⟩ a
    fin_cases a
    · show β.val ≤ (i 0).val ∧ (i 0).val < β.val + 1; omega
    · exact ⟨Nat.zero_le _, lt_of_lt_of_eq (i 1).isLt (Nat.zero_add _).symm⟩
    · exact ⟨Nat.zero_le _, lt_of_lt_of_eq (i 2).isLt (Nat.zero_add _).symm⟩
theorem ySlot_set (β : Fin 2) : (ySlot β).view.set = ySet β := (View.set_reshape _ _).trans (ySlice_set β)
theorem xBlk_set (γ : Fin 600) : (xBlk γ).view.set = xRows γ.val (γ.val + 1) := by
  refine (View.set_slice_whole _ _).trans ?_
  ext i
  rw [Rect.mem_set_unit]
  unfold xRows; rw [Finset.mem_filter]
  constructor
  · intro h; exact ⟨Finset.mem_univ _, by have := h 0; have h1 : 512 * γ.val ≤ (i 0).val := this.1; have h2 : (i 0).val < 512 * γ.val + 512 := this.2; omega⟩
  · rintro ⟨-, h⟩ a
    fin_cases a
    · show 512 * γ.val ≤ (i 0).val ∧ (i 0).val < 512 * γ.val + 512; omega
    · exact ⟨Nat.zero_le _, lt_of_lt_of_eq (i 1).isLt (Nat.zero_add _).symm⟩
theorem yBlk_set (γ : Fin 600) : (yBlk γ).view.set = yRows γ.val (γ.val + 1) := by
  refine (View.set_slice_whole _ _).trans ?_
  ext i
  rw [Rect.mem_set_unit]
  unfold yRows; rw [Finset.mem_filter]
  constructor
  · intro h; exact ⟨Finset.mem_univ _, by have := h 0; have h1 : 512 * γ.val ≤ (i 0).val := this.1; have h2 : (i 0).val < 512 * γ.val + 512 := this.2; omega⟩
  · rintro ⟨-, h⟩ a
    fin_cases a
    · show 512 * γ.val ≤ (i 0).val ∧ (i 0).val < 512 * γ.val + 512; omega
    · exact ⟨Nat.zero_le _, lt_of_lt_of_eq (i 1).isLt (Nat.zero_add _).symm⟩

/-! ## The contents -/

/-- Row `r` of block `γ` in the arrays. -/
def rowOf (γ : Fin 600) (r : Fin 512) : Fin 307200 := ⟨512 * γ.val + r.val, by omega⟩

/-- An `x` slot that holds block `γ` of `X`. -/
def XB (X : S307200x512.Idx → BitVec 32) (γ : Fin 600) : S2x512x512.Idx → BitVec 32 := fun i => X (ix2 (rowOf γ (i 1)) (i 2))
/-- A `y` slot that holds the rows `v`. -/
def YB (v : Vec F S1x512x1024 .bf16) : S2x512x1024.Idx → Elt F .bf16 := fun i => v (ix3 0 (i 1) (i 2))
/-- The result whose block `γ` is `T γ`. -/
def YT (T : Fin 600 → Vec F S1x512x1024 .bf16) : S307200x1024.Idx → Elt F .bf16 := fun i =>
  T ⟨(i 0).val / 512, by have : (i 0).val < 307200 := (i 0).isLt; omega⟩ (ix3 0 ⟨(i 0).val % 512, by omega⟩ (i 1))

theorem reshape_drop {a b : ℕ} (h : (⟨2, ![a, b]⟩ : Shape).numel = (⟨3, ![1, a, b]⟩ : Shape).numel) (r : Fin a) (j : Fin b) :
    Shape.reshapeEquiv h (ix2 r j) = ix3 0 r j := by
  apply Shape.reshapeEquiv_eq_of_rowMajor
  show (Shape.rowMajorPi ![1, a, b] _).val = (Shape.rowMajorPi ![a, b] _).val
  rw [Shape.rowMajorPi_succ_val]
  exact (congrArg (· + _) (Nat.zero_mul _)).trans (Nat.zero_add _)

theorem xSlot_emb (β : Fin 2) (r : Fin 512) (j : Fin 512) : (xSlot β).view.emb (ix2 r j) = ix3 β r j := by
  refine (congrArg ((xM.access (Rect.unit (s := S2x512x512) ![β.val, 0, 0] S1x512x512.size (inb3x β))).emb)
    (reshape_drop (a := 512) (b := 512) squeezes_S1x512x512_S512x512.numel_eq r j)).trans ?_
  funext a
  apply Fin.ext
  fin_cases a
  · show β.val + 1 * 0 = β.val; omega
  · show 0 + 1 * r.val = r.val; omega
  · show 0 + 1 * j.val = j.val; omega
theorem ySlot_emb (β : Fin 2) (r : Fin 512) (j : Fin 1024) : (ySlot β).view.emb (ix2 r j) = ix3 β r j := by
  refine (congrArg ((yM.access (Rect.unit (s := S2x512x1024) ![β.val, 0, 0] S1x512x1024.size (inb3y β))).emb)
    (reshape_drop (a := 512) (b := 1024) squeezes_S1x512x1024_S512x1024.numel_eq r j)).trans ?_
  funext a
  apply Fin.ext
  fin_cases a
  · show β.val + 1 * 0 = β.val; omega
  · show 0 + 1 * r.val = r.val; omega
  · show 0 + 1 * j.val = j.val; omega
theorem xBlk_emb (γ : Fin 600) (r : Fin 512) (j : Fin 512) : (xBlk γ).view.emb (ix2 r j) = ix2 (rowOf γ r) j := by
  funext a
  apply Fin.ext
  fin_cases a
  · show 512 * γ.val + 1 * r.val = 512 * γ.val + r.val; omega
  · show 0 + 1 * j.val = j.val; omega
theorem yBlk_emb (γ : Fin 600) (r : Fin 512) (j : Fin 1024) : (yBlk γ).view.emb (ix2 r j) = ix2 (rowOf γ r) j := by
  funext a
  apply Fin.ext
  fin_cases a
  · show 512 * γ.val + 1 * r.val = 512 * γ.val + r.val; omega
  · show 0 + 1 * j.val = j.val; omega

/-- A landed block of `X`, on its slot. -/
theorem land_x (X : S307200x512.Idx → BitVec 32) (β : Fin 2) (γ : Fin 600) (f : S2x512x512.Idx → BitVec 32) :
    ∀ i ∈ xSet β, (xSlot β).view.write (Elt F) f ((ReadAs.same (Val := Elt F)).apply ((xBlk γ).view.read (Elt F) X)) Finset.univ i = XB X γ i := by
  intro i hi
  rw [← xSlot_set] at hi
  obtain ⟨x, -, rfl⟩ := Finset.mem_map.mp hi
  obtain ⟨r, j, rfl⟩ : ∃ (r : Fin 512) (j : Fin 512), x = ix2 r j := ⟨x 0, x 1, eq_ix2 x⟩
  rw [View.write_emb_of_mem _ _ (Finset.mem_univ _)]
  refine (cast_eq _ _).trans ?_
  refine (cast_eq _ _).trans ?_
  rw [xSlot_emb]
  exact congrArg X (xBlk_emb γ r j)
/-- A block of rows in a slot, landed in the result. -/
theorem land_y (T : Fin 600 → Vec F S1x512x1024 .bf16) (β : Fin 2) (γ : Fin 600) (f : S307200x1024.Idx → Elt F .bf16) (g : S2x512x1024.Idx → Elt F .bf16)
    (hg : ∀ i ∈ ySet β, g i = YB (T γ) i) :
    ∀ i ∈ yRows γ.val (γ.val + 1), (yBlk γ).view.write (Elt F) f ((ReadAs.same (Val := Elt F)).apply ((ySlot β).view.read (Elt F) g)) Finset.univ i = YT T i := by
  intro i hi
  rw [← yBlk_set] at hi
  obtain ⟨x, -, rfl⟩ := Finset.mem_map.mp hi
  obtain ⟨r, j, rfl⟩ : ∃ (r : Fin 512) (j : Fin 1024), x = ix2 r j := ⟨x 0, x 1, eq_ix2 x⟩
  rw [View.write_emb_of_mem _ _ (Finset.mem_univ _)]
  refine (cast_eq _ _).trans ?_
  refine (cast_eq _ _).trans ?_
  refine (hg ((ySlot β).view.emb (ix2 r j)) (by rw [← ySlot_set]; exact View.emb_mem_set _ _)).trans ?_
  refine (congrArg (YB (T γ)) (ySlot_emb β r j)).trans ?_
  refine Eq.trans ?_ (congrArg (YT T) (yBlk_emb γ r j)).symm
  unfold YB YT
  have h0 : r.val < 512 := r.isLt
  have e1 : (⟨(rowOf γ r).val / 512, by have := (rowOf γ r).isLt; omega⟩ : Fin 600) = γ :=
    Fin.ext (by show (512 * γ.val + r.val) / 512 = γ.val; omega)
  have e2 : (⟨(rowOf γ r).val % 512, by omega⟩ : Fin 512) = r :=
    Fin.ext (by show (512 * γ.val + r.val) % 512 = r.val; omega)
  show T γ (ix3 0 r j) = T ⟨(rowOf γ r).val / 512, _⟩ (ix3 0 ⟨(rowOf γ r).val % 512, _⟩ j)
  rw [e1, e2]
/-- A block of rows stored into a slot. -/
theorem store_y (β : Fin 2) (f : S2x512x1024.Idx → Elt F .bf16) (v : Vec F S1x512x1024 .bf16) :
    ∀ i ∈ ySet β, (yM.access (Rect.unit (s := S2x512x1024) ![β.val, 0, 0] S1x512x1024.size (inb3y β))).write (Elt F) f v Finset.univ i = YB v i := by
  intro i hi
  rw [← ySlice_set] at hi
  obtain ⟨x, -, rfl⟩ := Finset.mem_map.mp hi
  rw [View.write_emb_of_mem _ _ (Finset.mem_univ x)]
  refine (cast_eq _ _).trans ?_
  unfold YB
  congr 1
  rw [eq_ix3 x]
  funext a
  apply Fin.ext
  fin_cases a
  · show (x 0).val = 0; have : (x 0).val < 1 := (x 0).isLt; omega
  · show (x 1).val = 0 + 1 * (x 1).val; omega
  · show (x 2).val = 0 + 1 * (x 2).val; omega

end Cert.KernelIdeal.Hand
-- ==== Proof.Rules.lean ====
/- What the rings hold between the trips, and each transfer, wait and access of the kernel as one rule over the slot's and
   the block's number. -/
module

public import proofs.«01_k».proof.Proof.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A program of the kernel's core, run to a postcondition. -/
abbrev W (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem cut {c : Dev nD} {σ β : Type} {p : Prog (TpuEff nD τ sig (Elt F) Λ₀ .tc) σ} {R : sProp 𝕄} {Q' : σ → sProp 𝕄} (h : R ⊢ W c p Q')
    {kk : σ → Prog (TpuEff nD τ sig (Elt F) Λ₀ .tc) β} {Q : β → sProp 𝕄} :
    R ⊢ iprop((∀ r, Q' r -∗ W c (kk r) Q) -∗ W c (p >>= kk) Q) := exec_cut _ _ _ h

theorem W_pure {c : Dev nD} {α : Type} {a : α} {Q : α → sProp 𝕄} : Q a ⊢ W c (pure a : Prog (TpuEff nD τ sig (Elt F) Λ₀ .tc) α) Q := by
  show Q a ⊢ iprop(|={Set.univ}[frame]=> Q a)
  iintro H
  imodintro
  iexact H

theorem W_conseq {c : Dev nD} {α : Type} {p : Prog (TpuEff nD τ sig (Elt F) Λ₀ .tc) α} {Q Q' : α → sProp 𝕄} (h : ∀ a, Q a ⊢ Q' a) : W c p Q ⊢ W c p Q' := by
  have := exec_cut_last frame (wpE (defs₀ (F := F)) Variants.none (c : Thread nD τ) none) Set.univ (p := p) (R := W c p Q) (Q' := Q) .rfl (Q := Q')
  iintro H
  iapply this $$ H
  iintro %a H
  iapply (h a) $$ H

abbrev NX : ℕ := (xSlot 0).view.dmaCredit
abbrev NY : ℕ := (yBlk 0).view.dmaCredit

theorem NX_pos : 0 < NX := View.dmaCredit_pos _ (by decide)
theorem NY_pos : 0 < NY := View.dmaCredit_pos _ (by decide)

theorem pt_congr {ℓ : Loc nD τ sig} {S : Finset (Idx ℓ)} {q : PosShare TreeShare} {f g : Buf (Elt F) ℓ} (h : ∀ i ∈ S, f i = g i) :
    (ℓ ↦[S]{q} f : sProp 𝕄) ⊢ ℓ ↦[S]{q} g := by rw [pointsTo_congr h]

section State

variable (c : Dev nD) (X : S307200x512.Idx → BitVec 32) (V : S307200x1024.Idx → Elt F .bf16) (T : Fin 600 → Vec F S1x512x1024 .bf16)

/-- The core's record of its waits. -/
def Ow : sProp 𝕄 := iprop(∃ w, owes (c : Thread nD τ) 0 w)
def XFree (β : Fin 2) : sProp 𝕄 := iprop((∃ f, xL c ↦[xSet β]{fullShare} f) ∗ semVal ((c : Thread nD τ), SemLoc.dma (xsem β)) 0)
def YFree (β : Fin 2) : sProp 𝕄 := iprop((∃ f, yL c ↦[ySet β]{fullShare} f) ∗ semVal ((c : Thread nD τ), SemLoc.dma (ysem β)) 0)
/-- Block `γ` of the input in flight into slot `β`. -/
def XFl (β : Fin 2) (γ : Fin 600) : sProp 𝕄 :=
  Transfers.Flight (countersEmb (U := Pipeline.UD sig nD τ)) (c : Thread nD τ) (SemLoc.dma (xsem β)) () NX
    iprop((xL c ↦[xSet β]{fullShare} (XB X γ : Buf (Elt F) (xL c))) ∗ (xG c ↦[xRows γ.val (γ.val + 1)]{fullShare} (X : Buf (Elt F) (xG c))))
/-- Block `γ` of the result in flight out of slot `β`. -/
def YFl (β : Fin 2) (γ : Fin 600) : sProp 𝕄 :=
  Transfers.Flight (countersEmb (U := Pipeline.UD sig nD τ)) (c : Thread nD τ) (SemLoc.dma (ysem β)) () NY
    iprop((yG c ↦[yRows γ.val (γ.val + 1)]{fullShare} (YT T : Buf (Elt F) (yG c))) ∗ (yL c ↦[ySet β]{fullShare} (YB (T γ) : Buf (Elt F) (yL c))))

end State

variable {c : Dev nD} {X : S307200x512.Idx → BitVec 32} {V : S307200x1024.Idx → Elt F .bf16} {T : Fin 600 → Vec F S1x512x1024 .bf16}

/-! ## Transfers -/

theorem start_x (β : Fin 2) (γ : Fin 600) {o1 : Fin 1 → ℕ} {o3 : Fin 3 → ℕ} {o2 : Fin 2 → ℕ} (h1 h3 h2)
    (e1 : o1 = ![β.val]) (e3 : o3 = ![β.val, 0, 0]) (e2 : o2 = ![512 * γ.val, 0]) {a1 a2 a3} :
    iprop(XFree (F := F) c β ∗ (xG c ↦[xRows γ.val (γ.val + 1)]{fullShare} (X : Buf (Elt F) (xG c))))
      ⊢ W c (Prog.lift (.enqueueDma (xBlkAt o2 h2) (.here (xSlotAt o3 h3)) (.dma (semAt cc0_scratch4 o1 h1)) a1 a2 a3)) fun _ => XFl c X β γ := by
  subst e1 e3 e2
  unfold XFree
  iintro ⟨⟨⟨%f, Hs⟩, Hv⟩, HX⟩
  iapply (Transfers.wp_dmaLocal (countersEmb (U := Pipeline.UD sig nD τ)) Variants.none (c : Thread nD τ) none (src := xBlk γ) (dst := xSlot β) (via := .same)
    () NX rfl NX_pos (Sd := xSet β) (xSlot_set β).le) $$ [Hs Hv HX]
  · isplitl [HX]
    · rw [xBlk_set]; iexact HX
    isplitl [Hs]
    · iexact Hs
    iexact Hv
  iintro HF
  iapply W_pure
  unfold XFl
  iapply (Transfers.Flight_mono _ _ ?_) $$ HF
  rw [xBlk_set]
  iintro ⟨H1, H2⟩
  isplitl [H1]
  · iapply (pt_congr (F := F) (ℓ := xL c) (land_x (F := F) X β γ _)) $$ H1
  · iexact H2

theorem start_y (β : Fin 2) (γ : Fin 600) {o1 : Fin 1 → ℕ} {o3 : Fin 3 → ℕ} {o2 : Fin 2 → ℕ} (h1 h3 h2)
    (e1 : o1 = ![β.val]) (e3 : o3 = ![β.val, 0, 0]) (e2 : o2 = ![512 * γ.val, 0]) {a1 a2 a3} :
    iprop((yL c ↦[ySet β]{fullShare} (YB (T γ) : Buf (Elt F) (yL c))) ∗ semVal ((c : Thread nD τ), SemLoc.dma (ysem β)) 0
        ∗ (yG c ↦[yRows γ.val (γ.val + 1)]{fullShare} (V : Buf (Elt F) (yG c))))
      ⊢ W c (Prog.lift (.enqueueDma (ySlotAt o3 h3) (.here (yBlkAt o2 h2)) (.dma (semAt cc0_scratch5 o1 h1)) a1 a2 a3)) fun _ => YFl c T β γ := by
  subst e1 e3 e2
  iintro ⟨Hs, Hv, HY⟩
  iapply (Transfers.wp_dmaLocal (countersEmb (U := Pipeline.UD sig nD τ)) Variants.none (c : Thread nD τ) none (src := ySlot β) (dst := yBlk γ) (via := .same)
    () NY rfl NY_pos (Sd := yRows γ.val (γ.val + 1)) (yBlk_set γ).le) $$ [Hs Hv HY]
  · isplitl [Hs]
    · rw [ySlot_set]; iexact Hs
    isplitl [HY]
    · iexact HY
    iexact Hv
  iintro HF
  iapply W_pure
  unfold YFl
  iapply (Transfers.Flight_mono _ _ ?_) $$ HF
  rw [ySlot_set]
  iintro ⟨H1, H2⟩
  isplitl [H1]
  · iapply (pt_congr (F := F) (ℓ := yG c) (land_y T β γ _ _ (fun _ _ => rfl))) $$ H1
  · iexact H2

theorem wait_x (β : Fin 2) (γ : Fin 600) {o1 : Fin 1 → ℕ} (h1) (e1 : o1 = ![β.val]) {o3 : Fin 3 → ℕ} (h3)
    {sp : Space} {s' : Shape} {e' : EltTy} {src : Memref sig .tc sp s' e'} {a1 a2} :
    iprop(XFl c X β γ ∗ Ow (F := F) c)
      ⊢ W c (Prog.lift (.waitDma2 (semAt cc0_scratch4 o1 h1) src (xSlotAt o3 h3) a1 a2)) fun _ =>
        iprop((xL c ↦[xSet β]{fullShare} (XB X γ : Buf (Elt F) (xL c))) ∗ (xG c ↦[xRows γ.val (γ.val + 1)]{fullShare} (X : Buf (Elt F) (xG c)))
          ∗ semVal ((c : Thread nD τ), SemLoc.dma (xsem β)) 0 ∗ Ow (F := F) c) := by
  subst e1
  unfold Ow XFl
  iintro ⟨HF, %w, HO⟩
  iapply (Transfers.wp_waitLocal (countersEmb (U := Pipeline.UD sig nD τ)) Variants.none (c : Thread nD τ) none (dstw := xSlotAt o3 h3) (srcw := src) (hsrc := a1) (hdst := a2) () (N := NX) rfl) $$ [HF HO]
  · isplitl [HF]; · iexact HF
    iexact HO
  iintro ⟨⟨H1, H2⟩, Hv, HO⟩
  iapply W_pure
  isplitl [H1]; · iexact H1
  isplitl [H2]; · iexact H2
  isplitl [Hv]; · iexact Hv
  iexists _; iexact HO

theorem wait_y (β : Fin 2) (γ : Fin 600) {o1 : Fin 1 → ℕ} (h1) (e1 : o1 = ![β.val]) {o2 : Fin 2 → ℕ} (h2)
    {sp : Space} {s' : Shape} {e' : EltTy} {src : Memref sig .tc sp s' e'} {a1 a2} :
    iprop(YFl c T β γ ∗ Ow (F := F) c)
      ⊢ W c (Prog.lift (.waitDma2 (semAt cc0_scratch5 o1 h1) src (yBlkAt o2 h2) a1 a2)) fun _ =>
        iprop((yG c ↦[yRows γ.val (γ.val + 1)]{fullShare} (YT T : Buf (Elt F) (yG c))) ∗ YFree (F := F) c β ∗ Ow (F := F) c) := by
  subst e1
  unfold Ow YFl YFree
  iintro ⟨HF, %w, HO⟩
  iapply (Transfers.wp_waitLocal (countersEmb (U := Pipeline.UD sig nD τ)) Variants.none (c : Thread nD τ) none (dstw := yBlkAt o2 h2) (srcw := src) (hsrc := a1) (hdst := a2) () (N := NY) rfl) $$ [HF HO]
  · isplitl [HF]; · iexact HF
    iexact HO
  iintro ⟨⟨H1, H2⟩, Hv, HO⟩
  iapply W_pure
  isplitl [H1]; · iexact H1
  isplitl [H2 Hv]
  · isplitl [H2]; · iexists _; iexact H2
    iexact Hv
  iexists _; iexact HO

/-! ## Loads and stores -/

/-- A load of anything held. -/
theorem load_any {cs : CoreSpace} {s : Shape} {e : EltTy} (M : Memref sig .tc cs s e) (r : Rect s) {hl}
    {S : Finset (Idx ((M.access r).loc (c : Thread nD τ)))} {q : PosShare TreeShare} {f : Buf (Elt F) ((M.access r).loc (c : Thread nD τ))}
    (hS : (M.access r).set ⊆ S) :
    ((M.access r).loc (c : Thread nD τ) ↦[S]{q} f)
      ⊢ W c (Prog.lift (.load M r hl)) fun v => iprop(⌜v = (M.access r).read (Elt F) f⌝ ∗ ((M.access r).loc (c : Thread nD τ) ↦[S]{q} f)) := by
  iintro H
  iapply (wp_load_rect Variants.none (c : Thread nD τ) none Set.univ hS) $$ H
  iintro H
  iapply W_pure
  isplitr; · ipureintro; rfl
  iexact H

/-- A store into anything held. -/
theorem store_any {cs : CoreSpace} {s : Shape} {e : EltTy} (M : Memref sig .tc cs s e) (r : Rect s) {w : r.shape.Idx → Elt F e} {hx hm}
    {S : Finset (Idx ((M.access r).loc (c : Thread nD τ)))} {f : Buf (Elt F) ((M.access r).loc (c : Thread nD τ))}
    (hS : (M.access r).set ⊆ S) :
    ((M.access r).loc (c : Thread nD τ) ↦[S]{fullShare} f)
      ⊢ W c (Prog.lift (.store M r w Finset.univ hx hm)) fun _ => ((M.access r).loc (c : Thread nD τ) ↦[S]{fullShare} (M.access r).write (Elt F) f w Finset.univ) := by
  iintro H
  iapply (wp_store Variants.none (c : Thread nD τ) none Set.univ ((View.setOn_univ _).le.trans hS)) $$ H
  iintro H
  iapply W_pure
  iexact H

end Cert.KernelIdeal.Hand
-- ==== Proof.Step.lean ====
/- One trip of the kernel's loop over its blocks: the wait for the block, the fetch of the next, the wait for the slot's
   earlier result, the store and the transfer out. -/
module

public import proofs.«01_k».proof.Proof.Rules

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {c : Dev nD} {X : S307200x512.Idx → BitVec 32} {V : S307200x1024.Idx → Elt F .bf16} {T : Fin 600 → Vec F S1x512x1024 .bf16}

/-! ## Runs of rows -/

theorem xRows_sub (a b : ℕ) : xRows a b ⊆ Finset.univ := Finset.subset_univ _

theorem yRows_union {a b d : ℕ} (h1 : a ≤ b) (h2 : b ≤ d) : yRows a b ∪ yRows b d = yRows a d := by
  ext i; unfold yRows; simp only [Finset.mem_union, Finset.mem_filter, Finset.mem_univ, true_and]; omega
theorem yRows_disj {a b d : ℕ} : Disjoint (yRows a b) (yRows b d) := by
  rw [Finset.disjoint_left]; intro i; unfold yRows; simp only [Finset.mem_filter, Finset.mem_univ, true_and]; omega
theorem yRows_all : yRows 0 600 = Finset.univ := by
  ext i; unfold yRows; simp only [Finset.mem_filter, Finset.mem_univ, true_and, iff_true]
  have : (i 0).val < 307200 := (i 0).isLt; omega
theorem yRows_nil (a : ℕ) : yRows a a = ∅ := by
  ext i; unfold yRows; simp only [Finset.mem_filter, Finset.mem_univ, true_and, Finset.notMem_empty, iff_false]; omega

theorem y_split {a b d : ℕ} (h1 : a ≤ b) (h2 : b ≤ d) (f : Buf (Elt F) (yG c)) :
    (yG c ↦[yRows a d]{fullShare} f : sProp 𝕄) ⊣⊢ iprop((yG c ↦[yRows a b]{fullShare} f) ∗ (yG c ↦[yRows b d]{fullShare} f)) := by
  rw [← yRows_union h1 h2]; exact pointsTo_union yRows_disj
theorem x_split (γ : Fin 600) (f : Buf (Elt F) (xG c)) :
    (xG c ↦{fullShare} f : sProp 𝕄) ⊣⊢ iprop((xG c ↦[xRows γ.val (γ.val + 1)]{fullShare} f) ∗ (xG c ↦[Finset.univ \ xRows γ.val (γ.val + 1)]{fullShare} f)) :=
  pointsTo_split_subset (Finset.subset_univ _)

/-! ## The rings between the trips -/

section State

variable (c X V T)

/-- The input's ring before block `g` of `n`: its transfer in flight if there is such a block, the other slot free. -/
def XNow (n g : ℕ) : sProp 𝕄 :=
  if g < n then iprop(XFl (F := F) c X (par g) (bk g) ∗ (xG c ↦[Finset.univ \ xRows (bk g).val ((bk g).val + 1)]{fullShare} (X : Buf (Elt F) (xG c))))
  else iprop(XFree (F := F) c (par g) ∗ (xG c ↦{fullShare} (X : Buf (Elt F) (xG c))))
def XSt (n g : ℕ) : sProp 𝕄 := iprop(XNow (F := F) c X n g ∗ XFree (F := F) c (par (g + 1)))
def YA (g : ℕ) : sProp 𝕄 := if 2 ≤ g then YFl c T (par g) (bk (g - 2)) else YFree (F := F) c (par g)
def YZ (g : ℕ) : sProp 𝕄 := if 1 ≤ g then YFl c T (par (g + 1)) (bk (g - 1)) else YFree (F := F) c (par (g + 1))
/-- The result before block `g`: the earlier blocks landed, two at most in flight, the later ones as they were. -/
def YSt (g : ℕ) : sProp 𝕄 := iprop(YA c T g ∗ YZ c T g
  ∗ (yG c ↦[yRows 0 (g - 2)]{fullShare} (YT T : Buf (Elt F) (yG c))) ∗ (yG c ↦[yRows g 600]{fullShare} (V : Buf (Elt F) (yG c))))

end State

theorem par_two (g : ℕ) : par (g + 2) = par g := Fin.ext (by show (g + 2) % 2 = g % 2; omega)

/-! ## Conditionals, and reads of a window -/

/-- A conditional statement before a continuation. -/
theorem ite_seq {β : Type} {P : Prop} [Decidable P] {A : P → Prog (TpuEff nD τ sig (Elt F) Λ₀ .tc) PUnit} {K : Prog (TpuEff nD τ sig (Elt F) Λ₀ .tc) β}
    {R Q' : sProp 𝕄} {Q : β → sProp 𝕄} (h1 : ∀ h : P, R ⊢ W c (A h) fun _ => Q') (h2 : ¬P → R ⊢ Q') :
    R ⊢ iprop((Q' -∗ W c K Q) -∗ W c (if h : P then A h >>= fun _ => K else K) Q) := by
  by_cases h : P
  · rw [dif_pos h]
    iintro HR HK
    iapply (cut (h1 h)) $$ HR
    iintro %r HQ
    iapply HK $$ HQ
  · rw [dif_neg h]
    iintro HR HK
    iapply HK
    iapply (h2 h) $$ HR

theorem unit_emb {s : Shape} {off : Fin s.rank → ℕ} (h : off = fun _ => 0) (inb) (x : s.Idx) : (Rect.unit (s := s) off s.size inb).emb x = x := by
  subst h
  funext a
  apply Fin.ext
  show 0 + 1 * (x a).val = (x a).val
  omega

/-- A load of a rectangle of a memref held. -/
theorem load_owns {cs : CoreSpace} {s : Shape} {e : EltTy} (M : Memref sig .tc cs s e) (r : Rect s) {hl} {q : PosShare TreeShare} {d : s.Idx → Elt F e} :
    (owns (c : Thread nD τ) M q d : sProp 𝕄)
      ⊢ W c (Prog.lift (.load M r.toLoadRect hl)) fun v => iprop(⌜v = fun x => d (r.emb x)⌝ ∗ owns (c : Thread nD τ) M q d) := by
  unfold owns
  iintro ⟨%f, %hf, H⟩
  iapply (wp_load_rect Variants.none (c : Thread nD τ) none Set.univ (m := M) (r := r) (S := M.view.set) (f := f) ?_) $$ H
  · rw [View.set_slice, ← View.setOn]
    exact View.setOn_subset_set _ _
  iintro H
  iapply W_pure
  isplitr
  · ipureintro
    subst hf
    rfl
  iexists f
  isplitr
  · ipureintro; exact hf
  iexact H

/-- A load of a whole memref held. -/
theorem load_whole {cs : CoreSpace} {s : Shape} {e : EltTy} (M : Memref sig .tc cs s e) {off : Fin s.rank → ℕ} (h : off = fun _ => 0) {inb} {hl} {q : PosShare TreeShare} {d : s.Idx → Elt F e} :
    (owns (c : Thread nD τ) M q d : sProp 𝕄)
      ⊢ W c (Prog.lift (.load M (Rect.unit (s := s) off s.size inb).toLoadRect hl)) fun v => iprop(⌜v = d⌝ ∗ owns (c : Thread nD τ) M q d) := by
  refine (load_owns M _).trans (W_conseq fun v => ?_)
  iintro ⟨%hv, H⟩
  isplitr
  · ipureintro
    rw [hv]
    funext x
    exact congrArg d (unit_emb h inb x)
  iexact H

/-! ## The trip -/

/-- Block `γ` of the input, as a load of its slot reads it. -/
def xRd (X : S307200x512.Idx → BitVec 32) (γ : Fin 600) : Vec F S1x512x512 .i32 := fun x => X (ix2 (rowOf γ (x 1)) (x 2))

theorem xRd_eq (X : S307200x512.Idx → BitVec 32) (β : Fin 2) (γ : Fin 600) :
    (xM.access (Rect.unit (s := S2x512x512) ![β.val, 0, 0] S1x512x512.size (inb3x β))).read (Elt F) (XB X γ) = xRd (F := F) X γ := by
  funext x
  refine (cast_eq _ _).trans ?_
  unfold XB xRd
  congr 1
  funext a
  apply Fin.ext
  fin_cases a
  · show 512 * γ.val + (0 + 1 * (x 1).val) = 512 * γ.val + (x 1).val; omega
  · show 0 + 1 * (x 2).val = (x 2).val; omega

theorem load_x (β : Fin 2) (γ : Fin 600) {o3 : Fin 3 → ℕ} (h3) (e3 : o3 = ![β.val, 0, 0]) {hl} :
    (xL c ↦[xSet β]{fullShare} (XB X γ : Buf (Elt F) (xL c)) : sProp 𝕄)
      ⊢ W c (Prog.lift (.load xM (Rect.unit (s := S2x512x512) o3 S1x512x512.size h3).toLoadRect hl)) fun v =>
        iprop(⌜v = xRd (F := F) X γ⌝ ∗ (xL c ↦[xSet β]{fullShare} (XB X γ : Buf (Elt F) (xL c)))) := by
  subst e3
  refine (load_any xM (Rect.unit (s := S2x512x512) ![β.val, 0, 0] S1x512x512.size (inb3x β)) (xSlice_set β).le).trans (W_conseq fun v => ?_)
  rw [xRd_eq]

variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)

/-- The rings between a trip's load and its store. -/
def Mid (c : Dev nD) (X : S307200x512.Idx → BitVec 32) (V : S307200x1024.Idx → Elt F .bf16) (T : Fin 600 → Vec F S1x512x1024 .bf16) (n g : ℕ) : sProp 𝕄 :=
  iprop(XSt (F := F) c X n (g + 1) ∗ YFree (F := F) c (par g) ∗ YZ c T g
    ∗ (yG c ↦[yRows 0 (g - 1)]{fullShare} (YT T : Buf (Elt F) (yG c))) ∗ (yG c ↦[yRows g 600]{fullShare} (V : Buf (Elt F) (yG c))))

theorem next_x {n g : ℕ} (hn : n ≤ 600) {P : Prop} (hP : P ↔ g + 1 < n) (h : P) {o1 : Fin 1 → ℕ} {o3 : Fin 3 → ℕ} {o2 : Fin 2 → ℕ} (h1 h3 h2)
    (e1 : o1 = ![(par (g + 1)).val]) (e3 : o3 = ![(par (g + 1)).val, 0, 0]) (e2 : o2 = ![512 * (g + 1), 0]) {a1 a2 a3} :
    iprop(XFree (F := F) c (par (g + 1)) ∗ (xG c ↦{fullShare} (X : Buf (Elt F) (xG c))))
      ⊢ W c (Prog.lift (.enqueueDma (xBlkAt o2 h2) (.here (xSlotAt o3 h3)) (.dma (semAt cc0_scratch4 o1 h1)) a1 a2 a3)) fun _ => XNow (F := F) c X n (g + 1) := by
  have hg : g + 1 < n := hP.mp h
  have hb : (bk (g + 1)).val = g + 1 := bk_val (by omega)
  unfold XNow
  rw [if_pos hg]
  iintro ⟨HF, HX⟩
  ihave HX' := (x_split (bk (g + 1)) (X : Buf (Elt F) (xG c))).1 $$ HX
  icases HX' with ⟨HX1, HX2⟩
  have := start_x (F := F) (c := c) (X := X) (par (g + 1)) (bk (g + 1)) h1 h3 h2 e1 e3 (by rw [hb]; exact e2) (a1 := a1) (a2 := a2) (a3 := a3)
  iapply (exec_cut_last _ _ _ this) $$ [HF HX1]
  · isplitl [HF]; · iexact HF
    iexact HX1
  iintro %r HH
  isplitl [HH]; · iexact HH
  iexact HX2

theorem last_x {n g : ℕ} {P : Prop} (hP : P ↔ g + 1 < n) (h : ¬P) :
    iprop(XFree (F := F) c (par (g + 1)) ∗ (xG c ↦{fullShare} (X : Buf (Elt F) (xG c)))) ⊢ XNow (F := F) c X n (g + 1) := by
  unfold XNow
  rw [if_neg (fun hg => h (hP.mpr hg))]

theorem old_y {g : ℕ} (hg : g ≤ 600) {P : Prop} (hP : P ↔ 2 ≤ g) (h : P) {o1 : Fin 1 → ℕ} {o2 : Fin 2 → ℕ} (h1 h2)
    (e1 : o1 = ![(par g).val]) {sp : Space} {s' : Shape} {e' : EltTy} {src : Memref sig .tc sp s' e'} {a1 a2} :
    iprop(YA c T g ∗ (yG c ↦[yRows 0 (g - 2)]{fullShare} (YT T : Buf (Elt F) (yG c))) ∗ Ow (F := F) c)
      ⊢ W c (Prog.lift (.waitDma2 (semAt cc0_scratch5 o1 h1) src (yBlkAt o2 h2) a1 a2)) fun _ =>
        iprop(YFree (F := F) c (par g) ∗ (yG c ↦[yRows 0 (g - 1)]{fullShare} (YT T : Buf (Elt F) (yG c))) ∗ Ow (F := F) c) := by
  have h2g : 2 ≤ g := hP.mp h
  have hb : (bk (g - 2)).val = g - 2 := bk_val (by omega)
  unfold YA
  rw [if_pos h2g]
  iintro ⟨HF, HY, HO⟩
  have := wait_y (F := F) (c := c) (T := T) (par g) (bk (g - 2)) h1 e1 h2 (src := src) (a1 := a1) (a2 := a2)
  iapply (exec_cut_last _ _ _ this) $$ [HF HO]
  · isplitl [HF]; · iexact HF
    iexact HO
  iintro %r ⟨H1, H2, H3⟩
  isplitl [H2]; · iexact H2
  isplitr [H3]
  · rw [hb, show g - 2 + 1 = g - 1 by omega]
    iapply (y_split (a := 0) (b := g - 2) (d := g - 1) (by omega) (by omega) _).2
    isplitl [HY]; · iexact HY
    iexact H1
  iexact H3

theorem new_y {g : ℕ} {P : Prop} (hP : P ↔ 2 ≤ g) (h : ¬P) :
    iprop(YA c T g ∗ (yG c ↦[yRows 0 (g - 2)]{fullShare} (YT T : Buf (Elt F) (yG c))) ∗ Ow (F := F) c)
      ⊢ iprop(YFree (F := F) c (par g) ∗ (yG c ↦[yRows 0 (g - 1)]{fullShare} (YT T : Buf (Elt F) (yG c))) ∗ Ow (F := F) c) := by
  have h2g : ¬ 2 ≤ g := fun h2 => h (hP.mpr h2)
  unfold YA
  rw [if_neg h2g, show g - 1 = g - 2 by omega]

theorem part3_run {n p K g : ℕ} (hn : n ≤ 600) (hw : k0_chk1 (BitVec.ofNat 32 n) (BitVec.ofNat 32 (512 * p)) (BitVec.ofNat 32 (512 * K)))
    (t : Fin (k0_t1_loop (BitVec.ofNat 32 (512 * K))).trips) (hg : p + t.val = g) (hgn : g < n) (v19 : BitVec 32)
    {P : S1024x2048.Idx → Elt F .bf16} {b : S1x1x2048.Idx → Elt F .f32} :
    iprop(XSt (F := F) c X n g ∗ YSt c V T g ∗ Ow (F := F) c ∗ owns (c : Thread nD τ) (Memref.whole cc0_scratch0 : Memref sig .tc _ _ _) fullShare P
        ∗ owns (c : Thread nD τ) arg6 fullShare b)
      ⊢ W c (k0_part3 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw 0#32 1#32 t) fun r =>
        iprop(⌜r.2.2 = ⟨k0_pay14 (xRd X (bk g)) P b, k0_pay15 (xRd X (bk g)) P b, k0_pay16 (xRd X (bk g)) P b, k0_pay17⟩⌝
          ∗ Mid c X V T n g ∗ Ow (F := F) c ∗ owns (c : Thread nD τ) (Memref.whole cc0_scratch0 : Memref sig .tc _ _ _) fullShare P
          ∗ owns (c : Thread nD τ) arg6 fullShare b) := by
  have hp : p ≤ 600 := by omega
  have h6 : g < 600 := by omega
  have hb : (bk g).val = g := bk_val h6
  rw [k0_part3_eq_skeleton]
  unfold k0_part3_skel
  dsimp only
  unfold XSt YSt XNow
  rw [if_pos hgn]
  iintro ⟨⟨⟨HXF, HXr⟩, HX1⟩, ⟨HYA, HYZ, HY0, HY1⟩, HO, HP, Hb⟩
  iapply (cut (wait_x (F := F) (X := X) (par g) (bk g) _ (off2_eq t hp hg h6) _)) $$ [HXF HO]
  · isplitl [HXF]; · iexact HXF
    iexact HO
  iintro %_ ⟨Hs, HXb, Hv, HO⟩
  ihave HX := (x_split (bk g) (X : Buf (Elt F) (xG c))).2 $$ [HXb HXr]
  · isplitl [HXb] <;> iassumption
  iapply (ite_seq (fun h => next_x hn (cond3_iff t hp hg h6 hn) h _ _ _ (off5_eq t hp hg h6) (off6_eq t hp hg h6) (off7_eq t hp hg h6))
    (fun h => last_x (cond3_iff t hp hg h6 hn) h)) $$ [HX1 HX]
  · isplitl [HX1] <;> iassumption
  iintro HXN
  iapply (ite_seq (fun h => old_y (Nat.le_of_lt h6) (cond4_iff t hp hg h6) h _ _ (off8_eq t hp hg h6)) (fun h => new_y (cond4_iff t hp hg h6) h)) $$ [HYA HY0 HO]
  · isplitl [HYA]; · iexact HYA
    isplitl [HY0] <;> iassumption
  iintro ⟨HYF, HY0, HO⟩
  iapply (cut (load_x (F := F) (X := X) (par g) (bk g) _ (off11_eq t hp hg h6))) $$ Hs
  iintro %v ⟨%hv, Hs⟩
  iapply (cut (load_whole _ (by decide))) $$ HP
  iintro %v1 ⟨%hv1, HP⟩
  iapply (cut (load_whole _ (by decide))) $$ Hb
  iintro %v2 ⟨%hv2, Hb⟩
  iapply W_pure
  isplitr
  · ipureintro; subst hv hv1 hv2; rfl
  unfold Mid XSt
  isplitr [HO HP Hb]
  · isplitr [HYF HYZ HY0 HY1]
    · isplitl [HXN]; · iexact HXN
      rw [show g + 1 + 1 = g + 2 from rfl, par_two]
      unfold XFree
      isplitl [Hs]; · iexists _; iexact Hs
      iexact Hv
    isplitl [HYF]; · iexact HYF
    isplitl [HYZ]; · iexact HYZ
    isplitl [HY0] <;> iassumption
  isplitl [HO]; · iexact HO
  isplitl [HP] <;> iassumption

theorem store_slot (β : Fin 2) {o3 : Fin 3 → ℕ} (h3) (e3 : o3 = ![β.val, 0, 0]) {v : Vec F S1x512x1024 .bf16} {hx hm} :
    iprop(∃ f, yL c ↦[ySet β]{fullShare} f)
      ⊢ W c (Prog.lift (.store yM (Rect.unit (s := S2x512x1024) o3 S1x512x1024.size h3) v Finset.univ hx hm)) fun _ =>
        (yL c ↦[ySet β]{fullShare} (YB v : Buf (Elt F) (yL c)) : sProp 𝕄) := by
  subst e3
  iintro ⟨%f, H⟩
  iapply (exec_cut_last _ _ _ (store_any (c := c) yM (Rect.unit (s := S2x512x1024) ![β.val, 0, 0] S1x512x1024.size (inb3y β)) (w := v) (hx := hx) (hm := hm) (f := f) (ySlice_set β).le)) $$ H
  iintro %_ H
  iapply (pt_congr (F := F) (ℓ := yL c) (store_y β f v)) $$ H

theorem load_slot (β : Fin 2) {o3 : Fin 3 → ℕ} (h3) (e3 : o3 = ![β.val, 0, 0]) {hl} :
    iprop(∃ f, yL c ↦[ySet β]{fullShare} f)
      ⊢ W c (Prog.lift (.load yM (Rect.unit (s := S2x512x1024) o3 S1x512x1024.size h3).toLoadRect hl)) fun _ =>
        (iprop(∃ f, yL c ↦[ySet β]{fullShare} f) : sProp 𝕄) := by
  subst e3
  iintro ⟨%f, H⟩
  iapply (exec_cut_last _ _ _ (load_any (c := c) yM (Rect.unit (s := S2x512x1024) ![β.val, 0, 0] S1x512x1024.size (inb3y β)) (hl := hl) (f := f) (ySlice_set β).le)) $$ H
  iintro %_ ⟨-, H⟩
  iexists f
  iexact H

/-- The rows a trip stores: the expert's two products and its activation on one block. -/
def blockPay (x : Vec F S1x512x512 .i32) (P : Vec F S1024x2048 .bf16) (b1 : Vec F S1x1x2048 .f32) (W2 : Vec F S1024x1024 .bf16) (b2 : Vec F S1x1x1024 .f32) :
    Vec F S1x512x1024 .bf16 :=
  let v83 := k0_pay14 x P b1
  k0_pay31 v83 (k0_pay18 (k0_pay15 x P b1) (k0_pay16 x P b1) k0_pay17) (k0_pay19 v83)
    (k0_pay23 (k0_pay20 v83) (k0_pay21 v83) (k0_pay22 v83) (Scalar.ofBits .f32 0x3F800000#32)) (k0_pay24 v83) (k0_pay27 (k0_pay25 v83) (k0_pay26 v83)) (k0_pay28 v83)
    (k0_pay29 v83) (k0_pay30 v83) W2 b2

theorem part4_run {v83 v86 v89 v90} {R : sProp 𝕄} :
    R ⊢ W c (k0_part4 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v83 v86 v89 v90) fun r =>
      iprop(⌜r = ⟨k0_pay18 v86 v89 v90, k0_pay19 v83, k0_pay20 v83, k0_pay21 v83, k0_pay22 v83, Scalar.ofBits .f32 0x3F800000#32⟩⌝ ∗ R) := by
  rw [k0_part4_eq_skeleton]
  iintro H
  iapply W_pure
  isplitr; · ipureintro; rfl
  iexact H
theorem part5_run {v83 v126 v131 v134 cst} {R : sProp 𝕄} :
    R ⊢ W c (k0_part5 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v83 v126 v131 v134 cst) fun r =>
      iprop(⌜r = ⟨k0_pay23 v126 v131 v134 cst, k0_pay24 v83, k0_pay25 v83, k0_pay26 v83⟩⌝ ∗ R) := by
  rw [k0_part5_eq_skeleton]
  iintro H
  iapply W_pure
  isplitr; · ipureintro; rfl
  iexact H
theorem part6_run {v83 v171 v179} {R : sProp 𝕄} :
    R ⊢ W c (k0_part6 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v83 v171 v179) fun r =>
      iprop(⌜r = ⟨k0_pay27 v171 v179, k0_pay28 v83, k0_pay29 v83, k0_pay30 v83⟩⌝ ∗ R) := by
  rw [k0_part6_eq_skeleton]
  iintro H
  iapply W_pure
  isplitr; · ipureintro; rfl
  iexact H

/-- What a trip reads and leaves: the two weights in scratch, the two biases. -/
def Wts (c : Dev nD) (arg6 : Memref sig .tc .vmem S1x1x2048 .f32) (arg8 : Memref sig .tc .vmem S1x1x1024 .f32)
    (P : S1024x2048.Idx → Elt F .bf16) (b1 : S1x1x2048.Idx → Elt F .f32) (W2 : S1024x1024.Idx → Elt F .bf16) (b2 : S1x1x1024.Idx → Elt F .f32) : sProp 𝕄 :=
  iprop(owns (c : Thread nD τ) (Memref.whole cc0_scratch0 : Memref sig .tc _ _ _) fullShare P ∗ owns (c : Thread nD τ) arg6 fullShare b1
    ∗ owns (c : Thread nD τ) (Memref.whole cc0_scratch1 : Memref sig .tc _ _ _) fullShare W2 ∗ owns (c : Thread nD τ) arg8 fullShare b2)

variable {n p K g : ℕ} {P : S1024x2048.Idx → Elt F .bf16} {b1 : S1x1x2048.Idx → Elt F .f32} {W2 : S1024x1024.Idx → Elt F .bf16} {b2 : S1x1x1024.Idx → Elt F .f32}

theorem part7_run (hn : n ≤ 600) (hw : k0_chk1 (BitVec.ofNat 32 n) (BitVec.ofNat 32 (512 * p)) (BitVec.ofNat 32 (512 * K)))
    (t : Fin (k0_t1_loop (BitVec.ofNat 32 (512 * K))).trips) (hg : p + t.val = g) (hgn : g < n) (v19 : BitVec 32)
    (hT : T (bk g) = blockPay (xRd X (bk g)) P b1 W2 b2) :
    iprop(XSt (F := F) c X n g ∗ YSt c V T g ∗ Ow (F := F) c ∗ Wts c arg6 arg8 P b1 W2 b2)
      ⊢ W c (k0_part7 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw 0#32 1#32 t) fun _ =>
        iprop(XSt (F := F) c X n (g + 1) ∗ (yL c ↦[ySet (par g)]{fullShare} (YB (T (bk g)) : Buf (Elt F) (yL c))) ∗ semVal ((c : Thread nD τ), SemLoc.dma (ysem (par g))) 0
          ∗ YZ c T g ∗ (yG c ↦[yRows 0 (g - 1)]{fullShare} (YT T : Buf (Elt F) (yG c))) ∗ (yG c ↦[yRows g 600]{fullShare} (V : Buf (Elt F) (yG c)))
          ∗ Ow (F := F) c ∗ Wts c arg6 arg8 P b1 W2 b2) := by
  have hp : p ≤ 600 := by omega
  have h6 : g < 600 := by omega
  rw [k0_part7_eq_skeleton]
  unfold k0_part7_skel Wts
  iintro ⟨HX, HY, HO, HP, Hb1, HW, Hb2⟩
  iapply (cut (part3_run (F := F) (X := X) (V := V) (T := T) i arg5 harg5 arg6 harg6 arg7 harg7 arg8 harg8 hn hw t hg hgn v19)) $$ [HX HY HO HP Hb1]
  · isplitl [HX]; · iexact HX
    isplitl [HY]; · iexact HY
    isplitl [HO]; · iexact HO
    isplitl [HP] <;> iassumption
  iintro %r ⟨%hr, HM, HO, HP, Hb1⟩
  obtain ⟨r1, r2, r3⟩ := r
  dsimp only at hr
  subst hr
  dsimp only
  iapply (cut (part4_run (F := F) (c := c) i arg5 harg5 arg6 harg6 arg7 harg7 arg8 harg8)) $$ HO
  iintro %r ⟨%hr, HO⟩
  subst hr
  dsimp only
  iapply (cut (part5_run (F := F) (c := c) i arg5 harg5 arg6 harg6 arg7 harg7 arg8 harg8)) $$ HO
  iintro %r ⟨%hr, HO⟩
  subst hr
  dsimp only
  iapply (cut (part6_run (F := F) (c := c) i arg5 harg5 arg6 harg6 arg7 harg7 arg8 harg8)) $$ HO
  iintro %r ⟨%hr, HO⟩
  subst hr
  dsimp only
  iapply (cut (load_whole _ (by decide))) $$ HW
  iintro %v1 ⟨%hv1, HW⟩
  iapply (cut (load_whole _ (by decide))) $$ Hb2
  iintro %v2 ⟨%hv2, Hb2⟩
  subst hv1 hv2
  unfold Mid YFree
  icases HM with ⟨HX, ⟨Hs, Hv⟩, HZ, HY0, HY1⟩
  iapply (cut (load_slot (F := F) (par g) _ (off12_eq t hp hg h6))) $$ Hs
  iintro %_ Hs
  iapply (cut (store_slot (F := F) (par g) _ (off12_eq t hp hg h6))) $$ Hs
  iintro %_ Hs
  iapply W_pure
  isplitl [HX]; · iexact HX
  isplitl [Hs]
  · rw [hT]; unfold blockPay; iexact Hs
  isplitl [Hv]; · iexact Hv
  isplitl [HZ]; · iexact HZ
  isplitl [HY0]; · iexact HY0
  isplitl [HY1]; · iexact HY1
  isplitl [HO]; · iexact HO
  isplitl [HP]; · iexact HP
  isplitl [Hb1]; · iexact Hb1
  isplitl [HW] <;> iassumption

theorem t1_step (hn : n ≤ 600) (hw : k0_chk1 (BitVec.ofNat 32 n) (BitVec.ofNat 32 (512 * p)) (BitVec.ofNat 32 (512 * K)))
    (t : Fin (k0_t1_loop (BitVec.ofNat 32 (512 * K))).trips) (hg : p + t.val = g) (hgn : g < n) (v19 : BitVec 32)
    (hT : T (bk g) = blockPay (xRd X (bk g)) P b1 W2 b2) :
    iprop(XSt (F := F) c X n g ∗ YSt c V T g ∗ Ow (F := F) c ∗ Wts c arg6 arg8 P b1 W2 b2)
      ⊢ W c (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw t ()) fun _ =>
        iprop(XSt (F := F) c X n (g + 1) ∗ YSt c V T (g + 1) ∗ Ow (F := F) c ∗ Wts c arg6 arg8 P b1 W2 b2) := by
  have hp : p ≤ 600 := by omega
  have h6 : g < 600 := by omega
  have hb : (bk g).val = g := bk_val h6
  unfold k0_t1_body
  iintro H
  iapply (cut (part7_run (F := F) (X := X) (V := V) (T := T) i arg5 harg5 arg6 harg6 arg7 harg7 arg8 harg8 hn hw t hg hgn v19 hT)) $$ H
  iintro %_ ⟨HX, Hs, Hv, HZ, HY0, HY1, HO, HW⟩
  dsimp only
  ihave HY := (y_split (c := c) (F := F) (a := g) (b := g + 1) (d := 600) (by omega) (by omega) _).1 $$ HY1
  icases HY with ⟨HYb, HY1⟩
  iapply (cut (start_y (F := F) (V := V) (T := T) (par g) (bk g) _ _ _ (off2_eq t hp hg h6) (off14_eq t hp hg h6) (by rw [hb]; exact off13_eq t hp hg h6))) $$ [Hs Hv HYb]
  · isplitl [Hs]; · iexact Hs
    isplitl [Hv]; · iexact Hv
    rw [hb]; iexact HYb
  iintro %_ HF
  iapply W_pure
  isplitl [HX]; · iexact HX
  isplitr [HO HW]
  · unfold YSt YA YZ
    rw [show g + 1 - 2 = g - 1 by omega, show g + 1 + 1 = g + 2 from rfl, par_two, if_pos (show 1 ≤ g + 1 by omega), Nat.add_sub_cancel]
    isplitl [HZ]
    · by_cases h1 : 1 ≤ g
      · rw [if_pos h1, if_pos (show 2 ≤ g + 1 by omega)]; exact .rfl
      · rw [if_neg h1, if_neg (show ¬ 2 ≤ g + 1 by omega)]; exact .rfl
    isplitl [HF]; · iexact HF
    isplitl [HY0] <;> iassumption
  isplitl [HO] <;> iassumption

/-- The kernel's loop over one expert's blocks. -/
theorem t1_run (hn : n ≤ 600) (hpK : p + K ≤ n) (hw : k0_chk1 (BitVec.ofNat 32 n) (BitVec.ofNat 32 (512 * p)) (BitVec.ofNat 32 (512 * K))) (ok) (v19 : BitVec 32)
    (hT : ∀ g, p ≤ g → g < p + K → T (bk g) = blockPay (xRd X (bk g)) P b1 W2 b2) :
    iprop(XSt (F := F) c X n p ∗ YSt c V T p ∗ Ow (F := F) c ∗ Wts c arg6 arg8 P b1 W2 b2)
      ⊢ W c (Scf.Loop.for (k0_t1_loop (BitVec.ofNat 32 (512 * K))) ok ()
          (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw)) fun _ =>
        iprop(XSt (F := F) c X n (p + K) ∗ YSt c V T (p + K) ∗ Ow (F := F) c ∗ Wts c arg6 arg8 P b1 W2 b2) := by
  have hK : K ≤ 600 := by omega
  have h := Scf.wp_for frame (wpE (defs₀ (F := F)) Variants.none (c : Thread nD τ) none) Set.univ
    (k0_t1_loop (BitVec.ofNat 32 (512 * K))).lb (k0_t1_loop (BitVec.ofNat 32 (512 * K))).ub (k0_t1_loop (BitVec.ofNat 32 (512 * K))).st ok ()
    (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw)
    (fun k _ => iprop(XSt (F := F) c X n (p + k) ∗ YSt c V T (p + k) ∗ Ow (F := F) c ∗ Wts c arg6 arg8 P b1 W2 b2))
    (fun k _ => by
      have hk : k.val < K := lt_of_lt_of_eq k.isLt (t1_trips hK)
      exact t1_step i arg5 harg5 arg6 harg6 arg7 harg7 arg8 harg8 hn hw k rfl (by omega) v19 (hT _ (by omega) (by omega)))
    (Q := fun _ => iprop(XSt (F := F) c X n (p + K) ∗ YSt c V T (p + K) ∗ Ow (F := F) c ∗ Wts c arg6 arg8 P b1 W2 b2))
  iintro H
  iapply h
  isplitl [H]; · iexact H
  iintro %_ H
  have e : Scf.trips (k0_t1_loop (BitVec.ofNat 32 (512 * K))).lb (k0_t1_loop (BitVec.ofNat 32 (512 * K))).ub (k0_t1_loop (BitVec.ofNat 32 (512 * K))).st = K := t1_trips hK
  rw [e]
  iexact H

end Cert.KernelIdeal.Hand
-- ==== Proof.Weights.lean ====
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The two matrices of an expert, as the kernel stages them in scratch: eight blocks of 256 columns, each multiplied by the
   constant matrix that gathers even columns before odd ones, and the second matrix as it is. -/

variable {c : Dev nD}

/-- Columns `256 k ‥` of the first matrix. -/
def chunk (b : S1x1024x2048.Idx → Elt F .f32) (k : Fin 8) : Vec F S1x1024x256 .f32 :=
  fun x => b (ix3 (x 0) (x 1) ⟨256 * k.val + (x 2).val, by have h1 := k.isLt; have h2 : (x 2).val < 256 := (x 2).isLt; omega⟩)

/-- Column `j` of block `k`. -/
def colOf (k : Fin 8) (j : Fin 256) : Fin 2048 := ⟨256 * k.val + j.val, by omega⟩

/-- The first matrix as staged. -/
def W1P (b : S1x1024x2048.Idx → Elt F .f32) : S1024x2048.Idx → Elt F .bf16 :=
  fun i => k0_pay6 (chunk b ⟨(i 1).val / 256, by have h : (i 1).val < 2048 := (i 1).isLt; omega⟩)
    (ix2 (i 0) ⟨(i 1).val % 256, Nat.mod_lt _ (by decide)⟩)

/-- The first `L` blocks are staged. -/
def ColsOk (b : S1x1024x2048.Idx → Elt F .f32) (L : ℕ) (P : S1024x2048.Idx → Elt F .bf16) : Prop :=
  ∀ k : Fin 8, k.val < L → ∀ (r : Fin 1024) (j : Fin 256), P (ix2 r (colOf k j)) = k0_pay6 (chunk b k) (ix2 r j)

theorem ColsOk.zero (b : S1x1024x2048.Idx → Elt F .f32) (P) : ColsOk b 0 P := fun _ h => absurd h (Nat.not_lt_zero _)

theorem ColsOk.all {b : S1x1024x2048.Idx → Elt F .f32} {P} (h : ColsOk b 8 P) : P = W1P b := by
  funext i
  obtain ⟨r, j, rfl⟩ : ∃ (r : Fin 1024) (j : Fin 2048), i = ix2 r j := ⟨i 0, i 1, eq_ix2 i⟩
  have hk := h ⟨j.val / 256, by omega⟩ (by show j.val / 256 < 8; omega) r ⟨j.val % 256, Nat.mod_lt _ (by decide)⟩
  have e : colOf ⟨j.val / 256, by omega⟩ ⟨j.val % 256, Nat.mod_lt _ (by decide)⟩ = j := Fin.ext (by show 256 * (j.val / 256) + j.val % 256 = j.val; omega)
  rw [e] at hk
  exact hk

/-- The staged blocks, in scratch. -/
def Cols (c : Dev nD) (b : S1x1024x2048.Idx → Elt F .f32) (L : ℕ) : sProp 𝕄 :=
  iprop(∃ P, ⌜ColsOk b L P⌝ ∗ owns (c : Thread nD τ) (Memref.whole cc0_scratch0 : Memref sig .tc _ _ _) fullShare P)

theorem load_chunk {b : S1x1024x2048.Idx → Elt F .f32} (M : Memref sig .tc .vmem S1x1024x2048 .f32) (k : Fin 8) {o : Fin 3 → ℕ} (ho : o = ![0, 0, 256 * k.val]) {inb hl} :
    (owns (c : Thread nD τ) M fullShare b : sProp 𝕄)
      ⊢ W c (Prog.lift (.load M (Rect.unit (s := S1x1024x2048) o S1x1024x256.size inb).toLoadRect hl)) fun v =>
        iprop(⌜v = chunk b k⌝ ∗ owns (c : Thread nD τ) M fullShare b) := by
  subst ho
  refine (load_owns M _).trans (W_conseq fun v => ?_)
  iintro ⟨%hv, H⟩
  isplitr
  · ipureintro
    rw [hv]
    funext x
    refine congrArg b ?_
    obtain ⟨z, r, j, rfl⟩ : ∃ (z : Fin 1) (r : Fin 1024) (j : Fin 256), x = ix3 z r j := ⟨x 0, x 1, x 2, eq_ix3 x⟩
    funext a
    apply Fin.ext
    fin_cases a
    · show 0 + 1 * z.val = z.val; omega
    · show 0 + 1 * r.val = r.val; omega
    · show 256 * k.val + 1 * j.val = 256 * k.val + j.val; omega
  iexact H

theorem keep_cols {b : S1x1024x2048.Idx → Elt F .f32} {L : ℕ} {r : Rect S1024x2048} {hl} :
    (Cols (F := F) c b L) ⊢ W c (Prog.lift (.load (Memref.whole cc0_scratch0 : Memref sig .tc _ _ _) r.toLoadRect hl)) fun _ => (Cols (F := F) c b L) := by
  unfold Cols
  iintro ⟨%P, %hP, H⟩
  iapply (exec_cut_last _ _ _ (load_owns (c := c) _ _)) $$ H
  iintro %v ⟨-, H⟩
  iexists P
  isplitr; · ipureintro; exact hP
  iexact H

/-- A store into a memref held. -/
theorem store_owns {cs : CoreSpace} {s : Shape} {e : EltTy} (M : Memref sig .tc cs s e) (r : Rect s) {w : r.shape.Idx → Elt F e} {hx hm} {P : s.Idx → Elt F e} :
    (owns (c : Thread nD τ) M fullShare P : sProp 𝕄)
      ⊢ W c (Prog.lift (.store M r w Finset.univ hx hm)) fun _ =>
        iprop(∃ P', ⌜(∀ x, P' (r.emb x) = w x) ∧ (∀ i, (∀ x, r.emb x ≠ i) → P' i = P i)⌝ ∗ owns (c : Thread nD τ) M fullShare P') := by
  unfold owns
  iintro ⟨%f, %hf, H⟩
  iapply (exec_cut_last _ _ _ (store_any (c := c) M r (w := w) (hx := hx) (hm := hm) (S := M.view.set) (f := f) ?_)) $$ H
  · refine (View.set_slice _ _).trans_subset ?_
    rw [← View.setOn]
    exact View.setOn_subset_set _ _
  iintro %_ H
  iexists M.view.read (Elt F) ((M.access r).write (Elt F) f w Finset.univ)
  isplitr
  · ipureintro
    subst hf
    refine ⟨fun x => ?_, fun i hi => ?_⟩
    · have h := View.read_write_of_mem (v := M.access r) (Val := Elt F) f w (Finset.mem_univ x)
      exact h
    · refine View.read_congr_at (v := M.view) i (View.write_of_not_mem _ _ _ fun hm => ?_)
      obtain ⟨x, -, hx⟩ := Finset.mem_map.mp hm
      exact hi x (M.view.emb.injective hx)
  iexists ((M.access r).write (Elt F) f w Finset.univ)
  isplitr; · ipureintro; rfl
  iexact H

theorem emb_cols (k : Fin 8) (inb) (r : Fin 1024) (j : Fin 256) :
    (Rect.unit (s := S1024x2048) ![0, 256 * k.val] S1024x256.size inb).emb (ix2 r j) = ix2 r (colOf k j) := by
  funext a
  apply Fin.ext
  fin_cases a
  · show 0 + 1 * r.val = r.val; omega
  · show 256 * k.val + 1 * j.val = 256 * k.val + j.val; omega

theorem store_chunk {b : S1x1024x2048.Idx → Elt F .f32} (k : Fin 8) {o : Fin 2 → ℕ} (ho : o = ![0, 256 * k.val]) {inb} {w : Vec F S1024x256 .bf16} {hx hm}
    {L : ℕ} (hL : k.val = L) (hw : w = k0_pay6 (chunk b k)) :
    (Cols (F := F) c b L)
      ⊢ W c (Prog.lift (.store (Memref.whole cc0_scratch0 : Memref sig .tc _ _ _) (Rect.unit (s := S1024x2048) o S1024x256.size inb) w Finset.univ hx hm)) fun _ =>
        (Cols (F := F) c b (L + 1)) := by
  subst ho hL
  unfold Cols
  iintro ⟨%P, %hP, H⟩
  iapply (exec_cut_last _ _ _ (store_owns (c := c) (Memref.whole cc0_scratch0 : Memref sig .tc _ _ _) _)) $$ H
  iintro %_ ⟨%P', %hP', H⟩
  iexists P'
  isplitr
  · ipureintro
    intro k' hk' r j
    rcases Nat.lt_succ_iff_lt_or_eq.mp hk' with h | h
    · rw [← hP k' h r j]
      refine hP'.2 _ fun x hx => ?_
      obtain ⟨r', j', rfl⟩ : ∃ (r' : Fin 1024) (j' : Fin 256), x = ix2 r' j' := ⟨x 0, x 1, eq_ix2 x⟩
      rw [emb_cols] at hx
      have h1 := congrArg (fun i : S1024x2048.Idx => (i 1).val) hx
      have h2 : 256 * k.val + j'.val = 256 * k'.val + j.val := h1
      have := j'.isLt; have := j.isLt; omega
    · obtain rfl : k' = k := Fin.ext h
      have h1 := hP'.1 (ix2 r j)
      rw [emb_cols] at h1
      rw [h1, hw]
  iexact H

variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)

theorem part1_run {b : S1x1024x2048.Idx → Elt F .f32} :
    iprop(owns (c : Thread nD τ) arg5 fullShare b ∗ Cols (F := F) c b 0)
      ⊢ W c (k0_part1 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) fun r => iprop(⌜r = ⟨k0_pay5, k0_pay8 (chunk b 2)⟩⌝ ∗ owns (c : Thread nD τ) arg5 fullShare b ∗ Cols (F := F) c b 2) := by
  rw [k0_part1_eq_skeleton]
  unfold k0_part1_skel
  iintro ⟨Hb, HC⟩
  iapply (cut (load_chunk arg5 0 rfl)) $$ Hb
  iintro %v0 ⟨%h0, Hb⟩
  iapply (cut keep_cols) $$ HC
  iintro %_ HC
  iapply (cut (store_chunk (L := 0) 0 rfl rfl (by rw [h0]))) $$ HC
  iintro %_ HC
  iapply (cut (load_chunk arg5 1 rfl)) $$ Hb
  iintro %v1 ⟨%h1, Hb⟩
  iapply (cut keep_cols) $$ HC
  iintro %_ HC
  iapply (cut (store_chunk (L := 1) 1 rfl rfl (by rw [h1]; rfl))) $$ HC
  iintro %_ HC
  iapply (cut (load_chunk arg5 2 rfl)) $$ Hb
  iintro %v2 ⟨%h2, Hb⟩
  iapply W_pure
  isplitr; · ipureintro; rw [h2]
  isplitl [Hb]; · iexact Hb
  iexact HC

theorem part2_run {b : S1x1024x2048.Idx → Elt F .f32} :
    iprop(owns (c : Thread nD τ) arg5 fullShare b ∗ Cols (F := F) c b 2)
      ⊢ W c (k0_part2 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 k0_pay5 (k0_pay8 (chunk b 2))) fun r => iprop(⌜r = k0_pay13 (chunk b 6)⌝ ∗ owns (c : Thread nD τ) arg5 fullShare b ∗ Cols (F := F) c b 6) := by
  rw [k0_part2_eq_skeleton]
  unfold k0_part2_skel
  iintro ⟨Hb, HC⟩
  iapply (cut keep_cols) $$ HC
  iintro %_ HC
  iapply (cut (store_chunk (L := 2) 2 rfl rfl rfl)) $$ HC
  iintro %_ HC
  iapply (cut (load_chunk arg5 3 rfl)) $$ Hb
  iintro %v0 ⟨%h0, Hb⟩
  iapply (cut keep_cols) $$ HC
  iintro %_ HC
  iapply (cut (store_chunk (L := 3) 3 rfl rfl (by rw [h0]; rfl))) $$ HC
  iintro %_ HC
  iapply (cut (load_chunk arg5 4 rfl)) $$ Hb
  iintro %v1 ⟨%h1, Hb⟩
  iapply (cut keep_cols) $$ HC
  iintro %_ HC
  iapply (cut (store_chunk (L := 4) 4 rfl rfl (by rw [h1]; rfl))) $$ HC
  iintro %_ HC
  iapply (cut (load_chunk arg5 5 rfl)) $$ Hb
  iintro %v2 ⟨%h2, Hb⟩
  iapply (cut keep_cols) $$ HC
  iintro %_ HC
  iapply (cut (store_chunk (L := 5) 5 rfl rfl (by rw [h2]; rfl))) $$ HC
  iintro %_ HC
  iapply (cut (load_chunk arg5 6 rfl)) $$ Hb
  iintro %v3 ⟨%h3, Hb⟩
  iapply W_pure
  isplitr; · ipureintro; rw [h3]
  isplitl [Hb]; · iexact Hb
  iexact HC

/-- A store over all of a memref held. -/
theorem store_all {cs : CoreSpace} {s : Shape} {e : EltTy} (M : Memref sig .tc cs s e) {off : Fin s.rank → ℕ} (h : off = fun _ => 0) {inb} {w : s.Idx → Elt F e} {hx hm} {P : s.Idx → Elt F e} :
    (owns (c : Thread nD τ) M fullShare P : sProp 𝕄)
      ⊢ W c (Prog.lift (.store M (Rect.unit (s := s) off s.size inb) w Finset.univ hx hm)) fun _ => owns (c : Thread nD τ) M fullShare w := by
  iintro H
  iapply (exec_cut_last _ _ _ (store_owns (c := c) M _)) $$ H
  iintro %_ ⟨%P', %hP', H⟩
  have e : P' = w := funext fun x => by
    have := hP'.1 x
    rwa [unit_emb h inb x] at this
  subst e
  iexact H

end Cert.KernelIdeal.Hand
-- ==== Proof.Tail.lean ====
module

public import proofs.«01_k».proof.Proof.Step
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The last grid point: the two blocks still in flight are waited for, and the rows no expert owns are filled from one
   zero block, all its copies in flight at once. -/

variable {c : Dev nD} {X : S307200x512.Idx → BitVec 32} {V : S307200x1024.Idx → Elt F .bf16} {T : Fin 600 → Vec F S1x512x1024 .bf16}
variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
variable {n m : ℕ}

theorem par_cases (g : ℕ) : (par g = 0 ∧ par (g + 1) = 1) ∨ (par g = 1 ∧ par (g + 1) = 0) := by
  rcases Nat.mod_two_eq_zero_or_one g with h | h
  · exact .inl ⟨Fin.ext h, Fin.ext (by show (g + 1) % 2 = 1; omega)⟩
  · exact .inr ⟨Fin.ext h, Fin.ext (by show (g + 1) % 2 = 0; omega)⟩

theorem both (Φ : Fin 2 → sProp 𝕄) (g : ℕ) : iprop(Φ (par g) ∗ Φ (par (g + 1))) ⊢ iprop(Φ 0 ∗ Φ 1) := by
  rcases par_cases g with ⟨h0, h1⟩ | ⟨h0, h1⟩
  · rw [h0, h1]
  · rw [h0, h1]
    iintro ⟨H1, H2⟩
    isplitl [H2] <;> iassumption

/-! ## Draining -/

theorem drain_y (hn : n ≤ 600) {P : Prop} (hP : P ↔ 1 ≤ n) (h : P) {o1 : Fin 1 → ℕ} {o2 : Fin 2 → ℕ} (h1 h2)
    (e1 : o1 = ![(par (n + 1)).val]) {sp : Space} {s' : Shape} {e' : EltTy} {src : Memref sig .tc sp s' e'} {a1 a2} :
    iprop(YZ c T n ∗ (yG c ↦[yRows 0 (n - 1)]{fullShare} (YT T : Buf (Elt F) (yG c))) ∗ Ow (F := F) c)
      ⊢ W c (Prog.lift (.waitDma2 (semAt cc0_scratch5 o1 h1) src (yBlkAt o2 h2) a1 a2)) fun _ =>
        iprop(YFree (F := F) c (par (n + 1)) ∗ (yG c ↦[yRows 0 n]{fullShare} (YT T : Buf (Elt F) (yG c))) ∗ Ow (F := F) c) := by
  have h1n : 1 ≤ n := hP.mp h
  have hb : (bk (n - 1)).val = n - 1 := bk_val (by omega)
  unfold YZ
  rw [if_pos h1n]
  iintro ⟨HF, HY, HO⟩
  have := wait_y (F := F) (c := c) (T := T) (par (n + 1)) (bk (n - 1)) h1 e1 h2 (src := src) (a1 := a1) (a2 := a2)
  iapply (exec_cut_last _ _ _ this) $$ [HF HO]
  · isplitl [HF]; · iexact HF
    iexact HO
  iintro %r ⟨H1, H2, H3⟩
  isplitl [H2]; · iexact H2
  isplitr [H3]
  · rw [hb, show n - 1 + 1 = n by omega]
    iapply (y_split (a := 0) (b := n - 1) (d := n) (by omega) (by omega) _).2
    isplitl [HY]; · iexact HY
    iexact H1
  iexact H3

theorem drained_y {P : Prop} (hP : P ↔ 1 ≤ n) (h : ¬P) :
    iprop(YZ c T n ∗ (yG c ↦[yRows 0 (n - 1)]{fullShare} (YT T : Buf (Elt F) (yG c))) ∗ Ow (F := F) c)
      ⊢ iprop(YFree (F := F) c (par (n + 1)) ∗ (yG c ↦[yRows 0 n]{fullShare} (YT T : Buf (Elt F) (yG c))) ∗ Ow (F := F) c) := by
  have h1n : ¬ 1 ≤ n := fun h2 => h (hP.mpr h2)
  unfold YZ
  rw [if_neg h1n, show n - 1 = n by omega]

/-! ## Filling -/

section Fill

variable (c T n)

/-- A share of the zero block. -/
def zTok (t : ℕ) : sProp 𝕄 := (yL c ↦[ySet 0]{Transfers.shareTokN fullShare t} (YB (k0_pay4 (F := F)) : Buf (Elt F) (yL c)))
/-- What the `t`-th copy delivers. -/
def fillD (t : ℕ) : sProp 𝕄 := iprop((yG c ↦[yRows (n + t) (n + t + 1)]{fullShare} (YT T : Buf (Elt F) (yG c))) ∗ zTok (F := F) c t)
/-- The copies into the `m` rows' blocks from `n`, `j` of them started and `u` credits taken. -/
def Fill (m j u : ℕ) : sProp 𝕄 :=
  Transfers.Batch (countersEmb (U := Pipeline.UD sig nD τ)) (c : Thread nD τ) (SemLoc.dma (xsem 0)) () NY (fun t : Fin m => fillD c T n t.val) j u

instance fillD_storable (t : ℕ) : Storable (upEmb : UEmb _ 𝕄) (fillD (F := F) c T n t) := by unfold fillD zTok; infer_instance

end Fill

theorem fill_start : (semVal ((c : Thread nD τ), SemLoc.dma (xsem 0)) 0 : sProp 𝕄) ⊢ |={Set.univ}=> Fill (F := F) c T n m 0 0 :=
  Transfers.batch_alloc' _ _ _ _ _

theorem rows_join (f : Buf (Elt F) (yG c)) (m : ℕ) :
    bigSep (Finset.range m) (fun t => (yG c ↦[yRows (n + t) (n + t + 1)]{fullShare} f : sProp 𝕄)) ⊢ (yG c ↦[yRows n (n + m)]{fullShare} f) := by
  induction m with
  | zero =>
    rw [Finset.range_zero, BI.bigSep_empty, Nat.add_zero, yRows_nil, pointsTo_empty]
    exact .rfl
  | succ m ih =>
    rw [Finset.range_add_one, BI.bigSep_insert Finset.notMem_range_self]
    refine (sep_mono_right ih).trans ?_
    iintro ⟨H1, H2⟩
    iapply (y_split (a := n) (b := n + m) (d := n + (m + 1)) (by omega) (by omega) _).2
    isplitl [H2]; · iexact H2
    iexact H1

theorem fill_end (hm : n + m = 600) :
    iprop(Fill (F := F) c T n m m (NY * m) ∗ (yL c ↦[ySet 0]{Transfers.shareDrop fullShare m} (YB (k0_pay4 (F := F)) : Buf (Elt F) (yL c))))
      ⊢ |={Set.univ}=> iprop((yG c ↦[yRows n 600]{fullShare} (YT T : Buf (Elt F) (yG c))) ∗ (yL c ↦[ySet 0]{fullShare} (YB (k0_pay4 (F := F)) : Buf (Elt F) (yL c)))
        ∗ semVal ((c : Thread nD τ), SemLoc.dma (xsem 0)) 0) := by
  unfold Fill
  iintro ⟨HB, HL⟩
  imod (Transfers.batch_collect' (countersEmb (U := Pipeline.UD sig nD τ)) (c : Thread nD τ) NY_pos) $$ HB with ⟨HD, Hv⟩
  imodintro
  ihave HD := (show bigSep Finset.univ (fun t : Fin m => fillD c T n t.val) ⊢ iprop(bigSep (Finset.range m) (fun t => (yG c ↦[yRows (n + t) (n + t + 1)]{fullShare} (YT T : Buf (Elt F) (yG c)) : sProp 𝕄))
      ∗ bigSep (Finset.range m) (zTok (F := F) c)) from Entails.of_eq ((Ring.bigSep_fin_eq_range m _ (fillD c T n) (fun t h => rfl)).trans (BI.bigSep_sep _ _ _))) $$ HD
  icases HD with ⟨H1, H2⟩
  isplitl [H1]
  · rw [← hm]
    iapply (rows_join _ m) $$ H1
  isplitr [Hv]
  · iapply (Transfers.pointsTo_toks_range fullShare m).2
    isplitl [HL]; · iexact HL
    iexact H2
  iexact Hv

theorem fill_one {t : ℕ} (ht : t < m) {o3 : Fin 3 → ℕ} {o2 : Fin 2 → ℕ} (h1 h3 h2) (e3 : o3 = ![0, 0, 0]) (e2 : o2 = ![512 * (bk (n + t)).val, 0]) {a1 a2 a3}
    (hT : ∀ g, n ≤ g → g < 600 → T (bk g) = k0_pay4) (hm : n + m = 600) :
    iprop(Fill (F := F) c T n m t 0 ∗ zTok (F := F) c t ∗ (yG c ↦[yRows (n + t) (n + t + 1)]{fullShare} (V : Buf (Elt F) (yG c))))
      ⊢ W c (Prog.lift (.enqueueDma (ySlotAt o3 h3) (.here (yBlkAt o2 h2)) (.dma (semAt cc0_scratch4 ![0] h1)) a1 a2 a3)) fun _ =>
        Fill (F := F) c T n m (t + 1) 0 := by
  have hb : (bk (n + t)).val = n + t := bk_val (by omega)
  subst e3 e2
  unfold Fill zTok
  iintro ⟨HB, Htok, HYb⟩
  iapply (Transfers.wp_dmaBatch (countersEmb (U := Pipeline.UD sig nD τ)) Variants.none (c : Thread nD τ) none (src := ySlot 0) (dst := yBlk (bk (n + t))) (via := .same)
    () NY rfl (Sd := yRows (n + t) (n + t + 1)) (q := Transfers.shareTokN fullShare t) (fs := (YB (k0_pay4 (F := F)) : Buf (Elt F) (yL c))) (fd := (V : Buf (Elt F) (yG c))) (by rw [yBlk_set, hb]) ht (Nat.zero_le _) ?_) $$ [HB Htok HYb]
  rotate_left
  · isplitl [Htok]
    · rw [ySlot_set]; iexact Htok
    isplitl [HYb]
    · iexact HYb
    iexact HB
  · iintro HB
    iapply W_pure
    iexact HB
  · rw [ySlot_set]
    unfold fillD zTok
    iintro ⟨H1, H2⟩
    isplitl [H1]
    · have hl := land_y T 0 (bk (n + t)) V (YB (k0_pay4 (F := F))) (fun i _ => by rw [hT _ (by omega) (by omega)])
      rw [hb] at hl
      iapply (pt_congr (F := F) (ℓ := yG c) hl) $$ H1
    · iexact H2

theorem fill_wait {t : ℕ} (ht : t < m) {o2 : Fin 2 → ℕ} (h1 h2) {sp : Space} {s' : Shape} {e' : EltTy} {src : Memref sig .tc sp s' e'} {a1 a2} :
    iprop(Fill (F := F) c T n m m (NY * t) ∗ Ow (F := F) c)
      ⊢ W c (Prog.lift (.waitDma2 (semAt cc0_scratch4 ![0] h1) src (yBlkAt o2 h2) a1 a2)) fun _ => iprop(Fill (F := F) c T n m m (NY * (t + 1)) ∗ Ow (F := F) c) := by
  unfold Ow Fill
  iintro ⟨HB, %w, HO⟩
  iapply (Transfers.wp_waitBatchMul (countersEmb (U := Pipeline.UD sig nD τ)) Variants.none (c : Thread nD τ) none (dstw := yBlkAt o2 h2) (srcw := src) (hsrc := a1) (hdst := a2)
    () (N := NY) 1 (Nat.one_mul _).symm (D := fun t : Fin m => fillD c T n t.val) (j := m) (u := NY * t) (W := w) (by rw [Nat.one_mul, ← Nat.mul_succ]; exact Nat.mul_le_mul_left _ (by omega))) $$ [HB HO]
  · isplitl [HB]; · iexact HB
    iexact HO
  rw [Nat.one_mul, ← Nat.mul_succ]
  iintro ⟨HB, HO⟩
  iapply W_pure
  isplitl [HB]; · iexact HB
  iexists _; iexact HO

theorem t3_step (hn : n ≤ 600) (hw h7) (t : Fin (k0_t3_loop (BitVec.ofNat 32 n)).trips) (hT : ∀ g, n ≤ g → g < 600 → T (bk g) = k0_pay4) (hm : n + m = 600) :
    iprop(Fill (F := F) c T n m t.val 0 ∗ (yL c ↦[ySet 0]{Transfers.shareDrop fullShare t.val} (YB (k0_pay4 (F := F)) : Buf (Elt F) (yL c)))
        ∗ (yG c ↦[yRows (n + t.val) 600]{fullShare} (V : Buf (Elt F) (yG c))))
      ⊢ W c (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7 t ()) fun _ =>
        iprop(Fill (F := F) c T n m (t.val + 1) 0 ∗ (yL c ↦[ySet 0]{Transfers.shareDrop fullShare (t.val + 1)} (YB (k0_pay4 (F := F)) : Buf (Elt F) (yL c)))
          ∗ (yG c ↦[yRows (n + (t.val + 1)) 600]{fullShare} (V : Buf (Elt F) (yG c)))) := by
  have ht : t.val < 600 - n := lt_of_lt_of_eq t.isLt (t3_trips hn)
  have hb : (bk (n + t.val)).val = n + t.val := bk_val (by omega)
  have e2 := off34_eq hn t
  rw [← hb] at e2
  unfold k0_t3_body
  iintro ⟨HB, HL, HY⟩
  ihave HY := (y_split (c := c) (F := F) (a := n + t.val) (b := n + (t.val + 1)) (d := 600) (by omega) (by omega) _).1 $$ HY
  icases HY with ⟨HYb, HY⟩
  ihave HL := (pointsTo_share (PosShare.mem_left_op_right (Transfers.shareDrop fullShare t.val))).1 $$ HL
  icases HL with ⟨HL, Htok⟩
  dsimp only
  ihave Htok := (show (yL c ↦[ySet 0]{(Transfers.shareDrop fullShare t.val).right} (YB (k0_pay4 (F := F)) : Buf (Elt F) (yL c)) : sProp 𝕄) ⊢ zTok (F := F) c t.val from .rfl) $$ Htok
  iapply (cut (fill_one (F := F) (V := V) (T := T) (m := m) (t := t.val) (by omega) _ _ _ rfl e2 hT hm)) $$ [HB Htok HYb]
  · isplitl [HB]; · iexact HB
    isplitl [Htok]; · iexact Htok
    iexact HYb
  iintro %_ HB
  iapply W_pure
  isplitl [HB]; · iexact HB
  isplitl [HL]; · iexact HL
  iexact HY

theorem t5_step (hn : n ≤ 600) (hw h7) (t : Fin (k0_t5_loop (BitVec.ofNat 32 n)).trips) (hm : n + m = 600) :
    iprop(Fill (F := F) c T n m m (NY * t.val) ∗ Ow (F := F) c)
      ⊢ W c (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7 t ()) fun _ => iprop(Fill (F := F) c T n m m (NY * (t.val + 1)) ∗ Ow (F := F) c) := by
  have ht : t.val < 600 - n := lt_of_lt_of_eq t.isLt (t5_trips hn)
  unfold k0_t5_body
  dsimp only
  iintro H
  iapply (cut (fill_wait (F := F) (T := T) (m := m) (t := t.val) (by omega) _ _)) $$ H
  iintro %_ H
  iapply W_pure
  iexact H

theorem t3_run (hn : n ≤ 600) (hw h7 ok) (hT : ∀ g, n ≤ g → g < 600 → T (bk g) = k0_pay4) (hm : n + m = 600) :
    iprop(Fill (F := F) c T n m 0 0 ∗ (yL c ↦[ySet 0]{fullShare} (YB (k0_pay4 (F := F)) : Buf (Elt F) (yL c)))
        ∗ (yG c ↦[yRows n 600]{fullShare} (V : Buf (Elt F) (yG c))))
      ⊢ W c (Scf.Loop.for (k0_t3_loop (BitVec.ofNat 32 n)) ok () (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)) fun _ =>
        iprop(Fill (F := F) c T n m m 0 ∗ (yL c ↦[ySet 0]{Transfers.shareDrop fullShare m} (YB (k0_pay4 (F := F)) : Buf (Elt F) (yL c)))) := by
  have h := Scf.wp_for frame (wpE (defs₀ (F := F)) Variants.none (c : Thread nD τ) none) Set.univ
    (k0_t3_loop (BitVec.ofNat 32 n)).lb (k0_t3_loop (BitVec.ofNat 32 n)).ub (k0_t3_loop (BitVec.ofNat 32 n)).st ok ()
    (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)
    (fun k _ => iprop(Fill (F := F) c T n m k 0 ∗ (yL c ↦[ySet 0]{Transfers.shareDrop fullShare k} (YB (k0_pay4 (F := F)) : Buf (Elt F) (yL c)))
        ∗ (yG c ↦[yRows (n + k) 600]{fullShare} (V : Buf (Elt F) (yG c)))))
    (fun k _ => t3_step i arg5 harg5 arg6 harg6 arg7 harg7 arg8 harg8 hn hw h7 k hT hm)
    (Q := fun _ => iprop(Fill (F := F) c T n m m 0 ∗ (yL c ↦[ySet 0]{Transfers.shareDrop fullShare m} (YB (k0_pay4 (F := F)) : Buf (Elt F) (yL c)))))
  iintro H
  iapply h
  isplitl [H]; · iexact H
  iintro %_ H
  have e : Scf.trips (k0_t3_loop (BitVec.ofNat 32 n)).lb (k0_t3_loop (BitVec.ofNat 32 n)).ub (k0_t3_loop (BitVec.ofNat 32 n)).st = m := (t3_trips hn).trans (by omega)
  rw [e]
  icases H with ⟨H1, H2, -⟩
  isplitl [H1] <;> iassumption

theorem t5_run (hn : n ≤ 600) (hw h7 ok) (hm : n + m = 600) :
    iprop(Fill (F := F) c T n m m 0 ∗ Ow (F := F) c)
      ⊢ W c (Scf.Loop.for (k0_t5_loop (BitVec.ofNat 32 n)) ok () (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)) fun _ =>
        iprop(Fill (F := F) c T n m m (NY * m) ∗ Ow (F := F) c) := by
  have h := Scf.wp_for frame (wpE (defs₀ (F := F)) Variants.none (c : Thread nD τ) none) Set.univ
    (k0_t5_loop (BitVec.ofNat 32 n)).lb (k0_t5_loop (BitVec.ofNat 32 n)).ub (k0_t5_loop (BitVec.ofNat 32 n)).st ok ()
    (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)
    (fun k _ => iprop(Fill (F := F) c T n m m (NY * k) ∗ Ow (F := F) c))
    (fun k _ => t5_step i arg5 harg5 arg6 harg6 arg7 harg7 arg8 harg8 hn hw h7 k hm)
    (Q := fun _ => iprop(Fill (F := F) c T n m m (NY * m) ∗ Ow (F := F) c))
  iintro H
  iapply h
  isplitl [H]; · rw [Nat.mul_zero]; iexact H
  iintro %_ H
  have e : Scf.trips (k0_t5_loop (BitVec.ofNat 32 n)).lb (k0_t5_loop (BitVec.ofNat 32 n)).ub (k0_t5_loop (BitVec.ofNat 32 n)).st = m := (t5_trips hn).trans (by omega)
  rw [e]
  iexact H

/-- A loop of no trips. -/
theorem no_trips {L : Scf.Loop 32} (ok : L.OK) (h : L.trips = 0) (body : Fin L.trips → Unit → Prog (TpuEff nD τ sig (Elt F) Λ₀ .tc) Unit) {R : sProp 𝕄} :
    R ⊢ W c (Scf.Loop.for L ok () body) fun _ => R := by
  have h' := Scf.wp_for frame (wpE (defs₀ (F := F)) Variants.none (c : Thread nD τ) none) Set.univ L.lb L.ub L.st ok () body
    (fun _ _ => R) (fun k _ => absurd (k.isLt.trans_eq h) (Nat.not_lt_zero _)) (Q := fun _ => R)
  iintro H
  iapply h'
  isplitl [H]; · iexact H
  iintro %_ H
  iexact H

end Cert.KernelIdeal.Hand
-- ==== Proof.Segs.lean ====
/- What the precondition says of the three integer arguments: the experts' row segments in blocks of 512 rows, as one
   sequence of block bounds. -/
module

public import proofs.«01_k».proof.Pre_segments
public import Idealize.ShloMosaic.Lib.StableHlo.Predicate
public import Idealize.ShloMosaic.Lib.Pipeline.Value
public import Idealize.ShloMosaic.Lib.ValueIdxCore

@[expose] public section

set_option maxRecDepth 16384

noncomputable section

namespace Cert.Segs

open Idealize.ShloMosaic Idealize.ShloMosaic.ValueIdx Cert.Pre_segments Cert.Pre_segments.Facts

theorem and_split {a b : BitVec 1} (h : IntOp.andi a b = 1#1) : a = 1#1 ∧ b = 1#1 := by
  revert a b; decide
theorem or_split {a b : BitVec 1} (h : IntOp.ori a b = 1#1) : a = 1#1 ∨ b = 1#1 := by
  revert a b; decide

section
variable {F : FTy → Type} [FloatOps F] [Cert.Pre_segments.Facts]

theorem fn_split {a0 a1 : IVec S32 32} {a2 : IVec S1 32} {a3 : IVec S307200x512 32} {a4 : FVec F S32x1024x2048 .f32}
    {a5 : FVec F S32x2048 .f32} {a6 : FVec F S32x1024x1024 .f32} {a7 : FVec F S32x1024 .f32}
    (h : fn (F := F) a0 a1 a2 a3 a4 a5 a6 a7 = fun _ => 1#1) (x : S32.Idx) :
    IntOp.cmpi .sge (a0 x) 0#32 = 1#1 ∧ IntOp.cmpi .sle (a0 x) 307200#32 = 1#1 ∧ IntOp.cmpi .sge (a1 x) 0#32 = 1#1
    ∧ IntOp.cmpi .sle (a1 x) 307200#32 = 1#1
    ∧ IntOp.cmpi .sge ((broadcastInDim S32 ![0] bcast_S1_S32_0 a2) x) 0#32 = 1#1 ∧ IntOp.cmpi .sle ((broadcastInDim S32 ![0] bcast_S1_S32_0 a2) x) 600#32 = 1#1
    ∧ IntOp.cmpi .eq (IntOp.andi (a1 x) 511#32) 0#32 = 1#1
    ∧ (IntOp.cmpi .ne (BitVec.ofNat 32 (x 0).val) 0#32 = 1#1 ∨ IntOp.cmpi .eq (a0 x) 0#32 = 1#1)
    ∧ IntOp.cmpi .eq (IntOp.addi (a0 x) (a1 x)) (concatenate S32 0 [⟨S31, extractStridedSlice S31 ![1] a0 slices_S32_S31_1⟩,
        ⟨S1, fun i => IntOp.muli (a2 i) 512#32⟩] concatenates_S31_S1_S32_d0 x) = 1#1 := by
  have e := congrFun h x
  simp only [fn, fn_part1] at e
  obtain ⟨e, c35⟩ := and_split e
  obtain ⟨e, c32⟩ := and_split e
  obtain ⟨e, c26⟩ := and_split e
  obtain ⟨e, c21⟩ := and_split e
  obtain ⟨e, c18⟩ := and_split e
  obtain ⟨e, c15⟩ := and_split e
  obtain ⟨e, c12⟩ := and_split e
  obtain ⟨c7, c9⟩ := and_split e
  exact ⟨c7, c9, c12, c15, c18, c21, c26, or_split c32, c35⟩

theorem toNat_le {w : BitVec 32} {N : ℕ} (hN : N < 2 ^ 31) (h0 : IntOp.cmpi .sge w 0#32 = 1#1) (h1 : IntOp.cmpi .sle w (BitVec.ofNat 32 N) = 1#1) :
    w.toNat ≤ N := by
  have l0 : (0#32).sle w = true := (StableHlo.Predicate.ofBool_eq_one_iff _).1 h0
  have l1 : w.sle (BitVec.ofNat 32 N) = true := (StableHlo.Predicate.ofBool_eq_one_iff _).1 h1
  simp only [BitVec.sle, decide_eq_true_eq, StableHlo.Predicate.toInt_ofNat_small N hN] at l0 l1
  have z : (0#32 : BitVec 32).toInt = 0 := by decide
  rw [z] at l0
  rw [BitVec.toInt_eq_toNat_cond] at l0 l1
  have := w.isLt
  split at l0 <;> omega

/-- The block bounds: expert `e`'s segment is blocks `bnd e` to `bnd (e + 1)`, and `bnd 32` is the number of active blocks. -/
def bnd (a0 : S32.Idx → BitVec 32) (a2 : S1.Idx → BitVec 32) (e : ℕ) : ℕ :=
  if h : e < 32 then (a0 (ix1 ⟨e, h⟩)).toNat / 512 else (a2 (ix1 0)).toNat

/-- The segments in blocks: expert `e`'s words, over one monotone sequence of bounds. -/
structure Segs (a0 a1 : S32.Idx → BitVec 32) (a2 : S1.Idx → BitVec 32) (B : ℕ → ℕ) : Prop where
  zero : B 0 = 0
  step : ∀ e, e < 32 → B e ≤ B (e + 1)
  top : B 32 ≤ 600
  start : ∀ x : S32.Idx, a0 x = BitVec.ofNat 32 (512 * B (x 0).val)
  len : ∀ x : S32.Idx, a1 x = BitVec.ofNat 32 (512 * (B ((x 0).val + 1) - B (x 0).val))
  act : ∀ x : S1.Idx, a2 x = BitVec.ofNat 32 (B 32)

theorem segs_of {a0 a1 : IVec S32 32} {a2 : IVec S1 32} {a3 : IVec S307200x512 32} {a4 : FVec F S32x1024x2048 .f32}
    {a5 : FVec F S32x2048 .f32} {a6 : FVec F S32x1024x1024 .f32} {a7 : FVec F S32x1024 .f32}
    (h : fn (F := F) a0 a1 a2 a3 a4 a5 a6 a7 = fun _ => 1#1) : Segs a0 a1 a2 (bnd a0 a2) := by
  have sp := fn_split h
  have l0 (x) : (a0 x).toNat ≤ 307200 := toNat_le (by norm_num) (sp x).1 (sp x).2.1
  have l1 (x) : (a1 x).toNat ≤ 307200 := toNat_le (by norm_num) (sp x).2.2.1 (sp x).2.2.2.1
  have l2 : (a2 (ix1 0)).toNat ≤ 600 := by
    have e : broadcastInDim S32 ![0] bcast_S1_S32_0 a2 (ix1 0) = a2 (ix1 0) := by
      refine congrArg a2 ?_; funext d; match d with | ⟨0, _⟩ => rfl
    have c := (sp (ix1 0)).2.2.2.2
    rw [e] at c; exact toNat_le (by norm_num) c.1 c.2.1
  have d1 (x) : (a1 x).toNat % 512 = 0 := by
    have c := StableHlo.Predicate.cmpi_eq_iff.1 (sp x).2.2.2.2.2.2.1
    have c' := congrArg BitVec.toNat c
    have e : (IntOp.andi (a1 x) 511#32).toNat = (a1 x).toNat &&& (2 ^ 9 - 1) := BitVec.toNat_and ..
    rw [e, Nat.and_two_pow_sub_one_eq_mod] at c'; simpa using c'
  have z : a0 (ix1 0) = 0#32 := by
    rcases (sp (ix1 0)).2.2.2.2.2.2.2.1 with c | c
    · exact absurd c (by decide)
    · exact StableHlo.Predicate.cmpi_eq_iff.1 c
  have nx (e : ℕ) (he : e + 1 < 32) : (a0 (ix1 ⟨e, by omega⟩)).toNat + (a1 (ix1 ⟨e, by omega⟩)).toNat = (a0 (ix1 ⟨e + 1, he⟩)).toNat := by
    have c := StableHlo.Predicate.cmpi_eq_iff.1 (sp (ix1 ⟨e, by omega⟩)).2.2.2.2.2.2.2.2
    rw [concatenate_pair_apply_left (t := S32) (s₁ := S31) (s₂ := S1) 0 _ _ _ _ rfl (ix1 ⟨e, by omega⟩) (fun b => by match b with | ⟨0, _⟩ => rfl)] at c
    have c' := congrArg BitVec.toNat c
    have e1 : (IntOp.addi (a0 (ix1 ⟨e, by omega⟩)) (a1 (ix1 ⟨e, by omega⟩))).toNat = (a0 (ix1 ⟨e, by omega⟩)).toNat + (a1 (ix1 ⟨e, by omega⟩)).toNat := by
      have := l0 (ix1 ⟨e, by omega⟩); have := l1 (ix1 ⟨e, by omega⟩)
      exact (BitVec.toNat_add ..).trans (Nat.mod_eq_of_lt (by omega))
    have e2 : extractStridedSlice S31 ![1] a0 slices_S32_S31_1 (ix1 ⟨e, by omega⟩) = a0 (ix1 ⟨e + 1, he⟩) := by
      refine congrArg a0 ?_; funext d; match d with | ⟨0, _⟩ => exact Fin.ext (Nat.add_comm 1 e)
    rw [e1, e2] at c'; exact c'
  have last : (a0 (ix1 31)).toNat + (a1 (ix1 31)).toNat = 512 * (a2 (ix1 0)).toNat := by
    have c := StableHlo.Predicate.cmpi_eq_iff.1 (sp (ix1 31)).2.2.2.2.2.2.2.2
    rw [concatenate_pair_apply_right (t := S32) (s₁ := S31) (s₂ := S1) 0 _ _ _ _ rfl rfl (ix1 0)
      (fun b hb => by match b with | ⟨0, _⟩ => exact absurd rfl hb) rfl] at c
    have c' := congrArg BitVec.toNat c
    have e1 : (IntOp.addi (a0 (ix1 31)) (a1 (ix1 31))).toNat = (a0 (ix1 31)).toNat + (a1 (ix1 31)).toNat := by
      have := l0 (ix1 31); have := l1 (ix1 31)
      exact (BitVec.toNat_add ..).trans (Nat.mod_eq_of_lt (by omega))
    have e2 : (IntOp.muli (a2 (ix1 0)) 512#32).toNat = (a2 (ix1 0)).toNat * 512 :=
      (BitVec.toNat_mul ..).trans (Nat.mod_eq_of_lt (by show (a2 (ix1 0)).toNat * 512 < _; omega))
    rw [e1, e2] at c'; omega
  have dv : ∀ e (he : e < 32), (a0 (ix1 ⟨e, he⟩)).toNat % 512 = 0 := by
    intro e; induction e with
    | zero => intro _; show (a0 (ix1 0)).toNat % 512 = 0; rw [z]; rfl
    | succ e ih => intro he; have := nx e he; have := ih (by omega); have := d1 (ix1 ⟨e, by omega⟩); omega
  have hb (e : ℕ) (he : e < 32) : (a0 (ix1 ⟨e, he⟩)).toNat = 512 * bnd a0 a2 e := by
    have := dv e he; unfold bnd; rw [dif_pos he]; omega
  have hb2 : bnd a0 a2 32 = (a2 (ix1 0)).toNat := by unfold bnd; exact dif_neg (by norm_num)
  have hl (e : ℕ) (he : e < 32) : 512 * bnd a0 a2 e + (a1 (ix1 ⟨e, he⟩)).toNat = 512 * bnd a0 a2 (e + 1) := by
    rw [← hb e he]
    by_cases h31 : e + 1 < 32
    · rw [nx e h31, hb (e + 1) h31]
    · obtain rfl : e = 31 := by omega
      rw [hb2]; exact last
  have ofN (w : BitVec 32) (k : ℕ) (hw : w.toNat = k) : w = BitVec.ofNat 32 k := by rw [← hw, BitVec.ofNat_toNat, BitVec.setWidth_eq]
  refine ⟨?_, ?_, by rw [hb2]; exact l2, ?_, ?_, ?_⟩
  · have := hb 0 (by norm_num)
    rw [show (⟨0, by norm_num⟩ : Fin 32) = 0 from rfl, z] at this
    have e : (0#32 : BitVec 32).toNat = 0 := rfl
    omega
  · intro e he; have := hl e he; omega
  · intro x; rw [eq_ix1 x]; exact ofN _ _ (hb _ _)
  · intro x; rw [eq_ix1 x]; refine ofN _ _ ?_
    have := hl (x 0).val (x 0).isLt
    show (a1 (ix1 ⟨(x 0).val, (x 0).isLt⟩)).toNat = 512 * (bnd a0 a2 ((x 0).val + 1) - bnd a0 a2 (x 0).val)
    omega
  · intro x
    have ex : x = ix1 0 := by rw [eq_ix1 x]; exact congrArg ix1 (Fin.ext (Nat.lt_one_iff.1 (x 0).isLt))
    rw [ex, hb2]; exact ofN _ _ rfl

end

namespace Segs
variable {a0 a1 : S32.Idx → BitVec 32} {a2 : S1.Idx → BitVec 32} {B : ℕ → ℕ}

theorem mono (h : Segs a0 a1 a2 B) {i j : ℕ} (hij : i ≤ j) (hj : j ≤ 32) : B i ≤ B j := by
  induction j with
  | zero => rw [Nat.le_zero.1 hij]
  | succ j ih =>
    rcases Nat.lt_or_ge i (j + 1) with hlt | hge
    · exact (ih (by omega) (by omega)).trans (h.step j (by omega))
    · rw [show i = j + 1 by omega]

/-- Every active block lies in one expert's segment. -/
theorem exists_owner (h : Segs a0 a1 a2 B) {g : ℕ} (hg : g < B 32) : ∃ e : Fin 32, B e.val ≤ g ∧ g < B (e.val + 1) := by
  by_contra hne
  have key : ∀ j, j ≤ 32 → B j ≤ g := by
    intro j; induction j with
    | zero => intro _; rw [h.zero]; omega
    | succ j ih => intro hj; by_contra hlt; exact hne ⟨⟨j, by omega⟩, ih (by omega), Nat.lt_of_not_le hlt⟩
  have := key 32 le_rfl; omega

theorem owner_unique (h : Segs a0 a1 a2 B) {g : ℕ} {e e' : Fin 32} (l : B e.val ≤ g) (r : g < B (e.val + 1)) (l' : B e'.val ≤ g)
    (r' : g < B (e'.val + 1)) : e = e' := by
  rcases lt_trichotomy e.val e'.val with c | c | c
  · have := h.mono (i := e.val + 1) (j := e'.val) (by omega) (by omega); omega
  · exact Fin.ext c
  · have := h.mono (i := e'.val + 1) (j := e.val) (by omega) (by omega); omega

end Segs

end Cert.Segs
-- ==== Proof.Rest.lean ====
module

public import proofs.«01_k».proof.Proof.Weights
public import proofs.«01_k».proof.Proof.Tail
public import proofs.«01_k».proof.Proof.Segs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The whole body at one grid point. -/

/-- What the last grid point does after its own blocks. -/
def tailP (i : grid0.Coords) (arg1 : Memref sig .tc .smem S32 .i32) (harg1 : arg1.IsWhole) (arg2 : Memref sig .tc .smem S32 .i32) (harg2 : arg2.IsWhole) (arg3 : Memref sig .tc .smem S1 .i32) (harg3 : arg3.IsWhole) (arg4 : Memref sig .tc .hbm S307200x512 .i32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .hbm S307200x1024 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S2x512x512 .i32) (harg12 : arg12.IsWhole) (arg13 : Memref sig .tc .vmem S2x512x1024 .bf16) (harg13 : arg13.IsWhole) (arg14 : DmaSems sig S2) (arg15 : DmaSems sig S2) (v0 : Elt F .i32) (k0_hw2 : k0_chk2 i v0) (k0_h7 : k0_cond7 i = 1#1) :
    Prog (TpuEff nD τ sig (Elt F) Λ₀ .tc) PUnit := do
  if k0_h8 : k0_cond8 v0 = 1#1 then do
    let v81 : DmaSems sig S1 := arg15.slice (Rect.unit (s := S2) (k0_off28 v0) S1.size (k0_off28_inb i v0 k0_hw2 k0_h7 k0_h8))
    let v82 : DmaSems sig S_ := v81.squeeze S_ squeezes_S1_S_
    let v83 : Memref sig .tc .hbm S512x1024 .bf16 := arg9.slice (Rect.unit (s := S307200x1024) (k0_off29 v0) S512x1024.size (k0_off29_inb i v0 k0_hw2 k0_h7 k0_h8)) (fun _ => rfl)
    let v84 : Memref sig .tc .vmem S1x512x1024 .bf16 := arg13.slice (Rect.unit (s := S2x512x1024) (k0_off30 v0) S1x512x1024.size (k0_off30_inb i v0 k0_hw2 k0_h7 k0_h8)) (fun _ => rfl)
    let v85 : Memref sig .tc .vmem S512x1024 .bf16 := v84.squeeze S512x1024 squeezes_S1x512x1024_S512x1024
    Prog.lift (.waitDma2 v82.sem v85 v83 ((harg13.wordExact_slice rfl _ (k0_off30_wordsbf16 i v0 k0_hw2 k0_h7 k0_h8)).reshape _ _) (harg9.wordExact_slice rfl _ (k0_off29_wordsbf16 i v0 k0_hw2 k0_h7 k0_h8)))
    pure ⟨⟩
  else do
    pure ⟨⟩
  if k0_h9 : k0_cond9 v0 = 1#1 then do
    let v81 : DmaSems sig S1 := arg15.slice (Rect.unit (s := S2) (k0_off31 v0) S1.size (k0_off31_inb i v0 k0_hw2 k0_h7 k0_h9))
    let v82 : DmaSems sig S_ := v81.squeeze S_ squeezes_S1_S_
    let v83 : Memref sig .tc .hbm S512x1024 .bf16 := arg9.slice (Rect.unit (s := S307200x1024) (k0_off32 v0) S512x1024.size (k0_off32_inb i v0 k0_hw2 k0_h7 k0_h9)) (fun _ => rfl)
    let v84 : Memref sig .tc .vmem S1x512x1024 .bf16 := arg13.slice (Rect.unit (s := S2x512x1024) (k0_off33 v0) S1x512x1024.size (k0_off33_inb i v0 k0_hw2 k0_h7 k0_h9)) (fun _ => rfl)
    let v85 : Memref sig .tc .vmem S512x1024 .bf16 := v84.squeeze S512x1024 squeezes_S1x512x1024_S512x1024
    Prog.lift (.waitDma2 v82.sem v85 v83 ((harg13.wordExact_slice rfl _ (k0_off33_wordsbf16 i v0 k0_hw2 k0_h7 k0_h9)).reshape _ _) (harg9.wordExact_slice rfl _ (k0_off32_wordsbf16 i v0 k0_hw2 k0_h7 k0_h9)))
    pure ⟨⟩
  else do
    pure ⟨⟩
  let v62 : Vec F S1x512x1024 .bf16 ← Prog.lift (.load arg13 (Rect.unit (s := S2x512x1024) ![0, 0, 0] S1x512x1024.size inb_S2x512x1024_S1x512x1024_0_0_0).toLoadRect (View.loadsAt_vmem h_S1x512x1024))
  Prog.lift (.store arg13 (Rect.unit (s := S2x512x1024) ![0, 0, 0] S1x512x1024.size inb_S2x512x1024_S1x512x1024_0_0_0) (k0_pay4 (F := F)) Finset.univ (View.stores_vmem h_S1x512x1024 (harg13.storeExact_slice rfl _ packedbf16_S2x512x1024_S1x512x1024_0_0_0) (fun _ => rfl)) (.inl rfl))
  Scf.Loop.for (k0_t3_loop v0) (k0_t3_ok i v0 k0_hw2 k0_h7) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  Scf.Loop.for (k0_t4_loop v0) (k0_t4_ok i v0 k0_hw2 k0_h7) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  Scf.Loop.for (k0_t5_loop v0) (k0_t5_ok i v0 k0_hw2 k0_h7) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  Scf.Loop.for (k0_t6_loop v0) (k0_t6_ok i v0 k0_hw2 k0_h7) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  pure ⟨⟩

/-- What a grid point does once its weights are staged. -/
def restP (i : grid0.Coords) (arg1 : Memref sig .tc .smem S32 .i32) (harg1 : arg1.IsWhole) (arg2 : Memref sig .tc .smem S32 .i32) (harg2 : arg2.IsWhole) (arg3 : Memref sig .tc .smem S1 .i32) (harg3 : arg3.IsWhole) (arg4 : Memref sig .tc .hbm S307200x512 .i32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .hbm S307200x1024 .bf16) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S2x512x512 .i32) (harg12 : arg12.IsWhole) (arg13 : Memref sig .tc .vmem S2x512x1024 .bf16) (harg13 : arg13.IsWhole) (arg14 : DmaSems sig S2) (arg15 : DmaSems sig S2) (v0 : Elt F .i32) (k0_hw2 : k0_chk2 i v0) (v2 : Elt F .i32) (v19 : BitVec 32) (v21 : Elt F .i32) (k0_hw1 : k0_chk1 v0 v2 v21) (v38 : BitVec 32) :
    Prog (TpuEff nD τ sig (Elt F) Λ₀ .tc) PUnit := do
  let v47 : BitVec 32 := Scalar.subi v38 0#32
  let v49 : BitVec 32 := Scalar.divsi v47 1#32
  let v50 : BitVec 32 := Scalar.muli v49 1#32
  let v51 : BitVec 32 := Scalar.addi 0#32 v50
  Scf.Loop.for (k0_t1_loop v21) (k0_t1_ok v0 v2 v21 k0_hw1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 arg15 v0 v2 v19 v21 k0_hw1)
  Scf.Loop.for (k0_t2_loop v21) (k0_t2_ok v0 v2 v21 k0_hw1) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 arg15 v0 v2 v19 v21 k0_hw1 v51)
  if k0_h7 : k0_cond7 i = 1#1 then do
    if k0_h8 : k0_cond8 v0 = 1#1 then do
      let v81 : DmaSems sig S1 := arg15.slice (Rect.unit (s := S2) (k0_off28 v0) S1.size (k0_off28_inb i v0 k0_hw2 k0_h7 k0_h8))
      let v82 : DmaSems sig S_ := v81.squeeze S_ squeezes_S1_S_
      let v83 : Memref sig .tc .hbm S512x1024 .bf16 := arg9.slice (Rect.unit (s := S307200x1024) (k0_off29 v0) S512x1024.size (k0_off29_inb i v0 k0_hw2 k0_h7 k0_h8)) (fun _ => rfl)
      let v84 : Memref sig .tc .vmem S1x512x1024 .bf16 := arg13.slice (Rect.unit (s := S2x512x1024) (k0_off30 v0) S1x512x1024.size (k0_off30_inb i v0 k0_hw2 k0_h7 k0_h8)) (fun _ => rfl)
      let v85 : Memref sig .tc .vmem S512x1024 .bf16 := v84.squeeze S512x1024 squeezes_S1x512x1024_S512x1024
      Prog.lift (.waitDma2 v82.sem v85 v83 ((harg13.wordExact_slice rfl _ (k0_off30_wordsbf16 i v0 k0_hw2 k0_h7 k0_h8)).reshape _ _) (harg9.wordExact_slice rfl _ (k0_off29_wordsbf16 i v0 k0_hw2 k0_h7 k0_h8)))
      pure ⟨⟩
    else do
      pure ⟨⟩
    if k0_h9 : k0_cond9 v0 = 1#1 then do
      let v81 : DmaSems sig S1 := arg15.slice (Rect.unit (s := S2) (k0_off31 v0) S1.size (k0_off31_inb i v0 k0_hw2 k0_h7 k0_h9))
      let v82 : DmaSems sig S_ := v81.squeeze S_ squeezes_S1_S_
      let v83 : Memref sig .tc .hbm S512x1024 .bf16 := arg9.slice (Rect.unit (s := S307200x1024) (k0_off32 v0) S512x1024.size (k0_off32_inb i v0 k0_hw2 k0_h7 k0_h9)) (fun _ => rfl)
      let v84 : Memref sig .tc .vmem S1x512x1024 .bf16 := arg13.slice (Rect.unit (s := S2x512x1024) (k0_off33 v0) S1x512x1024.size (k0_off33_inb i v0 k0_hw2 k0_h7 k0_h9)) (fun _ => rfl)
      let v85 : Memref sig .tc .vmem S512x1024 .bf16 := v84.squeeze S512x1024 squeezes_S1x512x1024_S512x1024
      Prog.lift (.waitDma2 v82.sem v85 v83 ((harg13.wordExact_slice rfl _ (k0_off33_wordsbf16 i v0 k0_hw2 k0_h7 k0_h9)).reshape _ _) (harg9.wordExact_slice rfl _ (k0_off32_wordsbf16 i v0 k0_hw2 k0_h7 k0_h9)))
      pure ⟨⟩
    else do
      pure ⟨⟩
    let v62 : Vec F S1x512x1024 .bf16 ← Prog.lift (.load arg13 (Rect.unit (s := S2x512x1024) ![0, 0, 0] S1x512x1024.size inb_S2x512x1024_S1x512x1024_0_0_0).toLoadRect (View.loadsAt_vmem h_S1x512x1024))
    Prog.lift (.store arg13 (Rect.unit (s := S2x512x1024) ![0, 0, 0] S1x512x1024.size inb_S2x512x1024_S1x512x1024_0_0_0) (k0_pay4 (F := F)) Finset.univ (View.stores_vmem h_S1x512x1024 (harg13.storeExact_slice rfl _ packedbf16_S2x512x1024_S1x512x1024_0_0_0) (fun _ => rfl)) (.inl rfl))
    Scf.Loop.for (k0_t3_loop v0) (k0_t3_ok i v0 k0_hw2 k0_h7) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    Scf.Loop.for (k0_t4_loop v0) (k0_t4_ok i v0 k0_hw2 k0_h7) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    Scf.Loop.for (k0_t5_loop v0) (k0_t5_ok i v0 k0_hw2 k0_h7) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    Scf.Loop.for (k0_t6_loop v0) (k0_t6_ok i v0 k0_hw2 k0_h7) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    pure ⟨⟩
  else do
    pure ⟨⟩
  pure ⟨⟩

variable {c : Dev nD} {X : S307200x512.Idx → BitVec 32} {V : S307200x1024.Idx → Elt F .bf16} {T : Fin 600 → Vec F S1x512x1024 .bf16}
variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
variable {n p K : ℕ} {P : S1024x2048.Idx → Elt F .bf16} {b1 : S1x1x2048.Idx → Elt F .f32} {W2 : S1024x1024.Idx → Elt F .bf16} {b2 : S1x1x1024.Idx → Elt F .f32}

/-- The rings at rest: nothing in flight, the result as `Y`. -/
def Idle (c : Dev nD) (X : S307200x512.Idx → BitVec 32) (Y : S307200x1024.Idx → Elt F .bf16) : sProp 𝕄 :=
  iprop((XFree (F := F) c 0 ∗ XFree (F := F) c 1 ∗ (xG c ↦{fullShare} (X : Buf (Elt F) (xG c))))
    ∗ YFree (F := F) c 0 ∗ YFree (F := F) c 1 ∗ (yG c ↦{fullShare} (Y : Buf (Elt F) (yG c))))

theorem W_same {α : Type} {p p' : Prog (TpuEff nD τ sig (Elt F) Λ₀ .tc) α} {Q : α → sProp 𝕄} (h : p = p') : W c p Q ⊢ W c p' Q := by
  rw [h]

theorem tail_run (hn : n ≤ 600) (hw h7) (hT : ∀ g, n ≤ g → g < 600 → T (bk g) = k0_pay4) :
    iprop(XSt (F := F) c X n n ∗ YSt c V T n ∗ Ow (F := F) c)
      ⊢ W c (tailP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7) fun _ => iprop(Idle c X (YT T) ∗ Ow (F := F) c) := by
  unfold tailP
  dsimp only
  unfold XSt YSt XNow
  rw [if_neg (lt_irrefl n)]
  iintro ⟨⟨⟨HXa, HX⟩, HXb⟩, ⟨HYA, HYZ, HY0, HY1⟩, HO⟩
  iapply (ite_seq (fun h => old_y hn (cond8_iff hn) h _ _ (off28_eq hn ((cond8_iff hn).mp h))) (fun h => new_y (cond8_iff hn) h)) $$ [HYA HY0 HO]
  · isplitl [HYA]; · iexact HYA
    isplitl [HY0]; · iexact HY0
    iexact HO
  iintro ⟨HYa, HY0, HO⟩
  iapply (ite_seq (fun h => drain_y hn (cond9_iff hn) h _ _ (off31_eq hn ((cond9_iff hn).mp h))) (fun h => drained_y (cond9_iff hn) h)) $$ [HYZ HY0 HO]
  · isplitl [HYZ]; · iexact HYZ
    isplitl [HY0]; · iexact HY0
    iexact HO
  iintro ⟨HYb, HY0, HO⟩
  ihave HX2 := (both (XFree (F := F) c) n) $$ [HXa HXb]
  · isplitl [HXa]; · iexact HXa
    iexact HXb
  ihave HY2 := (both (YFree (F := F) c) n) $$ [HYa HYb]
  · isplitl [HYa]; · iexact HYa
    iexact HYb
  ihave HX2 := (show iprop(XFree (F := F) c 0 ∗ XFree (F := F) c 1) ⊢ iprop(((∃ f, xL c ↦[xSet 0]{fullShare} f) ∗ semVal ((c : Thread nD τ), SemLoc.dma (xsem 0)) 0) ∗ XFree (F := F) c 1) from .rfl) $$ HX2
  ihave HY2 := (show iprop(YFree (F := F) c 0 ∗ YFree (F := F) c 1) ⊢ iprop(((∃ f, yL c ↦[ySet 0]{fullShare} f) ∗ semVal ((c : Thread nD τ), SemLoc.dma (ysem 0)) 0) ∗ YFree (F := F) c 1) from .rfl) $$ HY2
  icases HX2 with ⟨⟨Hxs, Hxv⟩, HX3⟩
  icases HY2 with ⟨⟨Hs, Hv⟩, HY3⟩
  iapply (cut (load_slot (F := F) 0 _ rfl)) $$ Hs
  iintro %_ Hs
  iapply (cut (store_slot (F := F) 0 _ rfl)) $$ Hs
  iintro %_ Hs
  imod (fill_start (F := F) (c := c) (T := T) (n := n) (m := 600 - n)) $$ Hxv with HB
  have hm : n + (600 - n) = 600 := by omega
  iapply (cut (t3_run (F := F) (V := V) i arg5 harg5 arg6 harg6 arg7 harg7 arg8 harg8 hn hw h7 _ hT hm)) $$ [HB Hs HY1]
  · isplitl [HB]; · iexact HB
    isplitl [Hs]; · iexact Hs
    iexact HY1
  iintro %_ ⟨HB, Hs⟩
  iapply (cut (no_trips _ (t4_trips hn) _)) $$ HO
  iintro %_ HO
  iapply (cut (t5_run (F := F) i arg5 harg5 arg6 harg6 arg7 harg7 arg8 harg8 hn hw h7 _ hm)) $$ [HB HO]
  · isplitl [HB]; · iexact HB
    iexact HO
  iintro %_ ⟨HB, HO⟩
  iapply (cut (no_trips _ (t6_trips hn) _)) $$ HO
  iintro %_ HO
  imod (fill_end (F := F) (c := c) (T := T) hm) $$ [HB Hs] with ⟨HY1, Hs, Hxv⟩
  · isplitl [HB]; · iexact HB
    iexact Hs
  iapply W_pure
  isplitr [HO]
  · unfold Idle
    isplitl [Hxs Hxv HX3 HX]
    · isplitl [Hxs Hxv]
      · unfold XFree
        isplitl [Hxs]; · iexact Hxs
        iexact Hxv
      isplitl [HX3]; · iexact HX3
      iexact HX
    isplitl [Hs Hv]
    · unfold YFree
      isplitl [Hs]; · iexists _; iexact Hs
      iexact Hv
    isplitl [HY3]; · iexact HY3
    rw [← yRows_all]
    iapply (y_split (c := c) (F := F) (a := 0) (b := n) (d := 600) (by omega) hn _).2
    isplitl [HY0]; · iexact HY0
    iexact HY1
  iexact HO

/-- What the rings hold after a grid point. -/
def Done (c : Dev nD) (X : S307200x512.Idx → BitVec 32) (V : S307200x1024.Idx → Elt F .bf16) (T : Fin 600 → Vec F S1x512x1024 .bf16) (n g : ℕ) (l : Prop) [Decidable l] : sProp 𝕄 :=
  if l then Idle c X (YT T) else iprop(XSt (F := F) c X n g ∗ YSt c V T g)

theorem rest_run (hn : n ≤ 600) (hpK : p + K ≤ n) (hl : (i 0).val = 31 → p + K = n) (hw2 : k0_chk2 i (BitVec.ofNat 32 n)) (hw : k0_chk1 (BitVec.ofNat 32 n) (BitVec.ofNat 32 (512 * p)) (BitVec.ofNat 32 (512 * K)))
    (v19 v38 : BitVec 32)
    (hT : ∀ g, p ≤ g → g < p + K → T (bk g) = blockPay (xRd X (bk g)) P b1 W2 b2) (hZ : ∀ g, n ≤ g → g < 600 → T (bk g) = k0_pay4) :
    iprop(XSt (F := F) c X n p ∗ YSt c V T p ∗ Ow (F := F) c ∗ Wts c arg6 arg8 P b1 W2 b2)
      ⊢ W c (restP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw2 (BitVec.ofNat 32 (512 * p)) v19 (BitVec.ofNat 32 (512 * K)) hw v38) fun _ =>
        iprop(Done c X V T n (p + K) ((i 0).val = 31) ∗ Ow (F := F) c ∗ Wts c arg6 arg8 P b1 W2 b2) := by
  have hK : K ≤ 600 := by omega
  unfold restP
  dsimp only
  iintro H
  iapply (cut (t1_run (F := F) (X := X) (V := V) (T := T) i arg5 harg5 arg6 harg6 arg7 harg7 arg8 harg8 hn hpK hw _ v19 hT)) $$ H
  iintro %_ ⟨HX, HY, HO, HW⟩
  iapply (cut (no_trips _ (t2_trips hK) _)) $$ HO
  iintro %_ HO
  unfold Done
  by_cases h7 : k0_cond7 i = 1#1
  · rw [dif_pos h7, if_pos ((cond7_iff i).mp h7), hl ((cond7_iff i).mp h7)]
    iapply (W_same (p := tailP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw2 h7) ?_)
    · rfl
    iapply (exec_cut_last _ _ _ (tail_run (F := F) (X := X) (V := V) (T := T) i arg5 harg5 arg6 harg6 arg7 harg7 arg8 harg8 hn hw2 h7 hZ)) $$ [HX HY HO]
    · isplitl [HX]; · iexact HX
      isplitl [HY]; · iexact HY
      iexact HO
    iintro %_ ⟨HI, HO⟩
    isplitl [HI]; · iexact HI
    isplitl [HO]; · iexact HO
    iexact HW
  · rw [dif_neg h7, if_neg (fun h => h7 ((cond7_iff i).mpr h))]
    iapply W_pure
    isplitl [HX HY]
    · isplitl [HX]; · iexact HX
      iexact HY
    isplitl [HO]; · iexact HO
    iexact HW

end Cert.KernelIdeal.Hand
-- ==== Proof.Body.lean ====
module

public import proofs.«01_k».proof.Proof.Rest

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! The whole body at one grid point. -/

variable {c : Dev nD} {X : S307200x512.Idx → BitVec 32} {V : S307200x1024.Idx → Elt F .bf16} {T : Fin 600 → Vec F S1x512x1024 .bf16}
variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)

/-! ## The words of the tables -/

/-- The three tables, each at one share. -/
def Tbl (c : Dev nD) (q : PosShare TreeShare) (a0 a1 : S32.Idx → BitVec 32) (a2 : S1.Idx → BitVec 32) : sProp 𝕄 :=
  iprop(((c : Thread nD τ).loc main_arg0 ↦{q} (a0 : Buf (Elt F) ((c : Thread nD τ).loc main_arg0)))
    ∗ ((c : Thread nD τ).loc main_arg1 ↦{q} (a1 : Buf (Elt F) ((c : Thread nD τ).loc main_arg1)))
    ∗ ((c : Thread nD τ).loc main_arg2 ↦{q} (a2 : Buf (Elt F) ((c : Thread nD τ).loc main_arg2))))

theorem word_run {s : Shape} (M : Memref sig .tc .smem s .i32) (r : Rect s) {h1 h2} {q : PosShare TreeShare} {f : Buf (Elt F) ((M.access r).loc (c : Thread nD τ))} {w : BitVec 32}
    (hw : ∀ x, (M.access r).read (Elt F) f x = w) :
    ((M.access r).loc (c : Thread nD τ) ↦{q} f)
      ⊢ W c (smemLoad M r h1 h2) fun v => iprop(⌜v = w⌝ ∗ ((M.access r).loc (c : Thread nD τ) ↦{q} f)) := by
  unfold smemLoad smemLoadElt
  iintro H
  iapply (wp_load_rect Variants.none (c : Thread nD τ) none Set.univ (Finset.subset_univ _)) $$ H
  iintro H
  iapply W_pure
  isplitr; · ipureintro; exact hw _
  iexact H

theorem off1_val : k0_off1 i 0 = (i 0).val := by
  have : ∀ j : Fin 32, (BitVec.ofNat 32 j.val).toNat = j.val := by decide
  exact this (i 0)

theorem at_point {h : ∀ a, k0_off1 i a + S1.size a ≤ S32.size a} (x : S1.Idx) : ((Rect.unit (s := S32) (k0_off1 i) S1.size h).emb x 0).val = (i 0).val := by
  show k0_off1 i 0 + 1 * (x 0).val = (i 0).val
  rw [off1_val]
  have : (x 0).val < 1 := (x 0).isLt
  omega

variable {a0 a1 : S32.Idx → BitVec 32} {a2 : S1.Idx → BitVec 32} {B : ℕ → ℕ} {q : PosShare TreeShare}

/-- The bounds of this grid point's segment are in order. -/
theorem seg_le (hS : Segs.Segs a0 a1 a2 B) : B (i 0).val + (B ((i 0).val + 1) - B (i 0).val) ≤ B 32 := by
  have h : (i 0).val < 32 := (i 0).isLt
  have h1 := hS.step _ h
  have h2 := hS.mono (i := (i 0).val + 1) (j := 32) (by omega) le_rfl
  omega

theorem part13_run (hS : Segs.Segs a0 a1 a2 B) :
    (Tbl (F := F) c q a0 a1 a2)
      ⊢ W c (k0_part13 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) fun r =>
        iprop(⌜∃ h2 h1, r = ⟨BitVec.ofNat 32 (i 0).val, BitVec.ofNat 32 (B 32), h2, BitVec.ofNat 32 (512 * B (i 0).val), fdiv (BitVec.ofNat 32 (512 * B (i 0).val)),
            BitVec.ofNat 32 (512 * (B ((i 0).val + 1) - B (i 0).val)), h1, fdiv (BitVec.ofNat 32 (512 * (B ((i 0).val + 1) - B (i 0).val))),
            Scalar.cmpi .eq (BitVec.ofNat 32 (i 0).val) 0#32, 0#32⟩⌝ ∗ Tbl (F := F) c q a0 a1 a2) := by
  rw [k0_part13_eq_skeleton]
  unfold k0_part13_skel Tbl
  dsimp only
  iintro ⟨H0, H1, H2⟩
  iapply (cut (word_run (F := F) (c := c) (f := a2) (w := BitVec.ofNat 32 (B 32)) (Memref.whole main_arg2) (Rect.unit (s := S1) ![0] S1.size inb_S1_S1_0) (fun x => hS.act _))) $$ H2
  iintro %v0 ⟨%h0, H2⟩
  subst h0
  simp only [Prog.bind_op, Prog.bind_ret, Prog.lift]
  iapply (wp_assume Variants.none (c : Thread nD τ) none Set.univ (chk2_ok i hS.top))
  iapply (cut (word_run (F := F) (c := c) (f := a0) (w := BitVec.ofNat 32 (512 * B (i 0).val)) (Memref.whole main_arg0) (Rect.unit (s := S32) (k0_off1 i) S1.size (k0_off1_inb i)) (fun x => (hS.start ((Rect.unit (s := S32) (k0_off1 i) S1.size (k0_off1_inb i)).emb x)).trans (by rw [at_point])))) $$ H0
  iintro %v2 ⟨%h2, H0⟩
  subst h2
  iapply (cut (word_run (F := F) (c := c) (f := a1) (w := BitVec.ofNat 32 (512 * (B ((i 0).val + 1) - B (i 0).val))) (Memref.whole main_arg1) (Rect.unit (s := S32) (k0_off1 i) S1.size (k0_off1_inb i)) (fun x => (hS.len ((Rect.unit (s := S32) (k0_off1 i) S1.size (k0_off1_inb i)).emb x)).trans (by rw [at_point])))) $$ H1
  iintro %v21 ⟨%h21, H1⟩
  subst h21
  iapply (wp_assume Variants.none (c : Thread nD τ) none Set.univ (chk1_ok (seg_le i hS) hS.top))
  iapply W_pure
  isplitr
  · ipureintro; exact ⟨chk2_ok i hS.top, chk1_ok (seg_le i hS) hS.top, rfl⟩
  isplitl [H0]; · iexact H0
  isplitl [H1]; · iexact H1
  iexact H2

/-! ## The first grid point starts the first block -/

/-- A conditional statement before a continuation, its condition not named. -/
theorem if_seq {β : Type} {P : Prop} [Decidable P] {A : Prog (TpuEff nD τ sig (Elt F) Λ₀ .tc) PUnit} {K : Prog (TpuEff nD τ sig (Elt F) Λ₀ .tc) β}
    {R Q' : sProp 𝕄} {Q : β → sProp 𝕄} (h1 : P → R ⊢ W c A fun _ => Q') (h2 : ¬P → R ⊢ Q') :
    R ⊢ iprop((Q' -∗ W c K Q) -∗ W c (if P then A >>= fun _ => K else K) Q) := by
  by_cases h : P
  · rw [if_pos h]
    iintro HR HK
    iapply (cut (h1 h)) $$ HR
    iintro %r HQ
    iapply HK $$ HQ
  · rw [if_neg h]
    iintro HR HK
    iapply HK
    iapply (h2 h) $$ HR

/-- What the rings hold before grid point `t`. -/
def St (c : Dev nD) (X : S307200x512.Idx → BitVec 32) (V : S307200x1024.Idx → Elt F .bf16) (T : Fin 600 → Vec F S1x512x1024 .bf16) (B : ℕ → ℕ) (t : ℕ) : sProp 𝕄 :=
  if t = 0 then Idle c X V else if t = 32 then Idle c X (YT T) else iprop(XSt (F := F) c X (B 32) (B t) ∗ YSt c V T (B t))

theorem first_fin : ∀ e : Fin 32, ∀ n : Fin 601,
    (Scalar.cmpi .ne (Scalar.extui (Scalar.andi (Scalar.cmpi .eq (BitVec.ofNat 32 e.val) 0#32) (Scalar.cmpi .sgt (BitVec.ofNat 32 n.val) 0#32)) : BitVec 32) 0#32 = 1#1)
      ↔ (e.val = 0 ∧ 0 < n.val) := by decide +kernel
theorem first_iff {e n : ℕ} (he : e < 32) (hn : n ≤ 600) :
    (Scalar.cmpi .ne (Scalar.extui (Scalar.andi (Scalar.cmpi .eq (BitVec.ofNat 32 e) 0#32) (Scalar.cmpi .sgt (BitVec.ofNat 32 n) 0#32)) : BitVec 32) 0#32 = 1#1)
      ↔ (e = 0 ∧ 0 < n) := first_fin ⟨e, he⟩ ⟨n, by omega⟩
theorem some_fin : ∀ K : Fin 601, (Scalar.cmpi .ne (Scalar.extui (Scalar.cmpi .sgt (fdiv (BitVec.ofNat 32 (512 * K.val))) 0#32) : BitVec 32) 0#32 = 1#1) ↔ 0 < K.val := by
  decide +kernel
theorem some_iff {K : ℕ} (hK : K ≤ 600) : (Scalar.cmpi .ne (Scalar.extui (Scalar.cmpi .sgt (fdiv (BitVec.ofNat 32 (512 * K))) 0#32) : BitVec 32) 0#32 = 1#1) ↔ 0 < K :=
  some_fin ⟨K, by omega⟩

theorem idle_y : iprop(YFree (F := F) c 0 ∗ YFree (F := F) c 1 ∗ (yG c ↦{fullShare} (V : Buf (Elt F) (yG c)))) ⊢ YSt (F := F) c V T 0 := by
  unfold YSt YA YZ
  rw [if_neg (by decide), if_neg (by decide), show (0 - 2 : ℕ) = 0 from rfl, yRows_nil, yRows_all, pointsTo_empty]
  iintro ⟨H0, H1, H2⟩
  isplitl [H0]; · iexact H0
  isplitl [H1]; · iexact H1
  isplitr; · iempintro
  iexact H2

theorem first_x {P : Prop} {n t : ℕ} (hn : n ≤ 600) (hP : P ↔ (t = 0 ∧ 0 < n)) (h : P) (hB : B 0 = 0) (hB32 : B 32 = n) {o1 : Fin 1 → ℕ} {o3 : Fin 3 → ℕ} {o2 : Fin 2 → ℕ} (h1 h3 h2)
    (e1 : o1 = ![0]) (e3 : o3 = ![0, 0, 0]) (e2 : o2 = ![0, 0]) {a1 a2 a3} :
    (St (F := F) c X V T B t)
      ⊢ W c (Prog.lift (.enqueueDma (xBlkAt o2 h2) (.here (xSlotAt o3 h3)) (.dma (semAt cc0_scratch4 o1 h1)) a1 a2 a3)) fun _ =>
        iprop(XSt (F := F) c X (B 32) (B t) ∗ YSt c V T (B t)) := by
  obtain ⟨ht, hn0⟩ := hP.mp h
  subst ht
  rw [hB, hB32]
  have hb : (bk 0).val = 0 := bk_val (by decide)
  unfold St Idle
  rw [if_pos rfl]
  iintro ⟨⟨Hx0, Hx1, HX⟩, HY⟩
  ihave HX' := (x_split (bk 0) (X : Buf (Elt F) (xG c))).1 $$ HX
  icases HX' with ⟨HX1, HX2⟩
  have := start_x (F := F) (c := c) (X := X) 0 (bk 0) h1 h3 h2 e1 e3 (by rw [hb]; exact e2) (a1 := a1) (a2 := a2) (a3 := a3)
  iapply (exec_cut_last _ _ _ this) $$ [Hx0 HX1]
  · isplitl [Hx0]; · iexact Hx0
    iexact HX1
  iintro %_ HF
  isplitr [HY]
  · unfold XSt XNow
    rw [if_pos hn0]
    isplitl [HF HX2]
    · isplitl [HF]; · iexact HF
      iexact HX2
    iexact Hx1
  iapply idle_y $$ HY

theorem later_x {P : Prop} {n t : ℕ} (hP : P ↔ (t = 0 ∧ 0 < n)) (h : ¬P) (hB : B 0 = 0) (hB32 : B 32 = n) (ht : t < 32) :
    (St (F := F) c X V T B t) ⊢ iprop(XSt (F := F) c X (B 32) (B t) ∗ YSt c V T (B t)) := by
  unfold St
  by_cases h0 : t = 0
  · subst h0
    have hn0 : n = 0 := by
      by_contra hne
      exact h (hP.mpr ⟨rfl, Nat.pos_of_ne_zero hne⟩)
    rw [if_pos rfl, hB, hB32, hn0]
    unfold Idle XSt XNow
    rw [if_neg (by decide)]
    iintro ⟨⟨Hx0, Hx1, HX⟩, HY⟩
    isplitr [HY]
    · isplitl [Hx0 HX]
      · isplitl [Hx0]; · iexact Hx0
        iexact HX
      iexact Hx1
    iapply idle_y $$ HY
  · rw [if_neg h0, if_neg (by omega)]

/-! ## The weights -/

/-- The weights in scratch after the staging: if the expert has a block, its own. -/
def Staged (c : Dev nD) (w1 : S1x1024x2048.Idx → Elt F .f32) (w2 : S1x1024x1024.Idx → Elt F .f32) (Q : Prop) : sProp 𝕄 :=
  iprop(∃ P W2, ⌜Q → P = W1P w1 ∧ W2 = k0_pay3 w2⌝ ∗ owns (c : Thread nD τ) (Memref.whole cc0_scratch0 : Memref sig .tc _ _ _) fullShare P
    ∗ owns (c : Thread nD τ) (Memref.whole cc0_scratch1 : Memref sig .tc _ _ _) fullShare W2)

theorem body_run (hS : Segs.Segs a0 a1 a2 B) {w1 : S1x1024x2048.Idx → Elt F .f32} {b1 : S1x1x2048.Idx → Elt F .f32} {w2 : S1x1024x1024.Idx → Elt F .f32} {b2 : S1x1x1024.Idx → Elt F .f32}
    (hT : ∀ g, B (i 0).val ≤ g → g < B ((i 0).val + 1) → T (bk g) = blockPay (xRd X (bk g)) (W1P w1) b1 (k0_pay3 w2) b2) (hZ : ∀ g, B 32 ≤ g → g < 600 → T (bk g) = k0_pay4) :
    iprop(Tbl (F := F) c q a0 a1 a2 ∗ St c X V T B (i 0).val ∗ Ow (F := F) c ∗ Staged (F := F) c w1 w2 False
        ∗ owns (c : Thread nD τ) arg5 fullShare w1 ∗ owns (c : Thread nD τ) arg6 fullShare b1 ∗ owns (c : Thread nD τ) arg7 fullShare w2 ∗ owns (c : Thread nD τ) arg8 fullShare b2)
      ⊢ W c (cc0_experts (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5) fun _ =>
        iprop(Tbl (F := F) c q a0 a1 a2 ∗ St c X V T B ((i 0).val + 1) ∗ Ow (F := F) c ∗ Staged (F := F) c w1 w2 False
          ∗ owns (c : Thread nD τ) arg5 fullShare w1 ∗ owns (c : Thread nD τ) arg6 fullShare b1 ∗ owns (c : Thread nD τ) arg7 fullShare w2 ∗ owns (c : Thread nD τ) arg8 fullShare b2) := by
  have hi : (i 0).val < 32 := (i 0).isLt
  have hpK := seg_le i hS
  have hst := hS.step _ hi
  have hK : B ((i 0).val + 1) - B (i 0).val ≤ 600 := by have := hS.top; omega
  have e1 : B (i 0).val + (B ((i 0).val + 1) - B (i 0).val) = B ((i 0).val + 1) := by omega
  rw [cc0_experts_eq_skeleton]
  unfold cc0_experts_skel
  iintro ⟨Ht, HS, HO, HW, Hw1, Hb1, Hw2, Hb2⟩
  iapply (cut (part13_run (F := F) i arg5 harg5 arg6 harg6 arg7 harg7 arg8 harg8 hS)) $$ Ht
  iintro %r ⟨%hr, Ht⟩
  obtain ⟨hk2, hk1, hr⟩ := hr
  subst hr
  dsimp only
  iapply (if_seq (fun h => first_x (F := F) (B := B) (n := B 32) (t := (i 0).val) hS.top (first_iff hi hS.top) h hS.zero rfl _ _ _ rfl rfl rfl)
    (fun h => later_x (first_iff hi hS.top) h hS.zero rfl hi)) $$ HS
  iintro ⟨HX, HY⟩
  have fin : ∀ P W2, (0 < B ((i 0).val + 1) - B (i 0).val → P = W1P w1 ∧ W2 = k0_pay3 w2) →
      iprop(Tbl (F := F) c q a0 a1 a2 ∗ (XSt (F := F) c X (B 32) (B (i 0).val) ∗ YSt c V T (B (i 0).val)) ∗ Ow (F := F) c
          ∗ (owns (c : Thread nD τ) (Memref.whole cc0_scratch0 : Memref sig .tc _ _ _) fullShare P ∗ owns (c : Thread nD τ) (Memref.whole cc0_scratch1 : Memref sig .tc _ _ _) fullShare W2)
          ∗ owns (c : Thread nD τ) arg5 fullShare w1 ∗ owns (c : Thread nD τ) arg6 fullShare b1 ∗ owns (c : Thread nD τ) arg7 fullShare w2 ∗ owns (c : Thread nD τ) arg8 fullShare b2)
        ⊢ W c (restP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 (B 32)) hk2 (BitVec.ofNat 32 (512 * B (i 0).val)) (fdiv (BitVec.ofNat 32 (512 * B (i 0).val))) (BitVec.ofNat 32 (512 * (B ((i 0).val + 1) - B (i 0).val))) hk1 (fdiv (BitVec.ofNat 32 (512 * (B ((i 0).val + 1) - B (i 0).val))))) fun _ =>
        iprop(Tbl (F := F) c q a0 a1 a2 ∗ St c X V T B ((i 0).val + 1) ∗ Ow (F := F) c ∗ Staged (F := F) c w1 w2 False
          ∗ owns (c : Thread nD τ) arg5 fullShare w1 ∗ owns (c : Thread nD τ) arg6 fullShare b1 ∗ owns (c : Thread nD τ) arg7 fullShare w2 ∗ owns (c : Thread nD τ) arg8 fullShare b2) := by
    intro P W2 hPW
    have hT' : ∀ g, B (i 0).val ≤ g → g < B (i 0).val + (B ((i 0).val + 1) - B (i 0).val) → T (bk g) = blockPay (xRd X (bk g)) P b1 W2 b2 := by
      intro g hg1 hg2
      obtain ⟨hP, hW⟩ := hPW (by omega)
      rw [hP, hW]
      exact hT g hg1 (by omega)
    iintro ⟨Ht, ⟨HX, HY⟩, HO, ⟨Hs0, Hs1⟩, Hw1, Hb1, Hw2, Hb2⟩
    iapply (exec_cut_last _ _ _ (rest_run (F := F) (X := X) (V := V) (T := T) i arg5 harg5 arg6 harg6 arg7 harg7 arg8 harg8 hS.top hpK
      (fun h => by rw [e1, h]) hk2 hk1 _ _ hT' hZ)) $$ [HX HY HO Hs0 Hs1 Hb1 Hb2]
    · isplitl [HX]; · iexact HX
      isplitl [HY]; · iexact HY
      isplitl [HO]; · iexact HO
      unfold Wts
      isplitl [Hs0]; · iexact Hs0
      isplitl [Hb1]; · iexact Hb1
      isplitl [Hs1]; · iexact Hs1
      iexact Hb2
    unfold Wts
    iintro %_ ⟨HD, HO, Hs0, Hb1, Hs1, Hb2⟩
    isplitl [Ht]; · iexact Ht
    isplitl [HD]
    · unfold Done St
      rw [if_neg (Nat.succ_ne_zero _), e1]
      by_cases h31 : (i 0).val = 31
      · rw [if_pos h31, if_pos (by omega)]; exact .rfl
      · rw [if_neg h31, if_neg (by omega)]; exact .rfl
    isplitl [HO]; · iexact HO
    isplitl [Hs0 Hs1]
    · unfold Staged
      iexists P, W2
      isplitr; · ipureintro; exact False.elim
      isplitl [Hs0]; · iexact Hs0
      iexact Hs1
    isplitl [Hw1]; · iexact Hw1
    isplitl [Hb1]; · iexact Hb1
    isplitl [Hw2]; · iexact Hw2
    iexact Hb2
  unfold Staged
  icases HW with ⟨%P, %W2, -, Hs0, Hs1⟩
  by_cases h46 : 0 < B ((i 0).val + 1) - B (i 0).val
  · rw [if_pos ((some_iff hK).mpr h46)]
    ihave HC := (show owns (c : Thread nD τ) (Memref.whole cc0_scratch0 : Memref sig .tc _ _ _) fullShare P ⊢ Cols (F := F) c w1 0 from by
      unfold Cols
      iintro H
      iexists P
      isplitr; · ipureintro; exact ColsOk.zero _ _
      iexact H) $$ Hs0
    iapply (cut (part1_run (F := F) i arg5 harg5 arg6 harg6 arg7 harg7 arg8 harg8)) $$ [Hw1 HC]
    · isplitl [Hw1]; · iexact Hw1
      iexact HC
    iintro %r ⟨%hr, Hw1, HC⟩
    subst hr
    dsimp only
    iapply (cut (part2_run (F := F) i arg5 harg5 arg6 harg6 arg7 harg7 arg8 harg8)) $$ [Hw1 HC]
    · isplitl [Hw1]; · iexact Hw1
      iexact HC
    iintro %r ⟨%hr, Hw1, HC⟩
    subst hr
    iapply (cut keep_cols) $$ HC
    iintro %_ HC
    iapply (cut (store_chunk (L := 6) 6 rfl rfl rfl)) $$ HC
    iintro %_ HC
    iapply (cut (load_chunk arg5 7 rfl)) $$ Hw1
    iintro %v7 ⟨%h7, Hw1⟩
    subst h7
    iapply (cut keep_cols) $$ HC
    iintro %_ HC
    iapply (cut (store_chunk (L := 7) 7 rfl rfl rfl)) $$ HC
    iintro %_ HC
    iapply (cut (load_whole _ (by decide))) $$ Hw2
    iintro %v ⟨%hv, Hw2⟩
    subst hv
    iapply (cut (load_owns _ _)) $$ Hs1
    iintro %_ ⟨-, Hs1⟩
    iapply (cut (store_all _ (by decide))) $$ Hs1
    iintro %_ Hs1
    unfold Cols
    icases HC with ⟨%P', %hP', Hs0⟩
    iapply (W_same (p := restP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 (B 32)) hk2 (BitVec.ofNat 32 (512 * B (i 0).val)) (fdiv (BitVec.ofNat 32 (512 * B (i 0).val))) (BitVec.ofNat 32 (512 * (B ((i 0).val + 1) - B (i 0).val))) hk1 (fdiv (BitVec.ofNat 32 (512 * (B ((i 0).val + 1) - B (i 0).val))))) ?_)
    · rfl
    iapply (fin P' (k0_pay3 v) (fun _ => ⟨hP'.all, rfl⟩))
    isplitl [Ht]; · iexact Ht
    isplitl [HX HY]
    · isplitl [HX]; · iexact HX
      iexact HY
    isplitl [HO]; · iexact HO
    isplitl [Hs0 Hs1]
    · isplitl [Hs0]; · iexact Hs0
      iexact Hs1
    isplitl [Hw1]; · iexact Hw1
    isplitl [Hb1]; · iexact Hb1
    isplitl [Hw2]; · iexact Hw2
    iexact Hb2
  · rw [if_neg (fun h => h46 ((some_iff hK).mp h))]
    iapply (W_same (p := restP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 (B 32)) hk2 (BitVec.ofNat 32 (512 * B (i 0).val)) (fdiv (BitVec.ofNat 32 (512 * B (i 0).val))) (BitVec.ofNat 32 (512 * (B ((i 0).val + 1) - B (i 0).val))) hk1 (fdiv (BitVec.ofNat 32 (512 * (B ((i 0).val + 1) - B (i 0).val))))) ?_)
    · rfl
    iapply (fin P W2 (fun h => absurd h h46))
    isplitl [Ht]; · iexact Ht
    isplitl [HX HY]
    · isplitl [HX]; · iexact HX
      iexact HY
    isplitl [HO]; · iexact HO
    isplitl [Hs0 Hs1]
    · isplitl [Hs0]; · iexact Hs0
      iexact Hs1
    isplitl [Hw1]; · iexact Hw1
    isplitl [Hb1]; · iexact Hb1
    isplitl [Hw2]; · iexact Hw2
    iexact Hb2

end Cert.KernelIdeal.Hand
-- ==== Proof.Run.lean ====
module

public import proofs.«01_k».proof.Proof.Body
public import proofs.«01_k».proof.Proof.Gen.KernelIdeal.Launch
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

/-! The whole run: what the body leaves at each point, the region, and the memory at the end. -/

/-- Expert `e`'s plane of an array with one plane per expert. -/
def plane {α : Type} {p q : ℕ} (A : (⟨3, ![32, p, q]⟩ : Shape).Idx → α) (e : Fin 32) : (⟨3, ![1, p, q]⟩ : Shape).Idx → α :=
  fun j => A (ix3 e (j 1) (j 2))

/-- The result's blocks: the owner's rows, or zeros where no expert owns the block. -/
def Tof (X : S307200x512.Idx → BitVec 32) (W1 : S32x1024x2048.Idx → Elt F .f32) (B1 : S32x1x2048.Idx → Elt F .f32) (W2 : S32x1024x1024.Idx → Elt F .f32)
    (B2 : S32x1x1024.Idx → Elt F .f32) (B : ℕ → ℕ) (γ : Fin 600) : Vec F S1x512x1024 .bf16 :=
  open Classical in
  if h : ∃ e : Fin 32, B e.val ≤ γ.val ∧ γ.val < B (e.val + 1) then
    blockPay (xRd (F := F) X γ) (W1P (plane W1 h.choose)) (plane B1 h.choose) (k0_pay3 (plane W2 h.choose)) (plane B2 h.choose)
  else k0_pay4

section
variable {X : S307200x512.Idx → BitVec 32} {W1 : S32x1024x2048.Idx → Elt F .f32} {B1 : S32x1x2048.Idx → Elt F .f32} {W2 : S32x1024x1024.Idx → Elt F .f32}
    {B2 : S32x1x1024.Idx → Elt F .f32} {B : ℕ → ℕ} {a0 a1 : S32.Idx → BitVec 32} {a2 : S1.Idx → BitVec 32}

theorem Tof_owned (hS : Segs.Segs a0 a1 a2 B) {γ : Fin 600} {e : Fin 32} (h1 : B e.val ≤ γ.val) (h2 : γ.val < B (e.val + 1)) :
    Tof X W1 B1 W2 B2 B γ = blockPay (xRd (F := F) X γ) (W1P (plane W1 e)) (plane B1 e) (k0_pay3 (plane W2 e)) (plane B2 e) := by
  have h : ∃ e : Fin 32, B e.val ≤ γ.val ∧ γ.val < B (e.val + 1) := ⟨e, h1, h2⟩
  unfold Tof
  rw [dif_pos h, show h.choose = e from hS.owner_unique h.choose_spec.1 h.choose_spec.2 h1 h2]

theorem Tof_free (hS : Segs.Segs a0 a1 a2 B) {γ : Fin 600} (hγ : B 32 ≤ γ.val) : Tof X W1 B1 W2 B2 B γ = k0_pay4 (F := F) := by
  have h : ¬∃ e : Fin 32, B e.val ≤ γ.val ∧ γ.val < B (e.val + 1) := by
    rintro ⟨e, -, h2⟩
    have := hS.mono (i := e.val + 1) (j := 32) (by omega) (by omega)
    omega
  unfold Tof
  rw [dif_neg h]
end

variable (m : (ℓ : Loc nD τ sig) → Buf (Elt F) ℓ) (ρ : Dev nD → PrngReg)

/-- What each buffer holds when the region is entered. -/
def V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := rfl
theorem V_arg1 (c : Dev nD) : V m c main_arg1 = m ((c : Thread nD τ).loc main_arg1) := rfl
theorem V_arg2 (c : Dev nD) : V m c main_arg2 = m ((c : Thread nD τ).loc main_arg2) := rfl
theorem V_arg3 (c : Dev nD) : V m c main_arg3 = m ((c : Thread nD τ).loc main_arg3) := rfl
theorem V_arg4 (c : Dev nD) : V m c main_arg4 = m ((c : Thread nD τ).loc main_arg4) := rfl
theorem V_arg5 (c : Dev nD) : V m c main_arg5 = m ((c : Thread nD τ).loc main_arg5) := rfl
theorem V_arg6 (c : Dev nD) : V m c main_arg6 = m ((c : Thread nD τ).loc main_arg6) := rfl
theorem V_arg7 (c : Dev nD) : V m c main_arg7 = m ((c : Thread nD τ).loc main_arg7) := rfl

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl⟩ fun c => main_chain c

/-- The tables' contents. -/
def tabs : (p : Fin 1) → (pcfgs (F := F) p).Adm := fun _ => ⟨fun k => V m 0 (pre0.ref k), trivial⟩

theorem tabs_eq (c : Dev nD) (k : Fin 3) : V m c (pre0.ref k) = (tabs m 0).1 k := by
  rw [show c = 0 from Subsingleton.elim _ _]; rfl

abbrev bounds (c : Dev nD) : ℕ → ℕ := Segs.bnd (m ((c : Thread nD τ).loc main_arg0)) (m ((c : Thread nD τ).loc main_arg2))

/-- The result's blocks at the end of the run. -/
def TT (c : Dev nD) : Fin 600 → Vec F S1x512x1024 .bf16 :=
  Tof (V m c main_arg3) (V m c main_arg4) (V m c main_v2) (V m c main_arg6) (V m c main_v3) (bounds m c)

/-- The matrices' scratch, at anything. -/
def Scr (c : Dev nD) : sProp 𝕄 :=
  iprop((∃ P, owns (c : Thread nD τ) (Memref.whole cc0_scratch0 : Memref sig .tc _ _ _) fullShare P)
    ∗ (∃ P, owns (c : Thread nD τ) (Memref.whole cc0_scratch1 : Memref sig .tc _ _ _) fullShare P))

def Inv (c : Dev nD) (t : ℕ) : sProp 𝕄 :=
  iprop(Tbl (F := F) c fullShare.right (V m c main_arg0) (V m c main_arg1) (V m c main_arg2)
    ∗ St c (V m c main_arg3) (V m c main_v4) (TT m c) (bounds m c) t ∗ Scr (F := F) c ∗ (∃ r, prngReg c r))

abbrev cfgT : Cfg sig Λ₀ := Pipeline.pin (pcfgs (F := F)) (tabs m) 0

theorem point_val (t : Fin (cfgT m).N) : ((grid0.coords t) 0).val = t.val := by
  have h : t.val < 32 := lt_of_lt_of_eq t.isLt N_0
  rw [Pipeline.Grid.coords_val (G := grid0) t 0 (S := 1) (B := 32) (by decide) (by decide), Nat.div_one, Nat.mod_eq_of_lt h]

def pt (t : Fin (cfgT m).N) : Fin 32 := (grid0.coords t) 0

def dats (_ : Fin 1) (c : Dev nD) : Dat τ (Elt F) Unit ℕ (Pipeline.UD sig nD τ) ℕ (cfgT m) c where
  A w := V m c (Pipeline.arrRef spec0 w)
  after w t := match w with
    | 0 => plane (V m c main_arg4) (pt m t)
    | 1 => plane (V m c main_v2) (pt m t)
    | 2 => plane (V m c main_arg6) (pt m t)
    | 3 => plane (V m c main_v3) (pt m t)
    | ⟨_ + 4, h⟩ => absurd h (Nat.not_lt.2 (Nat.le_add_left _ _))
  Φ t := Inv m c t.val
  q _ := fullShare
  owed _ := 0

theorem A_eq (c : Dev nD) (w : Fin (cfgT m).W) : (dats m 0 c).A w = V m c (Pipeline.arrRef spec0 w) := rfl

theorem toNat_pt {n : ℕ} (h : n < 32) : (BitVec.ofNat 32 n).toNat = n := by
  rw [BitVec.toNat_ofNat]; exact Nat.mod_eq_of_lt (by omega)

theorem keep0 (c : Dev nD) (t : Fin (cfgT m).N) : ((cfgT m).win 0).cut ((cfgT m).grid.coords t) ((dats m 0 c).after 0 t) = (dats m 0 c).blockOf 0 t := by
  refine funext fun (j : S1x1024x2048.Idx) => ?_
  show V m c main_arg4 (ix3 (pt m t) (j 1) (j 2)) = V m c main_arg4 _
  congr 1
  funext a; apply Fin.ext
  refine Eq.trans ?_ (Pipeline.Window.rect_emb_val ((cfgT m).win 0) t j a).symm
  have h0 : (j 0).val = 0 := Nat.lt_one_iff.mp (j 0).isLt
  fin_cases a
  · show (pt m t).val = (BitVec.ofNat 32 (pt m t).val).toNat * 1 + (j 0).val
    rw [toNat_pt (pt m t).isLt, h0]; omega
  · show (j 1).val = 0 * _ + (j 1).val
    omega
  · show (j 2).val = 0 * _ + (j 2).val
    omega

theorem keep1 (c : Dev nD) (t : Fin (cfgT m).N) : ((cfgT m).win 1).cut ((cfgT m).grid.coords t) ((dats m 0 c).after 1 t) = (dats m 0 c).blockOf 1 t := by
  refine funext fun (j : S1x1x2048.Idx) => ?_
  show V m c main_v2 (ix3 (pt m t) (j 1) (j 2)) = V m c main_v2 _
  congr 1
  funext a; apply Fin.ext
  refine Eq.trans ?_ (Pipeline.Window.rect_emb_val ((cfgT m).win 1) t j a).symm
  have h0 : (j 0).val = 0 := Nat.lt_one_iff.mp (j 0).isLt
  fin_cases a
  · show (pt m t).val = (BitVec.ofNat 32 (pt m t).val).toNat * 1 + (j 0).val
    rw [toNat_pt (pt m t).isLt, h0]; omega
  · show (j 1).val = 0 * _ + (j 1).val
    omega
  · show (j 2).val = 0 * _ + (j 2).val
    omega

theorem keep2 (c : Dev nD) (t : Fin (cfgT m).N) : ((cfgT m).win 2).cut ((cfgT m).grid.coords t) ((dats m 0 c).after 2 t) = (dats m 0 c).blockOf 2 t := by
  refine funext fun (j : S1x1024x1024.Idx) => ?_
  show V m c main_arg6 (ix3 (pt m t) (j 1) (j 2)) = V m c main_arg6 _
  congr 1
  funext a; apply Fin.ext
  refine Eq.trans ?_ (Pipeline.Window.rect_emb_val ((cfgT m).win 2) t j a).symm
  have h0 : (j 0).val = 0 := Nat.lt_one_iff.mp (j 0).isLt
  fin_cases a
  · show (pt m t).val = (BitVec.ofNat 32 (pt m t).val).toNat * 1 + (j 0).val
    rw [toNat_pt (pt m t).isLt, h0]; omega
  · show (j 1).val = 0 * _ + (j 1).val
    omega
  · show (j 2).val = 0 * _ + (j 2).val
    omega

theorem keep3 (c : Dev nD) (t : Fin (cfgT m).N) : ((cfgT m).win 3).cut ((cfgT m).grid.coords t) ((dats m 0 c).after 3 t) = (dats m 0 c).blockOf 3 t := by
  refine funext fun (j : S1x1x1024.Idx) => ?_
  show V m c main_v3 (ix3 (pt m t) (j 1) (j 2)) = V m c main_v3 _
  congr 1
  funext a; apply Fin.ext
  refine Eq.trans ?_ (Pipeline.Window.rect_emb_val ((cfgT m).win 3) t j a).symm
  have h0 : (j 0).val = 0 := Nat.lt_one_iff.mp (j 0).isLt
  fin_cases a
  · show (pt m t).val = (BitVec.ofNat 32 (pt m t).val).toNat * 1 + (j 0).val
    rw [toNat_pt (pt m t).isLt, h0]; omega
  · show (j 1).val = 0 * _ + (j 1).val
    omega
  · show (j 2).val = 0 * _ + (j 2).val
    omega

theorem found0 (c : Dev nD) (t : Fin (cfgT m).N) (d) : (dats m 0 c).before 0 t d = plane (V m c main_arg4) (pt m t) := by
  rw [Pipeline.Dat.before_in_eq_fetched (dats m 0 c) 0 rfl (fun _ => rfl) (fun _ _ _ => rfl) (keep0 m c) t d]
  unfold Pipeline.Dat.fetched
  rw [← keep0 m c t]
  rfl

theorem found1 (c : Dev nD) (t : Fin (cfgT m).N) (d) : (dats m 0 c).before 1 t d = plane (V m c main_v2) (pt m t) := by
  rw [Pipeline.Dat.before_in_eq_fetched (dats m 0 c) 1 rfl (fun _ => rfl) (fun _ _ _ => rfl) (keep1 m c) t d]
  unfold Pipeline.Dat.fetched
  rw [← keep1 m c t]
  rfl

theorem found2 (c : Dev nD) (t : Fin (cfgT m).N) (d) : (dats m 0 c).before 2 t d = plane (V m c main_arg6) (pt m t) := by
  rw [Pipeline.Dat.before_in_eq_fetched (dats m 0 c) 2 rfl (fun _ => rfl) (fun _ _ _ => rfl) (keep2 m c) t d]
  unfold Pipeline.Dat.fetched
  rw [← keep2 m c t]
  rfl

theorem found3 (c : Dev nD) (t : Fin (cfgT m).N) (d) : (dats m 0 c).before 3 t d = plane (V m c main_v3) (pt m t) := by
  rw [Pipeline.Dat.before_in_eq_fetched (dats m 0 c) 3 rfl (fun _ => rfl) (fun _ _ _ => rfl) (keep3 m c) t d]
  unfold Pipeline.Dat.fetched
  rw [← keep3 m c t]
  rfl

/-! ## The body at every point -/

abbrev ms0 (t : Fin (cfgT m).N) : Memref sig .tc .vmem S1x1024x2048 .f32 := spec0_0.stage ((cfgT m).slots t 0)
abbrev ms1 (t : Fin (cfgT m).N) : Memref sig .tc .vmem S1x1x2048 .f32 := spec0_1.stage ((cfgT m).slots t 1)
abbrev ms2 (t : Fin (cfgT m).N) : Memref sig .tc .vmem S1x1024x1024 .f32 := spec0_2.stage ((cfgT m).slots t 2)
abbrev ms3 (t : Fin (cfgT m).N) : Memref sig .tc .vmem S1x1x1024 .f32 := spec0_3.stage ((cfgT m).slots t 3)

def bodyAt (t : Fin (cfgT m).N) : Prog (TpuEff nD τ sig (Elt F) Λ₀ .tc) PUnit :=
  cc0_experts (F := F) (grid0.coords t) (Memref.whole main_arg0) (Memref.isWhole_whole _) (Memref.whole main_arg1) (Memref.isWhole_whole _) (Memref.whole main_arg2) (Memref.isWhole_whole _) (Memref.whole main_arg3) (Memref.isWhole_whole _) (ms0 m t) (hstage0_0 (((cfgT m).slots t 0).cast nbuf0_0)) (ms1 m t) (hstage0_1 (((cfgT m).slots t 1).cast nbuf0_1)) (ms2 m t) (hstage0_2 (((cfgT m).slots t 2).cast nbuf0_2)) (ms3 m t) (hstage0_3 (((cfgT m).slots t 3).cast nbuf0_3)) (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5

def bodyPre (c : Dev nD) (t : Fin (cfgT m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))
def bodyPost (c : Dev nD) (t : Fin (cfgT m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem sound_body (hS : ∀ c : Dev nD, Segs.Segs (m ((c : Thread nD τ).loc main_arg0)) (m ((c : Thread nD τ).loc main_arg1)) (m ((c : Thread nD τ).loc main_arg2)) (bounds m c))
    (c : Dev nD) (t : Fin (cfgT m).N) :
    bodyPre m c t ⊢ wp frame (wpE (defs₀ (F := F)) Variants.none c none) Set.univ (bodyAt m t) (fun _ => bodyPost m c t) := by
  have hpt : (pt m t).val = t.val := point_val m t
  have key := body_run (F := F) (c := c) (X := V m c main_arg3) (V := V m c main_v4) (T := TT m c) (q := fullShare.right) (grid0.coords t)
    (ms0 m t) (hstage0_0 (((cfgT m).slots t 0).cast nbuf0_0)) (ms1 m t) (hstage0_1 (((cfgT m).slots t 1).cast nbuf0_1))
    (ms2 m t) (hstage0_2 (((cfgT m).slots t 2).cast nbuf0_2)) (ms3 m t) (hstage0_3 (((cfgT m).slots t 3).cast nbuf0_3)) (hS c)
    (w1 := plane (V m c main_arg4) (pt m t)) (b1 := plane (V m c main_v2) (pt m t)) (w2 := plane (V m c main_arg6) (pt m t)) (b2 := plane (V m c main_v3) (pt m t))
    (fun g h1 h2 => Tof_owned (hS c) (e := pt m t)
      (by
        have h3 := (hS c).mono (i := (pt m t).val + 1) (j := 32) (by have := (pt m t).isLt; omega) (by omega)
        have h4 := (hS c).top
        rw [bk_val (lt_of_lt_of_le (lt_of_lt_of_le h2 h3) h4)]; exact h1)
      (by
        have h3 := (hS c).mono (i := (pt m t).val + 1) (j := 32) (by have := (pt m t).isLt; omega) (by omega)
        have h4 := (hS c).top
        rw [bk_val (lt_of_lt_of_le (lt_of_lt_of_le h2 h3) h4)]; exact h2))
    (fun g h1 h2 => Tof_free (hS c) (by rw [bk_val h2]; exact h1))
  rw [show ((grid0.coords t) 0).val = t.val from hpt] at key
  unfold bodyPre bodyPost bodyAt
  simp only [found0, found1, found2, found3]
  rw [show (dats m 0 c).Φ t.succ = Inv m c (t.val + 1) from rfl, show (dats m 0 c).Φ t.castSucc = Inv m c t.val from rfl]
  rw [show (dats m 0 c).after 0 t = plane (V m c main_arg4) (pt m t) from rfl, show (dats m 0 c).after 1 t = plane (V m c main_v2) (pt m t) from rfl,
    show (dats m 0 c).after 2 t = plane (V m c main_arg6) (pt m t) from rfl, show (dats m 0 c).after 3 t = plane (V m c main_v3) (pt m t) from rfl]
  unfold Dat.owesAt Pipeline.owesWithin
  rw [show (dats m 0 c).owed t.castSucc = 0 from rfl, show (dats m 0 c).owed t.succ = 0 from rfl]
  unfold Inv Scr
  iintro ⟨⟨Ht, HS, ⟨⟨%P, Hs0⟩, ⟨%P', Hs1⟩⟩, Hg⟩, ⟨%W, -, HW⟩, ⟨%d0, H0⟩, ⟨%d1, H1⟩, ⟨%d2, H2⟩, ⟨%d3, H3⟩⟩
  iapply (exec_cut_last _ _ _ key) $$ [Ht HS Hs0 Hs1 HW H0 H1 H2 H3]
  · isplitl [Ht]; · iexact Ht
    isplitl [HS]; · iexact HS
    isplitl [HW]
    · unfold Ow; iexists W; iexact HW
    isplitl [Hs0 Hs1]
    · unfold Staged
      iexists P, P'
      isplitr; · ipureintro; exact False.elim
      isplitl [Hs0]; · iexact Hs0
      iexact Hs1
    isplitl [H0]; · iexact H0
    isplitl [H1]; · iexact H1
    isplitl [H2]; · iexact H2
    iexact H3
  unfold Staged Ow
  iintro %_ ⟨Ht, HS, ⟨%W', HW⟩, ⟨%Q, %Q', -, Hs0, Hs1⟩, H0, H1, H2, H3⟩
  isplitl [Ht HS Hs0 Hs1 Hg]
  · isplitl [Ht]; · iexact Ht
    isplitl [HS]; · iexact HS
    isplitl [Hs0 Hs1]
    · isplitl [Hs0]
      · iexists Q; iexact Hs0
      iexists Q'; iexact Hs1
    iexact Hg
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin (cfgT m).N) :
    defs₀ (F := F) .tc (cfgT m).body ((cfgT m).bodyArgs t ((cfgT m).slots t)) = bodyAt m t := by
  unfold defs₀; rw [Defs.onTc_tc]; rfl

theorem body_obligation (hS : ∀ c : Dev nD, Segs.Segs (m ((c : Thread nD τ).loc main_arg0)) (m ((c : Thread nD τ).loc main_arg1)) (m ((c : Thread nD τ).loc main_arg2)) (bounds m c))
    (c : Dev nD) : BodyObligation (dats (F := F) m 0 c) (defs₀ (F := F)) Variants.none () Set.univ := fun t => by
  rw [bigSep_W0, bigSep_W0, defs₀_row]
  exact triple_restated (sound_body m hS c t) rfl .rfl fun _ => .rfl

/-! ## Into the region and out of it -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (xsem 0)) 0 ∗ semVal ((c : Thread nD τ), SemLoc.dma (xsem 1)) 0
          ∗ semVal ((c : Thread nD τ), SemLoc.dma (ysem 0)) 0 ∗ semVal ((c : Thread nD τ), SemLoc.dma (ysem 1)) 0) := by
  rw [Pipeline.ownSems0_eq_of_list c osem0 [0, 1, 2, 3] (by decide) (by decide)]; rfl

def H0 : Finset (Ref sig .tc) := {main_arg3}
def R0 : Finset (Ref sig .tc) := {main_v4}
theorem H0_sub : H0 ⊆ Pipeline.restRefsP sig pre0 spec0 := by decide
theorem R0_sub : R0 ⊆ Pipeline.restRefsP sig pre0 spec0 \ H0 := by decide

/-- What each buffer holds when the region is left. -/
def G (c : Dev nD) : (b : Ref sig .tc) → Buf (Elt F) ((c : Thread nD τ).loc b) :=
  Function.update (V m c) main_v4 (YT (TT m c) : S307200x1024.Idx → Elt F .bf16)

theorem G_out (c : Dev nD) : G m c main_v4 = YT (TT m c) := Function.update_self _ _ _

theorem xSlots : xSet 0 ∪ xSet 1 = Finset.univ := by
  ext i; unfold xSet; simp only [Finset.mem_union, Finset.mem_filter, Finset.mem_univ, true_and, iff_true]
  have : (i 0).val < 2 := (i 0).isLt
  show (i 0).val = 0 ∨ (i 0).val = 1
  omega
theorem ySlots : ySet 0 ∪ ySet 1 = Finset.univ := by
  ext i; unfold ySet; simp only [Finset.mem_union, Finset.mem_filter, Finset.mem_univ, true_and, iff_true]
  have : (i 0).val < 2 := (i 0).isLt
  show (i 0).val = 0 ∨ (i 0).val = 1
  omega
theorem xSlots_disj : Disjoint (xSet 0) (xSet 1) := by
  rw [Finset.disjoint_left]; intro i; unfold xSet; simp only [Finset.mem_filter, Finset.mem_univ, true_and]
  show (i 0).val = 0 → ¬(i 0).val = 1
  omega
theorem ySlots_disj : Disjoint (ySet 0) (ySet 1) := by
  rw [Finset.disjoint_left]; intro i; unfold ySet; simp only [Finset.mem_filter, Finset.mem_univ, true_and]
  show (i 0).val = 0 → ¬(i 0).val = 1
  omega

theorem x_slots_split {c : Dev nD} (f : Buf (Elt F) (xL c)) : (xL c ↦{fullShare} f : sProp 𝕄) ⊢ iprop((xL c ↦[xSet 0]{fullShare} f) ∗ (xL c ↦[xSet 1]{fullShare} f)) := by
  have := (pointsTo_union (nD := nD) (τ := τ) (sig := sig) (Ix := Unit) (Val := Elt F) (Name := ℕ) (U := Pipeline.UD sig nD τ) (Lvl := ℕ) (ℓ := xL c) (q := fullShare) (f := f) xSlots_disj).1
  rw [xSlots] at this; exact this
theorem y_slots_split {c : Dev nD} (f : Buf (Elt F) (yL c)) : (yL c ↦{fullShare} f : sProp 𝕄) ⊢ iprop((yL c ↦[ySet 0]{fullShare} f) ∗ (yL c ↦[ySet 1]{fullShare} f)) := by
  have := (pointsTo_union (nD := nD) (τ := τ) (sig := sig) (Ix := Unit) (Val := Elt F) (Name := ℕ) (U := Pipeline.UD sig nD τ) (Lvl := ℕ) (ℓ := yL c) (q := fullShare) (f := f) ySlots_disj).1
  rw [ySlots] at this; exact this
theorem x_slots_join {c : Dev nD} (f g : Buf (Elt F) (xL c)) : iprop((xL c ↦[xSet 0]{fullShare} f) ∗ (xL c ↦[xSet 1]{fullShare} g)) ⊢ (iprop(∃ f, xL c ↦{fullShare} f) : sProp 𝕄) := by
  have := (pointsTo_join (nD := nD) (τ := τ) (sig := sig) (Ix := Unit) (Val := Elt F) (Name := ℕ) (U := Pipeline.UD sig nD τ) (Lvl := ℕ) (ℓ := xL c) (q := fullShare) (f := f) (g := g) xSlots_disj)
  rw [xSlots] at this
  iintro H
  iexists _
  iapply this $$ H
theorem y_slots_join {c : Dev nD} (f g : Buf (Elt F) (yL c)) : iprop((yL c ↦[ySet 0]{fullShare} f) ∗ (yL c ↦[ySet 1]{fullShare} g)) ⊢ (iprop(∃ f, yL c ↦{fullShare} f) : sProp 𝕄) := by
  have := (pointsTo_join (nD := nD) (τ := τ) (sig := sig) (Ix := Unit) (Val := Elt F) (Name := ℕ) (U := Pipeline.UD sig nD τ) (Lvl := ℕ) (ℓ := yL c) (q := fullShare) (f := f) (g := g) ySlots_disj)
  rw [ySlots] at this
  iintro H
  iexists _
  iapply this $$ H

theorem tabs_held (c : Dev nD) :
    (Pipeline.ΦT (U := Pipeline.UD sig nD τ) pre0 (tabs m 0).1 c : sProp 𝕄) = Tbl (F := F) c fullShare.right (V m c main_arg0) (V m c main_arg1) (V m c main_arg2) := by
  unfold Pipeline.ΦT Pipeline.prefHeld
  rw [show (tabs m 0).1 = fun k => V m c (pre0.ref k) from funext fun k => (tabs_eq m c k).symm]
  exact bigSep_univ_eq_bigSepL [(0 : Fin 3), (1 : Fin 3), (2 : Fin 3)] (by decide) (by decide) _

/-- The region's resources with the written buffer at `Y`. -/
def Ends (c : Dev nD) (Y : S307200x1024.Idx → Elt F .bf16) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) (xL c), xL c ↦{fullShare} f) ∗ (∃ f : Buf (Elt F) (yL c), yL c ↦{fullShare} f))
    ∗ (∃ r, prngReg c r)
    ∗ (semVal ((c : Thread nD τ), SemLoc.dma (xsem 0)) 0 ∗ semVal ((c : Thread nD τ), SemLoc.dma (xsem 1)) 0
          ∗ semVal ((c : Thread nD τ), SemLoc.dma (ysem 0)) 0 ∗ semVal ((c : Thread nD τ), SemLoc.dma (ysem 1)) 0)
    ∗ (xG c ↦{fullShare} (V m c main_arg3 : Buf (Elt F) (xG c))) ∗ (yG c ↦{fullShare} (Y : Buf (Elt F) (yG c))))

theorem ends_in (c : Dev nD) : (Pipeline.ΦDRG osem0 spec0 H0 R0 (V m) (V m) c : sProp 𝕄) = Ends m c (V m c main_v4) := by
  rw [Pipeline.ΦDRG_eq, scopedRest0_eq, ownSems00_eq]
  unfold Pipeline.routed H0 R0
  rw [bigSep_singleton, bigSep_singleton]
  rfl
theorem ends_out (c : Dev nD) : (Pipeline.ΦDRG osem0 spec0 H0 R0 (V m) (G m) c : sProp 𝕄) = Ends m c (YT (TT m c)) := by
  rw [Pipeline.ΦDRG_eq, scopedRest0_eq, ownSems00_eq]
  unfold Pipeline.routed H0 R0
  rw [bigSep_singleton, bigSep_singleton, G_out]
  rfl

theorem idle_in (c : Dev nD) (Y : S307200x1024.Idx → Elt F .bf16) :
    Ends m c Y ⊢ iprop(Idle c (V m c main_arg3) Y ∗ Scr (F := F) c ∗ (∃ r, prngReg c r)) := by
  unfold Ends Idle Scr XFree YFree
  iintro ⟨⟨⟨%f0, Hs0⟩, ⟨%f1, Hs1⟩, ⟨%f2, Hx⟩, ⟨%f3, Hy⟩⟩, Hg, ⟨Hd0, Hd1, Hd2, Hd3⟩, HX, HY⟩
  ihave Hx' := (x_slots_split f2) $$ Hx
  icases Hx' with ⟨Hx0, Hx1⟩
  ihave Hy' := (y_slots_split f3) $$ Hy
  icases Hy' with ⟨Hy0, Hy1⟩
  isplitl [Hd0 Hd1 Hd2 Hd3 HX HY Hx0 Hx1 Hy0 Hy1]
  · isplitl [Hd0 Hd1 HX Hx0 Hx1]
    · isplitl [Hd0 Hx0]
      · isplitl [Hx0]
        · iexists f2; iexact Hx0
        iexact Hd0
      isplitl [Hd1 Hx1]
      · isplitl [Hx1]
        · iexists f2; iexact Hx1
        iexact Hd1
      iexact HX
    isplitl [Hd2 Hy0]
    · isplitl [Hy0]
      · iexists f3; iexact Hy0
      iexact Hd2
    isplitl [Hd3 Hy1]
    · isplitl [Hy1]
      · iexists f3; iexact Hy1
      iexact Hd3
    iexact HY
  isplitr [Hg]
  · isplitl [Hs0]
    · iexists f0; rw [owns_whole]; iexact Hs0
    iexists f1; rw [owns_whole]; iexact Hs1
  iexact Hg

theorem idle_out (c : Dev nD) (Y : S307200x1024.Idx → Elt F .bf16) :
    iprop(Idle c (V m c main_arg3) Y ∗ Scr (F := F) c ∗ (∃ r, prngReg c r)) ⊢ Ends m c Y := by
  unfold Ends Idle Scr XFree YFree
  simp only [owns_whole]
  iintro ⟨⟨⟨⟨⟨%f0, Hx0⟩, Hd0⟩, ⟨⟨%f1, Hx1⟩, Hd1⟩, HX⟩, ⟨⟨%f2, Hy0⟩, Hd2⟩, ⟨⟨%f3, Hy1⟩, Hd3⟩, HY⟩, ⟨⟨%g0, Hs0⟩, ⟨%g1, Hs1⟩⟩, Hg⟩
  isplitl [Hx0 Hx1 Hy0 Hy1 Hs0 Hs1]
  · isplitl [Hs0]
    · iexists g0; iexact Hs0
    isplitl [Hs1]
    · iexists g1; iexact Hs1
    isplitl [Hx0 Hx1]
    · iapply (x_slots_join f0 f1)
      isplitl [Hx0]; · iexact Hx0
      iexact Hx1
    iapply (y_slots_join f2 f3)
    isplitl [Hy0]; · iexact Hy0
    iexact Hy1
  isplitl [Hg]; · iexact Hg
  isplitl [Hd0 Hd1 Hd2 Hd3]
  · isplitl [Hd0]; · iexact Hd0
    isplitl [Hd1]; · iexact Hd1
    isplitl [Hd2]; · iexact Hd2
    iexact Hd3
  isplitl [HX]; · iexact HX
  iexact HY

theorem region_in (c : Dev nD) : iprop(Pipeline.ΦDRG osem0 spec0 H0 R0 (V m) (V m) c ∗ Pipeline.ΦT (U := Pipeline.UD sig nD τ) pre0 (tabs m 0).1 c) ⊢ (dats m 0 c).Φ 0 := by
  rw [ends_in, tabs_held]
  have h : (iprop(Tbl (F := F) c fullShare.right (V m c main_arg0) (V m c main_arg1) (V m c main_arg2)
    ∗ Idle c (V m c main_arg3) (V m c main_v4) ∗ Scr (F := F) c ∗ (∃ r, prngReg c r)) : sProp 𝕄) ⊢ (dats m 0 c).Φ 0 := by
      rw [show (dats m 0 c).Φ 0 = Inv m c 0 from rfl]
      unfold Inv St
      rw [if_pos rfl]
  iintro ⟨HE, HT⟩
  iapply h
  isplitl [HT]; · iexact HT
  iapply (idle_in m c _) $$ HE

theorem region_out (c : Dev nD) : (dats m 0 c).Φ (Fin.last (cfgT m).N) ⊢ Pipeline.ΦDRG osem0 spec0 H0 R0 (V m) (G m) c := by
  rw [ends_out]
  rw [show (dats m 0 c).Φ (Fin.last (cfgT m).N) = Inv m c 32 from congrArg (Inv m c) N_0]
  unfold Inv St
  rw [if_neg (by decide), if_pos rfl]
  iintro ⟨-, HI⟩
  iapply (idle_out m c _) $$ HI

set_option backward.isDefEq.respectTransparency.types false in
theorem run_main (hS : ∀ c : Dev nD, Segs.Segs (m ((c : Thread nD τ).loc main_arg0)) (m ((c : Thread nD τ).loc main_arg1)) (m ((c : Thread nD τ).loc main_arg2)) (bounds m c)) :
    θ_run defs (onTc (τ := τ) (main (F := F))) (s₀ m ρ) (fun r => Pipeline.FramePostRG (Pipeline.pin pcfgs (tabs m)) (dats m) 0 R0 (V m) (G m) r ∧ r.2.sem = fun _ => 0) :=
  Pipeline.θ_run_frameP_dmaRG (Q' := _) pcfgs (tabs m) (dats m) (0 : Fin 1) launch0 osem0 defs₀ Variants.none ownSemFacts0 H0 R0 H0_sub R0_sub m ρ main
    (hbody := fun c => (body_obligation m hS c).loose) (hshare := fun c => (dats m 0 c).share_full fun _ => rfl)
    (howed := fun _ _ => rfl) (V := V m) (hmain := hmain m Variants.none) (hA := A_eq m) (hpf := tabs_eq m) (G := G m)
    (hin := region_in m) (hout := region_out m)

theorem rest_mem (b : Ref sig .tc) (h : b ∈ Pipeline.restRefs sig spec0 \ R0) : b ∈ Pipeline.restRefs sig (cfgT m).spec \ R0 := h

/-- The run's end: the arguments unchanged, the result's blocks, every counter at zero. -/
theorem run_ends (hS : ∀ c : Dev nD, Segs.Segs (m ((c : Thread nD τ).loc main_arg0)) (m ((c : Thread nD τ).loc main_arg1)) (m ((c : Thread nD τ).loc main_arg2)) (bounds m c)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v4) = YT (TT m c))
      ∧ r.2.sem = fun _ => 0) :=
  (θ_run defs _ _).mono (fun r h => ⟨fun c => ⟨⟨
      (h.1.1 c).2 main_arg0 (rest_mem m main_arg0 (by decide)),
      (h.1.1 c).2 main_arg1 (rest_mem m main_arg1 (by decide)),
      (h.1.1 c).2 main_arg2 (rest_mem m main_arg2 (by decide)),
      (h.1.1 c).2 main_arg3 (rest_mem m main_arg3 (by decide)),
      ((h.1.1 c).1 0).trans ((dats m 0 c).arrAt_in 0 rfl _),
      (h.1.1 c).2 main_arg5 (rest_mem m main_arg5 (by decide)),
      ((h.1.1 c).1 2).trans ((dats m 0 c).arrAt_in 2 rfl _),
      (h.1.1 c).2 main_arg7 (rest_mem m main_arg7 (by decide))⟩,
      (h.1.2 c main_v4 (by decide)).trans (G_out m c)⟩, h.2⟩) (run_main m ρ hS)

end Cert.KernelIdeal.Hand
-- ==== Proof.Packed.Words.lean ====
/- The program's words: what the grid point's table words make of the counted loops' bounds, the offsets and the branch
   conditions, in closed form over the block number; and the side conditions the body assumes, from those. -/
module

public import proofs.«01_k».proof.Proof.Gen.KernelPacked.Skeleton

@[expose] public section

set_option maxRecDepth 16384

noncomputable section

namespace Cert.KernelPacked.Hand

open Cert.KernelPacked Cert.KernelPacked.Gen
open Idealize.ShloMosaic Idealize.ShloMosaic.TcCoe

/-- The floor division by 512 as the kernel computes it. -/
def fdiv (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 512#32 0#32)) (Scalar.extui (Scalar.cmpi .slt 512#32 0#32) : BitVec 32)))
    (Scalar.cmpi .ne (Scalar.remsi w 512#32) 0#32)) (Scalar.subi (Scalar.divsi w 512#32) 1#32) (Scalar.divsi w 512#32)

theorem fdiv_fin : ∀ p : Fin 601, fdiv (BitVec.ofNat 32 (512 * p.val)) = BitVec.ofNat 32 p.val := by decide +kernel
theorem fdiv_eq {p : ℕ} (hp : p ≤ 600) : fdiv (BitVec.ofNat 32 (512 * p)) = BitVec.ofNat 32 p := fdiv_fin ⟨p, by omega⟩

/-- The number of the block that trip `t` of the expert whose rows start at word `w` works on. -/
def gw (w : BitVec 32) (t : ℕ) : BitVec 32 := Scalar.addi (fdiv w) (Scf.iv 0#32 1#32 t)

theorem gw_eq {p t : ℕ} (hp : p ≤ 600) : gw (BitVec.ofNat 32 (512 * p)) t = BitVec.ofNat 32 (p + t) := by
  unfold gw; rw [fdiv_eq hp]; unfold Scf.iv Scalar.addi
  show BitVec.ofNat 32 p + (0#32 + BitVec.ofNat 32 t * 1#32) = _
  rw [BitVec.mul_one, BitVec.zero_add, ← BitVec.ofNat_add]

/-- The word facts of one block number, decided. -/
theorem w_fin : ∀ g : Fin 600,
    (Scalar.andi (BitVec.ofNat 32 g.val) 1#32).toNat = g.val % 2
    ∧ (Scalar.subi 1#32 (Scalar.andi (BitVec.ofNat 32 g.val) 1#32)).toNat = (g.val + 1) % 2
    ∧ (Scalar.muli (BitVec.ofNat 32 g.val) 512#32).toNat = 512 * g.val
    ∧ (Scalar.muli (Scalar.addi (BitVec.ofNat 32 g.val) 1#32) 512#32).toNat = 512 * (g.val + 1)
    ∧ (Scalar.cmpi .ne (Scalar.extui (Scalar.cmpi .sge (BitVec.ofNat 32 g.val) 2#32) : BitVec 32) 0#32 = 1#1 ↔ 2 ≤ g.val)
    ∧ (2 ≤ g.val → (Scalar.muli (Scalar.subi (BitVec.ofNat 32 g.val) 2#32) 512#32).toNat = 512 * (g.val - 2)) := by decide +kernel

theorem slt_ofNat {a b : ℕ} (ha : a ≤ 601) (hb : b ≤ 601) :
    (Scalar.cmpi .ne (Scalar.extui (Scalar.cmpi .slt (BitVec.ofNat 32 a) (BitVec.ofNat 32 b)) : BitVec 32) 0#32 = 1#1 ↔ a < b) := by
  have e : (BitVec.ofNat 32 a).slt (BitVec.ofNat 32 b) = decide (a < b) := by
    rw [BitVec.slt_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    congr 1; apply propext; omega
  by_cases h : a < b
  · have : Scalar.cmpi .slt (BitVec.ofNat 32 a) (BitVec.ofNat 32 b) = 1#1 := by
      show BitVec.ofBool ((BitVec.ofNat 32 a).slt (BitVec.ofNat 32 b)) = 1#1
      rw [e, decide_eq_true h]; rfl
    rw [this]; exact iff_of_true (by decide) h
  · have : Scalar.cmpi .slt (BitVec.ofNat 32 a) (BitVec.ofNat 32 b) = 0#1 := by
      show BitVec.ofBool ((BitVec.ofNat 32 a).slt (BitVec.ofNat 32 b)) = 0#1
      rw [e, decide_eq_false h]; rfl
    rw [this]; exact iff_of_false (by decide) h

/-! ## The loops -/

theorem div1_fin : ∀ k : Fin 601, Scalar.addi 0#32 (Scalar.muli (Scalar.divsi (Scalar.subi (BitVec.ofNat 32 k.val) 0#32) 1#32) 1#32) = BitVec.ofNat 32 k.val
    ∧ (Scf.Loop.mk 0#32 (BitVec.ofNat 32 k.val) 1#32).trips = k.val ∧ (Scf.Loop.mk 0#32 (BitVec.ofNat 32 k.val) 1#32).OK
    ∧ (Scf.Loop.mk (BitVec.ofNat 32 k.val) (Scalar.addi 0#32 (Scalar.subi (BitVec.ofNat 32 k.val) 0#32)) 1#32).trips = 0
    ∧ (Scf.Loop.mk (BitVec.ofNat 32 k.val) (Scalar.addi 0#32 (Scalar.subi (BitVec.ofNat 32 k.val) 0#32)) 1#32).OK
    ∧ Scalar.subi 600#32 (BitVec.ofNat 32 k.val) = BitVec.ofNat 32 (600 - k.val) := by decide +kernel

variable {p K n : ℕ}

theorem t1_loop_eq (hK : K ≤ 600) : k0_t1_loop (BitVec.ofNat 32 (512 * K)) = ⟨0#32, BitVec.ofNat 32 K, 1#32⟩ := by
  show Scf.Loop.mk 0#32 (Scalar.addi 0#32 (Scalar.muli (Scalar.divsi (Scalar.subi (fdiv (BitVec.ofNat 32 (512 * K))) 0#32) 1#32) 1#32)) 1#32 = _
  rw [fdiv_eq hK, (div1_fin ⟨K, by omega⟩).1]
theorem t2_loop_eq (hK : K ≤ 600) : k0_t2_loop (BitVec.ofNat 32 (512 * K))
    = ⟨BitVec.ofNat 32 K, Scalar.addi 0#32 (Scalar.subi (BitVec.ofNat 32 K) 0#32), 1#32⟩ := by
  show Scf.Loop.mk (Scalar.addi 0#32 (Scalar.muli (Scalar.divsi (Scalar.subi (fdiv (BitVec.ofNat 32 (512 * K))) 0#32) 1#32) 1#32))
    (Scalar.addi 0#32 (Scalar.subi (fdiv (BitVec.ofNat 32 (512 * K))) 0#32)) 1#32 = _
  rw [fdiv_eq hK, (div1_fin ⟨K, by omega⟩).1]
theorem t3_loop_eq (hn : n ≤ 600) : k0_t3_loop (BitVec.ofNat 32 n) = ⟨0#32, BitVec.ofNat 32 (600 - n), 1#32⟩ := by
  show Scf.Loop.mk 0#32 (Scalar.addi 0#32 (Scalar.muli (Scalar.divsi (Scalar.subi (Scalar.subi 600#32 (BitVec.ofNat 32 n)) 0#32) 1#32) 1#32)) 1#32 = _
  rw [(div1_fin ⟨n, by omega⟩).2.2.2.2.2, (div1_fin ⟨600 - n, by omega⟩).1]
theorem t5_loop_eq (hn : n ≤ 600) : k0_t5_loop (BitVec.ofNat 32 n) = ⟨0#32, BitVec.ofNat 32 (600 - n), 1#32⟩ := t3_loop_eq hn
theorem t4_loop_eq (hn : n ≤ 600) : k0_t4_loop (BitVec.ofNat 32 n)
    = ⟨BitVec.ofNat 32 (600 - n), Scalar.addi 0#32 (Scalar.subi (BitVec.ofNat 32 (600 - n)) 0#32), 1#32⟩ := by
  show Scf.Loop.mk (Scalar.addi 0#32 (Scalar.muli (Scalar.divsi (Scalar.subi (Scalar.subi 600#32 (BitVec.ofNat 32 n)) 0#32) 1#32) 1#32))
    (Scalar.addi 0#32 (Scalar.subi (Scalar.subi 600#32 (BitVec.ofNat 32 n)) 0#32)) 1#32 = _
  rw [(div1_fin ⟨n, by omega⟩).2.2.2.2.2, (div1_fin ⟨600 - n, by omega⟩).1]
theorem t6_loop_eq (hn : n ≤ 600) : k0_t6_loop (BitVec.ofNat 32 n)
    = ⟨BitVec.ofNat 32 (600 - n), Scalar.addi 0#32 (Scalar.subi (BitVec.ofNat 32 (600 - n)) 0#32), 1#32⟩ := t4_loop_eq hn

theorem t1_trips (hK : K ≤ 600) : (k0_t1_loop (BitVec.ofNat 32 (512 * K))).trips = K := by
  rw [t1_loop_eq hK]; exact (div1_fin ⟨K, by omega⟩).2.1
theorem t2_trips (hK : K ≤ 600) : (k0_t2_loop (BitVec.ofNat 32 (512 * K))).trips = 0 := by
  rw [t2_loop_eq hK]; exact (div1_fin ⟨K, by omega⟩).2.2.2.1
theorem t3_trips (hn : n ≤ 600) : (k0_t3_loop (BitVec.ofNat 32 n)).trips = 600 - n := by
  rw [t3_loop_eq hn]; exact (div1_fin ⟨600 - n, by omega⟩).2.1
theorem t5_trips (hn : n ≤ 600) : (k0_t5_loop (BitVec.ofNat 32 n)).trips = 600 - n := t3_trips hn
theorem t4_trips (hn : n ≤ 600) : (k0_t4_loop (BitVec.ofNat 32 n)).trips = 0 := by
  rw [t4_loop_eq hn]; exact (div1_fin ⟨600 - n, by omega⟩).2.2.2.1
theorem t6_trips (hn : n ≤ 600) : (k0_t6_loop (BitVec.ofNat 32 n)).trips = 0 := t4_trips hn

/-! ## Offsets and conditions of a trip over block `p + t` -/

section trip
variable {v21 : BitVec 32} (t : Fin (k0_t1_loop v21).trips) {g : ℕ}

theorem bw_eq (hp : p ≤ 600) (hg : p + t.val = g) : gw (BitVec.ofNat 32 (512 * p)) t.val = BitVec.ofNat 32 g := by
  rw [gw_eq hp, hg]

theorem off2_eq (hp : p ≤ 600) (hg : p + t.val = g) (h : g < 600) : k0_off2 (BitVec.ofNat 32 (512 * p)) v21 t = ![g % 2] := by
  show ![(Scalar.andi (gw (BitVec.ofNat 32 (512 * p)) t.val) 1#32).toNat] = _
  rw [bw_eq t hp hg, (w_fin ⟨g, h⟩).1]
theorem off3_eq (hp : p ≤ 600) (hg : p + t.val = g) (h : g < 600) : k0_off3 (BitVec.ofNat 32 (512 * p)) v21 t = ![g % 2, 0, 0] := by
  show ![(Scalar.andi (gw (BitVec.ofNat 32 (512 * p)) t.val) 1#32).toNat, 0, 0] = _
  rw [bw_eq t hp hg, (w_fin ⟨g, h⟩).1]
theorem off8_eq (hp : p ≤ 600) (hg : p + t.val = g) (h : g < 600) : k0_off8 (BitVec.ofNat 32 (512 * p)) v21 t = ![g % 2] := off2_eq t hp hg h
theorem off10_eq (hp : p ≤ 600) (hg : p + t.val = g) (h : g < 600) : k0_off10 (BitVec.ofNat 32 (512 * p)) v21 t = ![g % 2, 0, 0] := off3_eq t hp hg h
theorem off11_eq (hp : p ≤ 600) (hg : p + t.val = g) (h : g < 600) : k0_off11 (BitVec.ofNat 32 (512 * p)) v21 t = ![g % 2, 0, 0] := off3_eq t hp hg h
theorem off5_eq (hp : p ≤ 600) (hg : p + t.val = g) (h : g < 600) : k0_off5 (BitVec.ofNat 32 (512 * p)) v21 t = ![(g + 1) % 2] := by
  show ![(Scalar.subi 1#32 (Scalar.andi (gw (BitVec.ofNat 32 (512 * p)) t.val) 1#32)).toNat] = _
  rw [bw_eq t hp hg, (w_fin ⟨g, h⟩).2.1]
theorem off6_eq (hp : p ≤ 600) (hg : p + t.val = g) (h : g < 600) : k0_off6 (BitVec.ofNat 32 (512 * p)) v21 t = ![(g + 1) % 2, 0, 0] := by
  show ![(Scalar.subi 1#32 (Scalar.andi (gw (BitVec.ofNat 32 (512 * p)) t.val) 1#32)).toNat, 0, 0] = _
  rw [bw_eq t hp hg, (w_fin ⟨g, h⟩).2.1]
theorem mult2_eq (hp : p ≤ 600) (hg : p + t.val = g) (h : g < 600) : (k0_mult2 (BitVec.ofNat 32 (512 * p)) v21 t).toNat = 512 * g := by
  show (Scalar.muli (gw (BitVec.ofNat 32 (512 * p)) t.val) 512#32).toNat = _
  rw [bw_eq t hp hg, (w_fin ⟨g, h⟩).2.2.1]
theorem off4_eq (hp : p ≤ 600) (hg : p + t.val = g) (h : g < 600) : k0_off4 (BitVec.ofNat 32 (512 * p)) v21 t = ![512 * g, 0] :=
  congrArg (fun x => ![x, 0]) (mult2_eq t hp hg h)
theorem mult3_eq (hp : p ≤ 600) (hg : p + t.val = g) (h : g < 600) : (k0_mult3 (BitVec.ofNat 32 (512 * p)) v21 t).toNat = 512 * (g + 1) := by
  show (Scalar.muli (Scalar.addi (gw (BitVec.ofNat 32 (512 * p)) t.val) 1#32) 512#32).toNat = _
  rw [bw_eq t hp hg, (w_fin ⟨g, h⟩).2.2.2.1]
theorem off7_eq (hp : p ≤ 600) (hg : p + t.val = g) (h : g < 600) : k0_off7 (BitVec.ofNat 32 (512 * p)) v21 t = ![512 * (g + 1), 0] :=
  congrArg (fun x => ![x, 0]) (mult3_eq t hp hg h)
theorem cond4_iff (hp : p ≤ 600) (hg : p + t.val = g) (h : g < 600) : k0_cond4 (BitVec.ofNat 32 (512 * p)) v21 t = 1#1 ↔ 2 ≤ g := by
  show Scalar.cmpi .ne (Scalar.extui (Scalar.cmpi .sge (gw (BitVec.ofNat 32 (512 * p)) t.val) 2#32) : BitVec 32) 0#32 = 1#1 ↔ _
  rw [bw_eq t hp hg]; exact (w_fin ⟨g, h⟩).2.2.2.2.1
theorem mult4_eq (hp : p ≤ 600) (hg : p + t.val = g) (h : g < 600) (h2 : 2 ≤ g) : (k0_mult4 (BitVec.ofNat 32 (512 * p)) v21 t).toNat = 512 * (g - 2) := by
  show (Scalar.muli (Scalar.subi (gw (BitVec.ofNat 32 (512 * p)) t.val) 2#32) 512#32).toNat = _
  rw [bw_eq t hp hg, (w_fin ⟨g, h⟩).2.2.2.2.2 h2]
theorem off9_eq (hp : p ≤ 600) (hg : p + t.val = g) (h : g < 600) (h2 : 2 ≤ g) : k0_off9 (BitVec.ofNat 32 (512 * p)) v21 t = ![512 * (g - 2), 0] :=
  congrArg (fun x => ![x, 0]) (mult4_eq t hp hg h h2)
theorem cond3_iff (hp : p ≤ 600) (hg : p + t.val = g) (h : g < 600) (hn : n ≤ 600) :
    k0_cond3 (BitVec.ofNat 32 n) (BitVec.ofNat 32 (512 * p)) v21 t = 1#1 ↔ g + 1 < n := by
  show Scalar.cmpi .ne (Scalar.extui (Scalar.cmpi .slt (Scalar.addi (gw (BitVec.ofNat 32 (512 * p)) t.val) 1#32) (BitVec.ofNat 32 n)) : BitVec 32) 0#32 = 1#1 ↔ _
  rw [bw_eq t hp hg]
  have e : Scalar.addi (BitVec.ofNat 32 g) 1#32 = BitVec.ofNat 32 (g + 1) := (BitVec.ofNat_add g 1).symm
  rw [e]; exact slt_ofNat (by omega) (by omega)
end trip

/-! ## The last grid point's words -/

theorem d_fin : ∀ n : Fin 601,
    (k0_cond8 (BitVec.ofNat 32 n.val) = 1#1 ↔ 2 ≤ n.val) ∧ (k0_cond9 (BitVec.ofNat 32 n.val) = 1#1 ↔ 1 ≤ n.val)
    ∧ (2 ≤ n.val → (k0_mult10 (BitVec.ofNat 32 n.val)).toNat = 512 * (n.val - 2)
        ∧ (Scalar.andi (Scalar.subi (BitVec.ofNat 32 n.val) 2#32) 1#32).toNat = n.val % 2)
    ∧ (1 ≤ n.val → (k0_mult11 (BitVec.ofNat 32 n.val)).toNat = 512 * (n.val - 1)
        ∧ (Scalar.andi (Scalar.subi (BitVec.ofNat 32 n.val) 1#32) 1#32).toNat = (n.val + 1) % 2)
    ∧ (Scalar.muli (BitVec.ofNat 32 n.val) 512#32).toNat = 512 * n.val
    ∧ (Scalar.cmpi .sgt (BitVec.ofNat 32 n.val) 0#32 = 1#1 ↔ 0 < n.val) := by decide +kernel

theorem cond8_iff (hn : n ≤ 600) : k0_cond8 (BitVec.ofNat 32 n) = 1#1 ↔ 2 ≤ n := (d_fin ⟨n, by omega⟩).1
theorem cond9_iff (hn : n ≤ 600) : k0_cond9 (BitVec.ofNat 32 n) = 1#1 ↔ 1 ≤ n := (d_fin ⟨n, by omega⟩).2.1
theorem off22_eq (hn : n ≤ 600) (h : 2 ≤ n) : k0_off22 (BitVec.ofNat 32 n) = ![n % 2] := congrArg (fun x => ![x]) ((d_fin ⟨n, by omega⟩).2.2.1 h).2
theorem off23_eq (hn : n ≤ 600) (h : 2 ≤ n) : k0_off23 (BitVec.ofNat 32 n) = ![512 * (n - 2), 0] := congrArg (fun x => ![x, 0]) ((d_fin ⟨n, by omega⟩).2.2.1 h).1
theorem off24_eq (hn : n ≤ 600) (h : 2 ≤ n) : k0_off24 (BitVec.ofNat 32 n) = ![n % 2, 0, 0] := congrArg (fun x => ![x, 0, 0]) ((d_fin ⟨n, by omega⟩).2.2.1 h).2
theorem off25_eq (hn : n ≤ 600) (h : 1 ≤ n) : k0_off25 (BitVec.ofNat 32 n) = ![(n + 1) % 2] := congrArg (fun x => ![x]) ((d_fin ⟨n, by omega⟩).2.2.2.1 h).2
theorem off26_eq (hn : n ≤ 600) (h : 1 ≤ n) : k0_off26 (BitVec.ofNat 32 n) = ![512 * (n - 1), 0] := congrArg (fun x => ![x, 0]) ((d_fin ⟨n, by omega⟩).2.2.2.1 h).1
theorem off27_eq (hn : n ≤ 600) (h : 1 ≤ n) : k0_off27 (BitVec.ofNat 32 n) = ![(n + 1) % 2, 0, 0] := congrArg (fun x => ![x, 0, 0]) ((d_fin ⟨n, by omega⟩).2.2.2.1 h).2
theorem mult12_eq (hn : n ≤ 600) (t : Fin (k0_t3_loop (BitVec.ofNat 32 n)).trips) : (k0_mult12 (BitVec.ofNat 32 n) t).toNat = 512 * (n + t.val) := by
  have ht : t.val < 600 - n := lt_of_lt_of_eq t.isLt (t3_trips hn)
  show (Scalar.muli (Scalar.addi (BitVec.ofNat 32 n) (Scf.iv 0#32 1#32 t.val)) 512#32).toNat = _
  have e : Scalar.addi (BitVec.ofNat 32 n) (Scf.iv 0#32 1#32 t.val) = BitVec.ofNat 32 (n + t.val) := by
    show BitVec.ofNat 32 n + (0#32 + BitVec.ofNat 32 t.val * 1#32) = _
    rw [BitVec.mul_one, BitVec.zero_add, ← BitVec.ofNat_add]
  rw [e]; exact (d_fin ⟨n + t.val, by omega⟩).2.2.2.2.1
theorem off28_eq (hn : n ≤ 600) (t : Fin (k0_t3_loop (BitVec.ofNat 32 n)).trips) : k0_off28 (BitVec.ofNat 32 n) t = ![512 * (n + t.val), 0] :=
  congrArg (fun x => ![x, 0]) (mult12_eq hn t)
theorem off30_eq (hn : n ≤ 600) (t : Fin (k0_t5_loop (BitVec.ofNat 32 n)).trips) : k0_off30 (BitVec.ofNat 32 n) t = ![512 * (n + t.val), 0] :=
  off28_eq hn t
theorem cond7_fin : ∀ j : Fin 32, Scalar.cmpi .ne (Scalar.extui (Scalar.cmpi .eq (BitVec.ofNat 32 j.val) 31#32) : BitVec 32) 0#32 = 1#1 ↔ j.val = 31 := by decide +kernel
theorem cond7_iff (i : grid0.Coords) : k0_cond7 i = 1#1 ↔ (i 0).val = 31 := cond7_fin (i 0)

/-! ## The side conditions -/

theorem inb_sem {o : Fin 1 → ℕ} {b : ℕ} (ho : o = ![b % 2]) : ∀ a, o a + S1.size a ≤ S2.size a := by
  subst ho; intro a; fin_cases a; show b % 2 + 1 ≤ 2; omega
theorem inb_xslot {o : Fin 3 → ℕ} {b : ℕ} (ho : o = ![b % 2, 0, 0]) : ∀ a, o a + S1x512x512.size a ≤ S2x512x512.size a := by
  subst ho; intro a; fin_cases a
  · show b % 2 + 1 ≤ 2; omega
  · show 0 + 512 ≤ 512; omega
  · show 0 + 512 ≤ 512; omega
theorem inb_yslot {o : Fin 3 → ℕ} {b : ℕ} (ho : o = ![b % 2, 0, 0]) : ∀ a, o a + S1x512x512.size a ≤ S2x512x512.size a := by
  subst ho; intro a; fin_cases a
  · show b % 2 + 1 ≤ 2; omega
  · show 0 + 512 ≤ 512; omega
  · show 0 + 512 ≤ 512; omega
theorem inb_xrows {o : Fin 2 → ℕ} {g : ℕ} (ho : o = ![512 * g, 0]) (hg : g < 600) : ∀ a, o a + S512x512.size a ≤ S307200x512.size a := by
  subst ho; intro a; fin_cases a
  · show 512 * g + 512 ≤ 307200; omega
  · show 0 + 512 ≤ 512; omega
theorem inb_yrows {o : Fin 2 → ℕ} {g : ℕ} (ho : o = ![512 * g, 0]) (hg : g < 600) : ∀ a, o a + S512x512.size a ≤ S307200x512.size a := by
  subst ho; intro a; fin_cases a
  · show 512 * g + 512 ≤ 307200; omega
  · show 0 + 512 ≤ 512; omega
theorem dvd_of {w m : ℕ} (h : w = 512 * m) : 512 ∣ w := ⟨m, h⟩

theorem chk1_ok (hpK : p + K ≤ n) (hn : n ≤ 600) : k0_chk1 (BitVec.ofNat 32 n) (BitVec.ofNat 32 (512 * p)) (BitVec.ofNat 32 (512 * K)) := by
  have hp : p ≤ 600 := by omega
  have hK : K ≤ 600 := by omega
  have hlt (t : Fin (k0_t1_loop (BitVec.ofNat 32 (512 * K))).trips) : p + t.val < 600 := by
    have := t.isLt.trans_eq (t1_trips hK); omega
  have hlt' (t : Fin (k0_t1_loop (BitVec.ofNat 32 (512 * K))).trips) (h : k0_cond3 (BitVec.ofNat 32 n) (BitVec.ofNat 32 (512 * p)) _ t = 1#1) : p + t.val + 1 < 600 := by
    have := (cond3_iff t hp rfl (hlt t) hn).1 h; omega
  have h2 (t : Fin (k0_t1_loop (BitVec.ofNat 32 (512 * K))).trips) (h : k0_cond4 (BitVec.ofNat 32 (512 * p)) _ t = 1#1) : 2 ≤ p + t.val :=
    (cond4_iff t hp rfl (hlt t)).1 h
  have no (t : Fin (k0_t2_loop (BitVec.ofNat 32 (512 * K))).trips) : False := by
    have := t.isLt.trans_eq (t2_trips hK); omega
  refine ⟨?_, fun t => dvd_of (mult2_eq t hp rfl (hlt t)), fun t => inb_sem (off2_eq t hp rfl (hlt t)), fun t => inb_xslot (off3_eq t hp rfl (hlt t)),
    fun t => inb_xrows (off4_eq t hp rfl (hlt t)) (hlt t),
    fun t h => dvd_of (mult3_eq t hp rfl (hlt t)), fun t h => inb_sem (off5_eq t hp rfl (hlt t)), fun t h => inb_xslot (off6_eq t hp rfl (hlt t)),
    fun t h => inb_xrows (off7_eq t hp rfl (hlt t)) (hlt' t h),
    fun t h => dvd_of (mult4_eq t hp rfl (hlt t) (h2 t h)), fun t h => inb_sem (off8_eq t hp rfl (hlt t)),
    fun t h => inb_yrows (off9_eq t hp rfl (hlt t) (h2 t h)) (by have := hlt t; omega), fun t h => inb_yslot (off10_eq t hp rfl (hlt t)),
    fun t => inb_xslot (off11_eq t hp rfl (hlt t)), fun t => dvd_of (mult2_eq t hp rfl (hlt t)), ?_,
    fun t => (no t).elim, fun t => (no t).elim, fun t => (no t).elim, fun t => (no t).elim, fun t => (no t).elim, fun t => (no t).elim, fun t => (no t).elim, fun t => (no t).elim, fun t => (no t).elim, fun t => (no t).elim, fun t => (no t).elim, fun t => (no t).elim, fun t => (no t).elim, fun t => (no t).elim⟩
  · rw [t1_loop_eq hK]; exact (div1_fin ⟨K, by omega⟩).2.2.1
  · rw [t2_loop_eq hK]; exact (div1_fin ⟨K, by omega⟩).2.2.2.2.1

theorem chk2_ok (i : grid0.Coords) (hn : n ≤ 600) : k0_chk2 i (BitVec.ofNat 32 n) := by
  have l8 (h : k0_cond8 (BitVec.ofNat 32 n) = 1#1) : 2 ≤ n := (cond8_iff hn).1 h
  have l9 (h : k0_cond9 (BitVec.ofNat 32 n) = 1#1) : 1 ≤ n := (cond9_iff hn).1 h
  have lt (t : Fin (k0_t3_loop (BitVec.ofNat 32 n)).trips) : n + t.val < 600 := by
    have := t.isLt.trans_eq (t3_trips hn); omega
  have no (t : Fin (k0_t4_loop (BitVec.ofNat 32 n)).trips) : False := by
    have := t.isLt.trans_eq (t4_trips hn); omega
  have ok1 : (k0_t3_loop (BitVec.ofNat 32 n)).OK := by rw [t3_loop_eq hn]; exact (div1_fin ⟨600 - n, by omega⟩).2.2.1
  have ok2 : (k0_t4_loop (BitVec.ofNat 32 n)).OK := by rw [t4_loop_eq hn]; exact (div1_fin ⟨600 - n, by omega⟩).2.2.2.2.1
  exact ⟨fun _ h => dvd_of ((d_fin ⟨n, by omega⟩).2.2.1 (l8 h)).1, fun _ h => inb_sem (off22_eq hn (l8 h)),
    fun _ h => inb_yrows (off23_eq hn (l8 h)) (by have := l8 h; omega), fun _ h => inb_yslot (off24_eq hn (l8 h)),
    fun _ h => dvd_of ((d_fin ⟨n, by omega⟩).2.2.2.1 (l9 h)).1, fun _ h => inb_sem (off25_eq hn (l9 h)),
    fun _ h => inb_yrows (off26_eq hn (l9 h)) (by have := l9 h; omega), fun _ h => inb_yslot (off27_eq hn (l9 h)),
    fun _ => ok1, fun t _ => dvd_of (mult12_eq hn t), fun t _ => inb_yrows (off28_eq hn t) (lt t),
    fun _ => ok2, fun t => (no t).elim, fun t => (no t).elim,
    fun _ => ok1, fun t _ => dvd_of (mult12_eq hn t), fun t _ => inb_yrows (off30_eq hn t) (lt t),
    fun _ => ok2, fun t => (no t).elim, fun t => (no t).elim⟩

end Cert.KernelPacked.Hand
-- ==== Proof.Packed.Ring.lean ====
/- The kernel's two rings of staging slots: the views its transfers name, the contents they carry, and the rules of the
   operations at them, over the slot's and the block's number. -/
module

public import proofs.«01_k».proof.Proof.Packed.Words
public import proofs.«01_k».proof.Proof.Gen.KernelPacked.Launch
public import proofs.«01_k».proof.Proof.Gen.KernelPacked.Loops
public import Idealize.ShloMosaic.Lib.Pipeline.FrameBody
public import Idealize.ShloMosaic.Lib.Batch
public import Idealize.ShloMosaic.Lib.Tactic
public import Idealize.ShloMosaic.Lib.ValueIdxCore
public import Idealize.ShloMosaic.Lib.ViewIndex

@[expose] public section

set_option maxRecDepth 16384

noncomputable section

namespace Cert.KernelPacked.Hand

open Cert.KernelPacked Cert.KernelPacked.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-! ## The views -/

abbrev xM : Memref sig .tc .vmem S2x512x512 .i32 := Memref.whole cc0_scratch2
abbrev yM : Memref sig .tc .vmem S2x512x512 .i32 := Memref.whole cc0_scratch3
abbrev xH : Memref sig .tc .hbm S307200x512 .i32 := Memref.whole main_arg3
abbrev yH : Memref sig .tc .hbm S307200x512 .i32 := Memref.whole main_v4

abbrev xSlotAt (o : Fin 3 → ℕ) (h : ∀ a, o a + S1x512x512.size a ≤ S2x512x512.size a) : Memref sig .tc .vmem S512x512 .i32 :=
  (xM.slice (Rect.unit (s := S2x512x512) o S1x512x512.size h) (fun _ => rfl)).squeeze S512x512 squeezes_S1x512x512_S512x512
abbrev ySlotAt (o : Fin 3 → ℕ) (h : ∀ a, o a + S1x512x512.size a ≤ S2x512x512.size a) : Memref sig .tc .vmem S512x512 .i32 :=
  (yM.slice (Rect.unit (s := S2x512x512) o S1x512x512.size h) (fun _ => rfl)).squeeze S512x512 squeezes_S1x512x512_S512x512
abbrev xBlkAt (o : Fin 2 → ℕ) (h : ∀ a, o a + S512x512.size a ≤ S307200x512.size a) : Memref sig .tc .hbm S512x512 .i32 :=
  xH.slice (Rect.unit (s := S307200x512) o S512x512.size h) (fun _ => rfl)
abbrev yBlkAt (o : Fin 2 → ℕ) (h : ∀ a, o a + S512x512.size a ≤ S307200x512.size a) : Memref sig .tc .hbm S512x512 .i32 :=
  yH.slice (Rect.unit (s := S307200x512) o S512x512.size h) (fun _ => rfl)
abbrev semAt (s : DmaSems sig S2) (o : Fin 1 → ℕ) (h : ∀ a, o a + S1.size a ≤ S2.size a) : DmaSem sig :=
  ((s.slice (Rect.unit (s := S2) o S1.size h)).squeeze S_ squeezes_S1_S_).sem

def par (g : ℕ) : Fin 2 := ⟨g % 2, Nat.mod_lt _ (by norm_num)⟩
def bk (g : ℕ) : Fin 600 := ⟨g % 600, Nat.mod_lt _ (by norm_num)⟩
theorem bk_val {g : ℕ} (h : g < 600) : (bk g).val = g := Nat.mod_eq_of_lt h

theorem inb1 (β : Fin 2) : ∀ a, (![β.val] : Fin 1 → ℕ) a + S1.size a ≤ S2.size a :=
  inb_sem (b := β.val) (by rw [Nat.mod_eq_of_lt β.isLt])
theorem inb3x (β : Fin 2) : ∀ a, (![β.val, 0, 0] : Fin 3 → ℕ) a + S1x512x512.size a ≤ S2x512x512.size a :=
  inb_xslot (b := β.val) (by rw [Nat.mod_eq_of_lt β.isLt])
theorem inb3y (β : Fin 2) : ∀ a, (![β.val, 0, 0] : Fin 3 → ℕ) a + S1x512x512.size a ≤ S2x512x512.size a :=
  inb_yslot (b := β.val) (by rw [Nat.mod_eq_of_lt β.isLt])
theorem inb2x (γ : Fin 600) : ∀ a, (![512 * γ.val, 0] : Fin 2 → ℕ) a + S512x512.size a ≤ S307200x512.size a := inb_xrows rfl γ.isLt
theorem inb2y (γ : Fin 600) : ∀ a, (![512 * γ.val, 0] : Fin 2 → ℕ) a + S512x512.size a ≤ S307200x512.size a := inb_yrows rfl γ.isLt

abbrev xSlot (β : Fin 2) := xSlotAt ![β.val, 0, 0] (inb3x β)
abbrev ySlot (β : Fin 2) := ySlotAt ![β.val, 0, 0] (inb3y β)
abbrev xBlk (γ : Fin 600) := xBlkAt ![512 * γ.val, 0] (inb2x γ)
abbrev yBlk (γ : Fin 600) := yBlkAt ![512 * γ.val, 0] (inb2y γ)
abbrev xsem (β : Fin 2) : DmaSem sig := semAt cc0_scratch4 ![β.val] (inb1 β)
abbrev ysem (β : Fin 2) : DmaSem sig := semAt cc0_scratch5 ![β.val] (inb1 β)

abbrev xL (c : Dev nD) : Loc nD τ sig := (c : Thread nD τ).loc cc0_scratch2
abbrev yL (c : Dev nD) : Loc nD τ sig := (c : Thread nD τ).loc cc0_scratch3
abbrev xG (c : Dev nD) : Loc nD τ sig := (c : Thread nD τ).loc main_arg3
abbrev yG (c : Dev nD) : Loc nD τ sig := (c : Thread nD τ).loc main_v4

/-! ## The element sets -/

def xSet (β : Fin 2) : Finset S2x512x512.Idx := Finset.univ.filter fun i => (i 0).val = β.val
def ySet (β : Fin 2) : Finset S2x512x512.Idx := Finset.univ.filter fun i => (i 0).val = β.val
def xRows (a b : ℕ) : Finset S307200x512.Idx := Finset.univ.filter fun i => 512 * a ≤ (i 0).val ∧ (i 0).val < 512 * b
def yRows (a b : ℕ) : Finset S307200x512.Idx := Finset.univ.filter fun i => 512 * a ≤ (i 0).val ∧ (i 0).val < 512 * b

theorem xSlice_set (β : Fin 2) : (xM.access (Rect.unit (s := S2x512x512) ![β.val, 0, 0] S1x512x512.size (inb3x β))).set = xSet β := by
  refine (View.set_slice_whole _ _).trans ?_
  ext i
  rw [Rect.mem_set_unit]
  unfold xSet; rw [Finset.mem_filter]
  constructor
  · intro h; exact ⟨Finset.mem_univ _, by have := h 0; have h1 : β.val ≤ (i 0).val := this.1; have h2 : (i 0).val < β.val + 1 := this.2; omega⟩
  · rintro ⟨-, h⟩ a
    fin_cases a
    · show β.val ≤ (i 0).val ∧ (i 0).val < β.val + 1; omega
    · exact ⟨Nat.zero_le _, lt_of_lt_of_eq (i 1).isLt (Nat.zero_add _).symm⟩
    · exact ⟨Nat.zero_le _, lt_of_lt_of_eq (i 2).isLt (Nat.zero_add _).symm⟩
theorem xSlot_set (β : Fin 2) : (xSlot β).view.set = xSet β := (View.set_reshape _ _).trans (xSlice_set β)
theorem ySlice_set (β : Fin 2) : (yM.access (Rect.unit (s := S2x512x512) ![β.val, 0, 0] S1x512x512.size (inb3y β))).set = ySet β := by
  refine (View.set_slice_whole _ _).trans ?_
  ext i
  rw [Rect.mem_set_unit]
  unfold ySet; rw [Finset.mem_filter]
  constructor
  · intro h; exact ⟨Finset.mem_univ _, by have := h 0; have h1 : β.val ≤ (i 0).val := this.1; have h2 : (i 0).val < β.val + 1 := this.2; omega⟩
  · rintro ⟨-, h⟩ a
    fin_cases a
    · show β.val ≤ (i 0).val ∧ (i 0).val < β.val + 1; omega
    · exact ⟨Nat.zero_le _, lt_of_lt_of_eq (i 1).isLt (Nat.zero_add _).symm⟩
    · exact ⟨Nat.zero_le _, lt_of_lt_of_eq (i 2).isLt (Nat.zero_add _).symm⟩
theorem ySlot_set (β : Fin 2) : (ySlot β).view.set = ySet β := (View.set_reshape _ _).trans (ySlice_set β)
theorem xBlk_set (γ : Fin 600) : (xBlk γ).view.set = xRows γ.val (γ.val + 1) := by
  refine (View.set_slice_whole _ _).trans ?_
  ext i
  rw [Rect.mem_set_unit]
  unfold xRows; rw [Finset.mem_filter]
  constructor
  · intro h; exact ⟨Finset.mem_univ _, by have := h 0; have h1 : 512 * γ.val ≤ (i 0).val := this.1; have h2 : (i 0).val < 512 * γ.val + 512 := this.2; omega⟩
  · rintro ⟨-, h⟩ a
    fin_cases a
    · show 512 * γ.val ≤ (i 0).val ∧ (i 0).val < 512 * γ.val + 512; omega
    · exact ⟨Nat.zero_le _, lt_of_lt_of_eq (i 1).isLt (Nat.zero_add _).symm⟩
theorem yBlk_set (γ : Fin 600) : (yBlk γ).view.set = yRows γ.val (γ.val + 1) := by
  refine (View.set_slice_whole _ _).trans ?_
  ext i
  rw [Rect.mem_set_unit]
  unfold yRows; rw [Finset.mem_filter]
  constructor
  · intro h; exact ⟨Finset.mem_univ _, by have := h 0; have h1 : 512 * γ.val ≤ (i 0).val := this.1; have h2 : (i 0).val < 512 * γ.val + 512 := this.2; omega⟩
  · rintro ⟨-, h⟩ a
    fin_cases a
    · show 512 * γ.val ≤ (i 0).val ∧ (i 0).val < 512 * γ.val + 512; omega
    · exact ⟨Nat.zero_le _, lt_of_lt_of_eq (i 1).isLt (Nat.zero_add _).symm⟩

/-! ## The contents -/

/-- Row `r` of block `γ` in the arrays. -/
def rowOf (γ : Fin 600) (r : Fin 512) : Fin 307200 := ⟨512 * γ.val + r.val, by omega⟩

/-- An `x` slot that holds block `γ` of `X`. -/
def XB (X : S307200x512.Idx → BitVec 32) (γ : Fin 600) : S2x512x512.Idx → BitVec 32 := fun i => X (ix2 (rowOf γ (i 1)) (i 2))
/-- A `y` slot that holds the rows `v`. -/
def YB (v : Vec F S1x512x512 .i32) : S2x512x512.Idx → Elt F .i32 := fun i => v (ix3 0 (i 1) (i 2))
/-- The result whose block `γ` is `T γ`. -/
def YT (T : Fin 600 → Vec F S1x512x512 .i32) : S307200x512.Idx → Elt F .i32 := fun i =>
  T ⟨(i 0).val / 512, by have : (i 0).val < 307200 := (i 0).isLt; omega⟩ (ix3 0 ⟨(i 0).val % 512, by omega⟩ (i 1))

theorem reshape_drop {a b : ℕ} (h : (⟨2, ![a, b]⟩ : Shape).numel = (⟨3, ![1, a, b]⟩ : Shape).numel) (r : Fin a) (j : Fin b) :
    Shape.reshapeEquiv h (ix2 r j) = ix3 0 r j := by
  apply Shape.reshapeEquiv_eq_of_rowMajor
  show (Shape.rowMajorPi ![1, a, b] _).val = (Shape.rowMajorPi ![a, b] _).val
  rw [Shape.rowMajorPi_succ_val]
  exact (congrArg (· + _) (Nat.zero_mul _)).trans (Nat.zero_add _)

theorem xSlot_emb (β : Fin 2) (r : Fin 512) (j : Fin 512) : (xSlot β).view.emb (ix2 r j) = ix3 β r j := by
  refine (congrArg ((xM.access (Rect.unit (s := S2x512x512) ![β.val, 0, 0] S1x512x512.size (inb3x β))).emb)
    (reshape_drop (a := 512) (b := 512) squeezes_S1x512x512_S512x512.numel_eq r j)).trans ?_
  funext a
  apply Fin.ext
  fin_cases a
  · show β.val + 1 * 0 = β.val; omega
  · show 0 + 1 * r.val = r.val; omega
  · show 0 + 1 * j.val = j.val; omega
theorem ySlot_emb (β : Fin 2) (r : Fin 512) (j : Fin 512) : (ySlot β).view.emb (ix2 r j) = ix3 β r j := by
  refine (congrArg ((yM.access (Rect.unit (s := S2x512x512) ![β.val, 0, 0] S1x512x512.size (inb3y β))).emb)
    (reshape_drop (a := 512) (b := 512) squeezes_S1x512x512_S512x512.numel_eq r j)).trans ?_
  funext a
  apply Fin.ext
  fin_cases a
  · show β.val + 1 * 0 = β.val; omega
  · show 0 + 1 * r.val = r.val; omega
  · show 0 + 1 * j.val = j.val; omega
theorem xBlk_emb (γ : Fin 600) (r : Fin 512) (j : Fin 512) : (xBlk γ).view.emb (ix2 r j) = ix2 (rowOf γ r) j := by
  funext a
  apply Fin.ext
  fin_cases a
  · show 512 * γ.val + 1 * r.val = 512 * γ.val + r.val; omega
  · show 0 + 1 * j.val = j.val; omega
theorem yBlk_emb (γ : Fin 600) (r : Fin 512) (j : Fin 512) : (yBlk γ).view.emb (ix2 r j) = ix2 (rowOf γ r) j := by
  funext a
  apply Fin.ext
  fin_cases a
  · show 512 * γ.val + 1 * r.val = 512 * γ.val + r.val; omega
  · show 0 + 1 * j.val = j.val; omega

/-- A landed block of `X`, on its slot. -/
theorem land_x (X : S307200x512.Idx → BitVec 32) (β : Fin 2) (γ : Fin 600) (f : S2x512x512.Idx → BitVec 32) :
    ∀ i ∈ xSet β, (xSlot β).view.write (Elt F) f ((ReadAs.same (Val := Elt F)).apply ((xBlk γ).view.read (Elt F) X)) Finset.univ i = XB X γ i := by
  intro i hi
  rw [← xSlot_set] at hi
  obtain ⟨x, -, rfl⟩ := Finset.mem_map.mp hi
  obtain ⟨r, j, rfl⟩ : ∃ (r : Fin 512) (j : Fin 512), x = ix2 r j := ⟨x 0, x 1, eq_ix2 x⟩
  rw [View.write_emb_of_mem _ _ (Finset.mem_univ _)]
  refine (cast_eq _ _).trans ?_
  refine (cast_eq _ _).trans ?_
  rw [xSlot_emb]
  exact congrArg X (xBlk_emb γ r j)
/-- A block of rows in a slot, landed in the result. -/
theorem land_y (T : Fin 600 → Vec F S1x512x512 .i32) (β : Fin 2) (γ : Fin 600) (f : S307200x512.Idx → Elt F .i32) (g : S2x512x512.Idx → Elt F .i32)
    (hg : ∀ i ∈ ySet β, g i = YB (T γ) i) :
    ∀ i ∈ yRows γ.val (γ.val + 1), (yBlk γ).view.write (Elt F) f ((ReadAs.same (Val := Elt F)).apply ((ySlot β).view.read (Elt F) g)) Finset.univ i = YT T i := by
  intro i hi
  rw [← yBlk_set] at hi
  obtain ⟨x, -, rfl⟩ := Finset.mem_map.mp hi
  obtain ⟨r, j, rfl⟩ : ∃ (r : Fin 512) (j : Fin 512), x = ix2 r j := ⟨x 0, x 1, eq_ix2 x⟩
  rw [View.write_emb_of_mem _ _ (Finset.mem_univ _)]
  refine (cast_eq _ _).trans ?_
  refine (cast_eq _ _).trans ?_
  refine (hg ((ySlot β).view.emb (ix2 r j)) (by rw [← ySlot_set]; exact View.emb_mem_set _ _)).trans ?_
  refine (congrArg (YB (T γ)) (ySlot_emb β r j)).trans ?_
  refine Eq.trans ?_ (congrArg (YT T) (yBlk_emb γ r j)).symm
  unfold YB YT
  have h0 : r.val < 512 := r.isLt
  have e1 : (⟨(rowOf γ r).val / 512, by have := (rowOf γ r).isLt; omega⟩ : Fin 600) = γ :=
    Fin.ext (by show (512 * γ.val + r.val) / 512 = γ.val; omega)
  have e2 : (⟨(rowOf γ r).val % 512, by omega⟩ : Fin 512) = r :=
    Fin.ext (by show (512 * γ.val + r.val) % 512 = r.val; omega)
  show T γ (ix3 0 r j) = T ⟨(rowOf γ r).val / 512, _⟩ (ix3 0 ⟨(rowOf γ r).val % 512, _⟩ j)
  rw [e1, e2]
/-- A block of rows in a slot of the input's ring, landed in the result. -/
theorem land_z (T : Fin 600 → Vec F S1x512x512 .i32) (β : Fin 2) (γ : Fin 600) (f : S307200x512.Idx → Elt F .i32) (g : S2x512x512.Idx → Elt F .i32)
    (hg : ∀ i ∈ xSet β, g i = YB (T γ) i) :
    ∀ i ∈ yRows γ.val (γ.val + 1), (yBlk γ).view.write (Elt F) f ((ReadAs.same (Val := Elt F)).apply ((xSlot β).view.read (Elt F) g)) Finset.univ i = YT T i := by
  intro i hi
  rw [← yBlk_set] at hi
  obtain ⟨x, -, rfl⟩ := Finset.mem_map.mp hi
  obtain ⟨r, j, rfl⟩ : ∃ (r : Fin 512) (j : Fin 512), x = ix2 r j := ⟨x 0, x 1, eq_ix2 x⟩
  rw [View.write_emb_of_mem _ _ (Finset.mem_univ _)]
  refine (cast_eq _ _).trans ?_
  refine (cast_eq _ _).trans ?_
  refine (hg ((xSlot β).view.emb (ix2 r j)) (by rw [← xSlot_set]; exact View.emb_mem_set _ _)).trans ?_
  refine (congrArg (YB (T γ)) (xSlot_emb β r j)).trans ?_
  refine Eq.trans ?_ (congrArg (YT T) (yBlk_emb γ r j)).symm
  unfold YB YT
  have h0 : r.val < 512 := r.isLt
  have e1 : (⟨(rowOf γ r).val / 512, by have := (rowOf γ r).isLt; omega⟩ : Fin 600) = γ :=
    Fin.ext (by show (512 * γ.val + r.val) / 512 = γ.val; omega)
  have e2 : (⟨(rowOf γ r).val % 512, by omega⟩ : Fin 512) = r :=
    Fin.ext (by show (512 * γ.val + r.val) % 512 = r.val; omega)
  show T γ (ix3 0 r j) = T ⟨(rowOf γ r).val / 512, _⟩ (ix3 0 ⟨(rowOf γ r).val % 512, _⟩ j)
  rw [e1, e2]
/-- A block of rows stored into a slot. -/
theorem store_y (β : Fin 2) (f : S2x512x512.Idx → Elt F .i32) (v : Vec F S1x512x512 .i32) :
    ∀ i ∈ ySet β, (yM.access (Rect.unit (s := S2x512x512) ![β.val, 0, 0] S1x512x512.size (inb3y β))).write (Elt F) f v Finset.univ i = YB v i := by
  intro i hi
  rw [← ySlice_set] at hi
  obtain ⟨x, -, rfl⟩ := Finset.mem_map.mp hi
  rw [View.write_emb_of_mem _ _ (Finset.mem_univ x)]
  refine (cast_eq _ _).trans ?_
  unfold YB
  congr 1
  rw [eq_ix3 x]
  funext a
  apply Fin.ext
  fin_cases a
  · show (x 0).val = 0; have : (x 0).val < 1 := (x 0).isLt; omega
  · show (x 1).val = 0 + 1 * (x 1).val; omega
  · show (x 2).val = 0 + 1 * (x 2).val; omega
/-- A block of rows stored into a slot of the input's ring. -/
theorem store_z (β : Fin 2) (f : S2x512x512.Idx → Elt F .i32) (v : Vec F S1x512x512 .i32) :
    ∀ i ∈ xSet β, (xM.access (Rect.unit (s := S2x512x512) ![β.val, 0, 0] S1x512x512.size (inb3x β))).write (Elt F) f v Finset.univ i = YB v i := by
  intro i hi
  rw [← xSlice_set] at hi
  obtain ⟨x, -, rfl⟩ := Finset.mem_map.mp hi
  rw [View.write_emb_of_mem _ _ (Finset.mem_univ x)]
  refine (cast_eq _ _).trans ?_
  unfold YB
  congr 1
  rw [eq_ix3 x]
  funext a
  apply Fin.ext
  fin_cases a
  · show (x 0).val = 0; have : (x 0).val < 1 := (x 0).isLt; omega
  · show (x 1).val = 0 + 1 * (x 1).val; omega
  · show (x 2).val = 0 + 1 * (x 2).val; omega

end Cert.KernelPacked.Hand
-- ==== Proof.Packed.Step.lean ====
/- One trip of the kernel's loop over its blocks: the wait for the block, the fetch of the next, the wait for the slot's
   earlier result, the store and the transfer out. -/
module

public import proofs.«01_k».proof.Proof.Packed.Rules

@[expose] public section

set_option maxRecDepth 16384

noncomputable section

namespace Cert.KernelPacked.Hand

open Cert.KernelPacked Cert.KernelPacked.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

variable {c : Dev nD} {X : S307200x512.Idx → BitVec 32} {V : S307200x512.Idx → Elt F .i32} {T : Fin 600 → Vec F S1x512x512 .i32}

/-! ## Runs of rows -/

theorem xRows_sub (a b : ℕ) : xRows a b ⊆ Finset.univ := Finset.subset_univ _

theorem yRows_union {a b d : ℕ} (h1 : a ≤ b) (h2 : b ≤ d) : yRows a b ∪ yRows b d = yRows a d := by
  ext i; unfold yRows; simp only [Finset.mem_union, Finset.mem_filter, Finset.mem_univ, true_and]; omega
theorem yRows_disj {a b d : ℕ} : Disjoint (yRows a b) (yRows b d) := by
  rw [Finset.disjoint_left]; intro i; unfold yRows; simp only [Finset.mem_filter, Finset.mem_univ, true_and]; omega
theorem yRows_all : yRows 0 600 = Finset.univ := by
  ext i; unfold yRows; simp only [Finset.mem_filter, Finset.mem_univ, true_and, iff_true]
  have : (i 0).val < 307200 := (i 0).isLt; omega
theorem yRows_nil (a : ℕ) : yRows a a = ∅ := by
  ext i; unfold yRows; simp only [Finset.mem_filter, Finset.mem_univ, true_and, Finset.notMem_empty, iff_false]; omega

theorem y_split {a b d : ℕ} (h1 : a ≤ b) (h2 : b ≤ d) (f : Buf (Elt F) (yG c)) :
    (yG c ↦[yRows a d]{fullShare} f : sProp 𝕄) ⊣⊢ iprop((yG c ↦[yRows a b]{fullShare} f) ∗ (yG c ↦[yRows b d]{fullShare} f)) := by
  rw [← yRows_union h1 h2]; exact pointsTo_union yRows_disj
theorem x_split (γ : Fin 600) (f : Buf (Elt F) (xG c)) :
    (xG c ↦{fullShare} f : sProp 𝕄) ⊣⊢ iprop((xG c ↦[xRows γ.val (γ.val + 1)]{fullShare} f) ∗ (xG c ↦[Finset.univ \ xRows γ.val (γ.val + 1)]{fullShare} f)) :=
  pointsTo_split_subset (Finset.subset_univ _)

/-! ## The rings between the trips -/

section State

variable (c X V T)

/-- The input's ring before block `g` of `n`: its transfer in flight if there is such a block, the other slot free. -/
def XNow (n g : ℕ) : sProp 𝕄 :=
  if g < n then iprop(XFl (F := F) c X (par g) (bk g) ∗ (xG c ↦[Finset.univ \ xRows (bk g).val ((bk g).val + 1)]{fullShare} (X : Buf (Elt F) (xG c))))
  else iprop(XFree (F := F) c (par g) ∗ (xG c ↦{fullShare} (X : Buf (Elt F) (xG c))))
def XSt (n g : ℕ) : sProp 𝕄 := iprop(XNow (F := F) c X n g ∗ XFree (F := F) c (par (g + 1)))
def YA (g : ℕ) : sProp 𝕄 := if 2 ≤ g then YFl c T (par g) (bk (g - 2)) else YFree (F := F) c (par g)
def YZ (g : ℕ) : sProp 𝕄 := if 1 ≤ g then YFl c T (par (g + 1)) (bk (g - 1)) else YFree (F := F) c (par (g + 1))
/-- The result before block `g`: the earlier blocks landed, two at most in flight, the later ones as they were. -/
def YSt (g : ℕ) : sProp 𝕄 := iprop(YA c T g ∗ YZ c T g
  ∗ (yG c ↦[yRows 0 (g - 2)]{fullShare} (YT T : Buf (Elt F) (yG c))) ∗ (yG c ↦[yRows g 600]{fullShare} (V : Buf (Elt F) (yG c))))

end State

theorem par_two (g : ℕ) : par (g + 2) = par g := Fin.ext (by show (g + 2) % 2 = g % 2; omega)

/-! ## Conditionals, and reads of a window -/

/-- A conditional statement before a continuation. -/
theorem ite_seq {β : Type} {P : Prop} [Decidable P] {A : P → Prog (TpuEff nD τ sig (Elt F) Λ₀ .tc) PUnit} {K : Prog (TpuEff nD τ sig (Elt F) Λ₀ .tc) β}
    {R Q' : sProp 𝕄} {Q : β → sProp 𝕄} (h1 : ∀ h : P, R ⊢ W c (A h) fun _ => Q') (h2 : ¬P → R ⊢ Q') :
    R ⊢ iprop((Q' -∗ W c K Q) -∗ W c (if h : P then A h >>= fun _ => K else K) Q) := by
  by_cases h : P
  · rw [dif_pos h]
    iintro HR HK
    iapply (cut (h1 h)) $$ HR
    iintro %r HQ
    iapply HK $$ HQ
  · rw [dif_neg h]
    iintro HR HK
    iapply HK
    iapply (h2 h) $$ HR

theorem unit_emb {s : Shape} {off : Fin s.rank → ℕ} (h : off = fun _ => 0) (inb) (x : s.Idx) : (Rect.unit (s := s) off s.size inb).emb x = x := by
  subst h
  funext a
  apply Fin.ext
  show 0 + 1 * (x a).val = (x a).val
  omega

/-- A load of a rectangle of a memref held. -/
theorem load_owns {cs : CoreSpace} {s : Shape} {e : EltTy} (M : Memref sig .tc cs s e) (r : Rect s) {hl} {q : PosShare TreeShare} {d : s.Idx → Elt F e} :
    (owns (c : Thread nD τ) M q d : sProp 𝕄)
      ⊢ W c (Prog.lift (.load M r.toLoadRect hl)) fun v => iprop(⌜v = fun x => d (r.emb x)⌝ ∗ owns (c : Thread nD τ) M q d) := by
  unfold owns
  iintro ⟨%f, %hf, H⟩
  iapply (wp_load_rect Variants.none (c : Thread nD τ) none Set.univ (m := M) (r := r) (S := M.view.set) (f := f) ?_) $$ H
  · rw [View.set_slice, ← View.setOn]
    exact View.setOn_subset_set _ _
  iintro H
  iapply W_pure
  isplitr
  · ipureintro
    subst hf
    rfl
  iexists f
  isplitr
  · ipureintro; exact hf
  iexact H

/-- A load of a whole memref held. -/
theorem load_whole {cs : CoreSpace} {s : Shape} {e : EltTy} (M : Memref sig .tc cs s e) {off : Fin s.rank → ℕ} (h : off = fun _ => 0) {inb} {hl} {q : PosShare TreeShare} {d : s.Idx → Elt F e} :
    (owns (c : Thread nD τ) M q d : sProp 𝕄)
      ⊢ W c (Prog.lift (.load M (Rect.unit (s := s) off s.size inb).toLoadRect hl)) fun v => iprop(⌜v = d⌝ ∗ owns (c : Thread nD τ) M q d) := by
  refine (load_owns M _).trans (W_conseq fun v => ?_)
  iintro ⟨%hv, H⟩
  isplitr
  · ipureintro
    rw [hv]
    funext x
    exact congrArg d (unit_emb h inb x)
  iexact H

/-! ## The trip -/

/-- Block `γ` of the input, as a load of its slot reads it. -/
def xRd (X : S307200x512.Idx → BitVec 32) (γ : Fin 600) : Vec F S1x512x512 .i32 := fun x => X (ix2 (rowOf γ (x 1)) (x 2))

theorem xRd_eq (X : S307200x512.Idx → BitVec 32) (β : Fin 2) (γ : Fin 600) :
    (xM.access (Rect.unit (s := S2x512x512) ![β.val, 0, 0] S1x512x512.size (inb3x β))).read (Elt F) (XB X γ) = xRd (F := F) X γ := by
  funext x
  refine (cast_eq _ _).trans ?_
  unfold XB xRd
  congr 1
  funext a
  apply Fin.ext
  fin_cases a
  · show 512 * γ.val + (0 + 1 * (x 1).val) = 512 * γ.val + (x 1).val; omega
  · show 0 + 1 * (x 2).val = (x 2).val; omega

theorem load_x (β : Fin 2) (γ : Fin 600) {o3 : Fin 3 → ℕ} (h3) (e3 : o3 = ![β.val, 0, 0]) {hl} :
    (xL c ↦[xSet β]{fullShare} (XB X γ : Buf (Elt F) (xL c)) : sProp 𝕄)
      ⊢ W c (Prog.lift (.load xM (Rect.unit (s := S2x512x512) o3 S1x512x512.size h3).toLoadRect hl)) fun v =>
        iprop(⌜v = xRd (F := F) X γ⌝ ∗ (xL c ↦[xSet β]{fullShare} (XB X γ : Buf (Elt F) (xL c)))) := by
  subst e3
  refine (load_any xM (Rect.unit (s := S2x512x512) ![β.val, 0, 0] S1x512x512.size (inb3x β)) (xSlice_set β).le).trans (W_conseq fun v => ?_)
  rw [xRd_eq]

variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)

/-- The rings between a trip's load and its store. -/
def Mid (c : Dev nD) (X : S307200x512.Idx → BitVec 32) (V : S307200x512.Idx → Elt F .i32) (T : Fin 600 → Vec F S1x512x512 .i32) (n g : ℕ) : sProp 𝕄 :=
  iprop(XSt (F := F) c X n (g + 1) ∗ YFree (F := F) c (par g) ∗ YZ c T g
    ∗ (yG c ↦[yRows 0 (g - 1)]{fullShare} (YT T : Buf (Elt F) (yG c))) ∗ (yG c ↦[yRows g 600]{fullShare} (V : Buf (Elt F) (yG c))))

theorem next_x {n g : ℕ} (hn : n ≤ 600) {P : Prop} (hP : P ↔ g + 1 < n) (h : P) {o1 : Fin 1 → ℕ} {o3 : Fin 3 → ℕ} {o2 : Fin 2 → ℕ} (h1 h3 h2)
    (e1 : o1 = ![(par (g + 1)).val]) (e3 : o3 = ![(par (g + 1)).val, 0, 0]) (e2 : o2 = ![512 * (g + 1), 0]) {a1 a2 a3} :
    iprop(XFree (F := F) c (par (g + 1)) ∗ (xG c ↦{fullShare} (X : Buf (Elt F) (xG c))))
      ⊢ W c (Prog.lift (.enqueueDma (xBlkAt o2 h2) (.here (xSlotAt o3 h3)) (.dma (semAt cc0_scratch4 o1 h1)) a1 a2 a3)) fun _ => XNow (F := F) c X n (g + 1) := by
  have hg : g + 1 < n := hP.mp h
  have hb : (bk (g + 1)).val = g + 1 := bk_val (by omega)
  unfold XNow
  rw [if_pos hg]
  iintro ⟨HF, HX⟩
  ihave HX' := (x_split (bk (g + 1)) (X : Buf (Elt F) (xG c))).1 $$ HX
  icases HX' with ⟨HX1, HX2⟩
  have := start_x (F := F) (c := c) (X := X) (par (g + 1)) (bk (g + 1)) h1 h3 h2 e1 e3 (by rw [hb]; exact e2) (a1 := a1) (a2 := a2) (a3 := a3)
  iapply (exec_cut_last _ _ _ this) $$ [HF HX1]
  · isplitl [HF]; · iexact HF
    iexact HX1
  iintro %r HH
  isplitl [HH]; · iexact HH
  iexact HX2

theorem last_x {n g : ℕ} {P : Prop} (hP : P ↔ g + 1 < n) (h : ¬P) :
    iprop(XFree (F := F) c (par (g + 1)) ∗ (xG c ↦{fullShare} (X : Buf (Elt F) (xG c)))) ⊢ XNow (F := F) c X n (g + 1) := by
  unfold XNow
  rw [if_neg (fun hg => h (hP.mpr hg))]

theorem old_y {g : ℕ} (hg : g ≤ 600) {P : Prop} (hP : P ↔ 2 ≤ g) (h : P) {o1 : Fin 1 → ℕ} {o2 : Fin 2 → ℕ} (h1 h2)
    (e1 : o1 = ![(par g).val]) {sp : Space} {s' : Shape} {e' : EltTy} {src : Memref sig .tc sp s' e'} {a1 a2} :
    iprop(YA c T g ∗ (yG c ↦[yRows 0 (g - 2)]{fullShare} (YT T : Buf (Elt F) (yG c))) ∗ Ow (F := F) c)
      ⊢ W c (Prog.lift (.waitDma2 (semAt cc0_scratch5 o1 h1) src (yBlkAt o2 h2) a1 a2)) fun _ =>
        iprop(YFree (F := F) c (par g) ∗ (yG c ↦[yRows 0 (g - 1)]{fullShare} (YT T : Buf (Elt F) (yG c))) ∗ Ow (F := F) c) := by
  have h2g : 2 ≤ g := hP.mp h
  have hb : (bk (g - 2)).val = g - 2 := bk_val (by omega)
  unfold YA
  rw [if_pos h2g]
  iintro ⟨HF, HY, HO⟩
  have := wait_y (F := F) (c := c) (T := T) (par g) (bk (g - 2)) h1 e1 h2 (src := src) (a1 := a1) (a2 := a2)
  iapply (exec_cut_last _ _ _ this) $$ [HF HO]
  · isplitl [HF]; · iexact HF
    iexact HO
  iintro %r ⟨H1, H2, H3⟩
  isplitl [H2]; · iexact H2
  isplitr [H3]
  · rw [hb, show g - 2 + 1 = g - 1 by omega]
    iapply (y_split (a := 0) (b := g - 2) (d := g - 1) (by omega) (by omega) _).2
    isplitl [HY]; · iexact HY
    iexact H1
  iexact H3

theorem new_y {g : ℕ} {P : Prop} (hP : P ↔ 2 ≤ g) (h : ¬P) :
    iprop(YA c T g ∗ (yG c ↦[yRows 0 (g - 2)]{fullShare} (YT T : Buf (Elt F) (yG c))) ∗ Ow (F := F) c)
      ⊢ iprop(YFree (F := F) c (par g) ∗ (yG c ↦[yRows 0 (g - 1)]{fullShare} (YT T : Buf (Elt F) (yG c))) ∗ Ow (F := F) c) := by
  have h2g : ¬ 2 ≤ g := fun h2 => h (hP.mpr h2)
  unfold YA
  rw [if_neg h2g, show g - 1 = g - 2 by omega]

theorem part3_run {n p K g : ℕ} (hn : n ≤ 600) (hw : k0_chk1 (BitVec.ofNat 32 n) (BitVec.ofNat 32 (512 * p)) (BitVec.ofNat 32 (512 * K)))
    (t : Fin (k0_t1_loop (BitVec.ofNat 32 (512 * K))).trips) (hg : p + t.val = g) (hgn : g < n) (v19 : BitVec 32)
    {P : S1024x2048.Idx → Elt F .bf16} {b : S1x1x2048.Idx → Elt F .f32} :
    iprop(XSt (F := F) c X n g ∗ YSt c V T g ∗ Ow (F := F) c ∗ owns (c : Thread nD τ) (Memref.whole cc0_scratch0 : Memref sig .tc _ _ _) fullShare P
        ∗ owns (c : Thread nD τ) arg6 fullShare b)
      ⊢ W c (k0_part3 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw 0#32 1#32 t) fun r =>
        iprop(⌜r.2.2 = ⟨k0_pay14 (xRd X (bk g)) P b, k0_pay15 (xRd X (bk g)) P b, k0_pay16 (xRd X (bk g)) P b, k0_pay17⟩⌝
          ∗ Mid c X V T n g ∗ Ow (F := F) c ∗ owns (c : Thread nD τ) (Memref.whole cc0_scratch0 : Memref sig .tc _ _ _) fullShare P
          ∗ owns (c : Thread nD τ) arg6 fullShare b) := by
  have hp : p ≤ 600 := by omega
  have h6 : g < 600 := by omega
  have hb : (bk g).val = g := bk_val h6
  rw [k0_part3_eq_skeleton]
  unfold k0_part3_skel
  dsimp only
  unfold XSt YSt XNow
  rw [if_pos hgn]
  iintro ⟨⟨⟨HXF, HXr⟩, HX1⟩, ⟨HYA, HYZ, HY0, HY1⟩, HO, HP, Hb⟩
  iapply (cut (wait_x (F := F) (X := X) (par g) (bk g) _ (off2_eq t hp hg h6) _)) $$ [HXF HO]
  · isplitl [HXF]; · iexact HXF
    iexact HO
  iintro %_ ⟨Hs, HXb, Hv, HO⟩
  ihave HX := (x_split (bk g) (X : Buf (Elt F) (xG c))).2 $$ [HXb HXr]
  · isplitl [HXb] <;> iassumption
  iapply (ite_seq (fun h => next_x hn (cond3_iff t hp hg h6 hn) h _ _ _ (off5_eq t hp hg h6) (off6_eq t hp hg h6) (off7_eq t hp hg h6))
    (fun h => last_x (cond3_iff t hp hg h6 hn) h)) $$ [HX1 HX]
  · isplitl [HX1] <;> iassumption
  iintro HXN
  iapply (ite_seq (fun h => old_y (Nat.le_of_lt h6) (cond4_iff t hp hg h6) h _ _ (off8_eq t hp hg h6)) (fun h => new_y (cond4_iff t hp hg h6) h)) $$ [HYA HY0 HO]
  · isplitl [HYA]; · iexact HYA
    isplitl [HY0] <;> iassumption
  iintro ⟨HYF, HY0, HO⟩
  iapply (cut (load_x (F := F) (X := X) (par g) (bk g) _ (off11_eq t hp hg h6))) $$ Hs
  iintro %v ⟨%hv, Hs⟩
  iapply (cut (load_whole _ (by decide))) $$ HP
  iintro %v1 ⟨%hv1, HP⟩
  iapply (cut (load_whole _ (by decide))) $$ Hb
  iintro %v2 ⟨%hv2, Hb⟩
  iapply W_pure
  isplitr
  · ipureintro; subst hv hv1 hv2; rfl
  unfold Mid XSt
  isplitr [HO HP Hb]
  · isplitr [HYF HYZ HY0 HY1]
    · isplitl [HXN]; · iexact HXN
      rw [show g + 1 + 1 = g + 2 from rfl, par_two]
      unfold XFree
      isplitl [Hs]; · iexists _; iexact Hs
      iexact Hv
    isplitl [HYF]; · iexact HYF
    isplitl [HYZ]; · iexact HYZ
    isplitl [HY0] <;> iassumption
  isplitl [HO]; · iexact HO
  isplitl [HP] <;> iassumption

theorem store_slot (β : Fin 2) {o3 : Fin 3 → ℕ} (h3) (e3 : o3 = ![β.val, 0, 0]) {v : Vec F S1x512x512 .i32} {hx hm} :
    iprop(∃ f, yL c ↦[ySet β]{fullShare} f)
      ⊢ W c (Prog.lift (.store yM (Rect.unit (s := S2x512x512) o3 S1x512x512.size h3) v Finset.univ hx hm)) fun _ =>
        (yL c ↦[ySet β]{fullShare} (YB v : Buf (Elt F) (yL c)) : sProp 𝕄) := by
  subst e3
  iintro ⟨%f, H⟩
  iapply (exec_cut_last _ _ _ (store_any (c := c) yM (Rect.unit (s := S2x512x512) ![β.val, 0, 0] S1x512x512.size (inb3y β)) (w := v) (hx := hx) (hm := hm) (f := f) (ySlice_set β).le)) $$ H
  iintro %_ H
  iapply (pt_congr (F := F) (ℓ := yL c) (store_y β f v)) $$ H

theorem load_slot (β : Fin 2) {o3 : Fin 3 → ℕ} (h3) (e3 : o3 = ![β.val, 0, 0]) {hl} :
    iprop(∃ f, yL c ↦[ySet β]{fullShare} f)
      ⊢ W c (Prog.lift (.load yM (Rect.unit (s := S2x512x512) o3 S1x512x512.size h3).toLoadRect hl)) fun _ =>
        (iprop(∃ f, yL c ↦[ySet β]{fullShare} f) : sProp 𝕄) := by
  subst e3
  iintro ⟨%f, H⟩
  iapply (exec_cut_last _ _ _ (load_any (c := c) yM (Rect.unit (s := S2x512x512) ![β.val, 0, 0] S1x512x512.size (inb3y β)) (hl := hl) (f := f) (ySlice_set β).le)) $$ H
  iintro %_ ⟨-, H⟩
  iexists f
  iexact H

theorem store_xslot (β : Fin 2) {o3 : Fin 3 → ℕ} (h3) (e3 : o3 = ![β.val, 0, 0]) {v : Vec F S1x512x512 .i32} {hx hm} :
    iprop(∃ f, xL c ↦[xSet β]{fullShare} f)
      ⊢ W c (Prog.lift (.store xM (Rect.unit (s := S2x512x512) o3 S1x512x512.size h3) v Finset.univ hx hm)) fun _ =>
        (xL c ↦[xSet β]{fullShare} (YB v : Buf (Elt F) (xL c)) : sProp 𝕄) := by
  subst e3
  iintro ⟨%f, H⟩
  iapply (exec_cut_last _ _ _ (store_any (c := c) xM (Rect.unit (s := S2x512x512) ![β.val, 0, 0] S1x512x512.size (inb3x β)) (w := v) (hx := hx) (hm := hm) (f := f) (xSlice_set β).le)) $$ H
  iintro %_ H
  iapply (pt_congr (F := F) (ℓ := xL c) (store_z β f v)) $$ H

theorem load_xslot (β : Fin 2) {o3 : Fin 3 → ℕ} (h3) (e3 : o3 = ![β.val, 0, 0]) {hl} :
    iprop(∃ f, xL c ↦[xSet β]{fullShare} f)
      ⊢ W c (Prog.lift (.load xM (Rect.unit (s := S2x512x512) o3 S1x512x512.size h3).toLoadRect hl)) fun _ =>
        (iprop(∃ f, xL c ↦[xSet β]{fullShare} f) : sProp 𝕄) := by
  subst e3
  iintro ⟨%f, H⟩
  iapply (exec_cut_last _ _ _ (load_any (c := c) xM (Rect.unit (s := S2x512x512) ![β.val, 0, 0] S1x512x512.size (inb3x β)) (hl := hl) (f := f) (xSlice_set β).le)) $$ H
  iintro %_ ⟨-, H⟩
  iexists f
  iexact H

/-- The rows a trip stores: the expert's two products and its activation on one block. -/
def blockPay (x : Vec F S1x512x512 .i32) (P : Vec F S1024x2048 .bf16) (b1 : Vec F S1x1x2048 .f32) (W2 : Vec F S1024x1024 .bf16) (b2 : Vec F S1x1x1024 .f32) :
    Vec F S1x512x512 .i32 :=
  let v83 := k0_pay14 x P b1
  k0_pay31 v83 (k0_pay18 (k0_pay15 x P b1) (k0_pay16 x P b1) k0_pay17) (k0_pay19 v83)
    (k0_pay23 (k0_pay20 v83) (k0_pay21 v83) (k0_pay22 v83) (Scalar.ofBits .f32 0x3F800000#32)) (k0_pay24 v83) (k0_pay27 (k0_pay25 v83) (k0_pay26 v83)) (k0_pay28 v83)
    (k0_pay29 v83) (k0_pay30 v83) W2 b2

theorem part4_run {v83 v86 v89 v90} {R : sProp 𝕄} :
    R ⊢ W c (k0_part4 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v83 v86 v89 v90) fun r =>
      iprop(⌜r = ⟨k0_pay18 v86 v89 v90, k0_pay19 v83, k0_pay20 v83, k0_pay21 v83, k0_pay22 v83, Scalar.ofBits .f32 0x3F800000#32⟩⌝ ∗ R) := by
  rw [k0_part4_eq_skeleton]
  iintro H
  iapply W_pure
  isplitr; · ipureintro; rfl
  iexact H
theorem part5_run {v83 v126 v131 v134 cst} {R : sProp 𝕄} :
    R ⊢ W c (k0_part5 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v83 v126 v131 v134 cst) fun r =>
      iprop(⌜r = ⟨k0_pay23 v126 v131 v134 cst, k0_pay24 v83, k0_pay25 v83, k0_pay26 v83⟩⌝ ∗ R) := by
  rw [k0_part5_eq_skeleton]
  iintro H
  iapply W_pure
  isplitr; · ipureintro; rfl
  iexact H
theorem part6_run {v83 v171 v179} {R : sProp 𝕄} :
    R ⊢ W c (k0_part6 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 v83 v171 v179) fun r =>
      iprop(⌜r = ⟨k0_pay27 v171 v179, k0_pay28 v83, k0_pay29 v83, k0_pay30 v83⟩⌝ ∗ R) := by
  rw [k0_part6_eq_skeleton]
  iintro H
  iapply W_pure
  isplitr; · ipureintro; rfl
  iexact H

/-- What a trip reads and leaves: the two weights in scratch, the two biases. -/
def Wts (c : Dev nD) (arg6 : Memref sig .tc .vmem S1x1x2048 .f32) (arg8 : Memref sig .tc .vmem S1x1x1024 .f32)
    (P : S1024x2048.Idx → Elt F .bf16) (b1 : S1x1x2048.Idx → Elt F .f32) (W2 : S1024x1024.Idx → Elt F .bf16) (b2 : S1x1x1024.Idx → Elt F .f32) : sProp 𝕄 :=
  iprop(owns (c : Thread nD τ) (Memref.whole cc0_scratch0 : Memref sig .tc _ _ _) fullShare P ∗ owns (c : Thread nD τ) arg6 fullShare b1
    ∗ owns (c : Thread nD τ) (Memref.whole cc0_scratch1 : Memref sig .tc _ _ _) fullShare W2 ∗ owns (c : Thread nD τ) arg8 fullShare b2)

variable {n p K g : ℕ} {P : S1024x2048.Idx → Elt F .bf16} {b1 : S1x1x2048.Idx → Elt F .f32} {W2 : S1024x1024.Idx → Elt F .bf16} {b2 : S1x1x1024.Idx → Elt F .f32}

theorem part7_run (hp : p ≤ 600) (hw : k0_chk1 (BitVec.ofNat 32 n) (BitVec.ofNat 32 (512 * p)) (BitVec.ofNat 32 (512 * K)))
    (t : Fin (k0_t1_loop (BitVec.ofNat 32 (512 * K))).trips) (hg : p + t.val = g) (h6 : g < 600) {v55 v56 v83 v103 v123 v143 v163 v183 v203 v223 v224} :
    iprop((∃ f, yL c ↦[ySet (par g)]{fullShare} f) ∗ owns (c : Thread nD τ) (Memref.whole cc0_scratch1 : Memref sig .tc _ _ _) fullShare W2 ∗ owns (c : Thread nD τ) arg8 fullShare b2)
      ⊢ W c (k0_part7 (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) (BitVec.ofNat 32 (512 * K)) hw t v55 v56 v83 v103 v123 v143 v163 v183 v203 v223 v224) fun _ =>
        iprop((yL c ↦[ySet (par g)]{fullShare} (YB (k0_pay31 v83 v103 v123 v143 v163 v183 v203 v223 v224 W2 b2) : Buf (Elt F) (yL c)))
          ∗ owns (c : Thread nD τ) (Memref.whole cc0_scratch1 : Memref sig .tc _ _ _) fullShare W2 ∗ owns (c : Thread nD τ) arg8 fullShare b2) := by
  rw [k0_part7_eq_skeleton]
  unfold k0_part7_skel
  iintro ⟨Hs, HW, Hb2⟩
  iapply (cut (load_whole _ (by decide))) $$ HW
  iintro %v1 ⟨%hv1, HW⟩
  iapply (cut (load_whole _ (by decide))) $$ Hb2
  iintro %v2 ⟨%hv2, Hb2⟩
  subst hv1 hv2
  iapply (cut (load_slot (F := F) (par g) _ (off11_eq t hp hg h6))) $$ Hs
  iintro %_ Hs
  iapply (cut (store_slot (F := F) (par g) _ (off11_eq t hp hg h6))) $$ Hs
  iintro %_ Hs
  iapply W_pure
  isplitl [Hs]; · iexact Hs
  isplitl [HW] <;> iassumption

theorem t1_step (hn : n ≤ 600) (hw : k0_chk1 (BitVec.ofNat 32 n) (BitVec.ofNat 32 (512 * p)) (BitVec.ofNat 32 (512 * K)))
    (t : Fin (k0_t1_loop (BitVec.ofNat 32 (512 * K))).trips) (hg : p + t.val = g) (hgn : g < n) (v19 : BitVec 32)
    (hT : T (bk g) = blockPay (xRd X (bk g)) P b1 W2 b2) :
    iprop(XSt (F := F) c X n g ∗ YSt c V T g ∗ Ow (F := F) c ∗ Wts c arg6 arg8 P b1 W2 b2)
      ⊢ W c (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw t ()) fun _ =>
        iprop(XSt (F := F) c X n (g + 1) ∗ YSt c V T (g + 1) ∗ Ow (F := F) c ∗ Wts c arg6 arg8 P b1 W2 b2) := by
  have hp : p ≤ 600 := by omega
  have h6 : g < 600 := by omega
  have hb : (bk g).val = g := bk_val h6
  unfold k0_t1_body Wts
  dsimp only
  iintro ⟨HX, HY, HO, HP, Hb1, HW, Hb2⟩
  iapply (cut (part3_run (F := F) (X := X) (V := V) (T := T) i arg5 harg5 arg6 harg6 arg7 harg7 arg8 harg8 hn hw t hg hgn v19)) $$ [HX HY HO HP Hb1]
  · isplitl [HX]; · iexact HX
    isplitl [HY]; · iexact HY
    isplitl [HO]; · iexact HO
    isplitl [HP] <;> iassumption
  iintro %r ⟨%hr, HM, HO, HP, Hb1⟩
  obtain ⟨r1, r2, r3⟩ := r
  dsimp only at hr
  subst hr
  dsimp only
  iapply (cut (part4_run (F := F) (c := c) i arg5 harg5 arg6 harg6 arg7 harg7 arg8 harg8)) $$ HO
  iintro %r ⟨%hr, HO⟩
  subst hr
  dsimp only
  iapply (cut (part5_run (F := F) (c := c) i arg5 harg5 arg6 harg6 arg7 harg7 arg8 harg8)) $$ HO
  iintro %r ⟨%hr, HO⟩
  subst hr
  dsimp only
  iapply (cut (part6_run (F := F) (c := c) i arg5 harg5 arg6 harg6 arg7 harg7 arg8 harg8)) $$ HO
  iintro %r ⟨%hr, HO⟩
  subst hr
  dsimp only
  unfold Mid YFree
  icases HM with ⟨HX, ⟨Hs, Hv⟩, HZ, HY0, HY1⟩
  iapply (cut (part7_run (F := F) (c := c) i arg5 harg5 arg6 harg6 arg7 harg7 arg8 harg8 hp hw t hg h6)) $$ [Hs HW Hb2]
  · isplitl [Hs]; · iexact Hs
    isplitl [HW] <;> iassumption
  iintro %_ ⟨Hs, HW, Hb2⟩
  dsimp only
  ihave HY := (y_split (c := c) (F := F) (a := g) (b := g + 1) (d := 600) (by omega) (by omega) _).1 $$ HY1
  icases HY with ⟨HYb, HY1⟩
  iapply (cut (start_y (F := F) (V := V) (T := T) (par g) (bk g) _ _ _ (off2_eq t hp hg h6) (off3_eq t hp hg h6) (by rw [hb]; exact off4_eq t hp hg h6))) $$ [Hs Hv HYb]
  · isplitl [Hs]; · rw [hT]; unfold blockPay; iexact Hs
    isplitl [Hv]; · iexact Hv
    rw [hb]; iexact HYb
  iintro %_ HF
  iapply W_pure
  isplitl [HX]; · iexact HX
  isplitr [HO HP Hb1 HW Hb2]
  · unfold YSt YA YZ
    rw [show g + 1 - 2 = g - 1 by omega, show g + 1 + 1 = g + 2 from rfl, par_two, if_pos (show 1 ≤ g + 1 by omega), Nat.add_sub_cancel]
    isplitl [HZ]
    · by_cases h1 : 1 ≤ g
      · rw [if_pos h1, if_pos (show 2 ≤ g + 1 by omega)]; exact .rfl
      · rw [if_neg h1, if_neg (show ¬ 2 ≤ g + 1 by omega)]; exact .rfl
    isplitl [HF]; · iexact HF
    isplitl [HY0] <;> iassumption
  isplitl [HO]; · iexact HO
  isplitl [HP]; · iexact HP
  isplitl [Hb1]; · iexact Hb1
  isplitl [HW] <;> iassumption

/-- The kernel's loop over one expert's blocks. -/
theorem t1_run (hn : n ≤ 600) (hpK : p + K ≤ n) (hw : k0_chk1 (BitVec.ofNat 32 n) (BitVec.ofNat 32 (512 * p)) (BitVec.ofNat 32 (512 * K))) (ok) (v19 : BitVec 32)
    (hT : ∀ g, p ≤ g → g < p + K → T (bk g) = blockPay (xRd X (bk g)) P b1 W2 b2) :
    iprop(XSt (F := F) c X n p ∗ YSt c V T p ∗ Ow (F := F) c ∗ Wts c arg6 arg8 P b1 W2 b2)
      ⊢ W c (Scf.Loop.for (k0_t1_loop (BitVec.ofNat 32 (512 * K))) ok ()
          (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw)) fun _ =>
        iprop(XSt (F := F) c X n (p + K) ∗ YSt c V T (p + K) ∗ Ow (F := F) c ∗ Wts c arg6 arg8 P b1 W2 b2) := by
  have hK : K ≤ 600 := by omega
  have h := Scf.wp_for frame (wpE (defs₀ (F := F)) Variants.none (c : Thread nD τ) none) Set.univ
    (k0_t1_loop (BitVec.ofNat 32 (512 * K))).lb (k0_t1_loop (BitVec.ofNat 32 (512 * K))).ub (k0_t1_loop (BitVec.ofNat 32 (512 * K))).st ok ()
    (k0_t1_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) (BitVec.ofNat 32 (512 * p)) v19 (BitVec.ofNat 32 (512 * K)) hw)
    (fun k _ => iprop(XSt (F := F) c X n (p + k) ∗ YSt c V T (p + k) ∗ Ow (F := F) c ∗ Wts c arg6 arg8 P b1 W2 b2))
    (fun k _ => by
      have hk : k.val < K := lt_of_lt_of_eq k.isLt (t1_trips hK)
      exact t1_step i arg5 harg5 arg6 harg6 arg7 harg7 arg8 harg8 hn hw k rfl (by omega) v19 (hT _ (by omega) (by omega)))
    (Q := fun _ => iprop(XSt (F := F) c X n (p + K) ∗ YSt c V T (p + K) ∗ Ow (F := F) c ∗ Wts c arg6 arg8 P b1 W2 b2))
  iintro H
  iapply h
  isplitl [H]; · iexact H
  iintro %_ H
  have e : Scf.trips (k0_t1_loop (BitVec.ofNat 32 (512 * K))).lb (k0_t1_loop (BitVec.ofNat 32 (512 * K))).ub (k0_t1_loop (BitVec.ofNat 32 (512 * K))).st = K := t1_trips hK
  rw [e]
  iexact H

end Cert.KernelPacked.Hand
-- ==== Proof.Packed.Tail.lean ====
module

public import proofs.«01_k».proof.Proof.Packed.Step
public import Idealize.ShloMosaic.Lib.Ring

@[expose] public section

set_option maxRecDepth 16384

noncomputable section

namespace Cert.KernelPacked.Hand

open Cert.KernelPacked Cert.KernelPacked.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-! The last grid point: the two blocks still in flight are waited for, and the rows no expert owns are filled from one
   zero block, all its copies in flight at once. -/

variable {c : Dev nD} {X : S307200x512.Idx → BitVec 32} {V : S307200x512.Idx → Elt F .i32} {T : Fin 600 → Vec F S1x512x512 .i32}
variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
variable {n m : ℕ}

theorem par_cases (g : ℕ) : (par g = 0 ∧ par (g + 1) = 1) ∨ (par g = 1 ∧ par (g + 1) = 0) := by
  rcases Nat.mod_two_eq_zero_or_one g with h | h
  · exact .inl ⟨Fin.ext h, Fin.ext (by show (g + 1) % 2 = 1; omega)⟩
  · exact .inr ⟨Fin.ext h, Fin.ext (by show (g + 1) % 2 = 0; omega)⟩

theorem both (Φ : Fin 2 → sProp 𝕄) (g : ℕ) : iprop(Φ (par g) ∗ Φ (par (g + 1))) ⊢ iprop(Φ 0 ∗ Φ 1) := by
  rcases par_cases g with ⟨h0, h1⟩ | ⟨h0, h1⟩
  · rw [h0, h1]
  · rw [h0, h1]
    iintro ⟨H1, H2⟩
    isplitl [H2] <;> iassumption

/-! ## Draining -/

theorem drain_y (hn : n ≤ 600) {P : Prop} (hP : P ↔ 1 ≤ n) (h : P) {o1 : Fin 1 → ℕ} {o2 : Fin 2 → ℕ} (h1 h2)
    (e1 : o1 = ![(par (n + 1)).val]) {sp : Space} {s' : Shape} {e' : EltTy} {src : Memref sig .tc sp s' e'} {a1 a2} :
    iprop(YZ c T n ∗ (yG c ↦[yRows 0 (n - 1)]{fullShare} (YT T : Buf (Elt F) (yG c))) ∗ Ow (F := F) c)
      ⊢ W c (Prog.lift (.waitDma2 (semAt cc0_scratch5 o1 h1) src (yBlkAt o2 h2) a1 a2)) fun _ =>
        iprop(YFree (F := F) c (par (n + 1)) ∗ (yG c ↦[yRows 0 n]{fullShare} (YT T : Buf (Elt F) (yG c))) ∗ Ow (F := F) c) := by
  have h1n : 1 ≤ n := hP.mp h
  have hb : (bk (n - 1)).val = n - 1 := bk_val (by omega)
  unfold YZ
  rw [if_pos h1n]
  iintro ⟨HF, HY, HO⟩
  have := wait_y (F := F) (c := c) (T := T) (par (n + 1)) (bk (n - 1)) h1 e1 h2 (src := src) (a1 := a1) (a2 := a2)
  iapply (exec_cut_last _ _ _ this) $$ [HF HO]
  · isplitl [HF]; · iexact HF
    iexact HO
  iintro %r ⟨H1, H2, H3⟩
  isplitl [H2]; · iexact H2
  isplitr [H3]
  · rw [hb, show n - 1 + 1 = n by omega]
    iapply (y_split (a := 0) (b := n - 1) (d := n) (by omega) (by omega) _).2
    isplitl [HY]; · iexact HY
    iexact H1
  iexact H3

theorem drained_y {P : Prop} (hP : P ↔ 1 ≤ n) (h : ¬P) :
    iprop(YZ c T n ∗ (yG c ↦[yRows 0 (n - 1)]{fullShare} (YT T : Buf (Elt F) (yG c))) ∗ Ow (F := F) c)
      ⊢ iprop(YFree (F := F) c (par (n + 1)) ∗ (yG c ↦[yRows 0 n]{fullShare} (YT T : Buf (Elt F) (yG c))) ∗ Ow (F := F) c) := by
  have h1n : ¬ 1 ≤ n := fun h2 => h (hP.mpr h2)
  unfold YZ
  rw [if_neg h1n, show n - 1 = n by omega]

/-! ## Filling -/

section Fill

variable (c T n)

/-- A share of the zero block. -/
def zTok (t : ℕ) : sProp 𝕄 := (xL c ↦[xSet 0]{Transfers.shareTokN fullShare t} (YB (k0_pay4 (F := F)) : Buf (Elt F) (xL c)))
/-- What the `t`-th copy delivers. -/
def fillD (t : ℕ) : sProp 𝕄 := iprop((yG c ↦[yRows (n + t) (n + t + 1)]{fullShare} (YT T : Buf (Elt F) (yG c))) ∗ zTok (F := F) c t)
/-- The copies into the `m` rows' blocks from `n`, `j` of them started and `u` credits taken. -/
def Fill (m j u : ℕ) : sProp 𝕄 :=
  Transfers.Batch (countersEmb (U := Pipeline.UD sig nD τ)) (c : Thread nD τ) (SemLoc.dma (xsem 0)) () NY (fun t : Fin m => fillD c T n t.val) j u

instance fillD_storable (t : ℕ) : Storable (upEmb : UEmb _ 𝕄) (fillD (F := F) c T n t) := by unfold fillD zTok; infer_instance

end Fill

theorem fill_start : (semVal ((c : Thread nD τ), SemLoc.dma (xsem 0)) 0 : sProp 𝕄) ⊢ |={Set.univ}=> Fill (F := F) c T n m 0 0 :=
  Transfers.batch_alloc' _ _ _ _ _

theorem rows_join (f : Buf (Elt F) (yG c)) (m : ℕ) :
    bigSep (Finset.range m) (fun t => (yG c ↦[yRows (n + t) (n + t + 1)]{fullShare} f : sProp 𝕄)) ⊢ (yG c ↦[yRows n (n + m)]{fullShare} f) := by
  induction m with
  | zero =>
    rw [Finset.range_zero, BI.bigSep_empty, Nat.add_zero, yRows_nil, pointsTo_empty]
    exact .rfl
  | succ m ih =>
    rw [Finset.range_add_one, BI.bigSep_insert Finset.notMem_range_self]
    refine (sep_mono_right ih).trans ?_
    iintro ⟨H1, H2⟩
    iapply (y_split (a := n) (b := n + m) (d := n + (m + 1)) (by omega) (by omega) _).2
    isplitl [H2]; · iexact H2
    iexact H1

theorem fill_end (hm : n + m = 600) :
    iprop(Fill (F := F) c T n m m (NY * m) ∗ (xL c ↦[xSet 0]{Transfers.shareDrop fullShare m} (YB (k0_pay4 (F := F)) : Buf (Elt F) (xL c))))
      ⊢ |={Set.univ}=> iprop((yG c ↦[yRows n 600]{fullShare} (YT T : Buf (Elt F) (yG c))) ∗ (xL c ↦[xSet 0]{fullShare} (YB (k0_pay4 (F := F)) : Buf (Elt F) (xL c)))
        ∗ semVal ((c : Thread nD τ), SemLoc.dma (xsem 0)) 0) := by
  unfold Fill
  iintro ⟨HB, HL⟩
  imod (Transfers.batch_collect' (countersEmb (U := Pipeline.UD sig nD τ)) (c : Thread nD τ) NY_pos) $$ HB with ⟨HD, Hv⟩
  imodintro
  ihave HD := (show bigSep Finset.univ (fun t : Fin m => fillD c T n t.val) ⊢ iprop(bigSep (Finset.range m) (fun t => (yG c ↦[yRows (n + t) (n + t + 1)]{fullShare} (YT T : Buf (Elt F) (yG c)) : sProp 𝕄))
      ∗ bigSep (Finset.range m) (zTok (F := F) c)) from Entails.of_eq ((Ring.bigSep_fin_eq_range m _ (fillD c T n) (fun t h => rfl)).trans (BI.bigSep_sep _ _ _))) $$ HD
  icases HD with ⟨H1, H2⟩
  isplitl [H1]
  · rw [← hm]
    iapply (rows_join _ m) $$ H1
  isplitr [Hv]
  · iapply (Transfers.pointsTo_toks_range fullShare m).2
    isplitl [HL]; · iexact HL
    iexact H2
  iexact Hv

theorem fill_one {t : ℕ} (ht : t < m) {o3 : Fin 3 → ℕ} {o2 : Fin 2 → ℕ} (h1 h3 h2) (e3 : o3 = ![0, 0, 0]) (e2 : o2 = ![512 * (bk (n + t)).val, 0]) {a1 a2 a3}
    (hT : ∀ g, n ≤ g → g < 600 → T (bk g) = (k0_pay4 (F := F))) (hm : n + m = 600) :
    iprop(Fill (F := F) c T n m t 0 ∗ zTok (F := F) c t ∗ (yG c ↦[yRows (n + t) (n + t + 1)]{fullShare} (V : Buf (Elt F) (yG c))))
      ⊢ W c (Prog.lift (.enqueueDma (xSlotAt o3 h3) (.here (yBlkAt o2 h2)) (.dma (semAt cc0_scratch4 ![0] h1)) a1 a2 a3)) fun _ =>
        Fill (F := F) c T n m (t + 1) 0 := by
  have hb : (bk (n + t)).val = n + t := bk_val (by omega)
  subst e3 e2
  unfold Fill zTok
  iintro ⟨HB, Htok, HYb⟩
  iapply (Transfers.wp_dmaBatch (countersEmb (U := Pipeline.UD sig nD τ)) Variants.none (c : Thread nD τ) none (src := xSlot 0) (dst := yBlk (bk (n + t))) (via := .same)
    () NY rfl (Sd := yRows (n + t) (n + t + 1)) (q := Transfers.shareTokN fullShare t) (fs := (YB (k0_pay4 (F := F)) : Buf (Elt F) (xL c))) (fd := (V : Buf (Elt F) (yG c))) (by rw [yBlk_set, hb]) ht (Nat.zero_le _) ?_) $$ [HB Htok HYb]
  rotate_left
  · isplitl [Htok]
    · rw [xSlot_set]; iexact Htok
    isplitl [HYb]
    · iexact HYb
    iexact HB
  · iintro HB
    iapply W_pure
    iexact HB
  · rw [xSlot_set]
    unfold fillD zTok
    iintro ⟨H1, H2⟩
    isplitl [H1]
    · have hl := land_z T 0 (bk (n + t)) V (YB (k0_pay4 (F := F))) (fun i _ => by rw [hT _ (by omega) (by omega)])
      rw [hb] at hl
      iapply (pt_congr (F := F) (ℓ := yG c) hl) $$ H1
    · iexact H2

theorem fill_wait {t : ℕ} (ht : t < m) {o2 : Fin 2 → ℕ} (h1 h2) {sp : Space} {s' : Shape} {e' : EltTy} {src : Memref sig .tc sp s' e'} {a1 a2} :
    iprop(Fill (F := F) c T n m m (NY * t) ∗ Ow (F := F) c)
      ⊢ W c (Prog.lift (.waitDma2 (semAt cc0_scratch4 ![0] h1) src (yBlkAt o2 h2) a1 a2)) fun _ => iprop(Fill (F := F) c T n m m (NY * (t + 1)) ∗ Ow (F := F) c) := by
  unfold Ow Fill
  iintro ⟨HB, %w, HO⟩
  iapply (Transfers.wp_waitBatchMul (countersEmb (U := Pipeline.UD sig nD τ)) Variants.none (c : Thread nD τ) none (dstw := yBlkAt o2 h2) (srcw := src) (hsrc := a1) (hdst := a2)
    () (N := NY) 1 (Nat.one_mul _).symm (D := fun t : Fin m => fillD c T n t.val) (j := m) (u := NY * t) (W := w) (by rw [Nat.one_mul, ← Nat.mul_succ]; exact Nat.mul_le_mul_left _ (by omega))) $$ [HB HO]
  · isplitl [HB]; · iexact HB
    iexact HO
  rw [Nat.one_mul, ← Nat.mul_succ]
  iintro ⟨HB, HO⟩
  iapply W_pure
  isplitl [HB]; · iexact HB
  iexists _; iexact HO

theorem t3_step (hn : n ≤ 600) (hw h7) (t : Fin (k0_t3_loop (BitVec.ofNat 32 n)).trips) (hT : ∀ g, n ≤ g → g < 600 → T (bk g) = (k0_pay4 (F := F))) (hm : n + m = 600) :
    iprop(Fill (F := F) c T n m t.val 0 ∗ (xL c ↦[xSet 0]{Transfers.shareDrop fullShare t.val} (YB (k0_pay4 (F := F)) : Buf (Elt F) (xL c)))
        ∗ (yG c ↦[yRows (n + t.val) 600]{fullShare} (V : Buf (Elt F) (yG c))))
      ⊢ W c (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7 t ()) fun _ =>
        iprop(Fill (F := F) c T n m (t.val + 1) 0 ∗ (xL c ↦[xSet 0]{Transfers.shareDrop fullShare (t.val + 1)} (YB (k0_pay4 (F := F)) : Buf (Elt F) (xL c)))
          ∗ (yG c ↦[yRows (n + (t.val + 1)) 600]{fullShare} (V : Buf (Elt F) (yG c)))) := by
  have ht : t.val < 600 - n := lt_of_lt_of_eq t.isLt (t3_trips hn)
  have hb : (bk (n + t.val)).val = n + t.val := bk_val (by omega)
  have e2 := off28_eq hn t
  rw [← hb] at e2
  unfold k0_t3_body
  iintro ⟨HB, HL, HY⟩
  ihave HY := (y_split (c := c) (F := F) (a := n + t.val) (b := n + (t.val + 1)) (d := 600) (by omega) (by omega) _).1 $$ HY
  icases HY with ⟨HYb, HY⟩
  ihave HL := (pointsTo_share (PosShare.mem_left_op_right (Transfers.shareDrop fullShare t.val))).1 $$ HL
  icases HL with ⟨HL, Htok⟩
  dsimp only
  ihave Htok := (show (xL c ↦[xSet 0]{(Transfers.shareDrop fullShare t.val).right} (YB (k0_pay4 (F := F)) : Buf (Elt F) (xL c)) : sProp 𝕄) ⊢ zTok (F := F) c t.val from .rfl) $$ Htok
  iapply (cut (fill_one (F := F) (V := V) (T := T) (m := m) (t := t.val) (by omega) _ _ _ rfl e2 hT hm)) $$ [HB Htok HYb]
  · isplitl [HB]; · iexact HB
    isplitl [Htok]; · iexact Htok
    iexact HYb
  iintro %_ HB
  iapply W_pure
  isplitl [HB]; · iexact HB
  isplitl [HL]; · iexact HL
  iexact HY

theorem t5_step (hn : n ≤ 600) (hw h7) (t : Fin (k0_t5_loop (BitVec.ofNat 32 n)).trips) (hm : n + m = 600) :
    iprop(Fill (F := F) c T n m m (NY * t.val) ∗ Ow (F := F) c)
      ⊢ W c (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7 t ()) fun _ => iprop(Fill (F := F) c T n m m (NY * (t.val + 1)) ∗ Ow (F := F) c) := by
  have ht : t.val < 600 - n := lt_of_lt_of_eq t.isLt (t5_trips hn)
  unfold k0_t5_body
  dsimp only
  iintro H
  iapply (cut (fill_wait (F := F) (T := T) (m := m) (t := t.val) (by omega) _ _)) $$ H
  iintro %_ H
  iapply W_pure
  iexact H

theorem t3_run (hn : n ≤ 600) (hw h7 ok) (hT : ∀ g, n ≤ g → g < 600 → T (bk g) = (k0_pay4 (F := F))) (hm : n + m = 600) :
    iprop(Fill (F := F) c T n m 0 0 ∗ (xL c ↦[xSet 0]{fullShare} (YB (k0_pay4 (F := F)) : Buf (Elt F) (xL c)))
        ∗ (yG c ↦[yRows n 600]{fullShare} (V : Buf (Elt F) (yG c))))
      ⊢ W c (Scf.Loop.for (k0_t3_loop (BitVec.ofNat 32 n)) ok () (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)) fun _ =>
        iprop(Fill (F := F) c T n m m 0 ∗ (xL c ↦[xSet 0]{Transfers.shareDrop fullShare m} (YB (k0_pay4 (F := F)) : Buf (Elt F) (xL c)))) := by
  have h := Scf.wp_for frame (wpE (defs₀ (F := F)) Variants.none (c : Thread nD τ) none) Set.univ
    (k0_t3_loop (BitVec.ofNat 32 n)).lb (k0_t3_loop (BitVec.ofNat 32 n)).ub (k0_t3_loop (BitVec.ofNat 32 n)).st ok ()
    (k0_t3_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)
    (fun k _ => iprop(Fill (F := F) c T n m k 0 ∗ (xL c ↦[xSet 0]{Transfers.shareDrop fullShare k} (YB (k0_pay4 (F := F)) : Buf (Elt F) (xL c)))
        ∗ (yG c ↦[yRows (n + k) 600]{fullShare} (V : Buf (Elt F) (yG c)))))
    (fun k _ => t3_step i arg5 harg5 arg6 harg6 arg7 harg7 arg8 harg8 hn hw h7 k hT hm)
    (Q := fun _ => iprop(Fill (F := F) c T n m m 0 ∗ (xL c ↦[xSet 0]{Transfers.shareDrop fullShare m} (YB (k0_pay4 (F := F)) : Buf (Elt F) (xL c)))))
  iintro H
  iapply h
  isplitl [H]; · iexact H
  iintro %_ H
  have e : Scf.trips (k0_t3_loop (BitVec.ofNat 32 n)).lb (k0_t3_loop (BitVec.ofNat 32 n)).ub (k0_t3_loop (BitVec.ofNat 32 n)).st = m := (t3_trips hn).trans (by omega)
  rw [e]
  icases H with ⟨H1, H2, -⟩
  isplitl [H1] <;> iassumption

theorem t5_run (hn : n ≤ 600) (hw h7 ok) (hm : n + m = 600) :
    iprop(Fill (F := F) c T n m m 0 ∗ Ow (F := F) c)
      ⊢ W c (Scf.Loop.for (k0_t5_loop (BitVec.ofNat 32 n)) ok () (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)) fun _ =>
        iprop(Fill (F := F) c T n m m (NY * m) ∗ Ow (F := F) c) := by
  have h := Scf.wp_for frame (wpE (defs₀ (F := F)) Variants.none (c : Thread nD τ) none) Set.univ
    (k0_t5_loop (BitVec.ofNat 32 n)).lb (k0_t5_loop (BitVec.ofNat 32 n)).ub (k0_t5_loop (BitVec.ofNat 32 n)).st ok ()
    (k0_t5_body (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7)
    (fun k _ => iprop(Fill (F := F) c T n m m (NY * k) ∗ Ow (F := F) c))
    (fun k _ => t5_step i arg5 harg5 arg6 harg6 arg7 harg7 arg8 harg8 hn hw h7 k hm)
    (Q := fun _ => iprop(Fill (F := F) c T n m m (NY * m) ∗ Ow (F := F) c))
  iintro H
  iapply h
  isplitl [H]; · rw [Nat.mul_zero]; iexact H
  iintro %_ H
  have e : Scf.trips (k0_t5_loop (BitVec.ofNat 32 n)).lb (k0_t5_loop (BitVec.ofNat 32 n)).ub (k0_t5_loop (BitVec.ofNat 32 n)).st = m := (t5_trips hn).trans (by omega)
  rw [e]
  iexact H

/-- A loop of no trips. -/
theorem no_trips {L : Scf.Loop 32} (ok : L.OK) (h : L.trips = 0) (body : Fin L.trips → Unit → Prog (TpuEff nD τ sig (Elt F) Λ₀ .tc) Unit) {R : sProp 𝕄} :
    R ⊢ W c (Scf.Loop.for L ok () body) fun _ => R := by
  have h' := Scf.wp_for frame (wpE (defs₀ (F := F)) Variants.none (c : Thread nD τ) none) Set.univ L.lb L.ub L.st ok () body
    (fun _ _ => R) (fun k _ => absurd (k.isLt.trans_eq h) (Nat.not_lt_zero _)) (Q := fun _ => R)
  iintro H
  iapply h'
  isplitl [H]; · iexact H
  iintro %_ H
  iexact H

end Cert.KernelPacked.Hand
-- ==== Proof.Packed.Rest.lean ====
module

public import proofs.«01_k».proof.Proof.Packed.Weights
public import proofs.«01_k».proof.Proof.Packed.Tail
public import proofs.«01_k».proof.Proof.Segs

@[expose] public section

set_option maxRecDepth 16384

noncomputable section

namespace Cert.KernelPacked.Hand

open Cert.KernelPacked Cert.KernelPacked.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (Pipeline.UD sig nD τ) ℕ

/-! The whole body at one grid point. -/

/-- What the last grid point does after its own blocks. -/
def tailP (i : grid0.Coords) (arg1 : Memref sig .tc .smem S32 .i32) (harg1 : arg1.IsWhole) (arg2 : Memref sig .tc .smem S32 .i32) (harg2 : arg2.IsWhole) (arg3 : Memref sig .tc .smem S1 .i32) (harg3 : arg3.IsWhole) (arg4 : Memref sig .tc .hbm S307200x512 .i32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .hbm S307200x512 .i32) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S2x512x512 .i32) (harg12 : arg12.IsWhole) (arg13 : Memref sig .tc .vmem S2x512x512 .i32) (harg13 : arg13.IsWhole) (arg14 : DmaSems sig S2) (arg15 : DmaSems sig S2) (v0 : Elt F .i32) (k0_hw2 : k0_chk2 i v0) (k0_h7 : k0_cond7 i = 1#1) :
    Prog (TpuEff nD τ sig (Elt F) Λ₀ .tc) PUnit := do
  if k0_h8 : k0_cond8 v0 = 1#1 then do
    let v81 : DmaSems sig S1 := arg15.slice (Rect.unit (s := S2) (k0_off22 v0) S1.size (k0_off22_inb i v0 k0_hw2 k0_h7 k0_h8))
    let v82 : DmaSems sig S_ := v81.squeeze S_ squeezes_S1_S_
    let v83 : Memref sig .tc .hbm S512x512 .i32 := arg9.slice (Rect.unit (s := S307200x512) (k0_off23 v0) S512x512.size (k0_off23_inb i v0 k0_hw2 k0_h7 k0_h8)) (fun _ => rfl)
    let v84 : Memref sig .tc .vmem S1x512x512 .i32 := arg13.slice (Rect.unit (s := S2x512x512) (k0_off24 v0) S1x512x512.size (k0_off24_inb i v0 k0_hw2 k0_h7 k0_h8)) (fun _ => rfl)
    let v85 : Memref sig .tc .vmem S512x512 .i32 := v84.squeeze S512x512 squeezes_S1x512x512_S512x512
    Prog.lift (.waitDma2 v82.sem v85 v83 ((View.wordExact_bits rfl).reshape _ _) (View.wordExact_bits rfl))
    pure ⟨⟩
  else do
    pure ⟨⟩
  if k0_h9 : k0_cond9 v0 = 1#1 then do
    let v81 : DmaSems sig S1 := arg15.slice (Rect.unit (s := S2) (k0_off25 v0) S1.size (k0_off25_inb i v0 k0_hw2 k0_h7 k0_h9))
    let v82 : DmaSems sig S_ := v81.squeeze S_ squeezes_S1_S_
    let v83 : Memref sig .tc .hbm S512x512 .i32 := arg9.slice (Rect.unit (s := S307200x512) (k0_off26 v0) S512x512.size (k0_off26_inb i v0 k0_hw2 k0_h7 k0_h9)) (fun _ => rfl)
    let v84 : Memref sig .tc .vmem S1x512x512 .i32 := arg13.slice (Rect.unit (s := S2x512x512) (k0_off27 v0) S1x512x512.size (k0_off27_inb i v0 k0_hw2 k0_h7 k0_h9)) (fun _ => rfl)
    let v85 : Memref sig .tc .vmem S512x512 .i32 := v84.squeeze S512x512 squeezes_S1x512x512_S512x512
    Prog.lift (.waitDma2 v82.sem v85 v83 ((View.wordExact_bits rfl).reshape _ _) (View.wordExact_bits rfl))
    pure ⟨⟩
  else do
    pure ⟨⟩
  let v62 : Vec F S1x512x512 .i32 ← Prog.lift (.load arg12 (Rect.unit (s := S2x512x512) ![0, 0, 0] S1x512x512.size inb_S2x512x512_S1x512x512_0_0_0).toLoadRect (View.loadsAt_vmem h_S1x512x512))
  Prog.lift (.store arg12 (Rect.unit (s := S2x512x512) ![0, 0, 0] S1x512x512.size inb_S2x512x512_S1x512x512_0_0_0) (k0_pay4 (F := F)) Finset.univ (View.stores_vmem_bits_univ h_S1x512x512 rfl) (.inl rfl))
  Scf.Loop.for (k0_t3_loop v0) (k0_t3_ok i v0 k0_hw2 k0_h7) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  Scf.Loop.for (k0_t4_loop v0) (k0_t4_ok i v0 k0_hw2 k0_h7) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  Scf.Loop.for (k0_t5_loop v0) (k0_t5_ok i v0 k0_hw2 k0_h7) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  Scf.Loop.for (k0_t6_loop v0) (k0_t6_ok i v0 k0_hw2 k0_h7) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
  pure ⟨⟩

/-- What a grid point does once its weights are staged. -/
def restP (i : grid0.Coords) (arg1 : Memref sig .tc .smem S32 .i32) (harg1 : arg1.IsWhole) (arg2 : Memref sig .tc .smem S32 .i32) (harg2 : arg2.IsWhole) (arg3 : Memref sig .tc .smem S1 .i32) (harg3 : arg3.IsWhole) (arg4 : Memref sig .tc .hbm S307200x512 .i32) (harg4 : arg4.IsWhole) (arg5 : Memref sig .tc .vmem S1x1024x2048 .f32) (harg5 : arg5.IsWhole) (arg6 : Memref sig .tc .vmem S1x1x2048 .f32) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .hbm S307200x512 .i32) (harg9 : arg9.IsWhole) (arg10 : Memref sig .tc .vmem S1024x2048 .bf16) (harg10 : arg10.IsWhole) (arg11 : Memref sig .tc .vmem S1024x1024 .bf16) (harg11 : arg11.IsWhole) (arg12 : Memref sig .tc .vmem S2x512x512 .i32) (harg12 : arg12.IsWhole) (arg13 : Memref sig .tc .vmem S2x512x512 .i32) (harg13 : arg13.IsWhole) (arg14 : DmaSems sig S2) (arg15 : DmaSems sig S2) (v0 : Elt F .i32) (k0_hw2 : k0_chk2 i v0) (v2 : Elt F .i32) (v19 : BitVec 32) (v21 : Elt F .i32) (k0_hw1 : k0_chk1 v0 v2 v21) (v38 : BitVec 32) :
    Prog (TpuEff nD τ sig (Elt F) Λ₀ .tc) PUnit := do
  let v47 : BitVec 32 := Scalar.subi v38 0#32
  let v49 : BitVec 32 := Scalar.divsi v47 1#32
  let v50 : BitVec 32 := Scalar.muli v49 1#32
  let v51 : BitVec 32 := Scalar.addi 0#32 v50
  Scf.Loop.for (k0_t1_loop v21) (k0_t1_ok v0 v2 v21 k0_hw1) ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 arg15 v0 v2 v19 v21 k0_hw1)
  Scf.Loop.for (k0_t2_loop v21) (k0_t2_ok v0 v2 v21 k0_hw1) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 arg15 v0 v2 v19 v21 k0_hw1 v51)
  if k0_h7 : k0_cond7 i = 1#1 then do
    if k0_h8 : k0_cond8 v0 = 1#1 then do
      let v81 : DmaSems sig S1 := arg15.slice (Rect.unit (s := S2) (k0_off22 v0) S1.size (k0_off22_inb i v0 k0_hw2 k0_h7 k0_h8))
      let v82 : DmaSems sig S_ := v81.squeeze S_ squeezes_S1_S_
      let v83 : Memref sig .tc .hbm S512x512 .i32 := arg9.slice (Rect.unit (s := S307200x512) (k0_off23 v0) S512x512.size (k0_off23_inb i v0 k0_hw2 k0_h7 k0_h8)) (fun _ => rfl)
      let v84 : Memref sig .tc .vmem S1x512x512 .i32 := arg13.slice (Rect.unit (s := S2x512x512) (k0_off24 v0) S1x512x512.size (k0_off24_inb i v0 k0_hw2 k0_h7 k0_h8)) (fun _ => rfl)
      let v85 : Memref sig .tc .vmem S512x512 .i32 := v84.squeeze S512x512 squeezes_S1x512x512_S512x512
      Prog.lift (.waitDma2 v82.sem v85 v83 ((View.wordExact_bits rfl).reshape _ _) (View.wordExact_bits rfl))
      pure ⟨⟩
    else do
      pure ⟨⟩
    if k0_h9 : k0_cond9 v0 = 1#1 then do
      let v81 : DmaSems sig S1 := arg15.slice (Rect.unit (s := S2) (k0_off25 v0) S1.size (k0_off25_inb i v0 k0_hw2 k0_h7 k0_h9))
      let v82 : DmaSems sig S_ := v81.squeeze S_ squeezes_S1_S_
      let v83 : Memref sig .tc .hbm S512x512 .i32 := arg9.slice (Rect.unit (s := S307200x512) (k0_off26 v0) S512x512.size (k0_off26_inb i v0 k0_hw2 k0_h7 k0_h9)) (fun _ => rfl)
      let v84 : Memref sig .tc .vmem S1x512x512 .i32 := arg13.slice (Rect.unit (s := S2x512x512) (k0_off27 v0) S1x512x512.size (k0_off27_inb i v0 k0_hw2 k0_h7 k0_h9)) (fun _ => rfl)
      let v85 : Memref sig .tc .vmem S512x512 .i32 := v84.squeeze S512x512 squeezes_S1x512x512_S512x512
      Prog.lift (.waitDma2 v82.sem v85 v83 ((View.wordExact_bits rfl).reshape _ _) (View.wordExact_bits rfl))
      pure ⟨⟩
    else do
      pure ⟨⟩
    let v62 : Vec F S1x512x512 .i32 ← Prog.lift (.load arg12 (Rect.unit (s := S2x512x512) ![0, 0, 0] S1x512x512.size inb_S2x512x512_S1x512x512_0_0_0).toLoadRect (View.loadsAt_vmem h_S1x512x512))
    Prog.lift (.store arg12 (Rect.unit (s := S2x512x512) ![0, 0, 0] S1x512x512.size inb_S2x512x512_S1x512x512_0_0_0) (k0_pay4 (F := F)) Finset.univ (View.stores_vmem_bits_univ h_S1x512x512 rfl) (.inl rfl))
    Scf.Loop.for (k0_t3_loop v0) (k0_t3_ok i v0 k0_hw2 k0_h7) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    Scf.Loop.for (k0_t4_loop v0) (k0_t4_ok i v0 k0_hw2 k0_h7) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    Scf.Loop.for (k0_t5_loop v0) (k0_t5_ok i v0 k0_hw2 k0_h7) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    Scf.Loop.for (k0_t6_loop v0) (k0_t6_ok i v0 k0_hw2 k0_h7) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 arg15 v0 k0_hw2 k0_h7)
    pure ⟨⟩
  else do
    pure ⟨⟩
  pure ⟨⟩

variable {c : Dev nD} {X : S307200x512.Idx → BitVec 32} {V : S307200x512.Idx → Elt F .i32} {T : Fin 600 → Vec F S1x512x512 .i32}
variable (i : grid0.Coords) (arg5 : Memref sig .tc .vmem S1x1024x2048 .f32) (harg5 : arg5.IsWhole) (arg6 : Memref sig .tc .vmem S1x1x2048 .f32) (harg6 : arg6.IsWhole)
  (arg7 : Memref sig .tc .vmem S1x1024x1024 .f32) (harg7 : arg7.IsWhole) (arg8 : Memref sig .tc .vmem S1x1x1024 .f32) (harg8 : arg8.IsWhole)
variable {n p K : ℕ} {P : S1024x2048.Idx → Elt F .bf16} {b1 : S1x1x2048.Idx → Elt F .f32} {W2 : S1024x1024.Idx → Elt F .bf16} {b2 : S1x1x1024.Idx → Elt F .f32}

/-- The rings at rest: nothing in flight, the result as `Y`. -/
def Idle (c : Dev nD) (X : S307200x512.Idx → BitVec 32) (Y : S307200x512.Idx → Elt F .i32) : sProp 𝕄 :=
  iprop((XFree (F := F) c 0 ∗ XFree (F := F) c 1 ∗ (xG c ↦{fullShare} (X : Buf (Elt F) (xG c))))
    ∗ YFree (F := F) c 0 ∗ YFree (F := F) c 1 ∗ (yG c ↦{fullShare} (Y : Buf (Elt F) (yG c))))

theorem W_same {α : Type} {p p' : Prog (TpuEff nD τ sig (Elt F) Λ₀ .tc) α} {Q : α → sProp 𝕄} (h : p = p') : W c p Q ⊢ W c p' Q := by
  rw [h]

theorem tail_run (hn : n ≤ 600) (hw h7) (hT : ∀ g, n ≤ g → g < 600 → T (bk g) = (k0_pay4 (F := F))) :
    iprop(XSt (F := F) c X n n ∗ YSt c V T n ∗ Ow (F := F) c)
      ⊢ W c (tailP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw h7) fun _ => iprop(Idle c X (YT T) ∗ Ow (F := F) c) := by
  unfold tailP
  dsimp only
  unfold XSt YSt XNow
  rw [if_neg (lt_irrefl n)]
  iintro ⟨⟨⟨HXa, HX⟩, HXb⟩, ⟨HYA, HYZ, HY0, HY1⟩, HO⟩
  iapply (ite_seq (fun h => old_y hn (cond8_iff hn) h _ _ (off22_eq hn ((cond8_iff hn).mp h))) (fun h => new_y (cond8_iff hn) h)) $$ [HYA HY0 HO]
  · isplitl [HYA]; · iexact HYA
    isplitl [HY0]; · iexact HY0
    iexact HO
  iintro ⟨HYa, HY0, HO⟩
  iapply (ite_seq (fun h => drain_y hn (cond9_iff hn) h _ _ (off25_eq hn ((cond9_iff hn).mp h))) (fun h => drained_y (cond9_iff hn) h)) $$ [HYZ HY0 HO]
  · isplitl [HYZ]; · iexact HYZ
    isplitl [HY0]; · iexact HY0
    iexact HO
  iintro ⟨HYb, HY0, HO⟩
  ihave HX2 := (both (XFree (F := F) c) n) $$ [HXa HXb]
  · isplitl [HXa]; · iexact HXa
    iexact HXb
  ihave HY2 := (both (YFree (F := F) c) n) $$ [HYa HYb]
  · isplitl [HYa]; · iexact HYa
    iexact HYb
  ihave HX2 := (show iprop(XFree (F := F) c 0 ∗ XFree (F := F) c 1) ⊢ iprop(((∃ f, xL c ↦[xSet 0]{fullShare} f) ∗ semVal ((c : Thread nD τ), SemLoc.dma (xsem 0)) 0) ∗ XFree (F := F) c 1) from .rfl) $$ HX2
  ihave HY2 := (show iprop(YFree (F := F) c 0 ∗ YFree (F := F) c 1) ⊢ iprop(((∃ f, yL c ↦[ySet 0]{fullShare} f) ∗ semVal ((c : Thread nD τ), SemLoc.dma (ysem 0)) 0) ∗ YFree (F := F) c 1) from .rfl) $$ HY2
  icases HX2 with ⟨⟨Hxs, Hxv⟩, HX3⟩
  icases HY2 with ⟨⟨Hs, Hv⟩, HY3⟩
  iapply (cut (load_xslot (F := F) 0 _ rfl)) $$ Hxs
  iintro %_ Hxs
  iapply (cut (store_xslot (F := F) 0 _ rfl)) $$ Hxs
  iintro %_ Hxs
  imod (fill_start (F := F) (c := c) (T := T) (n := n) (m := 600 - n)) $$ Hxv with HB
  have hm : n + (600 - n) = 600 := by omega
  iapply (cut (t3_run (F := F) (V := V) i arg5 harg5 arg6 harg6 arg7 harg7 arg8 harg8 hn hw h7 _ hT hm)) $$ [HB Hxs HY1]
  · isplitl [HB]; · iexact HB
    isplitl [Hxs]; · iexact Hxs
    iexact HY1
  iintro %_ ⟨HB, Hxs⟩
  iapply (cut (no_trips _ (t4_trips hn) _)) $$ HO
  iintro %_ HO
  iapply (cut (t5_run (F := F) i arg5 harg5 arg6 harg6 arg7 harg7 arg8 harg8 hn hw h7 _ hm)) $$ [HB HO]
  · isplitl [HB]; · iexact HB
    iexact HO
  iintro %_ ⟨HB, HO⟩
  iapply (cut (no_trips _ (t6_trips hn) _)) $$ HO
  iintro %_ HO
  imod (fill_end (F := F) (c := c) (T := T) hm) $$ [HB Hxs] with ⟨HY1, Hxs, Hxv⟩
  · isplitl [HB]; · iexact HB
    iexact Hxs
  iapply W_pure
  isplitr [HO]
  · unfold Idle
    isplitl [Hxs Hxv HX3 HX]
    · isplitl [Hxs Hxv]
      · unfold XFree
        isplitl [Hxs]; · iexists _; iexact Hxs
        iexact Hxv
      isplitl [HX3]; · iexact HX3
      iexact HX
    isplitl [Hs Hv]
    · unfold YFree
      isplitl [Hs]; · iexact Hs
      iexact Hv
    isplitl [HY3]; · iexact HY3
    rw [← yRows_all]
    iapply (y_split (c := c) (F := F) (a := 0) (b := n) (d := 600) (by omega) hn _).2
    isplitl [HY0]; · iexact HY0
    iexact HY1
  iexact HO

/-- What the rings hold after a grid point. -/
def Done (c : Dev nD) (X : S307200x512.Idx → BitVec 32) (V : S307200x512.Idx → Elt F .i32) (T : Fin 600 → Vec F S1x512x512 .i32) (n g : ℕ) (l : Prop) [Decidable l] : sProp 𝕄 :=
  if l then Idle c X (YT T) else iprop(XSt (F := F) c X n g ∗ YSt c V T g)

theorem rest_run (hn : n ≤ 600) (hpK : p + K ≤ n) (hl : (i 0).val = 31 → p + K = n) (hw2 : k0_chk2 i (BitVec.ofNat 32 n)) (hw : k0_chk1 (BitVec.ofNat 32 n) (BitVec.ofNat 32 (512 * p)) (BitVec.ofNat 32 (512 * K)))
    (v19 v38 : BitVec 32)
    (hT : ∀ g, p ≤ g → g < p + K → T (bk g) = blockPay (xRd X (bk g)) P b1 W2 b2) (hZ : ∀ g, n ≤ g → g < 600 → T (bk g) = (k0_pay4 (F := F))) :
    iprop(XSt (F := F) c X n p ∗ YSt c V T p ∗ Ow (F := F) c ∗ Wts c arg6 arg8 P b1 W2 b2)
      ⊢ W c (restP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw2 (BitVec.ofNat 32 (512 * p)) v19 (BitVec.ofNat 32 (512 * K)) hw v38) fun _ =>
        iprop(Done c X V T n (p + K) ((i 0).val = 31) ∗ Ow (F := F) c ∗ Wts c arg6 arg8 P b1 W2 b2) := by
  have hK : K ≤ 600 := by omega
  unfold restP
  dsimp only
  iintro H
  iapply (cut (t1_run (F := F) (X := X) (V := V) (T := T) i arg5 harg5 arg6 harg6 arg7 harg7 arg8 harg8 hn hpK hw _ v19 hT)) $$ H
  iintro %_ ⟨HX, HY, HO, HW⟩
  iapply (cut (no_trips _ (t2_trips hK) _)) $$ HO
  iintro %_ HO
  unfold Done
  by_cases h7 : k0_cond7 i = 1#1
  · rw [dif_pos h7, if_pos ((cond7_iff i).mp h7), hl ((cond7_iff i).mp h7)]
    iapply (W_same (p := tailP (F := F) i (Memref.whole main_arg0) (Memref.isWhole_whole _) (Memref.whole main_arg1) (Memref.isWhole_whole _) (Memref.whole main_arg2) (Memref.isWhole_whole _) (Memref.whole main_arg3) (Memref.isWhole_whole _) arg5 harg5 arg6 harg6 arg7 harg7 arg8 harg8 (Memref.whole main_v4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 (BitVec.ofNat 32 n) hw2 h7) ?_)
    · rfl
    iapply (exec_cut_last _ _ _ (tail_run (F := F) (X := X) (V := V) (T := T) i arg5 harg5 arg6 harg6 arg7 harg7 arg8 harg8 hn hw2 h7 hZ)) $$ [HX HY HO]
    · isplitl [HX]; · iexact HX
      isplitl [HY]; · iexact HY
      iexact HO
    iintro %_ ⟨HI, HO⟩
    isplitl [HI]; · iexact HI
    isplitl [HO]; · iexact HO
    iexact HW
  · rw [dif_neg h7, if_neg (fun h => h7 ((cond7_iff i).mpr h))]
    iapply W_pure
    isplitl [HX HY]
    · isplitl [HX]; · iexact HX
      iexact HY
    isplitl [HO]; · iexact HO
    iexact HW

end Cert.KernelPacked.Hand
-- ==== Proof.Frames.lean ====
module

public import proofs.«01_k».proof.Defs
public import proofs.«01_k».proof.Proof.Run
public import proofs.«01_k».proof.Proof.Packed.Run
public import proofs.«01_k».proof.Proof.Gen.Kernel
public import proofs.«01_k».proof.Proof.Gen.ReferenceIdeal.Run
public import Idealize.ShloMosaic.Lib.Quiescent

@[expose] public section

noncomputable section

namespace Cert.Hand

open Idealize.ShloMosaic Idealize.ShloMosaic.TcCoe Idealize.SL.Sem

/-! The frames: what the two readings of the kernel and the reference leave of memory and counters. -/

instance seg_facts : Cert.Pre_segments.Facts where
  bcast_S1_S32_0 := by decide
  slices_S32_S31_1 := by decide
  bcast_S_S1 := by decide
  concatenates_S31_S1_S32_d0 := by decide
  bcast_S_S32 := by decide

theorem frame_ideal : Cert.quiescent_KernelIdeal := fun m ρ h =>
  (θ_run (Cert.KernelIdeal.defs (F := Ideal)) _ _).mono (fun _ h => ⟨fun c => (h.1 c).1, h.2⟩)
    (Cert.KernelIdeal.Hand.run_ends (F := Ideal) m ρ fun c => Cert.Segs.segs_of (h c))

theorem frame_packed : Cert.quiescent_KernelPacked := fun m ρ h =>
  (θ_run (Cert.KernelPacked.defs (F := Bits)) _ _).mono (fun _ h => ⟨fun c => (h.1 c).1, h.2⟩)
    (Cert.KernelPacked.Hand.run_ends (F := Bits) m ρ fun c => Cert.Segs.segs_of (h c))

set_option maxHeartbeats 4000000 in
set_option backward.isDefEq.respectTransparency.types false in
theorem defs0_same : Cert.Kernel.defs₀ (F := Bits) = Cert.KernelIdeal.defs₀ (F := Bits) := by
  unfold Cert.Kernel.defs₀ Cert.KernelIdeal.defs₀
  refine congrArg _ (funext fun l => funext fun x => ?_)
  match l, x with
  | 0, (t, s) => rfl
  | ⟨_ + 1, h⟩, _ => exact absurd h (Nat.not_lt.2 (Nat.le_add_left _ _))

set_option maxHeartbeats 4000000 in
set_option backward.isDefEq.respectTransparency.types false in
theorem defs_same : Cert.Kernel.defs (F := Bits) = Cert.KernelIdeal.defs (F := Bits) :=
  congrArg (Idealize.ShloMosaic.Pipeline.defs (Cert.KernelIdeal.pcfgs (F := Bits))) defs0_same

theorem main_same : Cert.Kernel.main (F := Bits) = Cert.KernelIdeal.main (F := Bits) := rfl

set_option maxHeartbeats 4000000 in
set_option backward.isDefEq.respectTransparency.types false in
theorem frame_kernel : Cert.quiescent_Kernel := fun m ρ h => by
  have e := (θ_run (Cert.KernelIdeal.defs (F := Bits)) _ _).mono (fun _ h => And.intro (fun c => (h.1 c).1) h.2)
    (Cert.KernelIdeal.Hand.run_ends (F := Bits) m ρ fun c => Cert.Segs.segs_of (h c))
  rw [← defs_same, ← main_same] at e
  exact e

theorem frame_reference : Cert.quiescent_ReferenceIdeal := fun m ρ _ =>
  (θ_run (Cert.ReferenceIdeal.defs (F := Ideal)) _ _).mono (fun _ h => ⟨fun c => (h c).2, sem_eq_zero_of_no_sems (by decide) _⟩)
    (Cert.ReferenceIdeal.Value.run (F := Ideal) m ρ)

end Cert.Hand
-- ==== Proof.Formats.lean ====
/- Extended reals behind the bit patterns: the two bf16 halves of a word as f32 patterns, the activation's constants, and
   the activation written the kernel's way and the reference's. -/
module

public import Idealize.ShloMosaic.PureOps.Ideal.Laws
public import Idealize.ShloMosaic.Lib.IdealHost

@[expose] public section

noncomputable section

namespace Cert.Formats

open Idealize.ShloMosaic

/-- A bf16 pattern followed by sixteen zero bits, read as an f32 pattern, is the same number. -/
theorem ieee_append (b : BitVec 16) : Ideal.ieee 8 23 (b ++ 0#16) = Ideal.ieee 8 7 b := by
  have h1 : (b ++ 0#16).extractLsb' (8 + 23) 1 = b.extractLsb' (8 + 7) 1 := by
    apply BitVec.eq_of_getLsbD_eq; intro i hi
    simp only [BitVec.getLsbD_extractLsb', BitVec.getLsbD_append]
    rw [if_neg (by omega)]; congr 2
    omega
  have h2 : (b ++ 0#16).extractLsb' 23 8 = b.extractLsb' 7 8 := by
    apply BitVec.eq_of_getLsbD_eq; intro i hi
    simp only [BitVec.getLsbD_extractLsb', BitVec.getLsbD_append]
    rw [if_neg (by omega)]; congr 2
    omega
  have h3 : ((b ++ 0#16).extractLsb' 0 23).toNat = (b.extractLsb' 0 7).toNat * 2 ^ 16 := by
    simp only [BitVec.extractLsb'_toNat, BitVec.toNat_append, BitVec.toNat_ofNat, Nat.shiftRight_zero, Nat.zero_mod, Nat.or_zero, Nat.shiftLeft_eq]
    omega
  unfold Ideal.ieee
  simp only [h1, h2, h3]
  generalize (b.extractLsb' 7 8).toNat = ex
  generalize (b.extractLsb' 0 7).toNat = fr
  have z : fr * 2 ^ 16 = 0 ↔ fr = 0 := by omega
  simp only [z]
  split
  · rfl
  · split
    · congr 1
      rw [show ((1 : ℤ) - (2 ^ (8 - 1) - 1) - (7 : ℕ)) = (1 - (2 ^ (8 - 1) - 1) - (23 : ℕ)) + 16 by norm_num, zpow_add₀ (by norm_num : (2 : ℝ) ≠ 0)]
      push_cast
      rw [show ((2 : ℝ) ^ (16 : ℤ)) = 2 ^ 16 by norm_cast]
      ring
    · congr 1
      rw [show ((ex : ℤ) - (2 ^ (8 - 1) - 1) - (7 : ℕ)) = ((ex : ℤ) - (2 ^ (8 - 1) - 1) - (23 : ℕ)) + 16 by push_cast; ring, zpow_add₀ (by norm_num : (2 : ℝ) ≠ 0)]
      push_cast
      rw [show ((2 : ℝ) ^ (16 : ℤ)) = 2 ^ 16 by norm_cast]
      ring

/-- The low half of a word. -/
theorem low_half (w : BitVec 32) : Ideal.ofBits .bf16 (w.extractLsb' (0 * 16) 16) = Ideal.ofBits .f32 (IntOp.shli .host w 16#32) := by
  have e : IntOp.shli .host w 16#32 = w.extractLsb' (0 * 16) 16 ++ 0#16 := by
    unfold IntOp.shli
    rw [if_pos (by decide)]
    apply BitVec.eq_of_getLsbD_eq; intro i hi
    simp only [BitVec.shiftLeft_eq', BitVec.getLsbD_shiftLeft, BitVec.getLsbD_append, BitVec.getLsbD_extractLsb']
    rw [show (16#32 : BitVec 32).toNat = 16 from rfl]
    by_cases h : i < 16
    · simp [h]
    · rw [if_neg h]
      have : i - 16 < 16 := by omega
      simp [h, hi, this]
  rw [e]
  exact (ieee_append _).symm

/-- The high half of a word. -/
theorem high_half (w : BitVec 32) : Ideal.ofBits .bf16 (w.extractLsb' (1 * 16) 16) = Ideal.ofBits .f32 (IntOp.andi w 4294901760#32) := by
  have e : IntOp.andi w 4294901760#32 = w.extractLsb' (1 * 16) 16 ++ 0#16 := by
    unfold IntOp.andi
    have m : (4294901760#32 : BitVec 32) = 0xFFFF#16 ++ 0#16 := by decide
    rw [m]
    apply BitVec.eq_of_getLsbD_eq; intro i hi
    simp only [BitVec.getLsbD_and, BitVec.getLsbD_append, BitVec.getLsbD_extractLsb']
    by_cases h : i < 16
    · simp [h]
    · have h' : i - 16 < 16 := by omega
      have t : ∀ j : Fin 16, (0xFFFF#16 : BitVec 16).getLsbD j.val = true := by decide
      have t' := t ⟨i - 16, h'⟩
      simp only [h, if_false, t', Bool.and_true, h', decide_true, Bool.true_and]
      congr 1; omega
  rw [e]
  exact (ieee_append _).symm

/-! The activation's constants. -/

theorem neg_slope : Ideal.ofBits .f32 0xBFD9DB23#32 = -(Ideal.ofBits .f32 0x3FD9DB23#32 : EReal) := by
  simp [Ideal.ofBits, Ideal.ieee, -EReal.coe_mul, -EReal.coe_neg]
  rw [← EReal.coe_neg]

theorem limits : (Ideal.ofBits .f32 0xC0E00000#32 : EReal) ≤ Ideal.ofBits .f32 0x40E00000#32 := by
  simp [Ideal.ofBits, Ideal.ieee, -EReal.coe_mul, -EReal.coe_neg]

/-- The activation of a gate and a linear value, as the kernel writes it. -/
def swi (g l : EReal) : EReal :=
  min g (Ideal.ofBits .f32 0x40E00000#32)
      * Ideal.div (Ideal.ofBits .f32 0x3F800000#32) (Ideal.ofBits .f32 0x3F800000#32
          + Ideal.exp (Ideal.ofBits .f32 0xBFD9DB23#32 * min g (Ideal.ofBits .f32 0x40E00000#32)))
    * (min (Ideal.ofBits .f32 0x40E00000#32) (max (Ideal.ofBits .f32 0xC0E00000#32) l) + Ideal.ofBits .f32 0x3F800000#32)

/-- The same activation, as the reference writes it. -/
theorem swi_eq (g l : EReal) : swi g l =
    min g (Ideal.ofBits .f32 0x40E00000#32)
      * Ideal.div (Ideal.ofBits .f32 0x3F800000#32) (Ideal.ofBits .f32 0x3F800000#32
          + Ideal.exp (-(Ideal.ofBits .f32 0x3FD9DB23#32 * min g (Ideal.ofBits .f32 0x40E00000#32))))
    * (max (min l (Ideal.ofBits .f32 0x40E00000#32)) (Ideal.ofBits .f32 0xC0E00000#32) + Ideal.ofBits .f32 0x3F800000#32) := by
  unfold swi
  rw [neg_slope]
  congr 2
  · congr 3
    exact EReal.neg_mul _ _
  · rw [min_comm, max_comm, max_min_distrib_right, max_eq_left limits]

end Cert.Formats
-- ==== Proof.Payloads.lean ====
/- The kernel's arithmetic over the extended reals, read at an index: the gathering product, the two matrix products, the
   bias rows and the eight columns blocks of activations. -/
module

public import proofs.«01_k».proof.Proof.Weights
public import proofs.«01_k».proof.Proof.Formats
public import Idealize.ShloMosaic.Lib.MatmulPlain
public import Idealize.ShloMosaic.Lib.Pipeline.Value
public import Idealize.ShloMosaic.Lib.StableHlo.Predicate

@[expose] public section

set_option maxRecDepth 16384

noncomputable section

namespace Cert.KernelIdeal.Hand

open Cert.KernelIdeal Cert.KernelIdeal.Gen Cert.Formats
open Idealize.ShloMosaic Idealize.ShloMosaic.ValueIdx

/-! ## The gathering product -/

/-- The row that column `j` of a gathered block comes from. -/
def pick (j : Fin 256) : Fin 256 := ⟨if j.val < 128 then 2 * j.val else 2 * (j.val - 128) + 1, by split <;> omega⟩

/-- The constant matrix: one where the row is the column's source, zero elsewhere. -/
theorem pay5_apply (k j : Fin 256) : k0_pay5 (F := Ideal) (ix2 k j) = if k = pick j then (1 : EReal) else 0 := by
  have hw : Scalar.select (IntOp.cmpi .slt (BitVec.ofNat 32 j.val) 128#32) (IntOp.muli 2#32 (BitVec.ofNat 32 j.val))
      (IntOp.addi (IntOp.muli 2#32 (IntOp.subi (BitVec.ofNat 32 j.val) 128#32)) 1#32) = BitVec.ofNat 32 (pick j).val := by
    revert j; decide +kernel
  have hs : k0_pay5 (F := Ideal) (ix2 k j) = Scalar.select (IntOp.cmpi .eq (BitVec.ofNat 32 k.val) (BitVec.ofNat 32 (pick j).val))
      (Ideal.ofBits .f32 0x3F800000#32 : EReal) (Ideal.ofBits .f32 0x00000000#32) := by
    have e0 : iota .tc S256x256 32 [0] iota_S256x256_d0_w32 (ix2 k j) = BitVec.ofNat 32 k.val := iota_single_apply ..
    have e1 : iota .tc S256x256 32 [1] iota_S256x256_d1_w32 (ix2 k j) = BitVec.ofNat 32 j.val := iota_single_apply ..
    rw [← hw, ← e0, ← e1]
    unfold k0_pay5
    rfl
  rw [hs, Ideal.ofBits_one_f32, Ideal.ofBits_zero_f32]
  by_cases h : k = pick j
  · subst h
    rw [if_pos rfl, StableHlo.Predicate.cmpi_eq_iff.2 rfl, select_one]
  · rw [if_neg h, eq_zero_of_ne_one (b := IntOp.cmpi .eq _ _) (fun e => h ?_), select_zero]
    have := congrArg BitVec.toNat (StableHlo.Predicate.cmpi_eq_iff.1 e)
    simp only [BitVec.toNat_ofNat] at this
    have h1 := k.isLt
    have h2 := (pick j).isLt
    exact Fin.ext (by omega)

theorem drop_unit {α : Type} {p q : ℕ} (v : (⟨3, ![1, p, q]⟩ : Shape).Idx → α) (h : (⟨3, ![1, p, q]⟩ : Shape).ShapeCasts ⟨2, ![p, q]⟩)
    (r : Fin p) (k : Fin q) : shapeCast ⟨2, ![p, q]⟩ v h (ix2 r k) = v (ix3 0 r k) := by
  refine shapeCast_apply v h _ _ ?_
  rw [Shape.rowMajor_val_three, Shape.rowMajor_val_two]
  show (0 * p + r.val) * q + k.val = r.val * q + k.val
  rw [Nat.zero_mul, Nat.zero_add]

theorem add_unit {α : Type} {p q : ℕ} (v : (⟨2, ![p, q]⟩ : Shape).Idx → α) (h : (⟨2, ![p, q]⟩ : Shape).ShapeCasts ⟨3, ![1, p, q]⟩)
    (r : Fin p) (k : Fin q) : shapeCast ⟨3, ![1, p, q]⟩ v h (ix3 0 r k) = v (ix2 r k) := by
  refine shapeCast_apply v h _ _ ?_
  rw [Shape.rowMajor_val_three, Shape.rowMajor_val_two]
  show r.val * q + k.val = (0 * p + r.val) * q + k.val
  rw [Nat.zero_mul, Nat.zero_add]

/-- A gathered block: the source's column. -/
theorem pay6_apply (v : Vec Ideal S1x1024x256 .f32) (k : Fin 1024) (j : Fin 256) : k0_pay6 (F := Ideal) v (ix2 k j) = v (ix3 0 k (pick j)) := by
  have e : k0_pay6 (F := Ideal) v (ix2 k j)
      = FloatOps.matmul (F := Ideal) (DotDims.plain 1024 256 256) none (φ₁ := .bf16) (φ₂ := .bf16) (shapeCast S1024x256 v shapeCasts_S1x1024x256_S1024x256) (k0_pay5 (F := Ideal))
          (constant S1024x256 .f32 0x00000000#32) (ix2 k j) := by
    unfold k0_pay6
    simp only [shapeCast_self]
    rfl
  rw [e, Ideal.matmul_plain_apply, constant_apply, Ideal.ofBits_zero_f32]
  simp only [pay5_apply, drop_unit]
  refine (zero_add _).trans ((Finset.sum_eq_single (pick j) (fun b _ hb => ?_) (fun h => absurd (Finset.mem_univ _) h)).trans ?_)
  · rw [if_neg hb]; exact mul_zero _
  · rw [if_pos rfl]; exact mul_one _

/-- Staged column `256 k + 128 s + i` is the source's column `256 k + 2 i + s`. -/
theorem W1P_apply (b : S1x1024x2048.Idx → Elt Ideal .f32) (r : Fin 1024) (q : Fin 2048) :
    W1P (F := Ideal) b (ix2 r q) = b (ix3 0 r (colOf ⟨q.val / 256, by omega⟩ (pick ⟨q.val % 256, Nat.mod_lt _ (by decide)⟩))) := by
  unfold W1P
  rw [pay6_apply]
  rfl

/-- The second matrix as it is staged. -/
theorem pay3_apply (v : Vec Ideal S1x1024x1024 .f32) (k : Fin 1024) (j : Fin 1024) : k0_pay3 (F := Ideal) v (ix2 k j) = v (ix3 0 k j) := by
  have e : k0_pay3 (F := Ideal) v (ix2 k j) = shapeCast S1024x1024 v shapeCasts_S1x1024x1024_S1024x1024 (ix2 k j) := by
    unfold k0_pay3
    simp only [shapeCast_self]
    rfl
  rw [e, drop_unit]

/-- A block no expert owns is zero. -/
theorem pay4_apply (r : Fin 512) (j : Fin 1024) : k0_pay4 (F := Ideal) (ix3 0 r j) = (0 : EReal) := by
  unfold k0_pay4
  rw [add_unit]
  exact Ideal.ofBits_zero_bf16

/-! ## The first product -/

/-- A row of the block, unpacked: the low halves before the high halves. -/
def unp (x : S1x512x512.Idx → BitVec 32) (r : Fin 512) (k : Fin 1024) : EReal :=
  if h : k.val < 512 then Ideal.ofBits .f32 (IntOp.shli .host (x (ix3 0 r ⟨k.val, h⟩)) 16#32)
  else Ideal.ofBits .f32 (IntOp.andi (x (ix3 0 r ⟨k.val - 512, by omega⟩)) 4294901760#32)

theorem unp_apply (x : Vec Ideal S1x512x512 .i32) (r : Fin 512) (k : Fin 1024) :
    concatenate S512x1024 1 [⟨S512x512, unpackElementwise (F := Ideal) 0 (shapeCast S512x512 x shapeCasts_S1x512x512_S512x512)⟩,
      ⟨S512x512, unpackElementwise (F := Ideal) 1 (shapeCast S512x512 x shapeCasts_S1x512x512_S512x512)⟩] concatenates_S512x512_S512x512_S512x1024_d1 (ix2 r k)
      = unp x r k := by
  unfold unp
  split
  · rename_i h
    rw [concatenate_pair_apply_left (t := S512x1024) (s₁ := S512x512) (s₂ := S512x512) 1 _ _ _ (ix2 r k) rfl (ix2 r ⟨k.val, h⟩) (fun b => by
      match b with
      | ⟨0, _⟩ => rfl
      | ⟨1, _⟩ => rfl)]
    rw [← low_half, ← drop_unit x shapeCasts_S1x512x512_S512x512]
    rfl
  · rename_i h
    rw [concatenate_pair_apply_right (t := S512x1024) (s₁ := S512x512) (s₂ := S512x512) 1 _ _ _ (ix2 r k) rfl rfl (ix2 r ⟨k.val - 512, by omega⟩) (fun b hb => by
      match b with
      | ⟨0, _⟩ => rfl
      | ⟨1, _⟩ => exact absurd rfl hb) (by show k.val - 512 + 512 = k.val; omega)]
    rw [← high_half, ← drop_unit x shapeCasts_S1x512x512_S512x512]
    rfl

theorem bias_row {p q : ℕ} (hq : q ≠ 1) (v : (⟨3, ![1, 1, q]⟩ : Shape).Idx → EReal) (h : (⟨3, ![1, 1, q]⟩ : Shape).ShapeCasts ⟨2, ![1, q]⟩)
    (h' : (⟨2, ![1, q]⟩ : Shape).Broadcasts ⟨2, ![p, q]⟩) (r : Fin p) (k : Fin q) :
    broadcastTo ⟨2, ![p, q]⟩ (shapeCast ⟨2, ![1, q]⟩ v h) h' (ix2 r k) = v (ix3 0 0 k) := by
  rw [broadcastTo_apply _ h' (ix2 r k) (ix2 0 k) (fun a => by
    match a with
    | ⟨0, _⟩ => rfl
    | ⟨1, _⟩ => show k.val = if q = 1 then 0 else k.val; rw [if_neg hq]), drop_unit]

/-- The first product with its bias. -/
theorem pay14_apply (x : Vec Ideal S1x512x512 .i32) (P : Vec Ideal S1024x2048 .bf16) (b1 : Vec Ideal S1x1x2048 .f32) (r : Fin 512) (q : Fin 2048) :
    k0_pay14 (F := Ideal) x P b1 (ix2 r q) = (∑ k : Fin 1024, unp x r k * (P (ix2 k q) : EReal)) + b1 (ix3 0 0 q) := by
  have e : k0_pay14 (F := Ideal) x P b1 (ix2 r q)
      = (FloatOps.matmul (F := Ideal) (DotDims.plain 512 1024 2048) none (φ₁ := .bf16) (φ₂ := .bf16)
          (concatenate S512x1024 1 [⟨S512x512, unpackElementwise (F := Ideal) 0 (shapeCast S512x512 x shapeCasts_S1x512x512_S512x512)⟩,
            ⟨S512x512, unpackElementwise (F := Ideal) 1 (shapeCast S512x512 x shapeCasts_S1x512x512_S512x512)⟩] concatenates_S512x512_S512x512_S512x1024_d1) P
          (constant S512x2048 .f32 0x00000000#32) (ix2 r q) : EReal)
        + broadcastTo S512x2048 (shapeCast S1x2048 b1 shapeCasts_S1x1x2048_S1x2048) broadcasts_S1x2048_S512x2048 (ix2 r q) := by
    unfold k0_pay14
    rfl
  rw [e, Ideal.matmul_plain_apply, constant_apply, Ideal.ofBits_zero_f32, bias_row (by decide)]
  simp only [unp_apply]
  exact congrArg (· + _) (zero_add _)

/-! ## The activations -/

theorem cut_apply {α : Type} (o : ℕ) (ho : o + 128 ≤ 2048) (v : S512x2048.Idx → α) (h : S512x2048.Slices ![0, o] S512x128) (r : Fin 512) (i : Fin 128) :
    extractStridedSlice S512x128 ![0, o] v h (ix2 r i) = v (ix2 r ⟨o + i.val, by omega⟩) :=
  extractStridedSlice_apply _ v h _ _ (fun a => by
    match a with
    | ⟨0, _⟩ => show r.val = 0 + r.val; omega
    | ⟨1, _⟩ => rfl)

/-- The activations of columns block `c`. -/
def actOf (v : S512x2048.Idx → EReal) (c : Fin 8) : S512x128.Idx → EReal := fun i =>
  swi (v (ix2 (i 0) ⟨256 * c.val + (i 1).val, by have h1 := c.isLt; have h2 : (i 1).val < 128 := (i 1).isLt; omega⟩))
    (v (ix2 (i 0) ⟨256 * c.val + 128 + (i 1).val, by have h1 := c.isLt; have h2 : (i 1).val < 128 := (i 1).isLt; omega⟩))

/-- The kernel's operations on two column runs are that activation. -/
theorem act_of_cuts (v : S512x2048.Idx → EReal) (c : Fin 8) (f : S512x128.Idx → EReal) (a b : S512x128.Idx → EReal)
    (hf : ∀ i, f i = swi (a i) (b i))
    (ha : ∀ (r : Fin 512) (i : Fin 128), a (ix2 r i) = v (ix2 r ⟨256 * c.val + i.val, by omega⟩))
    (hb : ∀ (r : Fin 512) (i : Fin 128), b (ix2 r i) = v (ix2 r ⟨256 * c.val + 128 + i.val, by omega⟩)) : f = actOf v c := by
  funext i
  obtain ⟨r, j, rfl⟩ : ∃ (r : Fin 512) (j : Fin 128), i = ix2 r j := ⟨i 0, i 1, eq_ix2 i⟩
  rw [hf, ha, hb]; rfl

section
variable (v : FVec Ideal S512x2048 .f32)
theorem act1 : k0_pay19 (F := Ideal) v = actOf v 1 :=
  act_of_cuts v 1 _ _ _ (fun i => rfl) (cut_apply 256 (by decide) v slices_S512x2048_o0_256_S512x128) (cut_apply 384 (by decide) v slices_S512x2048_o0_384_S512x128)
theorem act2 : k0_pay23 (F := Ideal) (k0_pay20 v) (k0_pay21 v) (k0_pay22 v) (Scalar.ofBits .f32 0x3F800000#32) = actOf v 2 :=
  act_of_cuts v 2 _ _ _ (fun i => rfl) (cut_apply 512 (by decide) v slices_S512x2048_o0_512_S512x128) (cut_apply 640 (by decide) v slices_S512x2048_o0_640_S512x128)
theorem act3 : k0_pay24 (F := Ideal) v = actOf v 3 :=
  act_of_cuts v 3 _ _ _ (fun i => rfl) (cut_apply 768 (by decide) v slices_S512x2048_o0_768_S512x128) (cut_apply 896 (by decide) v slices_S512x2048_o0_896_S512x128)
theorem act4 : k0_pay27 (F := Ideal) (k0_pay25 v) (k0_pay26 v) = actOf v 4 :=
  act_of_cuts v 4 _ _ _ (fun i => rfl) (cut_apply 1024 (by decide) v slices_S512x2048_o0_1024_S512x128) (cut_apply 1152 (by decide) v slices_S512x2048_o0_1152_S512x128)
theorem act5 : k0_pay28 (F := Ideal) v = actOf v 5 :=
  act_of_cuts v 5 _ _ _ (fun i => rfl) (cut_apply 1280 (by decide) v slices_S512x2048_o0_1280_S512x128) (cut_apply 1408 (by decide) v slices_S512x2048_o0_1408_S512x128)
theorem act6 : k0_pay29 (F := Ideal) v = actOf v 6 :=
  act_of_cuts v 6 _ _ _ (fun i => rfl) (cut_apply 1536 (by decide) v slices_S512x2048_o0_1536_S512x128) (cut_apply 1664 (by decide) v slices_S512x2048_o0_1664_S512x128)
end

theorem act0 (x : Vec Ideal S1x512x512 .i32) (P : Vec Ideal S1024x2048 .bf16) (b1 : Vec Ideal S1x1x2048 .f32) :
    k0_pay18 (F := Ideal) (k0_pay15 x P b1) (k0_pay16 x P b1) k0_pay17 = actOf (k0_pay14 (F := Ideal) x P b1) 0 :=
  act_of_cuts _ 0 _ _ _ (fun i => rfl) (cut_apply 0 (by decide) (k0_pay14 (F := Ideal) x P b1) slices_S512x2048_o0_0_S512x128)
    (cut_apply 128 (by decide) (k0_pay14 (F := Ideal) x P b1) slices_S512x2048_o0_128_S512x128)

/-- Activation column `k`, from columns block `k / 128`. -/
def actAt (v : S512x2048.Idx → EReal) (r : Fin 512) (k : Fin 1024) : EReal :=
  swi (v (ix2 r ⟨256 * (k.val / 128) + k.val % 128, by omega⟩)) (v (ix2 r ⟨256 * (k.val / 128) + 128 + k.val % 128, by omega⟩))

theorem joined (v : S512x2048.Idx → EReal) (h : Shape.Concatenates [S512x128, S512x128, S512x128, S512x128, S512x128, S512x128, S512x128, S512x128] S512x1024 1)
    (r : Fin 512) (k : Fin 1024) :
    concatenate S512x1024 1 [⟨S512x128, actOf v 0⟩, ⟨S512x128, actOf v 1⟩, ⟨S512x128, actOf v 2⟩, ⟨S512x128, actOf v 3⟩, ⟨S512x128, actOf v 4⟩,
      ⟨S512x128, actOf v 5⟩, ⟨S512x128, actOf v 6⟩, ⟨S512x128, actOf v 7⟩] h (ix2 r k) = actAt v r k :=
  (concatenate_ofFn_apply (t := S512x1024) (s₁ := S512x128) 1 (actOf v) h rfl 128 rfl (ix2 r k) ⟨k.val / 128, by omega⟩ rfl
    (ix2 r ⟨k.val % 128, Nat.mod_lt _ (by decide)⟩) rfl (fun b hb => by
      match b with
      | ⟨0, _⟩ => rfl
      | ⟨1, _⟩ => exact absurd rfl hb)).trans rfl

/-! ## A block -/

/-- What the kernel stores for a row of a block it owns. -/
theorem blockPay_apply (x : Vec Ideal S1x512x512 .i32) (P : Vec Ideal S1024x2048 .bf16) (b1 : Vec Ideal S1x1x2048 .f32) (W2 : Vec Ideal S1024x1024 .bf16)
    (b2 : Vec Ideal S1x1x1024 .f32) (r : Fin 512) (j : Fin 1024) :
    blockPay (F := Ideal) x P b1 W2 b2 (ix3 0 r j)
      = (∑ k : Fin 1024, actAt (k0_pay14 (F := Ideal) x P b1) r k * (W2 (ix2 k j) : EReal)) + b2 (ix3 0 0 j) := by
  unfold blockPay
  simp only [act0, act1, act2, act3, act4, act5, act6]
  generalize k0_pay14 (F := Ideal) x P b1 = v
  have e : k0_pay31 (F := Ideal) v (actOf v 0) (actOf v 1) (actOf v 2) (actOf v 3) (actOf v 4) (actOf v 5) (actOf v 6) (k0_pay30 v) W2 b2 (ix3 0 r j)
      = (FloatOps.matmul (F := Ideal) (DotDims.plain 512 1024 1024) none (φ₁ := .bf16) (φ₂ := .bf16)
          (concatenate S512x1024 1 [⟨S512x128, actOf v 0⟩, ⟨S512x128, actOf v 1⟩, ⟨S512x128, actOf v 2⟩, ⟨S512x128, actOf v 3⟩, ⟨S512x128, actOf v 4⟩,
            ⟨S512x128, actOf v 5⟩, ⟨S512x128, actOf v 6⟩, ⟨S512x128, actOf v 7⟩]
            concatenates_S512x128_S512x128_S512x128_S512x128_S512x128_S512x128_S512x128_S512x128_S512x1024_d1) W2
          (constant S512x1024 .f32 0x00000000#32) (ix2 r j) : EReal)
        + broadcastTo S512x1024 (shapeCast S1x1024 b2 shapeCasts_S1x1x1024_S1x1024) broadcasts_S1x1024_S512x1024 (ix2 r j) := by
    rw [← act_of_cuts v 7 _ _ _ (fun i => rfl) (cut_apply 1792 (by decide) v slices_S512x2048_o0_1792_S512x128) (cut_apply 1920 (by decide) v slices_S512x2048_o0_1920_S512x128)]
    unfold k0_pay31
    rw [add_unit]
    rfl
  rw [e, Ideal.matmul_plain_apply, constant_apply, Ideal.ofBits_zero_f32, bias_row (by decide)]
  simp only [joined]
  exact congrArg (· + _) (zero_add _)

end Cert.KernelIdeal.Hand
-- ==== Proof.Reference.lean ====
/- The reference over the extended reals, read at an index: a row of the result is the sum over the experts of that row's
   output, each masked by the expert's segment; and under the precondition one term of that sum at most is not masked. -/
module

public import proofs.«01_k».proof.Proof.Segs
public import proofs.«01_k».proof.Proof.Formats
public import proofs.«01_k».proof.Proof.Gen.ReferenceIdeal.Read

@[expose] public section

set_option maxRecDepth 16384

noncomputable section

namespace Cert.ReferenceIdeal.Hand

open Cert.ReferenceIdeal Cert.ReferenceIdeal.Gen Cert.ReferenceIdeal.Read Cert.Formats
open Idealize.ShloMosaic Idealize.ShloMosaic.ValueIdx

variable (x0 x1 : S32.Idx → BitVec 32) (x3 : S307200x512.Idx → BitVec 32) (x4 : S32x1024x2048.Idx → EReal) (x5 : S32x2048.Idx → EReal)
  (x6 : S32x1024x1024.Idx → EReal) (x7 : S32x1024.Idx → EReal)

/-- Row `R` of the words, unpacked. -/
def row (R : Fin 307200) (k : Fin 1024) : EReal :=
  if h : k.val < 512 then Ideal.ofBits .f32 (IntOp.shli .host (x3 (ix2 R ⟨k.val, h⟩)) 16#32)
  else Ideal.ofBits .f32 (IntOp.andi (x3 (ix2 R ⟨k.val - 512, by omega⟩)) 4294901760#32)

theorem row_apply (R : Fin 307200) (k : Fin 1024) : val_main_v6 (F := Ideal) x3 (ix2 R k) = row x3 R k := by
  unfold row val_main_v6
  split
  · rename_i h
    rw [concatenate_pair_apply_left (t := S307200x1024) (s₁ := S307200x512) (s₂ := S307200x512) 1 _ _ _ (ix2 R k) rfl (ix2 R ⟨k.val, h⟩) (fun b => by
      match b with
      | ⟨0, _⟩ => rfl
      | ⟨1, _⟩ => rfl), val_main_v2_apply, val_main_v1_apply, val_main_v0_apply, val_main_c_apply]
    rfl
  · rename_i h
    rw [concatenate_pair_apply_right (t := S307200x1024) (s₁ := S307200x512) (s₂ := S307200x512) 1 _ _ _ (ix2 R k) rfl rfl (ix2 R ⟨k.val - 512, by omega⟩) (fun b hb => by
      match b with
      | ⟨0, _⟩ => rfl
      | ⟨1, _⟩ => exact absurd rfl hb) (by show k.val - 512 + 512 = k.val; omega), val_main_v5_apply, val_main_v4_apply, val_main_v3_apply, val_main_c_0_apply]
    rfl

/-- The first product with its bias. -/
def pre (e : Fin 32) (R : Fin 307200) (n : Fin 2048) : EReal := (∑ k : Fin 1024, x4 (ix3 e k n) * row x3 R k) + x5 (ix2 e n)

theorem lidx7 (e : Fin 32) (R : Fin 307200) (n : Fin 2048) (k : Fin 1024) : lidx_main_v7 (idx_main_v8 (ix3 e R n)) k = ix3 e k n := by
  funext a
  match a with
  | ⟨0, _⟩ => rfl
  | ⟨1, _⟩ => rfl
  | ⟨2, _⟩ => rfl
theorem ridx7 (e : Fin 32) (R : Fin 307200) (n : Fin 2048) (k : Fin 1024) : ridx_main_v7 (idx_main_v8 (ix3 e R n)) k = ix2 R k := by
  funext a
  match a with
  | ⟨0, _⟩ => rfl
  | ⟨1, _⟩ => rfl
theorem idx9 (e : Fin 32) (R : Fin 307200) (n : Fin 2048) : idx_main_v9 (idx_main_v10 (ix3 e R n)) = ix2 e n := by
  funext a
  match a with
  | ⟨0, _⟩ => rfl
  | ⟨1, _⟩ => rfl

theorem pre_apply (e : Fin 32) (R : Fin 307200) (n : Fin 2048) : val_main_v11 (F := Ideal) x3 x4 x5 (ix3 e R n) = pre x3 x4 x5 e R n := by
  rw [val_main_v11_apply, val_main_v8_apply, val_main_v7_apply, val_main_v10_apply, val_main_v9_apply, idx9]
  simp only [lidx7, ridx7, row_apply]
  rfl

/-- The activation. -/
def act (e : Fin 32) (R : Fin 307200) (k : Fin 1024) : EReal :=
  swi (pre x3 x4 x5 e R ⟨2 * k.val, by omega⟩) (pre x3 x4 x5 e R ⟨2 * k.val + 1, by omega⟩)

theorem even_apply (e : Fin 32) (R : Fin 307200) (k : Fin 1024) :
    val_main_v12 (F := Ideal) x3 x4 x5 (ix3 e R k) = pre x3 x4 x5 e R ⟨2 * k.val, by omega⟩ := by
  rw [← pre_apply]
  unfold val_main_v12
  refine congrArg (val_main_v11 (F := Ideal) x3 x4 x5) (funext fun a => Fin.ext ?_)
  match a with
  | ⟨0, _⟩ => show 0 + 1 * e.val = e.val; omega
  | ⟨1, _⟩ => show 0 + 1 * R.val = R.val; omega
  | ⟨2, _⟩ => show 0 + 2 * k.val = 2 * k.val; omega

theorem odd_apply (e : Fin 32) (R : Fin 307200) (k : Fin 1024) :
    val_main_v15 (F := Ideal) x3 x4 x5 (ix3 e R k) = pre x3 x4 x5 e R ⟨2 * k.val + 1, by omega⟩ := by
  rw [← pre_apply]
  unfold val_main_v15
  refine congrArg (val_main_v11 (F := Ideal) x3 x4 x5) (funext fun a => Fin.ext ?_)
  match a with
  | ⟨0, _⟩ => show 0 + 1 * e.val = e.val; omega
  | ⟨1, _⟩ => show 0 + 1 * R.val = R.val; omega
  | ⟨2, _⟩ => show 1 + 2 * k.val = 2 * k.val + 1; omega

theorem act_apply (e : Fin 32) (R : Fin 307200) (k : Fin 1024) : val_main_v31 (F := Ideal) x3 x4 x5 (ix3 e R k) = act x3 x4 x5 e R k := by
  unfold act
  rw [swi_eq, ← even_apply, ← odd_apply]
  rw [val_main_v31_apply, val_main_v28_apply, val_main_v30_apply, val_main_v27_apply, val_main_v25_apply, val_main_v23_apply, val_main_v22_apply,
    val_main_v21_apply, val_main_v14_apply, val_main_v19_apply, val_main_v17_apply]
  simp only [val_main_v13_apply, val_main_v16_apply, val_main_v18_apply, val_main_v20_apply, val_main_v24_apply, val_main_v26_apply, val_main_v29_apply,
    val_main_cst_apply, val_main_cst_1_apply, val_main_cst_2_apply, val_main_cst_3_apply, val_main_cst_4_apply, val_main_cst_5_apply, val_main_cst_6_apply]
  rfl

/-- An expert's output. -/
def outp (e : Fin 32) (R : Fin 307200) (j : Fin 1024) : EReal := (∑ k : Fin 1024, act x3 x4 x5 e R k * x6 (ix3 e k j)) + x7 (ix2 e j)

theorem lidx32 (e : Fin 32) (R : Fin 307200) (j k : Fin 1024) : lidx_main_v32 (ix3 e R j) k = ix3 e R k := by
  funext a
  match a with
  | ⟨0, _⟩ => rfl
  | ⟨1, _⟩ => rfl
  | ⟨2, _⟩ => rfl
theorem ridx32 (e : Fin 32) (R : Fin 307200) (j k : Fin 1024) : ridx_main_v32 (ix3 e R j) k = ix3 e k j := by
  funext a
  match a with
  | ⟨0, _⟩ => rfl
  | ⟨1, _⟩ => rfl
  | ⟨2, _⟩ => rfl
theorem idx33 (e : Fin 32) (R : Fin 307200) (j : Fin 1024) : idx_main_v33 (idx_main_v34 (ix3 e R j)) = ix2 e j := by
  funext a
  match a with
  | ⟨0, _⟩ => rfl
  | ⟨1, _⟩ => rfl

theorem outp_apply (e : Fin 32) (R : Fin 307200) (j : Fin 1024) : val_main_v35 (F := Ideal) x3 x4 x5 x6 x7 (ix3 e R j) = outp x3 x4 x5 x6 x7 e R j := by
  rw [val_main_v35_apply, val_main_v32_apply, val_main_v34_apply, val_main_v33_apply, idx33]
  simp only [lidx32, ridx32, act_apply]
  rfl

/-- The mask of an expert's rows. -/
def mask (e : Fin 32) (R : Fin 307200) : BitVec 1 :=
  IntOp.andi (IntOp.cmpi .sle (x0 (ix1 e)) (BitVec.ofNat 32 R.val)) (IntOp.cmpi .slt (BitVec.ofNat 32 R.val) (IntOp.addi (x0 (ix1 e)) (x1 (ix1 e))))

theorem mask_apply (e : Fin 32) (R : Fin 307200) (j : Fin 1024) : val_main_v50 (F := Ideal) x0 x1 (ix3 e R j) = mask x0 x1 e R := by
  have i0 : idx_main_v37 (idx_main_v39 (idx_main_v49 (idx_main_v50 (ix3 e R j)))) = ix1 e := by
    funext a; match a with | ⟨0, _⟩ => rfl
  have i1 : idx_main_v44 (idx_main_v46 (idx_main_v49 (idx_main_v50 (ix3 e R j)))) = ix1 e := by
    funext a; match a with | ⟨0, _⟩ => rfl
  rw [val_main_v50_apply, val_main_v49_apply, val_main_v48_apply, val_main_v41_apply, val_main_v47_apply, val_main_v39_apply, val_main_v37_apply,
    val_main_v40_apply, val_main_v38_apply, val_main_v36_apply, val_main_v45_apply, val_main_v42_apply, val_main_v36_apply, val_main_v46_apply, val_main_v44_apply,
    val_main_v43_apply, i0, i1]
  rfl

/-- The result. -/
theorem result_apply (R : Fin 307200) (j : Fin 1024) : val_main_v54 (F := Ideal) x0 x1 x3 x4 x5 x6 x7 (ix2 R j)
    = ∑ e : Fin 32, Scalar.select (mask x0 x1 e R) (outp x3 x4 x5 x6 x7 e R j) (0 : EReal) := by
  rw [val_main_v54_apply, val_main_v53_apply, val_main_cst_8_apply]
  have i : ∀ e : Fin 32, idx_main_v53 (ix2 R j) e = ix3 e R j := fun e => by
    funext a
    match a with
    | ⟨0, _⟩ => rfl
    | ⟨1, _⟩ => rfl
    | ⟨2, _⟩ => rfl
  simp only [i, val_main_v52_apply, mask_apply, outp_apply, val_main_v51_apply, val_main_cst_7_apply, Ideal.ofBits_def, Ideal.ofBits_zero_f32, Ideal.truncf_def]
  exact zero_add _

section
variable {x0 x1} {a2 : S1.Idx → BitVec 32} {B : ℕ → ℕ}

theorem sle_ofNat {a b : ℕ} (ha : a < 2 ^ 31) (hb : b < 2 ^ 31) : IntOp.cmpi .sle (BitVec.ofNat 32 a) (BitVec.ofNat 32 b) = 1#1 ↔ a ≤ b := by
  show BitVec.ofBool ((BitVec.ofNat 32 a).sle (BitVec.ofNat 32 b)) = 1#1 ↔ _
  rw [StableHlo.Predicate.ofBool_eq_one_iff]
  simp only [BitVec.sle, decide_eq_true_eq, StableHlo.Predicate.toInt_ofNat_small _ ha, StableHlo.Predicate.toInt_ofNat_small _ hb]
  omega
theorem slt_ofNat {a b : ℕ} (ha : a < 2 ^ 31) (hb : b < 2 ^ 31) : IntOp.cmpi .slt (BitVec.ofNat 32 a) (BitVec.ofNat 32 b) = 1#1 ↔ a < b := by
  show BitVec.ofBool ((BitVec.ofNat 32 a).slt (BitVec.ofNat 32 b)) = 1#1 ↔ _
  rw [StableHlo.Predicate.ofBool_eq_one_iff]
  simp only [BitVec.slt, decide_eq_true_eq, StableHlo.Predicate.toInt_ofNat_small _ ha, StableHlo.Predicate.toInt_ofNat_small _ hb]
  omega

/-- A row is its owner's. -/
theorem mask_iff (hS : Segs.Segs x0 x1 a2 B) (e : Fin 32) (R : Fin 307200) :
    mask x0 x1 e R = 1#1 ↔ B e.val ≤ R.val / 512 ∧ R.val / 512 < B (e.val + 1) := by
  have h0 : x0 (ix1 e) = BitVec.ofNat 32 (512 * B e.val) := hS.start (ix1 e)
  have h1 : x1 (ix1 e) = BitVec.ofNat 32 (512 * (B (e.val + 1) - B e.val)) := hS.len (ix1 e)
  have st := hS.step e.val e.isLt
  have tp : B (e.val + 1) ≤ 600 := (hS.mono (i := e.val + 1) (j := 32) (by omega) (by omega)).trans hS.top
  have hs : IntOp.addi (x0 (ix1 e)) (x1 (ix1 e)) = BitVec.ofNat 32 (512 * B (e.val + 1)) := by
    rw [h0, h1]
    show BitVec.ofNat 32 _ + BitVec.ofNat 32 _ = _
    rw [← BitVec.ofNat_add]
    congr 1; omega
  have hR := R.isLt
  unfold mask
  rw [hs, h0]
  have l := sle_ofNat (a := 512 * B e.val) (b := R.val) (by omega) (by omega)
  have r := slt_ofNat (a := R.val) (b := 512 * B (e.val + 1)) (by omega) (by omega)
  constructor
  · intro h
    obtain ⟨ha, hb⟩ := Segs.and_split h
    have := l.1 ha
    have := r.1 hb
    omega
  · rintro ⟨ha, hb⟩
    rw [l.2 (by omega), r.2 (by omega)]; decide

/-- A row of an owned block is its owner's output. -/
theorem result_owned (hS : Segs.Segs x0 x1 a2 B) {e : Fin 32} {R : Fin 307200} (h1 : B e.val ≤ R.val / 512) (h2 : R.val / 512 < B (e.val + 1)) (j : Fin 1024) :
    val_main_v54 (F := Ideal) x0 x1 x3 x4 x5 x6 x7 (ix2 R j) = outp x3 x4 x5 x6 x7 e R j := by
  rw [result_apply, Finset.sum_eq_single e (fun e' _ hne => ?_) (fun h => absurd (Finset.mem_univ _) h), (mask_iff hS e R).2 ⟨h1, h2⟩, select_one]
  rw [eq_zero_of_ne_one (b := mask x0 x1 e' R) (fun h => hne ?_), select_zero]
  have := (mask_iff hS e' R).1 h
  exact hS.owner_unique this.1 this.2 h1 h2

/-- A row after the last segment is zero. -/
theorem result_free (hS : Segs.Segs x0 x1 a2 B) {R : Fin 307200} (h : B 32 ≤ R.val / 512) (j : Fin 1024) :
    val_main_v54 (F := Ideal) x0 x1 x3 x4 x5 x6 x7 (ix2 R j) = (0 : EReal) := by
  rw [result_apply]
  refine Finset.sum_eq_zero fun e _ => ?_
  rw [eq_zero_of_ne_one (b := mask x0 x1 e R) (fun h' => ?_), select_zero]
  have := (mask_iff hS e R).1 h'
  have := hS.mono (i := e.val + 1) (j := 32) (by omega) (by omega)
  omega
end

end Cert.ReferenceIdeal.Hand
-- ==== Proof.Algebraic.lean ====
/- The kernel and the reference end at one result over the extended reals. -/
module

public import proofs.«01_k».proof.Defs
public import proofs.«01_k».proof.Proof.Frames
public import proofs.«01_k».proof.Proof.Payloads
public import proofs.«01_k».proof.Proof.Reference

@[expose] public section

set_option maxRecDepth 16384

noncomputable section

namespace Cert.KernelIdeal.Hand

open Cert.KernelIdeal Cert.KernelIdeal.Gen Cert.Formats
open Idealize.ShloMosaic Idealize.ShloMosaic.TcCoe Idealize.ShloMosaic.ValueIdx Idealize.SL.Sem
open Cert.ReferenceIdeal.Hand (row pre act outp)

/-! ## The biases as the program lays them out -/

section
variable (m : (ℓ : Loc nD τ sig) → Buf (Elt Ideal) ℓ) (c : Dev nD)

theorem V_v2 : V (F := Ideal) m c main_v2 = shapeCast S32x1x2048 (transpose S32x8x2x128 [0, 1, 3, 2]
    (shapeCast S32x8x128x2 (m ((c : Thread nD τ).loc main_arg5)) shapeCasts_S32x2048_S32x8x128x2) transposes_S32x8x128x2_S32x8x2x128_0_1_3_2)
      shapeCasts_S32x8x2x128_S32x1x2048 := by
  unfold V hostOps0
  rfl

theorem V_v3 : V (F := Ideal) m c main_v3 = broadcastInDim S32x1x1024 ![0, 2] bcast_S32x1024_S32x1x1024_0_2 (m ((c : Thread nD τ).loc main_arg7)) := by
  unfold V hostOps0
  rfl
end

/-- The first bias: even columns before odd ones in each block of 256. -/
theorem bias1 (b : S32x2048.Idx → EReal) (e : Fin 32) (q : Fin 2048) :
    shapeCast S32x1x2048 (transpose S32x8x2x128 [0, 1, 3, 2] (shapeCast S32x8x128x2 b shapeCasts_S32x2048_S32x8x128x2) transposes_S32x8x128x2_S32x8x2x128_0_1_3_2)
      shapeCasts_S32x8x2x128_S32x1x2048 (ix3 e 0 q)
      = b (ix2 e (colOf ⟨q.val / 256, by omega⟩ (pick ⟨q.val % 256, Nat.mod_lt _ (by decide)⟩))) := by
  have hq := q.isLt
  refine (shapeCast_apply _ shapeCasts_S32x8x2x128_S32x1x2048 (ix3 e 0 q)
    (ix4 e ⟨q.val / 256, by omega⟩ ⟨q.val % 256 / 128, by omega⟩ ⟨q.val % 128, by omega⟩) ?_).trans ?_
  · rw [Shape.rowMajor_val_four, Shape.rowMajor_val_three]
    show ((e.val * 8 + q.val / 256) * 2 + q.val % 256 / 128) * 128 + q.val % 128 = (e.val * 1 + 0) * 2048 + q.val
    omega
  refine (transpose_apply [0, 1, 3, 2] _ transposes_S32x8x128x2_S32x8x2x128_0_1_3_2 _
    (ix4 e ⟨q.val / 256, by omega⟩ ⟨q.val % 128, by omega⟩ ⟨q.val % 256 / 128, by omega⟩) (fun a => match a with
      | ⟨0, _⟩ => rfl
      | ⟨1, _⟩ => rfl
      | ⟨2, _⟩ => rfl
      | ⟨3, _⟩ => rfl)).trans ?_
  refine shapeCast_apply _ shapeCasts_S32x2048_S32x8x128x2 _ _ ?_
  rw [Shape.rowMajor_val_four, Shape.rowMajor_val_two]
  show e.val * 2048 + (256 * (q.val / 256) + (if q.val % 256 < 128 then 2 * (q.val % 256) else 2 * (q.val % 256 - 128) + 1))
    = ((e.val * 8 + q.val / 256) * 128 + q.val % 128) * 2 + q.val % 256 / 128
  split <;> omega

/-- The second bias. -/
theorem bias2 (b : S32x1024.Idx → EReal) (e : Fin 32) (j : Fin 1024) :
    broadcastInDim S32x1x1024 ![0, 2] bcast_S32x1024_S32x1x1024_0_2 b (ix3 e 0 j) = b (ix2 e j) :=
  broadcastInDim_apply _ bcast_S32x1024_S32x1x1024_0_2 b (ix3 e 0 j) (ix2 e j) (fun a => match a with
    | ⟨0, _⟩ => by show e.val = if (32 : Nat) = 1 then 0 else e.val; rw [if_neg (by decide)]
    | ⟨1, _⟩ => by show j.val = if (1024 : Nat) = 1 then 0 else j.val; rw [if_neg (by decide)])

/-! ## A block -/

section
variable (X : S307200x512.Idx → BitVec 32) (W1 : S32x1024x2048.Idx → EReal) (b1 : S32x2048.Idx → EReal) (W2 : S32x1024x1024.Idx → EReal)
  (b2 : S32x1024.Idx → EReal) (B1 : S32x1x2048.Idx → EReal) (B2 : S32x1x1024.Idx → EReal)

theorem unp_row (γ : Fin 600) (r : Fin 512) (k : Fin 1024) : unp (xRd (F := Ideal) X γ) r k = row X (rowOf γ r) k := rfl

/-- The kernel's first product at a gathered column is the reference's at the column's source. -/
theorem pre_eq (hB : ∀ (e : Fin 32) (q : Fin 2048), B1 (ix3 e 0 q) = b1 (ix2 e (colOf ⟨q.val / 256, by omega⟩ (pick ⟨q.val % 256, Nat.mod_lt _ (by decide)⟩))))
    (e : Fin 32) (γ : Fin 600) (r : Fin 512) (q : Fin 2048) :
    k0_pay14 (F := Ideal) (xRd (F := Ideal) X γ) (W1P (F := Ideal) (plane W1 e)) (plane B1 e) (ix2 r q)
      = pre X W1 b1 e (rowOf γ r) (colOf ⟨q.val / 256, by omega⟩ (pick ⟨q.val % 256, Nat.mod_lt _ (by decide)⟩)) := by
  rw [pay14_apply]
  unfold pre
  refine congr (congrArg _ (Finset.sum_congr rfl fun k _ => ?_)) (hB e q)
  rw [unp_row, W1P_apply]
  exact mul_comm _ _

theorem act_eq (hB : ∀ (e : Fin 32) (q : Fin 2048), B1 (ix3 e 0 q) = b1 (ix2 e (colOf ⟨q.val / 256, by omega⟩ (pick ⟨q.val % 256, Nat.mod_lt _ (by decide)⟩))))
    (e : Fin 32) (γ : Fin 600) (r : Fin 512) (k : Fin 1024) :
    actAt (k0_pay14 (F := Ideal) (xRd (F := Ideal) X γ) (W1P (F := Ideal) (plane W1 e)) (plane B1 e)) r k = act X W1 b1 e (rowOf γ r) k := by
  unfold actAt act
  rw [pre_eq X W1 b1 B1 hB, pre_eq X W1 b1 B1 hB]
  have hk := k.isLt
  congr 2
  · apply Fin.ext
    show 256 * ((256 * (k.val / 128) + k.val % 128) / 256) + (if (256 * (k.val / 128) + k.val % 128) % 256 < 128 then 2 * ((256 * (k.val / 128) + k.val % 128) % 256)
      else 2 * ((256 * (k.val / 128) + k.val % 128) % 256 - 128) + 1) = 2 * k.val
    split <;> omega
  · apply Fin.ext
    show 256 * ((256 * (k.val / 128) + 128 + k.val % 128) / 256) + (if (256 * (k.val / 128) + 128 + k.val % 128) % 256 < 128
      then 2 * ((256 * (k.val / 128) + 128 + k.val % 128) % 256) else 2 * ((256 * (k.val / 128) + 128 + k.val % 128) % 256 - 128) + 1) = 2 * k.val + 1
    split <;> omega

/-- A row the kernel stores for an owned block is the owner's output in the reference. -/
theorem block_eq (hB : ∀ (e : Fin 32) (q : Fin 2048), B1 (ix3 e 0 q) = b1 (ix2 e (colOf ⟨q.val / 256, by omega⟩ (pick ⟨q.val % 256, Nat.mod_lt _ (by decide)⟩))))
    (hB2 : ∀ (e : Fin 32) (j : Fin 1024), B2 (ix3 e 0 j) = b2 (ix2 e j)) (e : Fin 32) (γ : Fin 600) (r : Fin 512) (j : Fin 1024) :
    blockPay (F := Ideal) (xRd (F := Ideal) X γ) (W1P (F := Ideal) (plane W1 e)) (plane B1 e) (k0_pay3 (F := Ideal) (plane W2 e)) (plane B2 e) (ix3 0 r j)
      = outp X W1 b1 W2 b2 e (rowOf γ r) j := by
  rw [blockPay_apply]
  unfold outp
  refine congr (congrArg _ (Finset.sum_congr rfl fun k _ => ?_)) (hB2 e j)
  rw [act_eq X W1 b1 B1 hB, pay3_apply]
  rfl
end

/-! ## The result -/

theorem result_eq (m : (ℓ : Loc nD τ sig) → Buf (Elt Ideal) ℓ) (c : Dev nD)
    (hS : Segs.Segs (m ((c : Thread nD τ).loc main_arg0)) (m ((c : Thread nD τ).loc main_arg1)) (m ((c : Thread nD τ).loc main_arg2)) (bounds m c)) :
    YT (TT (F := Ideal) m c) = Cert.ReferenceIdeal.Read.val_main_v54 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) (m ((c : Thread nD τ).loc main_arg6))
      (m ((c : Thread nD τ).loc main_arg7)) := by
  funext i
  obtain ⟨R, j, rfl⟩ : ∃ (R : Fin 307200) (j : Fin 1024), i = ix2 R j := ⟨i 0, i 1, eq_ix2 i⟩
  have hR := R.isLt
  show TT (F := Ideal) m c ⟨R.val / 512, by omega⟩ (ix3 0 ⟨R.val % 512, by omega⟩ j) = _
  have eR : rowOf ⟨R.val / 512, by omega⟩ ⟨R.val % 512, by omega⟩ = R := Fin.ext (by show 512 * (R.val / 512) + R.val % 512 = R.val; omega)
  unfold TT
  by_cases h : R.val / 512 < bounds m c 32
  · obtain ⟨e, h1, h2⟩ := hS.exists_owner h
    rw [Tof_owned hS (γ := ⟨R.val / 512, by omega⟩) h1 h2, Cert.ReferenceIdeal.Hand.result_owned _ _ _ _ _ hS h1 h2]
    refine (block_eq _ _ (m ((c : Thread nD τ).loc main_arg5)) _ (m ((c : Thread nD τ).loc main_arg7)) _ _ (fun e q => ?_) (fun e j => ?_) e _ _ j).trans ?_
    · rw [V_v2]; exact bias1 _ e q
    · rw [V_v3]; exact bias2 _ e j
    · rw [eR]; rfl
  · rw [Tof_free hS (γ := ⟨R.val / 512, by omega⟩) (Nat.le_of_not_lt h), Cert.ReferenceIdeal.Hand.result_free _ _ _ _ _ hS (Nat.le_of_not_lt h)]
    exact pay4_apply _ _

end Cert.KernelIdeal.Hand

namespace Cert.Hand

open Idealize.ShloMosaic Idealize.ShloMosaic.TcCoe Idealize.SL.Sem

theorem algebraic : Cert.algebraic_KernelIdeal_ReferenceIdeal := fun m g m' g' h hm => by
  have hS := fun c => Cert.Segs.segs_of (h c)
  refine ⟨fun c => Cert.KernelIdeal.Hand.YT (Cert.KernelIdeal.Hand.TT (F := Ideal) m c),
    (θ_run (Cert.KernelIdeal.defs (F := Ideal)) _ _).mono (fun _ h c => ⟨(h.1 c).2, (h.1 c).1⟩) (Cert.KernelIdeal.Hand.run_ends (F := Ideal) m g hS),
    (θ_run (Cert.ReferenceIdeal.defs (F := Ideal)) _ _).mono (fun _ h c => ⟨(h c).1.trans ?_, (h c).2⟩) (Cert.ReferenceIdeal.Value.run (F := Ideal) m' g')⟩
  obtain ⟨e0, e1, e2, e3, e4, e5, e6, e7⟩ := hm c
  rw [Cert.ReferenceIdeal.Read.val_main_v54_eq, e0, e1, e3, e4, e5, e6, e7]
  exact (Cert.KernelIdeal.Hand.result_eq m c (hS c)).symm

end Cert.Hand
-- ==== Proof.Mix.Frames.lean ====
module

public import proofs.«01_k».proof.Defs
public import proofs.«01_k».proof.Proof.Gen.MixKernel
public import proofs.«01_k».proof.Proof.Gen.MixKernelIdeal.Frame
public import proofs.«01_k».proof.Proof.Gen.MixReferenceIdeal.Run
public import Idealize.ShloMosaic.Lib.Quiescent

@[expose] public section

noncomputable section

namespace Cert.Mix

open Idealize.ShloMosaic Idealize.ShloMosaic.TcCoe Idealize.SL.Sem

/-! The frames of the input mixing: what its kernel and its reference leave of memory and counters. -/

theorem frame_ideal : Cert.quiescent_MixKernelIdeal := fun m ρ _ => Cert.MixKernelIdeal.Gen.frame (F := Ideal) m ρ

set_option maxHeartbeats 4000000 in
set_option backward.isDefEq.respectTransparency.types false in
theorem defs0_same : Cert.MixKernel.defs₀ (F := Bits) = Cert.MixKernelIdeal.defs₀ (F := Bits) := by
  unfold Cert.MixKernel.defs₀ Cert.MixKernelIdeal.defs₀
  refine congrArg _ (funext fun l => funext fun x => ?_)
  match l, x with
  | 0, (t, s) => rfl
  | ⟨_ + 1, h⟩, _ => exact absurd h (Nat.not_lt.2 (Nat.le_add_left _ _))

set_option maxHeartbeats 4000000 in
set_option backward.isDefEq.respectTransparency.types false in
theorem defs_same : Cert.MixKernel.defs (F := Bits) = Cert.MixKernelIdeal.defs (F := Bits) :=
  congrArg (Idealize.ShloMosaic.Pipeline.defs (Cert.MixKernelIdeal.pcfgs (F := Bits))) defs0_same

theorem main_same : Cert.MixKernel.main (F := Bits) = Cert.MixKernelIdeal.main (F := Bits) := rfl

set_option maxHeartbeats 4000000 in
set_option backward.isDefEq.respectTransparency.types false in
theorem frame_kernel : Cert.quiescent_MixKernel := fun m ρ _ => by
  have e := Cert.MixKernelIdeal.Gen.frame (F := Bits) m ρ
  rw [← defs_same, ← main_same] at e
  exact e

theorem frame_reference : Cert.quiescent_MixReferenceIdeal := fun m ρ _ =>
  (θ_run (Cert.MixReferenceIdeal.defs (F := Ideal)) _ _).mono (fun _ h => ⟨fun c => (h c).2.2.2.2, sem_eq_zero_of_no_sems (by decide) _⟩)
    (Cert.MixReferenceIdeal.Value.run (F := Ideal) m ρ)

end Cert.Mix
-- ==== Proof.Out.Frames.lean ====
module

public import proofs.«01_k».proof.Defs
public import proofs.«01_k».proof.Proof.Gen.OutKernel
public import proofs.«01_k».proof.Proof.Gen.OutKernelIdeal.Frame
public import proofs.«01_k».proof.Proof.Gen.OutReferenceIdeal.Run
public import Idealize.ShloMosaic.Lib.Quiescent

@[expose] public section

noncomputable section

namespace Cert.Out

open Idealize.ShloMosaic Idealize.ShloMosaic.TcCoe Idealize.SL.Sem

/-! The frames of the output projection: what its kernel and its reference leave of memory and counters. -/

theorem frame_ideal : Cert.quiescent_OutKernelIdeal := fun m ρ _ => Cert.OutKernelIdeal.Gen.frame (F := Ideal) m ρ

set_option maxHeartbeats 4000000 in
set_option backward.isDefEq.respectTransparency.types false in
theorem defs0_same : Cert.OutKernel.defs₀ (F := Bits) = Cert.OutKernelIdeal.defs₀ (F := Bits) := by
  unfold Cert.OutKernel.defs₀ Cert.OutKernelIdeal.defs₀
  refine congrArg _ (funext fun l => funext fun x => ?_)
  match l, x with
  | 0, (t, s) => rfl
  | ⟨_ + 1, h⟩, _ => exact absurd h (Nat.not_lt.2 (Nat.le_add_left _ _))

set_option maxHeartbeats 4000000 in
set_option backward.isDefEq.respectTransparency.types false in
theorem defs_same : Cert.OutKernel.defs (F := Bits) = Cert.OutKernelIdeal.defs (F := Bits) :=
  congrArg (Idealize.ShloMosaic.Pipeline.defs (Cert.OutKernelIdeal.pcfgs (F := Bits))) defs0_same

theorem main_same : Cert.OutKernel.main (F := Bits) = Cert.OutKernelIdeal.main (F := Bits) := rfl

set_option maxHeartbeats 4000000 in
set_option backward.isDefEq.respectTransparency.types false in
theorem frame_kernel : Cert.quiescent_OutKernel := fun m ρ _ => by
  have e := Cert.OutKernelIdeal.Gen.frame (F := Bits) m ρ
  rw [← defs_same, ← main_same] at e
  exact e

theorem frame_reference : Cert.quiescent_OutReferenceIdeal := fun m ρ _ =>
  (θ_run (Cert.OutReferenceIdeal.defs (F := Ideal)) _ _).mono (fun _ h => ⟨fun c => (h c).2.2, sem_eq_zero_of_no_sems (by decide) _⟩)
    (Cert.OutReferenceIdeal.Value.run (F := Ideal) m ρ)

end Cert.Out
-- ==== Proof.Mix.Layer.lean ====
/- What the input mixing computes, written over the extended reals a token at a time: the normalised row, its projection,
   the gated branch and its own normalisation. -/
module

public import Idealize.ShloMosaic.PureOps.Ideal

@[expose] public section

noncomputable section

namespace Cert.Mix

open Idealize.ShloMosaic

/-- The small number under the roots. -/
def eps : EReal := Ideal.ofBits .f32 0x3727C5AC#32
/-- The row lengths and the other literals. -/
def n1024 : EReal := Ideal.ofBits .f32 0x44800000#32
def n512 : EReal := Ideal.ofBits .f32 0x44000000#32
def half : EReal := Ideal.ofBits .f32 0x3F000000#32
def one : EReal := Ideal.ofBits .f32 0x3F800000#32
def rootHalf : EReal := Ideal.ofBits .f32 0x3F3504F3#32
def scale : EReal := Ideal.ofBits .f32 0x3E38AA3B#32

/-- A row divided by the root of its mean square, times the gains. -/
def nrm {d : ℕ} (n : EReal) (x g : Fin d → EReal) (k : Fin d) : EReal :=
  x k * Ideal.rsqrt (Ideal.div (∑ q, x q * x q) n + eps) * g k

/-- The gain of the error function. -/
def gel (t : EReal) : EReal := half * t * (one + Ideal.erf (t * rootHalf))

/-- The parameters. -/
structure Wts where
  g : Fin 1024 → EReal
  W : Fin 1024 → Fin 2560 → EReal
  lg : Fin 512 → EReal
  lb : Fin 512 → EReal
  sw : Fin 4 → Fin 128 → Fin 128 → EReal
  sb : Fin 4 → Fin 128 → EReal
  og : Fin 512 → EReal

variable (P : Wts)

/-- A token's projection. -/
def prj (x : Fin 1024 → EReal) (n : Fin 2560) : EReal := ∑ k : Fin 1024, nrm n1024 x P.g k * P.W k n

/-- The first 1024 columns, through the gain. -/
def zz (x : Fin 1024 → EReal) (n : Fin 1024) : EReal := gel (prj P x ⟨n.val, by omega⟩)

/-- The second half of those, centred. -/
def cen (x : Fin 1024 → EReal) (j : Fin 512) : EReal :=
  zz P x ⟨512 + j.val, by omega⟩ - Ideal.div (∑ q : Fin 512, zz P x ⟨512 + q.val, by omega⟩) n512

/-- The second half, layer-normalised. -/
def lnr (x : Fin 1024 → EReal) (j : Fin 512) : EReal :=
  cen P x j * Ideal.rsqrt (Ideal.div (∑ q : Fin 512, cen P x q * cen P x q) n512 + eps) * P.lg j + P.lb j

/-- The mixing matrix, zero above the chunk diagonal. -/
def mw (g : Fin 4) (i j : Fin 128) : EReal := if j.val / 64 ≤ i.val / 64 then P.sw g i j else 0

/-- The gate of token `i` of a run of 128 tokens. -/
def gate (X : Fin 128 → Fin 1024 → EReal) (i : Fin 128) (q : Fin 512) : EReal :=
  (∑ j : Fin 128, mw P ⟨q.val / 128, by omega⟩ i j * lnr P (X j) q) + P.sb ⟨q.val / 128, by omega⟩ i

/-- The gated first half. -/
def gated (X : Fin 128 → Fin 1024 → EReal) (i : Fin 128) (q : Fin 512) : EReal := zz P (X i) ⟨q.val, by omega⟩ * gate P X i q

/-- The branch's output. -/
def branch (X : Fin 128 → Fin 1024 → EReal) (i : Fin 128) (q : Fin 512) : EReal := nrm n512 (gated P X i) P.og q

/-- The four results, from all the tokens' rows: token `R`'s branch, with the run it lies in; -/
def outB (X : Fin 65536 → Fin 1024 → EReal) (R : Fin 65536) (q : Fin 512) : EReal :=
  branch P (fun j => X ⟨128 * (R.val / 128) + j.val, by omega⟩) ⟨R.val % 128, Nat.mod_lt _ (by decide)⟩ q

/-- head `g`'s queries, a chunk `t` of 512 tokens at a time, scaled; its keys; and its values. -/
def outQ (X : Fin 65536 → Fin 1024 → EReal) (g : Fin 4) (t d : Fin 128) (s : Fin 512) : EReal :=
  prj P (X ⟨512 * t.val + s.val, by omega⟩) ⟨1024 + (g.val * 128 + d.val), by omega⟩ * scale
def outK (X : Fin 65536 → Fin 1024 → EReal) (g : Fin 4) (R : Fin 65536) (d : Fin 128) : EReal :=
  prj P (X R) ⟨1024 + (g.val * 128 + d.val + 512), by omega⟩
def outV (X : Fin 65536 → Fin 1024 → EReal) (g : Fin 4) (t d : Fin 128) (s : Fin 512) : EReal :=
  prj P (X ⟨512 * t.val + s.val, by omega⟩) ⟨1024 + (g.val * 128 + d.val + 1024), by omega⟩

end Cert.Mix
-- ==== Proof.Mix.Payloads.lean ====
/- The mixing kernel's arithmetic over the extended reals, read at an index. -/
module

public import proofs.«01_k».proof.Proof.Mix.Layer
public import proofs.«01_k».proof.Proof.Gen.MixKernelIdeal.Frame
public import Idealize.ShloMosaic.Lib.MatmulPlain
public import Idealize.ShloMosaic.Lib.Pipeline.Value
public import Idealize.ShloMosaic.Lib.ValueLayoutCasts
public import Idealize.ShloMosaic.Lib.StableHlo.Predicate
public import Idealize.ShloMosaic.PureOps.Ideal.Laws

@[expose] public section

set_option maxRecDepth 16384

noncomputable section

namespace Cert.MixKernelIdeal.Hand

open Cert.MixKernelIdeal Cert.MixKernelIdeal.Gen Cert.Mix
open Idealize.ShloMosaic Idealize.ShloMosaic.ValueIdx

/-! ## Rows -/

/-- A row's sum, kept as a column. -/
theorem row_sum {p d : ℕ} (v : FVec Ideal ⟨2, ![p, d]⟩ .f32) (h : (⟨2, ![p, d]⟩ : Shape).Reduces [1] ⟨1, ![p]⟩)
    (hφ : FKind.Formats FTy.f32) (hacc : (0x00000000#32 : BitVec FTy.f32.bits) = FKind.add.neutral .f32 hφ)
    (h' : (⟨1, ![p]⟩ : Shape).ShapeCasts ⟨2, ![p, 1]⟩) (r : Fin p) :
    shapeCast ⟨2, ![p, 1]⟩ (multiReduction (F := Ideal) .add [1] ⟨1, ![p]⟩ v 0x00000000#32 h hφ hacc) h' (ix2 r 0)
      = ∑ k : Fin d, (v (ix2 r k) : EReal) := by
  rw [shapeCast_a_a1_apply, Ideal.multiReduction_add_single]
  refine Finset.sum_congr rfl fun k _ => congrArg v (funext fun a => Fin.ext ?_)
  match a with
  | ⟨0, _⟩ => rfl
  | ⟨1, _⟩ => rfl

/-- A column spread over its row. -/
theorem col_spread {α : Type} {p d : ℕ} (v : (⟨2, ![p, 1]⟩ : Shape).Idx → α) (h : (⟨2, ![p, 1]⟩ : Shape).Broadcasts ⟨2, ![p, d]⟩) (r : Fin p) (k : Fin d) :
    broadcastTo ⟨2, ![p, d]⟩ v h (ix2 r k) = v (ix2 r 0) := by
  refine broadcastTo_apply v h (ix2 r k) (ix2 r 0) fun a => ?_
  match a with
  | ⟨0, _⟩ => show r.val = if p = 1 then 0 else r.val; split <;> omega
  | ⟨1, _⟩ => rfl

theorem drop_unit {α : Type} {p q : ℕ} (v : (⟨3, ![1, p, q]⟩ : Shape).Idx → α) (h : (⟨3, ![1, p, q]⟩ : Shape).ShapeCasts ⟨2, ![p, q]⟩)
    (r : Fin p) (k : Fin q) : shapeCast ⟨2, ![p, q]⟩ v h (ix2 r k) = v (ix3 0 r k) := by
  refine shapeCast_apply v h _ _ ?_
  rw [Shape.rowMajor_val_three, Shape.rowMajor_val_two]
  show (0 * p + r.val) * q + k.val = r.val * q + k.val
  rw [Nat.zero_mul, Nat.zero_add]

/-- Rows over the root of their mean square, times the gains. -/
theorem nrm_apply {p d : ℕ} (x : FVec Ideal ⟨2, ![p, d]⟩ .f32) (g : FVec Ideal ⟨2, ![1, d]⟩ .f32) (n : BitVec 32)
    (h : (⟨2, ![p, d]⟩ : Shape).Reduces [1] ⟨1, ![p]⟩)
    (hφ : FKind.Formats FTy.f32) (hacc : (0x00000000#32 : BitVec FTy.f32.bits) = FKind.add.neutral .f32 hφ)
    (h' : (⟨1, ![p]⟩ : Shape).ShapeCasts ⟨2, ![p, 1]⟩) (hb : (⟨2, ![p, 1]⟩ : Shape).Broadcasts ⟨2, ![p, d]⟩)
    (hg : (⟨2, ![1, d]⟩ : Shape).Broadcasts ⟨2, ![p, d]⟩) (r : Fin p) (k : Fin d) :
    mulf (F := Ideal) (mulf x (broadcastTo ⟨2, ![p, d]⟩ (rsqrt (addf (divf (shapeCast ⟨2, ![p, 1]⟩
        (multiReduction (F := Ideal) .add [1] ⟨1, ![p]⟩ (mulf x x) 0x00000000#32 h hφ hacc) h')
          (broadcast ⟨2, ![p, 1]⟩ (Scalar.ofBits (F := Ideal) .f32 n))) (broadcast ⟨2, ![p, 1]⟩ (Scalar.ofBits (F := Ideal) .f32 0x3727C5AC#32)))) hb))
        (broadcastTo ⟨2, ![p, d]⟩ g hg) (ix2 r k)
      = nrm (Ideal.ofBits .f32 n) (fun q => (x (ix2 r q) : EReal)) (fun q => (g (ix2 0 q) : EReal)) k := by
  show (x (ix2 r k) * broadcastTo ⟨2, ![p, d]⟩ _ hb (ix2 r k) : EReal) * broadcastTo ⟨2, ![p, d]⟩ g hg (ix2 r k) = _
  rw [col_spread, broadcastTo_1b_ab_apply]
  show (x (ix2 r k) * Ideal.rsqrt (Ideal.div (shapeCast ⟨2, ![p, 1]⟩ _ h' (ix2 r 0)) _ + _) : EReal) * g (ix2 0 k) = _
  rw [row_sum]
  rfl

theorem pay3_apply (x : Vec Ideal S512x1024 .f32) (g : Vec Ideal S1x1024 .f32) (r : Fin 512) (k : Fin 1024) :
    k0_pay3 (F := Ideal) x g (ix2 r k) = nrm n1024 (fun q => (x (ix2 r q) : EReal)) (fun q => (g (ix2 0 q) : EReal)) k := by
  unfold k0_pay3
  simp only [shapeCast_self]
  exact nrm_apply x g _ _ _ _ _ _ _ r k

/-- The projection's first 1024 columns, through the gain. -/
theorem pay4_apply (x : Vec Ideal S512x1024 .f32) (g : Vec Ideal S1x1024 .f32) (w : Vec Ideal S1024x1024 .bf16) (r : Fin 512) (n : Fin 1024) :
    k0_pay4 (F := Ideal) x g w (ix2 r n)
      = gel (∑ k : Fin 1024, nrm n1024 (fun q => (x (ix2 r q) : EReal)) (fun q => (g (ix2 0 q) : EReal)) k * (w (ix2 k n) : EReal)) := by
  have e : k0_pay4 (F := Ideal) x g w (ix2 r n)
      = gel (FloatOps.matmul (F := Ideal) (DotDims.plain 512 1024 1024) none (φ₁ := .bf16) (φ₂ := .bf16) (k0_pay3 (F := Ideal) x g) w
          (constant S512x1024 .f32 0x00000000#32) (ix2 r n)) := by
    unfold k0_pay4
    simp only [shapeCast_self]
    rfl
  rw [e, Ideal.matmul_plain_apply, show (constant (F := Ideal) _ .f32 0x00000000#32 _ : EReal) = 0 from Ideal.ofBits_zero_f32, zero_add]
  simp only [pay3_apply]

theorem pay29_apply (a : FVec Ideal S512x1024 .bf16) (w : Vec Ideal S1024x1536 .bf16) (r : Fin 512) (n : Fin 1536) :
    k0_pay29 (F := Ideal) a w (ix2 r n) = ∑ k : Fin 1024, (a (ix2 r k) : EReal) * (w (ix2 k n) : EReal) := by
  have e : k0_pay29 (F := Ideal) a w (ix2 r n)
      = FloatOps.matmul (F := Ideal) (DotDims.plain 512 1024 1536) none (φ₁ := .bf16) (φ₂ := .bf16) a w (constant S512x1536 .f32 0x00000000#32) (ix2 r n) := by
    unfold k0_pay29
    simp only [shapeCast_self]
    rfl
  rw [e, Ideal.matmul_plain_apply, show (constant (F := Ideal) _ .f32 0x00000000#32 _ : EReal) = 0 from Ideal.ofBits_zero_f32, zero_add]

/-! ## The layer norm of the second half -/

theorem cut_apply {α : Type} {p q p' q' : ℕ} (o1 o2 : ℕ) (v : (⟨2, ![p, q]⟩ : Shape).Idx → α) (h : (⟨2, ![p, q]⟩ : Shape).Slices ![o1, o2] ⟨2, ![p', q']⟩)
    (r : Fin p') (i : Fin q') (h1 : o1 + r.val < p) (h2 : o2 + i.val < q) :
    extractStridedSlice ⟨2, ![p', q']⟩ ![o1, o2] v h (ix2 r i) = v (ix2 ⟨o1 + r.val, h1⟩ ⟨o2 + i.val, h2⟩) :=
  extractStridedSlice_apply _ v h _ _ (fun a => by
    match a with
    | ⟨0, _⟩ => rfl
    | ⟨1, _⟩ => rfl)

theorem pay5_apply (x : Vec Ideal S512x1024 .f32) (g : Vec Ideal S1x1024 .f32) (w : Vec Ideal S1024x1024 .bf16) (r : Fin 512) (n : Fin 512) :
    k0_pay5 (F := Ideal) x g w (ix2 r n) = k0_pay4 (F := Ideal) x g w (ix2 r ⟨n.val, by omega⟩) := by
  unfold k0_pay5
  refine (cut_apply 0 0 _ _ r n (by omega) (by omega)).trans (congrArg (k0_pay4 (F := Ideal) x g w) ?_)
  exact congrArg₂ (fun a b => ix2 a b) (Fin.ext (Nat.zero_add _)) (Fin.ext (Nat.zero_add _))

theorem pay6_apply (x : Vec Ideal S512x1024 .f32) (g : Vec Ideal S1x1024 .f32) (w : Vec Ideal S1024x1024 .bf16) (r : Fin 512) (n : Fin 512) :
    (k0_pay6 (F := Ideal) x g w (ix2 r n) : EReal) = k0_pay4 (F := Ideal) x g w (ix2 r ⟨512 + n.val, by omega⟩)
      - Ideal.div (∑ q : Fin 512, (k0_pay4 (F := Ideal) x g w (ix2 r ⟨512 + q.val, by omega⟩) : EReal)) n512 := by
  unfold k0_pay6
  have hc : ∀ q : Fin 512, extractStridedSlice S512x512 ![0, 512] (k0_pay4 (F := Ideal) x g w) slices_S512x1024_o0_512_S512x512 (ix2 r q)
      = k0_pay4 (F := Ideal) x g w (ix2 r ⟨512 + q.val, by omega⟩) := fun q =>
    (cut_apply 0 512 _ _ r q (by omega) (by omega)).trans (congrArg (k0_pay4 (F := Ideal) x g w)
      (congrArg₂ (fun a b => ix2 a b) (Fin.ext (Nat.zero_add _)) rfl))
  simp only [← hc]
  generalize extractStridedSlice S512x512 ![0, 512] (k0_pay4 (F := Ideal) x g w) slices_S512x1024_o0_512_S512x512 = v
  show (v (ix2 r n) - broadcastTo S512x512 _ broadcasts_S512x1_S512x512 (ix2 r n) : EReal) = _
  rw [col_spread]
  exact congrArg (fun s => (v (ix2 r n) : EReal) - Ideal.div s n512) (row_sum v reduces_S512x512_S512 (.inl rfl) rfl shapeCasts_S512_S512x1 r)

theorem pay7_apply (x : Vec Ideal S512x1024 .f32) (g : Vec Ideal S1x1024 .f32) (w : Vec Ideal S1024x1024 .bf16) (r : Fin 512) :
    (k0_pay7 (F := Ideal) x g w (ix2 r 0) : EReal)
      = Ideal.div (∑ q : Fin 512, (k0_pay6 (F := Ideal) x g w (ix2 r q) * k0_pay6 (F := Ideal) x g w (ix2 r q) : EReal)) n512 := by
  unfold k0_pay7
  generalize k0_pay6 (F := Ideal) x g w = v
  exact congrArg (fun s => Ideal.div s n512) (row_sum (mulf v v) reduces_S512x512_S512 (.inl rfl) rfl shapeCasts_S512_S512x1 r)

theorem pay8_apply (v : FVec Ideal S512x512 .f32) (s : FVec Ideal S512x1 .f32) (lg lb : Vec Ideal S1x512 .f32) (r : Fin 512) (j : Fin 512) :
    (k0_pay8 (F := Ideal) v s (Scalar.ofBits .f32 0x3727C5AC#32) lg lb (ix2 r j) : EReal)
      = v (ix2 r j) * Ideal.rsqrt (s (ix2 r 0) + eps) * lg (ix2 0 j) + lb (ix2 0 j) := by
  unfold k0_pay8
  simp only [shapeCast_self]
  show ((v (ix2 r j) * broadcastTo S512x512 _ broadcasts_S512x1_S512x512 (ix2 r j) : EReal) * broadcastTo S512x512 lg broadcasts_S1x512_S512x512 (ix2 r j))
    + broadcastTo S512x512 lb broadcasts_S1x512_S512x512 (ix2 r j) = _
  rw [col_spread, broadcastTo_1b_ab_apply, broadcastTo_1b_ab_apply]
  rfl

/-! ## The mask -/

/-- The mask: the column's chunk of 64 is not after the row's. -/
def mask : IVec S128x128 1 :=
  k0_pay13 k0_pay9 (iota .tc S128x128 32 [1] iota_S128x128_d1_w32) 64#32 k0_pay10 k0_pay11 k0_pay12

/-- A nonnegative number's chunk as the program computes it. -/
def chunk (b : BitVec 32) : BitVec 32 :=
  Scalar.select (IntOp.andi (IntOp.cmpi .ne (IntOp.subi ((IntOp.cmpi .sgt b 0#32).setWidth 32) ((IntOp.cmpi .slt b 0#32).setWidth 32))
      (Scalar.subi (Scalar.extui (Scalar.cmpi .sgt 64#32 0#32)) (Scalar.extui (Scalar.cmpi .slt 64#32 0#32))))
      (IntOp.cmpi .ne (IntOp.remsi .vector b 64#32) 0#32))
    (IntOp.subi (IntOp.divsi .vector b 64#32) 1#32) (IntOp.divsi .vector b 64#32)

theorem mask_apply (i j : Fin 128) : mask (ix2 i j) = if j.val / 64 ≤ i.val / 64 then 1#1 else 0#1 := by
  have e0 : iota .tc S128x128 32 [0] iota_S128x128_d0_w32 (ix2 i j) = BitVec.ofNat 32 i.val := iota_single_apply ..
  have e1 : iota .tc S128x128 32 [1] iota_S128x128_d1_w32 (ix2 i j) = BitVec.ofNat 32 j.val := iota_single_apply ..
  have e : mask (ix2 i j) = IntOp.cmpi .sle (chunk (BitVec.ofNat 32 j.val)) (chunk (BitVec.ofNat 32 i.val)) := by
    rw [← e0, ← e1]
    rfl
  have hc : ∀ k : Fin 128, chunk (BitVec.ofNat 32 k.val) = BitVec.ofNat 32 (k.val / 64) := by decide +kernel
  rw [e, hc, hc]
  have h2 : ∀ a b : Fin 2, IntOp.cmpi .sle (BitVec.ofNat 32 a.val) (BitVec.ofNat 32 b.val) = if a.val ≤ b.val then 1#1 else 0#1 := by decide +kernel
  exact h2 ⟨j.val / 64, by omega⟩ ⟨i.val / 64, by omega⟩

end Cert.MixKernelIdeal.Hand
-- ==== Proof.Mix.Gate.lean ====
/- The kernel's sixteen gating products over the extended reals, joined to one array. -/
module

public import proofs.«01_k».proof.Proof.Mix.Payloads

@[expose] public section

set_option maxRecDepth 16384

noncomputable section

namespace Cert.MixKernelIdeal.Hand

open Cert.MixKernelIdeal Cert.MixKernelIdeal.Gen Cert.Mix
open Idealize.ShloMosaic Idealize.ShloMosaic.ValueIdx

/-- Run `n`, group `g`: the masked matrix times the run's rows of that group's columns, and the bias column. -/
def gb (a : S512x512.Idx → EReal) (w : S1x128x128.Idx → EReal) (b : S1x128x1.Idx → EReal) (n g : Fin 4) : S128x128.Idx → EReal := fun i =>
  (∑ j : Fin 128, (if j.val / 64 ≤ (i 0).val / 64 then w (ix3 0 (i 0) j) else 0)
      * a (ix2 ⟨128 * n.val + j.val, by omega⟩ ⟨128 * g.val + (i 1).val, by have h : (i 1).val < 128 := (i 1).isLt; omega⟩))
    + b (ix3 0 (i 0) 0)

theorem gb_eq (a : FVec Ideal S512x512 .bf16) (w : Vec Ideal S1x128x128 .f32) (b : Vec Ideal S1x128x1 .f32) (n g : Fin 4) (o1 o2 : ℕ)
    (h1 : o1 = 128 * n.val) (h2 : o2 = 128 * g.val) (hs : S512x512.Slices ![o1, o2] S128x128) (z : Ideal .f32) (hz : z = Scalar.ofBits (F := Ideal) .f32 0x00000000#32) :
    addf (F := Ideal) (matmul (F := Ideal) (φ₁ := .bf16) (φ₂ := .bf16) dot_S128x128_S128x128_S128x128_1_0_0_1_n_n none
        (truncf (F := Ideal) .bf16 (select mask (shapeCast S128x128 w shapeCasts_S1x128x128_S128x128) (broadcast S128x128 z)) bitsLt_bf16_f32)
        (extractStridedSlice S128x128 ![o1, o2] a hs) (constant S128x128 .f32 0x00000000#32))
      (broadcastTo S128x128 (shapeCast S128x1 b shapeCasts_S1x128x1_S128x1) broadcasts_S128x1_S128x128) = gb a w b n g := by
  subst h1 h2 hz
  funext i
  obtain ⟨r, k, rfl⟩ : ∃ (r : Fin 128) (k : Fin 128), i = ix2 r k := ⟨i 0, i 1, eq_ix2 i⟩
  show (FloatOps.matmul (F := Ideal) (DotDims.plain 128 128 128) none (φ₁ := .bf16) (φ₂ := .bf16) _ _ _ (ix2 r k) : EReal)
    + broadcastTo S128x128 _ broadcasts_S128x1_S128x128 (ix2 r k) = _
  rw [Ideal.matmul_plain_apply, show (constant (F := Ideal) _ .f32 0x00000000#32 _ : EReal) = 0 from Ideal.ofBits_zero_f32, zero_add, col_spread, drop_unit]
  refine congrArg (· + _) (Finset.sum_congr rfl fun j _ => ?_)
  rw [cut_apply (128 * n.val) (128 * g.val) a hs j k (by omega) (by omega)]
  refine congrArg (· * _) ?_
  show Scalar.select (mask (ix2 r j)) (shapeCast S128x128 w shapeCasts_S1x128x128_S128x128 (ix2 r j)) (Ideal.ofBits .f32 0x00000000#32 : EReal) = _
  rw [mask_apply, drop_unit, Ideal.ofBits_zero_f32]
  show _ = if j.val / 64 ≤ r.val / 64 then w (ix3 0 r j) else 0
  split
  · rw [select_one]
  · rw [select_zero]

section
variable (a : FVec Ideal S512x512 .bf16) (w : Fin 4 → Vec Ideal S1x128x128 .f32) (b : Fin 4 → Vec Ideal S1x128x1 .f32)

/-- Run `n`'s gate over all groups. -/
def rowb (n : Fin 4) : S128x512.Idx → EReal := fun y =>
  gb a (w ⟨(y 1).val / 128, by have h : (y 1).val < 512 := (y 1).isLt; omega⟩) (b ⟨(y 1).val / 128, by have h : (y 1).val < 512 := (y 1).isLt; omega⟩) n
    ⟨(y 1).val / 128, by have h : (y 1).val < 512 := (y 1).isLt; omega⟩ (ix2 (y 0) ⟨(y 1).val % 128, Nat.mod_lt _ (by decide)⟩)

theorem join_groups (n : Fin 4) (f0 f1 f2 f3 : S128x128.Idx → EReal) (h : Shape.Concatenates [S128x128, S128x128, S128x128, S128x128] S128x512 1)
    (h0 : f0 = gb a (w 0) (b 0) n 0) (h1 : f1 = gb a (w 1) (b 1) n 1) (h2 : f2 = gb a (w 2) (b 2) n 2) (h3 : f3 = gb a (w 3) (b 3) n 3) :
    concatenate S128x512 1 [⟨S128x128, f0⟩, ⟨S128x128, f1⟩, ⟨S128x128, f2⟩, ⟨S128x128, f3⟩] h = rowb a w b n := by
  subst h0 h1 h2 h3
  funext y
  obtain ⟨r, k, rfl⟩ : ∃ (r : Fin 128) (k : Fin 512), y = ix2 r k := ⟨y 0, y 1, eq_ix2 y⟩
  exact (concatenate_ofFn_apply (t := S128x512) (s₁ := S128x128) 1 (fun g : Fin 4 => gb a (w g) (b g) n g) h rfl 128 rfl (ix2 r k) ⟨k.val / 128, by omega⟩ rfl
    (ix2 r ⟨k.val % 128, Nat.mod_lt _ (by decide)⟩) rfl (fun b hb => by
      match b with
      | ⟨0, _⟩ => rfl
      | ⟨1, _⟩ => exact absurd rfl hb)).trans rfl

theorem run0 : k0_pay17 (F := Ideal) a mask (k0_pay14 (F := Ideal) a k0_pay9 (iota .tc S128x128 32 [1] iota_S128x128_d1_w32) 64#32 k0_pay10 k0_pay11 k0_pay12 (w 0) (b 0))
    (k0_pay15 (F := Ideal) a k0_pay9 (iota .tc S128x128 32 [1] iota_S128x128_d1_w32) 64#32 k0_pay10 k0_pay11 k0_pay12 (w 1)) (k0_pay16 (F := Ideal) (b 1)) (w 2) (b 2) (w 3) (b 3)
      = rowb a w b 0 :=
  join_groups a w b 0 _ _ _ _ concatenates_S128x128_S128x128_S128x128_S128x128_S128x512_d1
    (gb_eq a (w 0) (b 0) 0 0 0 0 rfl rfl slices_S512x512_o0_0_S128x128 _ rfl) (gb_eq a (w 1) (b 1) 0 1 0 128 rfl rfl slices_S512x512_o0_128_S128x128 _ rfl)
    (gb_eq a (w 2) (b 2) 0 2 0 256 rfl rfl slices_S512x512_o0_256_S128x128 _ rfl) (gb_eq a (w 3) (b 3) 0 3 0 384 rfl rfl slices_S512x512_o0_384_S128x128 _ rfl)

theorem run1 : k0_pay19 (F := Ideal) a mask (k0_pay18 (F := Ideal) a mask (w 0) (b 0)) (w 1) (b 1) (w 2) (b 2) (w 3) (b 3) = rowb a w b 1 :=
  join_groups a w b 1 _ _ _ _ concatenates_S128x128_S128x128_S128x128_S128x128_S128x512_d1
    (gb_eq a (w 0) (b 0) 1 0 128 0 rfl rfl slices_S512x512_o128_0_S128x128 _ rfl) (gb_eq a (w 1) (b 1) 1 1 128 128 rfl rfl slices_S512x512_o128_128_S128x128 _ rfl)
    (gb_eq a (w 2) (b 2) 1 2 128 256 rfl rfl slices_S512x512_o128_256_S128x128 _ rfl) (gb_eq a (w 3) (b 3) 1 3 128 384 rfl rfl slices_S512x512_o128_384_S128x128 _ rfl)

theorem run2 : k0_pay24 (F := Ideal) a mask (k0_pay20 (F := Ideal) a mask (w 0) (b 0)) (k0_pay21 (F := Ideal) a mask (w 1) (b 1)) (k0_pay22 (F := Ideal) a mask (w 2) (b 2))
    (k0_pay23 (F := Ideal) (w 3)) (Scalar.ofBits (F := Ideal) .f32 0x00000000#32) (b 3) = rowb a w b 2 :=
  join_groups a w b 2 _ _ _ _ concatenates_S128x128_S128x128_S128x128_S128x128_S128x512_d1
    (gb_eq a (w 0) (b 0) 2 0 256 0 rfl rfl slices_S512x512_o256_0_S128x128 _ rfl) (gb_eq a (w 1) (b 1) 2 1 256 128 rfl rfl slices_S512x512_o256_128_S128x128 _ rfl)
    (gb_eq a (w 2) (b 2) 2 2 256 256 rfl rfl slices_S512x512_o256_256_S128x128 _ rfl) (gb_eq a (w 3) (b 3) 2 3 256 384 rfl rfl slices_S512x512_o256_384_S128x128 _ rfl)

/-- The four runs, one above the other. -/
theorem join_runs (f : Fin 4 → S128x512.Idx → EReal) (h : Shape.Concatenates [S128x512, S128x512, S128x512, S128x512] S512x512 0) (r q : Fin 512) :
    concatenate S512x512 0 [⟨S128x512, f 0⟩, ⟨S128x512, f 1⟩, ⟨S128x512, f 2⟩, ⟨S128x512, f 3⟩] h (ix2 r q)
      = f ⟨r.val / 128, by omega⟩ (ix2 ⟨r.val % 128, Nat.mod_lt _ (by decide)⟩ q) :=
  (concatenate_ofFn_apply (t := S512x512) (s₁ := S128x512) 0 f h rfl 128 rfl (ix2 r q) ⟨r.val / 128, by omega⟩ rfl
    (ix2 ⟨r.val % 128, Nat.mod_lt _ (by decide)⟩ q) rfl (fun b hb => by
      match b with
      | ⟨0, _⟩ => exact absurd rfl hb
      | ⟨1, _⟩ => rfl)).trans rfl

/-- What the kernel stores for the branch, from the gated half, the normalised half and the parameters. -/
theorem pay28_apply (u : FVec Ideal S512x512 .f32) (og : Vec Ideal S1x512 .f32) (r q : Fin 512) :
    (k0_pay28 (F := Ideal) u a mask
      (k0_pay17 (F := Ideal) a mask (k0_pay14 (F := Ideal) a k0_pay9 (iota .tc S128x128 32 [1] iota_S128x128_d1_w32) 64#32 k0_pay10 k0_pay11 k0_pay12 (w 0) (b 0))
        (k0_pay15 (F := Ideal) a k0_pay9 (iota .tc S128x128 32 [1] iota_S128x128_d1_w32) 64#32 k0_pay10 k0_pay11 k0_pay12 (w 1)) (k0_pay16 (F := Ideal) (b 1)) (w 2) (b 2) (w 3) (b 3))
      (k0_pay19 (F := Ideal) a mask (k0_pay18 (F := Ideal) a mask (w 0) (b 0)) (w 1) (b 1) (w 2) (b 2) (w 3) (b 3))
      (k0_pay24 (F := Ideal) a mask (k0_pay20 (F := Ideal) a mask (w 0) (b 0)) (k0_pay21 (F := Ideal) a mask (w 1) (b 1)) (k0_pay22 (F := Ideal) a mask (w 2) (b 2))
        (k0_pay23 (F := Ideal) (w 3)) (Scalar.ofBits (F := Ideal) .f32 0x00000000#32) (b 3))
      (k0_pay25 (F := Ideal) a mask (w 0) (b 0)) (k0_pay26 (F := Ideal) a mask (w 1) (b 1)) (k0_pay27 (F := Ideal) mask (w 2)) (b 2) (w 3) (b 3) og (ix2 r q) : EReal)
      = nrm n512 (fun k => (u (ix2 r k) : EReal) * rowb a w b ⟨r.val / 128, by omega⟩ (ix2 ⟨r.val % 128, Nat.mod_lt _ (by decide)⟩ k)) (fun k => (og (ix2 0 k) : EReal)) q := by
  rw [run0, run1, run2]
  unfold k0_pay28
  have e3 := join_groups a w b 3 _ _ _ _ concatenates_S128x128_S128x128_S128x128_S128x128_S128x512_d1
    (gb_eq a (w 0) (b 0) 3 0 384 0 rfl rfl slices_S512x512_o384_0_S128x128 _ rfl) (gb_eq a (w 1) (b 1) 3 1 384 128 rfl rfl slices_S512x512_o384_128_S128x128 _ rfl)
    (gb_eq a (w 2) (b 2) 3 2 384 256 rfl rfl slices_S512x512_o384_256_S128x128 _ rfl) (gb_eq a (w 3) (b 3) 3 3 384 384 rfl rfl slices_S512x512_o384_384_S128x128 _ rfl)
  simp only [shapeCast_self]
  refine (nrm_apply (mulf u (concatenate S512x512 0 [⟨S128x512, rowb a w b 0⟩, ⟨S128x512, rowb a w b 1⟩, ⟨S128x512, rowb a w b 2⟩, ⟨S128x512, _⟩]
    concatenates_S128x512_S128x512_S128x512_S128x512_S512x512_d0)) og _ reduces_S512x512_S512 (.inl rfl) rfl shapeCasts_S512_S512x1
      broadcasts_S512x1_S512x512 broadcasts_S1x512_S512x512 r q).trans ?_
  refine congrArg (fun f => nrm n512 f _ q) (funext fun k => congrArg (fun v => (u (ix2 r k) : EReal) * v) ?_)
  refine Eq.trans ?_ (join_runs (rowb a w b) concatenates_S128x512_S128x512_S128x512_S128x512_S512x512_d0 r k)
  rw [← e3]
  rfl
end

end Cert.MixKernelIdeal.Hand
-- ==== Proof.Mix.Blocks.lean ====
/- What the kernel leaves in each result's block, over the extended reals, from its blocks of the arguments. -/
module

public import proofs.«01_k».proof.Proof.Mix.Gate
public import proofs.«01_k».proof.Proof.Gen.MixKernelIdeal.Value

@[expose] public section

set_option maxRecDepth 16384

noncomputable section

namespace Cert.MixKernelIdeal.Hand

open Cert.MixKernelIdeal Cert.MixKernelIdeal.Gen Cert.Mix
open Idealize.ShloMosaic Idealize.ShloMosaic.ValueIdx

theorem hz : (![0, 0] : Fin 2 → Nat) = fun _ => 0 := funext fun a => by fin_cases a <;> rfl

/-- The parameters as the kernel is handed them. -/
def wts (x1 : Vec Ideal S1x1024 .f32) (x2 : Vec Ideal S1024x2560 .bf16) (x3 x4 : Vec Ideal S1x512 .f32) (x5 : Vec Ideal S4x128x128 .f32)
    (x6 : Vec Ideal S4x128x1 .f32) (x7 : Vec Ideal S1x512 .f32) : Wts where
  g k := x1 (ix2 0 k)
  W k n := x2 (ix2 k n)
  lg j := x3 (ix2 0 j)
  lb j := x4 (ix2 0 j)
  sw g i j := x5 (ix3 g i j)
  sb g i := x6 (ix3 g i 0)
  og q := x7 (ix2 0 q)

/-- Token `R`'s row among `p`. -/
def row {p : ℕ} (X : (⟨2, ![p, 1024]⟩ : Shape).Idx → EReal) (R : Fin p) (k : Fin 1024) : EReal := X (ix2 R k)

variable (x0 : Vec Ideal S512x1024 .f32) (x1 : Vec Ideal S1x1024 .f32) (x2 : Vec Ideal S1024x2560 .bf16) (x3 x4 : Vec Ideal S1x512 .f32)
  (x5 : Vec Ideal S4x128x128 .f32) (x6 : Vec Ideal S4x128x1 .f32) (x7 : Vec Ideal S1x512 .f32)

theorem ld_left (k n : Fin 1024) : (View.ld x2 r0_2 : Vec Ideal S1024x1024 .bf16) (ix2 k n) = x2 (ix2 k ⟨n.val, by omega⟩) :=
  congrArg x2 (funext fun a => by
    match a with
    | ⟨0, _⟩ => exact Fin.ext (by show 0 + 1 * k.val = k.val; omega)
    | ⟨1, _⟩ => exact Fin.ext (by show 0 + 1 * n.val = n.val; omega))

theorem ld_right (k : Fin 1024) (n : Fin 1536) : (View.ld x2 r0_13 : Vec Ideal S1024x1536 .bf16) (ix2 k n) = x2 (ix2 k ⟨1024 + n.val, by omega⟩) :=
  congrArg x2 (funext fun a => by
    match a with
    | ⟨0, _⟩ => exact Fin.ext (by show 0 + 1 * k.val = k.val; omega)
    | ⟨1, _⟩ => exact Fin.ext (by show 1024 + 1 * n.val = 1024 + n.val; omega))

/-- The mixing matrices and the bias columns, a group at a time. -/
def ws : Fin 4 → Vec Ideal S1x128x128 .f32 := ![View.ld x5 r0_4, View.ld x5 r0_6, View.ld x5 r0_8, View.ld x5 r0_10]
def bs : Fin 4 → Vec Ideal S1x128x1 .f32 := ![View.ld x6 r0_5, View.ld x6 r0_7, View.ld x6 r0_9, View.ld x6 r0_11]

theorem ws_apply (g : Fin 4) (i j : Fin 128) : ws x5 g (ix3 0 i j) = x5 (ix3 g i j) := by
  match g with
  | 0 => exact congrArg x5 (funext fun a => by
      match a with
      | ⟨0, _⟩ => rfl
      | ⟨1, _⟩ => exact Fin.ext (by show 0 + 1 * i.val = i.val; omega)
      | ⟨2, _⟩ => exact Fin.ext (by show 0 + 1 * j.val = j.val; omega))
  | 1 => exact congrArg x5 (funext fun a => by
      match a with
      | ⟨0, _⟩ => rfl
      | ⟨1, _⟩ => exact Fin.ext (by show 0 + 1 * i.val = i.val; omega)
      | ⟨2, _⟩ => exact Fin.ext (by show 0 + 1 * j.val = j.val; omega))
  | 2 => exact congrArg x5 (funext fun a => by
      match a with
      | ⟨0, _⟩ => rfl
      | ⟨1, _⟩ => exact Fin.ext (by show 0 + 1 * i.val = i.val; omega)
      | ⟨2, _⟩ => exact Fin.ext (by show 0 + 1 * j.val = j.val; omega))
  | 3 => exact congrArg x5 (funext fun a => by
      match a with
      | ⟨0, _⟩ => rfl
      | ⟨1, _⟩ => exact Fin.ext (by show 0 + 1 * i.val = i.val; omega)
      | ⟨2, _⟩ => exact Fin.ext (by show 0 + 1 * j.val = j.val; omega))

theorem bs_apply (g : Fin 4) (i : Fin 128) : bs x6 g (ix3 0 i 0) = x6 (ix3 g i 0) := by
  match g with
  | 0 => exact congrArg x6 (funext fun a => by
      match a with
      | ⟨0, _⟩ => rfl
      | ⟨1, _⟩ => exact Fin.ext (by show 0 + 1 * i.val = i.val; omega)
      | ⟨2, _⟩ => rfl)
  | 1 => exact congrArg x6 (funext fun a => by
      match a with
      | ⟨0, _⟩ => rfl
      | ⟨1, _⟩ => exact Fin.ext (by show 0 + 1 * i.val = i.val; omega)
      | ⟨2, _⟩ => rfl)
  | 2 => exact congrArg x6 (funext fun a => by
      match a with
      | ⟨0, _⟩ => rfl
      | ⟨1, _⟩ => exact Fin.ext (by show 0 + 1 * i.val = i.val; omega)
      | ⟨2, _⟩ => rfl)
  | 3 => exact congrArg x6 (funext fun a => by
      match a with
      | ⟨0, _⟩ => rfl
      | ⟨1, _⟩ => exact Fin.ext (by show 0 + 1 * i.val = i.val; omega)
      | ⟨2, _⟩ => rfl)

theorem ld0 : View.ld x0 r0_0 = x0 := View.ld_unit_zero hz ..
theorem ld1 : View.ld x1 r0_1 = x1 := View.ld_unit_zero hz ..
theorem ld3 : View.ld x3 r0_3 = x3 := View.ld_unit_zero hz ..

/-- The gained columns are the token's. -/
theorem zz_eq (r : Fin 512) (n : Fin 1024) :
    (k0_pay4 (F := Ideal) x0 x1 (View.ld x2 r0_2) (ix2 r n) : EReal) = zz (wts x1 x2 x3 x4 x5 x6 x7) (row x0 r) n := by
  rw [pay4_apply]
  exact congrArg gel (Finset.sum_congr rfl fun k _ => by rw [ld_left]; rfl)

theorem cen_eq (r : Fin 512) (j : Fin 512) :
    (k0_pay6 (F := Ideal) x0 x1 (View.ld x2 r0_2) (ix2 r j) : EReal) = cen (wts x1 x2 x3 x4 x5 x6 x7) (row x0 r) j := by
  rw [pay6_apply]
  simp only [zz_eq x0 x1 x2 x3 x4 x5 x6 x7]
  rfl

theorem lnr_eq (r : Fin 512) (j : Fin 512) :
    (k0_pay46 (F := Ideal) x0 x1 x2 x3 x4 x5 x6 x7 (ix2 r j) : EReal) = lnr (wts x1 x2 x3 x4 x5 x6 x7) (row x0 r) j := by
  unfold k0_pay46
  rw [ld0, ld1, ld3, ld3, pay8_apply, pay7_apply]
  simp only [cen_eq x0 x1 x2 x3 x4 x5 x6 x7]
  rfl

/-- The gate of the block's row. -/
theorem gate_eq (r q : Fin 512) :
    rowb (k0_pay46 (F := Ideal) x0 x1 x2 x3 x4 x5 x6 x7) (ws x5) (bs x6) ⟨r.val / 128, by omega⟩ (ix2 ⟨r.val % 128, Nat.mod_lt _ (by decide)⟩ q)
      = gate (wts x1 x2 x3 x4 x5 x6 x7) (fun j => row x0 ⟨128 * (r.val / 128) + j.val, by omega⟩) ⟨r.val % 128, Nat.mod_lt _ (by decide)⟩ q := by
  have hq : ∀ h, (⟨128 * (q.val / 128) + q.val % 128, h⟩ : Fin 512) = q := fun _ => Fin.ext (Nat.div_add_mod _ _)
  refine congrArg₂ (· + ·) (Finset.sum_congr rfl fun j _ => congrArg₂ (· * ·) ?_ ?_) (bs_apply x6 _ _)
  · show (if j.val / 64 ≤ (r.val % 128) / 64 then ws x5 _ (ix3 0 _ j) else 0 : EReal) = _
    rw [ws_apply]
    rfl
  · show (k0_pay46 (F := Ideal) x0 x1 x2 x3 x4 x5 x6 x7 (ix2 _ ⟨128 * (q.val / 128) + q.val % 128, _⟩) : EReal) = _
    rw [hq, lnr_eq]

/-- What the kernel leaves in its block of the branch's output. -/
theorem out8_apply (r q : Fin 512) :
    (out0_8 (F := Ideal) x0 x1 x2 x3 x4 x5 x6 x7 (ix2 r q) : EReal)
      = branch (wts x1 x2 x3 x4 x5 x6 x7) (fun j => row x0 ⟨128 * (r.val / 128) + j.val, by omega⟩) ⟨r.val % 128, Nat.mod_lt _ (by decide)⟩ q := by
  have hr : ∀ h, (⟨128 * (r.val / 128) + r.val % 128, h⟩ : Fin 512) = r := fun _ => Fin.ext (Nat.div_add_mod _ _)
  unfold out0_8
  rw [View.canon_unit_zero hz]
  refine (pay28_apply (k0_pay46 (F := Ideal) x0 x1 x2 x3 x4 x5 x6 x7) (ws x5) (bs x6) (k0_pay5 (F := Ideal) (View.ld x0 r0_0) (View.ld x1 r0_1) (View.ld x2 r0_2))
    (View.ld x7 r0_3) r q).trans ?_
  rw [ld0, ld1, ld3]
  refine congrArg (fun f => nrm n512 f _ q) (funext fun k => ?_)
  rw [pay5_apply, gate_eq, zz_eq x0 x1 x2 x3 x4 x5 x6 x7]
  unfold gated
  dsimp only
  rw [hr]

theorem prj_eq (r : Fin 512) (n : Fin 1536) (h : 1024 + n.val < 2560) :
    (k0_pay29 (F := Ideal) (k0_pay3 (F := Ideal) x0 x1) (View.ld x2 r0_13) (ix2 r n) : EReal)
      = prj (wts x1 x2 x3 x4 x5 x6 x7) (row x0 r) ⟨1024 + n.val, h⟩ := by
  rw [pay29_apply]
  refine Finset.sum_congr rfl fun k _ => ?_
  rw [pay3_apply, ld_right]
  rfl

/-- What it leaves in its blocks of the queries, the keys and the values. -/
theorem out9_apply (y : S4x1x128x512.Idx) (h : 1024 + ((y 0).val * 128 + (y 2).val) < 2560) :
    (out0_9 (F := Ideal) x0 x1 x2 x3 x4 x5 x6 x7 y : EReal)
      = prj (wts x1 x2 x3 x4 x5 x6 x7) (row x0 (y 3)) ⟨1024 + ((y 0).val * 128 + (y 2).val), h⟩ * scale := by
  unfold out0_9 k0_pay52 k0_pay44
  rw [Cert.MixKernelIdeal.Value.canon9_eq, ld0, ld1]
  refine congrArg (· * scale) ?_
  refine Eq.trans ?_ (prj_eq x0 x1 x2 x3 x4 x5 x6 x7 (y 3) ⟨(y 0).val * 128 + (y 2).val, by omega⟩ h)
  refine congrArg (k0_pay29 (F := Ideal) (k0_pay3 (F := Ideal) x0 x1) (View.ld x2 r0_13)) ?_
  exact eq_ix2 _

theorem out10_apply (y : S4x512x128.Idx) (h : 1024 + ((y 0).val * 128 + (y 2).val + 512) < 2560) :
    (out0_10 (F := Ideal) x0 x1 x2 x3 x4 x5 x6 x7 y : EReal)
      = prj (wts x1 x2 x3 x4 x5 x6 x7) (row x0 (y 1)) ⟨1024 + ((y 0).val * 128 + (y 2).val + 512), h⟩ := by
  unfold out0_10 k0_pay52 k0_pay44
  rw [Cert.MixKernelIdeal.Value.canon10_eq, ld0, ld1]
  refine Eq.trans ?_ (prj_eq x0 x1 x2 x3 x4 x5 x6 x7 (y 1) ⟨(y 0).val * 128 + (y 2).val + 512, by omega⟩ h)
  refine congrArg (k0_pay29 (F := Ideal) (k0_pay3 (F := Ideal) x0 x1) (View.ld x2 r0_13)) ?_
  exact eq_ix2 _

theorem out11_apply (y : S4x1x128x512.Idx) (h : 1024 + ((y 0).val * 128 + (y 2).val + 1024) < 2560) :
    (out0_11 (F := Ideal) x0 x1 x2 x3 x4 x5 x6 x7 y : EReal)
      = prj (wts x1 x2 x3 x4 x5 x6 x7) (row x0 (y 3)) ⟨1024 + ((y 0).val * 128 + (y 2).val + 1024), h⟩ := by
  unfold out0_11 k0_pay52 k0_pay44
  rw [Cert.MixKernelIdeal.Value.canon11_eq, ld0, ld1]
  refine Eq.trans ?_ (prj_eq x0 x1 x2 x3 x4 x5 x6 x7 (y 3) ⟨(y 0).val * 128 + (y 2).val + 1024, by omega⟩ h)
  refine congrArg (k0_pay29 (F := Ideal) (k0_pay3 (F := Ideal) x0 x1) (View.ld x2 r0_13)) ?_
  exact eq_ix2 _

end Cert.MixKernelIdeal.Hand
-- ==== Proof.Mix.Arrays.lean ====
/- The kernel's four result arrays, over the extended reals, from the argument arrays. -/
module

public import proofs.«01_k».proof.Proof.Mix.Blocks

@[expose] public section

set_option maxRecDepth 16384

noncomputable section

namespace Cert.MixKernelIdeal.Hand

open Cert.MixKernelIdeal Cert.MixKernelIdeal.Gen Cert.Mix
open Idealize.ShloMosaic Idealize.ShloMosaic.TcCoe Idealize.SL.Sem Idealize.ShloMosaic.ValueIdx
open Idealize.ShloMosaic.Pipeline (Dat)

theorem coord_eq : ∀ t : Fin cfg0.N, ((grid0.coords t 0 : Fin _) : ℕ) = t.val := by decide +kernel

theorem word_eq (t : Fin cfg0.N) : (BitVec.ofNat 32 (grid0.coords t 0 : Fin _).val).toNat = t.val := by
  have h : t.val < 128 := lt_of_lt_of_eq t.isLt N_0
  rw [coord_eq, BitVec.toNat_ofNat, Nat.mod_eq_of_lt (by omega)]

variable (m : (ℓ : Loc nD τ sig) → Buf (Elt Ideal) ℓ) (ρ : Dev nD → PrngReg) (c : Dev nD) (t : Fin cfg0.N)

theorem iblk0_apply (r : Fin 512) (k : Fin 1024) (h : 512 * t.val + r.val < 65536) :
    iblk m c 0 t (ix2 r k) = V m c main_v0 (ix2 ⟨512 * t.val + r.val, h⟩ k) := by
  refine congrArg (V m c main_v0) (funext fun a => Fin.ext ?_)
  match a with
  | ⟨0, _⟩ =>
    show (BitVec.ofNat 32 (grid0.coords t 0 : Fin _).val).toNat * 512 + 1 * r.val = 512 * t.val + r.val
    rw [word_eq]; omega
  | ⟨1, _⟩ => show 0 * _ + 1 * k.val = k.val; omega

theorem iblk1_eq : iblk m c 1 t = V m c main_v1 := by
  funext j
  refine congrArg (V m c main_v1) (funext fun a => Fin.ext ?_)
  match a with
  | ⟨0, _⟩ => show 0 * _ + 1 * (j 0).val = (j 0).val; omega
  | ⟨1, _⟩ => show 0 * _ + 1 * (j 1).val = (j 1).val; omega

theorem iblk2_eq : iblk m c 2 t = V m c main_v2 := by
  funext j
  refine congrArg (V m c main_v2) (funext fun a => Fin.ext ?_)
  match a with
  | ⟨0, _⟩ => show 0 * _ + 1 * (j 0).val = (j 0).val; omega
  | ⟨1, _⟩ => show 0 * _ + 1 * (j 1).val = (j 1).val; omega

theorem iblk3_eq : iblk m c 3 t = V m c main_v3 := by
  funext j
  refine congrArg (V m c main_v3) (funext fun a => Fin.ext ?_)
  match a with
  | ⟨0, _⟩ => show 0 * _ + 1 * (j 0).val = (j 0).val; omega
  | ⟨1, _⟩ => show 0 * _ + 1 * (j 1).val = (j 1).val; omega

theorem iblk4_eq : iblk m c 4 t = V m c main_v4 := by
  funext j
  refine congrArg (V m c main_v4) (funext fun a => Fin.ext ?_)
  match a with
  | ⟨0, _⟩ => show 0 * _ + 1 * (j 0).val = (j 0).val; omega
  | ⟨1, _⟩ => show 0 * _ + 1 * (j 1).val = (j 1).val; omega

theorem iblk5_eq : iblk m c 5 t = V m c main_arg5 := by
  funext j
  refine congrArg (V m c main_arg5) (funext fun a => Fin.ext ?_)
  match a with
  | ⟨0, _⟩ => show 0 * _ + 1 * (j 0).val = (j 0).val; omega
  | ⟨1, _⟩ => show 0 * _ + 1 * (j 1).val = (j 1).val; omega
  | ⟨2, _⟩ => show 0 * _ + 1 * (j 2).val = (j 2).val; omega

theorem iblk6_eq : iblk m c 6 t = V m c main_v5 := by
  funext j
  refine congrArg (V m c main_v5) (funext fun a => Fin.ext ?_)
  match a with
  | ⟨0, _⟩ => show 0 * _ + 1 * (j 0).val = (j 0).val; omega
  | ⟨1, _⟩ => show 0 * _ + 1 * (j 1).val = (j 1).val; omega
  | ⟨2, _⟩ => show 0 * _ + 1 * (j 2).val = (j 2).val; omega

theorem iblk7_eq : iblk m c 7 t = V m c main_v6 := by
  funext j
  refine congrArg (V m c main_v6) (funext fun a => Fin.ext ?_)
  match a with
  | ⟨0, _⟩ => show 0 * _ + 1 * (j 0).val = (j 0).val; omega
  | ⟨1, _⟩ => show 0 * _ + 1 * (j 1).val = (j 1).val; omega

/-- The parameters and the tokens' rows, as the launch finds them. -/
def parm : Wts := wts (V m c main_v1) (V m c main_v2) (V m c main_v3) (V m c main_v4) (V m c main_arg5) (V m c main_v5) (V m c main_v6)
def toks : Fin 65536 → Fin 1024 → EReal := row (V m c main_v0)

def G8 : Buf (Elt Ideal) ((c : Thread nD τ).loc main_v7_0) := fun i : S65536x512.Idx => outB (parm m c) (toks m c) (i 0) (i 1)
def G9 : Buf (Elt Ideal) ((c : Thread nD τ).loc main_v7_1) := fun i : S4x128x128x512.Idx => outQ (parm m c) (toks m c) (i 0) (i 1) (i 2) (i 3)
def G10 : Buf (Elt Ideal) ((c : Thread nD τ).loc main_v7_2) := fun i : S4x65536x128.Idx => outK (parm m c) (toks m c) (i 0) (i 1) (i 2)
def G11 : Buf (Elt Ideal) ((c : Thread nD τ).loc main_v7_3) := fun i : S4x128x128x512.Idx => outV (parm m c) (toks m c) (i 0) (i 1) (i 2) (i 3)

theorem row_block (r : Fin 512) (R : Fin 65536) (h : 512 * t.val + r.val = R.val) :
    row (p := 512) (iblk m c 0 t) r = toks m c R := by
  have e : (⟨512 * t.val + r.val, h ▸ R.isLt⟩ : Fin 65536) = R := Fin.ext h
  funext k
  exact (iblk0_apply m c t r k _).trans (congrArg (fun R => toks m c R k) e)

theorem emb8 (j : S512x512.Idx) (h : 512 * t.val + (j 0).val < 65536) : ((cfg0.win 8).blk t).view.emb j = (ix2 ⟨512 * t.val + (j 0).val, h⟩ (j 1) : S65536x512.Idx) := by
  funext a
  refine Fin.ext ?_
  match a with
  | ⟨0, _⟩ =>
    show (BitVec.ofNat 32 (grid0.coords t 0 : Fin _).val).toNat * 512 + 1 * (j 0).val = 512 * t.val + (j 0).val
    rw [word_eq]; omega
  | ⟨1, _⟩ => show 0 * _ + 1 * (j 1).val = (j 1).val; omega

theorem emb10 (j : S4x512x128.Idx) (h : 512 * t.val + (j 1).val < 65536) :
    ((cfg0.win 10).blk t).view.emb j = (ix3 (j 0) ⟨512 * t.val + (j 1).val, h⟩ (j 2) : S4x65536x128.Idx) := by
  funext a
  refine Fin.ext ?_
  match a with
  | ⟨0, _⟩ => show 0 * _ + 1 * (j 0).val = (j 0).val; omega
  | ⟨1, _⟩ =>
    show (BitVec.ofNat 32 (grid0.coords t 0 : Fin _).val).toNat * 512 + 1 * (j 1).val = 512 * t.val + (j 1).val
    rw [word_eq]; omega
  | ⟨2, _⟩ => show 0 * _ + 1 * (j 2).val = (j 2).val; omega

theorem emb9 (j : S4x1x128x512.Idx) (h : t.val < 128) :
    ((cfg0.win 9).blk t).view.emb j = (ix4 (j 0) ⟨t.val, h⟩ (j 2) (j 3) : S4x128x128x512.Idx) := by
  have h1 : (j 1).val < 1 := (j 1).isLt
  funext a
  refine Fin.ext ?_
  match a with
  | ⟨0, _⟩ => show 0 * _ + 1 * (j 0).val = (j 0).val; omega
  | ⟨1, _⟩ =>
    show (BitVec.ofNat 32 (grid0.coords t 0 : Fin _).val).toNat * 1 + 1 * (j 1).val = t.val
    rw [word_eq]; omega
  | ⟨2, _⟩ => show 0 * _ + 1 * (j 2).val = (j 2).val; omega
  | ⟨3, _⟩ => show 0 * _ + 1 * (j 3).val = (j 3).val; omega

theorem emb11 (j : S4x1x128x512.Idx) (h : t.val < 128) :
    ((cfg0.win 11).blk t).view.emb j = (ix4 (j 0) ⟨t.val, h⟩ (j 2) (j 3) : S4x128x128x512.Idx) := by
  have h1 : (j 1).val < 1 := (j 1).isLt
  funext a
  refine Fin.ext ?_
  match a with
  | ⟨0, _⟩ => show 0 * _ + 1 * (j 0).val = (j 0).val; omega
  | ⟨1, _⟩ =>
    show (BitVec.ofNat 32 (grid0.coords t 0 : Fin _).val).toNat * 1 + 1 * (j 1).val = t.val
    rw [word_eq]; omega
  | ⟨2, _⟩ => show 0 * _ + 1 * (j 2).val = (j 2).val; omega
  | ⟨3, _⟩ => show 0 * _ + 1 * (j 3).val = (j 3).val; omega

/-- What a point writes back is its block of the whole result. -/
theorem flushed8_eq : (dats m 0 c).flushed 8 t = ((cfg0.win 8).blk t).view.read (Elt Ideal) (G8 m c) := by
  have ht : t.val < 128 := lt_of_lt_of_eq t.isLt N_0
  rw [Cert.MixKernelIdeal.Value.flushed8]
  funext j
  have hj : (j 0).val < 512 := (j 0).isLt
  show out0_8 (F := Ideal) (iblk m c 0 t) (iblk m c 1 t) (iblk m c 2 t) (iblk m c 3 t) (iblk m c 4 t) (iblk m c 5 t) (iblk m c 6 t) (iblk m c 7 t) j
    = G8 m c (((cfg0.win 8).blk t).view.emb j)
  rw [emb8 t j (by omega), iblk1_eq, iblk2_eq, iblk3_eq, iblk4_eq, iblk5_eq, iblk6_eq, iblk7_eq]
  refine (congrArg (out0_8 (F := Ideal) _ _ _ _ _ _ _ _) (eq_ix2 j)).trans ((out8_apply _ _ _ _ _ _ _ _ (j 0) (j 1)).trans ?_)
  show _ = outB (parm m c) (toks m c) ⟨512 * t.val + (j 0).val, _⟩ (j 1)
  unfold outB
  have e : (⟨(512 * t.val + (j 0).val) % 128, Nat.mod_lt _ (by decide)⟩ : Fin 128) = ⟨(j 0).val % 128, Nat.mod_lt _ (by decide)⟩ := Fin.ext (by show _ % 128 = _ % 128; omega)
  dsimp only
  rw [e]
  refine congrArg (fun X => branch (parm m c) X _ (j 1)) (funext fun i => row_block m c t _ _ ?_)
  show 512 * t.val + (128 * ((j 0).val / 128) + i.val) = 128 * ((512 * t.val + (j 0).val) / 128) + i.val
  omega

theorem flushed10_eq : (dats m 0 c).flushed 10 t = ((cfg0.win 10).blk t).view.read (Elt Ideal) (G10 m c) := by
  have ht : t.val < 128 := lt_of_lt_of_eq t.isLt N_0
  rw [Cert.MixKernelIdeal.Value.flushed10]
  funext j
  have h0 : (j 0).val < 4 := (j 0).isLt
  have h1 : (j 1).val < 512 := (j 1).isLt
  have h2 : (j 2).val < 128 := (j 2).isLt
  show out0_10 (F := Ideal) (iblk m c 0 t) (iblk m c 1 t) (iblk m c 2 t) (iblk m c 3 t) (iblk m c 4 t) (iblk m c 5 t) (iblk m c 6 t) (iblk m c 7 t) j
    = G10 m c (((cfg0.win 10).blk t).view.emb j)
  rw [emb10 t j (by omega), iblk1_eq, iblk2_eq, iblk3_eq, iblk4_eq, iblk5_eq, iblk6_eq, iblk7_eq]
  refine (out10_apply _ _ _ _ _ _ _ _ j (by omega)).trans ?_
  exact congrArg (fun x => prj (parm m c) x _) (row_block m c t _ _ rfl)

theorem flushed9_eq : (dats m 0 c).flushed 9 t = ((cfg0.win 9).blk t).view.read (Elt Ideal) (G9 m c) := by
  have ht : t.val < 128 := lt_of_lt_of_eq t.isLt N_0
  rw [Cert.MixKernelIdeal.Value.flushed9]
  funext j
  have h0 : (j 0).val < 4 := (j 0).isLt
  have h2 : (j 2).val < 128 := (j 2).isLt
  show out0_9 (F := Ideal) (iblk m c 0 t) (iblk m c 1 t) (iblk m c 2 t) (iblk m c 3 t) (iblk m c 4 t) (iblk m c 5 t) (iblk m c 6 t) (iblk m c 7 t) j
    = G9 m c (((cfg0.win 9).blk t).view.emb j)
  rw [emb9 t j ht, iblk1_eq, iblk2_eq, iblk3_eq, iblk4_eq, iblk5_eq, iblk6_eq, iblk7_eq]
  refine (out9_apply _ _ _ _ _ _ _ _ j (by omega)).trans ?_
  exact congrArg (fun x => prj (parm m c) x _ * scale) (row_block m c t _ _ rfl)

theorem flushed11_eq : (dats m 0 c).flushed 11 t = ((cfg0.win 11).blk t).view.read (Elt Ideal) (G11 m c) := by
  have ht : t.val < 128 := lt_of_lt_of_eq t.isLt N_0
  rw [Cert.MixKernelIdeal.Value.flushed11]
  funext j
  have h0 : (j 0).val < 4 := (j 0).isLt
  have h2 : (j 2).val < 128 := (j 2).isLt
  show out0_11 (F := Ideal) (iblk m c 0 t) (iblk m c 1 t) (iblk m c 2 t) (iblk m c 3 t) (iblk m c 4 t) (iblk m c 5 t) (iblk m c 6 t) (iblk m c 7 t) j
    = G11 m c (((cfg0.win 11).blk t).view.emb j)
  rw [emb11 t j ht, iblk1_eq, iblk2_eq, iblk3_eq, iblk4_eq, iblk5_eq, iblk6_eq, iblk7_eq]
  refine (out11_apply _ _ _ _ _ _ _ _ j (by omega)).trans ?_
  exact congrArg (fun x => prj (parm m c) x _) (row_block m c t _ _ rfl)

/-- Every index of a result lies in some point's block. -/
theorem cover8 (i : S65536x512.Idx) : ∃ t : Fin cfg0.N, (cfg0.win 8).flush t = true ∧ i ∈ ((cfg0.win 8).blk t).view.set := by
  have h0 : (i 0).val < 65536 := (i 0).isLt
  let t : Fin cfg0.N := ⟨(i 0).val / 512, lt_of_lt_of_eq (by omega) N_0.symm⟩
  refine ⟨t, flush0_8 _, ?_⟩
  have h := ((cfg0.win 8).blk t).view.emb_mem_set (ix2 ⟨(i 0).val % 512, Nat.mod_lt _ (by decide)⟩ (i 1) : S512x512.Idx)
  have ht : t.val = (i 0).val / 512 := rfl
  rw [emb8 t _ (by show 512 * t.val + (i 0).val % 512 < 65536; omega)] at h
  have e : (ix2 ⟨512 * ((i 0).val / 512) + (i 0).val % 512, by omega⟩ (i 1) : S65536x512.Idx) = i :=
    (congrArg (fun r => ix2 r (i 1)) (Fin.ext (by show 512 * ((i 0).val / 512) + (i 0).val % 512 = (i 0).val; omega))).trans (eq_ix2 i).symm
  exact e ▸ h

theorem cover10 (i : S4x65536x128.Idx) : ∃ t : Fin cfg0.N, (cfg0.win 10).flush t = true ∧ i ∈ ((cfg0.win 10).blk t).view.set := by
  have h0 : (i 1).val < 65536 := (i 1).isLt
  let t : Fin cfg0.N := ⟨(i 1).val / 512, lt_of_lt_of_eq (by omega) N_0.symm⟩
  refine ⟨t, flush0_10 _, ?_⟩
  have h := ((cfg0.win 10).blk t).view.emb_mem_set (ix3 (i 0) ⟨(i 1).val % 512, Nat.mod_lt _ (by decide)⟩ (i 2) : S4x512x128.Idx)
  have ht : t.val = (i 1).val / 512 := rfl
  rw [emb10 t _ (by show 512 * t.val + (i 1).val % 512 < 65536; omega)] at h
  have e : (ix3 (i 0) ⟨512 * ((i 1).val / 512) + (i 1).val % 512, by omega⟩ (i 2) : S4x65536x128.Idx) = i :=
    (congrArg (fun r => ix3 (i 0) r (i 2)) (Fin.ext (by show 512 * ((i 1).val / 512) + (i 1).val % 512 = (i 1).val; omega))).trans (eq_ix3 i).symm
  exact e ▸ h

theorem cover9 (i : S4x128x128x512.Idx) : ∃ t : Fin cfg0.N, (cfg0.win 9).flush t = true ∧ i ∈ ((cfg0.win 9).blk t).view.set := by
  have h0 : (i 1).val < 128 := (i 1).isLt
  obtain ⟨t, ht⟩ : ∃ t : Fin cfg0.N, t.val = (i 1).val := ⟨⟨(i 1).val, lt_of_lt_of_eq h0 N_0.symm⟩, rfl⟩
  refine ⟨t, flush0_9 _, ?_⟩
  have h := ((cfg0.win 9).blk t).view.emb_mem_set (ix4 (i 0) 0 (i 2) (i 3) : S4x1x128x512.Idx)
  rw [emb9 t _ (ht ▸ h0)] at h
  have e : (ix4 (i 0) ⟨t.val, ht ▸ h0⟩ (i 2) (i 3) : S4x128x128x512.Idx) = i :=
    (congrArg (fun r => ix4 (i 0) r (i 2) (i 3)) (Fin.ext ht)).trans (eq_ix4 i).symm
  exact e ▸ h

theorem cover11 (i : S4x128x128x512.Idx) : ∃ t : Fin cfg0.N, (cfg0.win 11).flush t = true ∧ i ∈ ((cfg0.win 11).blk t).view.set := by
  have h0 : (i 1).val < 128 := (i 1).isLt
  obtain ⟨t, ht⟩ : ∃ t : Fin cfg0.N, t.val = (i 1).val := ⟨⟨(i 1).val, lt_of_lt_of_eq h0 N_0.symm⟩, rfl⟩
  refine ⟨t, flush0_11 _, ?_⟩
  have h := ((cfg0.win 11).blk t).view.emb_mem_set (ix4 (i 0) 0 (i 2) (i 3) : S4x1x128x512.Idx)
  rw [emb11 t _ (ht ▸ h0)] at h
  have e : (ix4 (i 0) ⟨t.val, ht ▸ h0⟩ (i 2) (i 3) : S4x128x128x512.Idx) = i :=
    (congrArg (fun r => ix4 (i 0) r (i 2) (i 3)) (Fin.ext ht)).trans (eq_ix4 i).symm
  exact e ▸ h

theorem final8 : (dats m 0 c).arrAt 8 cfg0.N = G8 m c :=
  (dats m 0 c).arrAt_eq_of_cover 8 (G8 m c) (fun t _ => flushed8_eq m c t) cover8
theorem final9 : (dats m 0 c).arrAt 9 cfg0.N = G9 m c :=
  (dats m 0 c).arrAt_eq_of_cover 9 (G9 m c) (fun t _ => flushed9_eq m c t) cover9
theorem final10 : (dats m 0 c).arrAt 10 cfg0.N = G10 m c :=
  (dats m 0 c).arrAt_eq_of_cover 10 (G10 m c) (fun t _ => flushed10_eq m c t) cover10
theorem final11 : (dats m 0 c).arrAt 11 cfg0.N = G11 m c :=
  (dats m 0 c).arrAt_eq_of_cover 11 (G11 m c) (fun t _ => flushed11_eq m c t) cover11

end Cert.MixKernelIdeal.Hand
-- ==== Proof.Mix.Reference.lean ====
/- The reference's four results of the input mixing, over the extended reals. -/
module

public import proofs.«01_k».proof.Proof.Gen.MixReferenceIdeal.Read
public import proofs.«01_k».proof.Proof.Mix.Layer

@[expose] public section

set_option maxRecDepth 16384

noncomputable section

namespace Cert.MixReferenceIdeal.Hand

open Cert.MixReferenceIdeal Cert.MixReferenceIdeal.Gen Cert.MixReferenceIdeal.Read Cert.Mix
open Idealize.ShloMosaic Idealize.ShloMosaic.ValueIdx

variable (x0 : (⟨S8x8192x1024, .f32⟩ : BufTy).Contents (Elt Ideal)) (x1 : (⟨S1024, .f32⟩ : BufTy).Contents (Elt Ideal))
  (x2 : (⟨S1024x2560, .f32⟩ : BufTy).Contents (Elt Ideal)) (x3 x4 : (⟨S512, .f32⟩ : BufTy).Contents (Elt Ideal))
  (x5 : (⟨S4x128x128, .f32⟩ : BufTy).Contents (Elt Ideal)) (x6 : (⟨S4x128, .f32⟩ : BufTy).Contents (Elt Ideal))
  (x7 : (⟨S512, .f32⟩ : BufTy).Contents (Elt Ideal))

/-- The parameters as the reference is handed them, and a token's row. -/
def wts : Wts where
  g k := x1 (ix1 k)
  W k n := x2 (ix2 k n)
  lg j := x3 (ix1 j)
  lb j := x4 (ix1 j)
  sw g i j := x5 (ix3 g i j)
  sb g i := x6 (ix2 g i)
  og q := x7 (ix1 q)

def xs (R : Fin 65536) (k : Fin 1024) : EReal := val_main_v0 (F := Ideal) x0 (ix2 R k)

theorem from_zero (z s : EReal) (h : z = Ideal.ofBits .f32 0x00000000#32) : z + s = s := by
  rw [h, Ideal.ofBits_zero_f32, zero_add]

theorem v13_eq (R : Fin 65536) (k : Fin 1024) :
    (val_main_v13 (F := Ideal) x0 x1 (ix2 R k) : EReal) = nrm n1024 (xs x0 R) (wts x1 x2 x3 x4 x5 x6 x7).g k := by
  have hs : (val_main_v2 (F := Ideal) x0 (idx_main_v3 (idx_main_v9 (ix2 R k))) : EReal) = ∑ q, xs x0 R q * xs x0 R q := by
    rw [val_main_v2_apply]
    refine (from_zero _ _ rfl).trans (Finset.sum_congr rfl fun q _ => ?_)
    exact congrArg (fun i => (val_main_v0 (F := Ideal) x0 i * val_main_v0 (F := Ideal) x0 i : EReal)) (eq_ix2 _)
  have hg : x1 (idx_main_v11 (idx_main_v12 (ix2 R k))) = x1 (ix1 k) := congrArg x1 (eq_ix1 _)
  rw [val_main_v13_apply, val_main_v10_apply, val_main_v9_apply, val_main_v8_apply, val_main_v7_apply, val_main_v5_apply, val_main_v3_apply, hs,
    val_main_v4_apply, val_main_v6_apply, val_main_v12_apply, val_main_v11_apply, hg]
  rfl

theorem v14_eq (i : S65536x2560.Idx) (R : Fin 65536) (n : Fin 2560) (hi : i = ix2 R n) :
    (val_main_v14 (F := Ideal) x0 x1 x2 i : EReal) = prj (wts x1 x2 x3 x4 x5 x6 x7) (xs x0 R) n := by
  subst hi
  rw [val_main_v14_apply]
  refine Finset.sum_congr rfl fun k _ => congrArg₂ (· * ·) ?_ (congrArg x2 (eq_ix2 _))
  exact (congrArg (val_main_v13 (F := Ideal) x0 x1) (eq_ix2 _)).trans (v13_eq x0 x1 x2 x3 x4 x5 x6 x7 R k)

theorem v26_eq (i : S65536x1024.Idx) (R : Fin 65536) (n : Fin 1024) (hi : i = ix2 R n) :
    (val_main_v26 (F := Ideal) x0 x1 x2 i : EReal) = zz (wts x1 x2 x3 x4 x5 x6 x7) (xs x0 R) n := by
  subst hi
  rw [val_main_v26_apply, val_main_v20_apply, val_main_v25_apply, val_main_v23_apply, val_main_v22_apply, val_main_v19_apply, val_main_v21_apply,
    val_main_v24_apply, val_main_v15_apply, v14_eq x0 x1 x2 x3 x4 x5 x6 x7 _ R ⟨n.val, by omega⟩ (eq_ix2 _)]
  rfl

theorem v27_eq (i : S65536x512.Idx) (R : Fin 65536) (j : Fin 512) (hi : i = ix2 R j) :
    (val_main_v27 (F := Ideal) x0 x1 x2 i : EReal) = zz (wts x1 x2 x3 x4 x5 x6 x7) (xs x0 R) ⟨512 + j.val, by omega⟩ := by
  subst hi
  rw [val_main_v27_apply, v26_eq x0 x1 x2 x3 x4 x5 x6 x7 _ R ⟨512 + j.val, by omega⟩ (eq_ix2 _)]

theorem v33_eq (i : S65536x512.Idx) (R : Fin 65536) (j : Fin 512) (hi : i = ix2 R j) :
    (val_main_v33 (F := Ideal) x0 x1 x2 i : EReal) = cen (wts x1 x2 x3 x4 x5 x6 x7) (xs x0 R) j := by
  subst hi
  have hs : (val_main_v28 (F := Ideal) x0 x1 x2 (idx_main_v29 (idx_main_v32 (ix2 R j))) : EReal)
      = ∑ q : Fin 512, zz (wts x1 x2 x3 x4 x5 x6 x7) (xs x0 R) ⟨512 + q.val, by omega⟩ := by
    rw [val_main_v28_apply]
    refine (from_zero _ _ rfl).trans (Finset.sum_congr rfl fun q _ => ?_)
    exact v27_eq x0 x1 x2 x3 x4 x5 x6 x7 _ R q (eq_ix2 _)
  rw [val_main_v33_apply, val_main_v32_apply, val_main_v31_apply, val_main_v29_apply, hs, val_main_v30_apply, v27_eq x0 x1 x2 x3 x4 x5 x6 x7 _ R j rfl]
  rfl

theorem v49_eq (i : S65536x512.Idx) (R : Fin 65536) (j : Fin 512) (hi : i = ix2 R j) :
    (val_main_v49 (F := Ideal) x0 x1 x2 x3 x4 i : EReal) = lnr (wts x1 x2 x3 x4 x5 x6 x7) (xs x0 R) j := by
  subst hi
  have hs : (val_main_v35 (F := Ideal) x0 x1 x2 (idx_main_v36 (idx_main_v42 (ix2 R j))) : EReal)
      = ∑ q : Fin 512, cen (wts x1 x2 x3 x4 x5 x6 x7) (xs x0 R) q * cen (wts x1 x2 x3 x4 x5 x6 x7) (xs x0 R) q := by
    rw [val_main_v35_apply]
    refine (from_zero _ _ rfl).trans (Finset.sum_congr rfl fun q _ => ?_)
    have e := v33_eq x0 x1 x2 x3 x4 x5 x6 x7 (idx_main_v35 (idx_main_v36 (idx_main_v42 (ix2 R j))) q) R q (eq_ix2 _)
    exact congrArg₂ (· * ·) e e
  have hg : x3 (idx_main_v44 (idx_main_v45 (ix2 R j))) = x3 (ix1 j) := congrArg x3 (eq_ix1 _)
  have hb : x4 (idx_main_v47 (idx_main_v48 (ix2 R j))) = x4 (ix1 j) := congrArg x4 (eq_ix1 _)
  rw [val_main_v49_apply, val_main_v46_apply, val_main_v43_apply, val_main_v42_apply, val_main_v41_apply, val_main_v40_apply, val_main_v38_apply,
    val_main_v36_apply, hs, val_main_v37_apply, val_main_v39_apply, val_main_v45_apply, val_main_v44_apply, hg, val_main_v48_apply, val_main_v47_apply, hb,
    v33_eq x0 x1 x2 x3 x4 x5 x6 x7 _ R j rfl]
  rfl

/-- A nonnegative number's chunk as the reference computes it. -/
def sgn (b : BitVec 32) : BitVec 32 := if b = 0 then 0 else if b.msb then -1 else 1
def chunk (b : BitVec 32) : BitVec 32 :=
  Scalar.select (IntOp.andi (IntOp.cmpi .ne (sgn b) (sgn 64#32)) (IntOp.cmpi .ne (IntOp.remsi .host b 64#32) 0#32))
    (IntOp.subi (IntOp.divsi .host b 64#32) 1#32) (IntOp.divsi .host b 64#32)

theorem chunk_eq : ∀ k : Fin 128, chunk (BitVec.ofNat 32 k.val) = BitVec.ofNat 32 (k.val / 64) := by decide +kernel

theorem v52_eq (i : S1x128.Idx) : val_main_v52 (F := Ideal) i = chunk (BitVec.ofNat 32 (i 1).val) := by
  have h : val_main_v51 (F := Ideal) i = BitVec.ofNat 32 (i 1).val := by rw [val_main_v51_apply]; rfl
  have h3 : val_main_call0_v3 (F := Ideal) i = sgn (val_main_v51 (F := Ideal) i) := rfl
  rw [val_main_v52_apply, val_main_call0_v11_apply, val_main_call0_v6_apply, val_main_call0_v10_apply, val_main_call0_v8_apply, val_main_call0_v13_apply,
    val_main_call0_v2_apply, h3, h, val_main_call0_v1_apply, val_main_call0_v5_apply, val_main_call0_v7_apply, val_main_call0_v9_apply, val_main_call0_v12_apply]
  rfl

theorem v54_eq (i : S128x1.Idx) : val_main_v54 (F := Ideal) i = chunk (BitVec.ofNat 32 (i 0).val) := by
  have h : val_main_v53 (F := Ideal) i = BitVec.ofNat 32 (i 0).val := by rw [val_main_v53_apply]; rfl
  have h3 : val_main_call1_v3 (F := Ideal) i = sgn (val_main_v53 (F := Ideal) i) := rfl
  rw [val_main_v54_apply, val_main_call1_v11_apply, val_main_call1_v6_apply, val_main_call1_v10_apply, val_main_call1_v8_apply, val_main_call1_v13_apply,
    val_main_call1_v2_apply, h3, h, val_main_call1_v1_apply, val_main_call1_v5_apply, val_main_call1_v7_apply, val_main_call1_v9_apply, val_main_call1_v12_apply]
  rfl

theorem below_eq : ∀ i j : Fin 128, IntOp.cmpi .sle (BitVec.ofNat 32 (j.val / 64)) (BitVec.ofNat 32 (i.val / 64)) = if j.val / 64 ≤ i.val / 64 then 1#1 else 0#1 := by
  decide +kernel

theorem v59_eq (y : S4x128x128.Idx) (g : Fin 4) (i j : Fin 128) (hy : y = ix3 g i j) :
    (val_main_v59 (F := Ideal) x5 y : EReal) = mw (wts x1 x2 x3 x4 x5 x6 x7) g i j := by
  subst hy
  have hm : val_main_call2_v1 (F := Ideal) (ix3 g i j) = if j.val / 64 ≤ i.val / 64 then 1#1 else 0#1 := by
    rw [val_main_call2_v1_apply, val_main_v58_apply, val_main_v57_apply, val_main_v55_apply, val_main_v56_apply, v52_eq, v54_eq]
    exact (congrArg₂ (IntOp.cmpi .sle) (chunk_eq j) (chunk_eq i)).trans (below_eq i j)
  have hz : (val_main_call2_v2 (F := Ideal) (ix3 g i j) : EReal) = 0 := by
    rw [val_main_call2_v2_apply]
    exact Ideal.ofBits_zero_f32
  rw [val_main_v59_apply, hm, hz]
  show _ = if j.val / 64 ≤ i.val / 64 then x5 (ix3 g i j) else 0
  split
  · rw [select_one]
  · rw [select_zero]

theorem v68_eq (R : Fin 65536) (q : Fin 512) :
    (val_main_v68 (F := Ideal) x0 x1 x2 x3 x4 x5 x6 (ix2 R q) : EReal)
      = gate (wts x1 x2 x3 x4 x5 x6 x7) (fun j => xs x0 ⟨128 * (R.val / 128) + j.val, by omega⟩) ⟨R.val % 128, Nat.mod_lt _ (by decide)⟩ q := by
  have hR := R.isLt
  have hq := q.isLt
  have hb : x6 (idx_main_v63 (idx_main_v64 (idx_main_v65 (idx_main_v68 (ix2 R q))))) = x6 (ix2 ⟨q.val / 128, by omega⟩ ⟨R.val % 128, Nat.mod_lt _ (by decide)⟩) := by
    refine congrArg x6 (funext fun a => ?_)
    match a with
    | ⟨0, _⟩ => exact Fin.ext (by show (R.val * 512 + q.val) / 128 % 4 = q.val / 128; omega)
    | ⟨1, _⟩ => exact Fin.ext (by show (R.val * 512 + q.val) / 512 % 128 = R.val % 128; omega)
  rw [val_main_v68_apply, val_main_v66_apply, val_main_v62_apply, val_main_v61_apply, val_main_v65_apply, val_main_v64_apply, val_main_v63_apply, hb]
  refine congrArg (fun s : EReal => s + x6 (ix2 ⟨q.val / 128, _⟩ ⟨R.val % 128, _⟩)) (Finset.sum_congr rfl fun k _ => ?_)
  have hk := k.isLt
  rw [val_main_v60_apply, v49_eq x0 x1 x2 x3 x4 x5 x6 x7 _ ⟨128 * (R.val / 128) + k.val, by omega⟩ q ?_,
    v59_eq x1 x2 x3 x4 x5 x6 x7 _ ⟨q.val / 128, by omega⟩ ⟨R.val % 128, Nat.mod_lt _ (by decide)⟩ k ?_]
  · exact mul_comm _ _
  · funext a
    match a with
    | ⟨0, _⟩ => exact Fin.ext (by show (R.val * 512 + q.val) / 128 % 4 = q.val / 128; omega)
    | ⟨1, _⟩ => exact Fin.ext (by show (R.val * 512 + q.val) / 512 % 128 = R.val % 128; omega)
    | ⟨2, _⟩ => rfl
  · funext a
    match a with
    | ⟨0, _⟩ => exact Fin.ext (by
        show ((((R.val * 512 + q.val) / 65536 * 128 + k.val) * 4 + (R.val * 512 + q.val) / 128 % 4) * 128 + (R.val * 512 + q.val) % 128) / 512 = 128 * (R.val / 128) + k.val
        omega)
    | ⟨1, _⟩ => exact Fin.ext (by
        show ((((R.val * 512 + q.val) / 65536 * 128 + k.val) * 4 + (R.val * 512 + q.val) / 128 % 4) * 128 + (R.val * 512 + q.val) % 128) % 512 = q.val
        omega)

theorem v69_eq (i : S65536x512.Idx) (R : Fin 65536) (q : Fin 512) (hi : i = ix2 R q) :
    (val_main_v69 (F := Ideal) x0 x1 x2 x3 x4 x5 x6 i : EReal)
      = gated (wts x1 x2 x3 x4 x5 x6 x7) (fun j => xs x0 ⟨128 * (R.val / 128) + j.val, by omega⟩) ⟨R.val % 128, Nat.mod_lt _ (by decide)⟩ q := by
  subst hi
  have hR : ∀ h, (⟨128 * (R.val / 128) + R.val % 128, h⟩ : Fin 65536) = R := fun _ => Fin.ext (Nat.div_add_mod _ _)
  rw [val_main_v69_apply, v68_eq x0 x1 x2 x3 x4 x5 x6 x7, val_main_v67_apply, v26_eq x0 x1 x2 x3 x4 x5 x6 x7 _ R ⟨q.val, by omega⟩ (eq_ix2 _)]
  unfold gated
  dsimp only
  rw [hR]
  rfl

/-- The four results, at an index. -/
theorem v85_eq (R : Fin 65536) (q : Fin 512) :
    (val_main_v85 (F := Ideal) x0 x1 x2 x3 x4 x5 x6 x7 (ix2 R q) : EReal) = outB (wts x1 x2 x3 x4 x5 x6 x7) (xs x0) R q := by
  have hs : (val_main_v71 (F := Ideal) x0 x1 x2 x3 x4 x5 x6 (idx_main_v72 (idx_main_v78 (ix2 R q))) : EReal)
      = ∑ k, gated (wts x1 x2 x3 x4 x5 x6 x7) (fun j => xs x0 ⟨128 * (R.val / 128) + j.val, by omega⟩) ⟨R.val % 128, Nat.mod_lt _ (by decide)⟩ k
          * gated (wts x1 x2 x3 x4 x5 x6 x7) (fun j => xs x0 ⟨128 * (R.val / 128) + j.val, by omega⟩) ⟨R.val % 128, Nat.mod_lt _ (by decide)⟩ k := by
    rw [val_main_v71_apply]
    refine (from_zero _ _ rfl).trans (Finset.sum_congr rfl fun k _ => ?_)
    have e := v69_eq x0 x1 x2 x3 x4 x5 x6 x7 (idx_main_v71 (idx_main_v72 (idx_main_v78 (ix2 R q))) k) R k (eq_ix2 _)
    exact congrArg₂ (· * ·) e e
  have hg : x7 (idx_main_v80 (idx_main_v81 (ix2 R q))) = x7 (ix1 q) := congrArg x7 (eq_ix1 _)
  rw [val_main_v85_apply, val_main_v82_apply, val_main_v79_apply, val_main_v78_apply, val_main_v77_apply, val_main_v76_apply, val_main_v74_apply,
    val_main_v72_apply, hs, val_main_v73_apply, val_main_v75_apply, val_main_v81_apply, val_main_v80_apply, hg, v69_eq x0 x1 x2 x3 x4 x5 x6 x7 _ R q rfl]
  rfl

theorem v90_eq (g : Fin 4) (t d : Fin 128) (s : Fin 512) :
    (val_main_v90 (F := Ideal) x0 x1 x2 (ix4 g t d s) : EReal) = outQ (wts x1 x2 x3 x4 x5 x6 x7) (xs x0) g t d s := by
  rw [val_main_v90_apply, val_main_v89_apply, val_main_v88_apply, val_main_v87_apply, val_main_v86_apply, val_main_v16_apply,
    v14_eq x0 x1 x2 x3 x4 x5 x6 x7 _ ⟨512 * t.val + s.val, by omega⟩ ⟨1024 + (g.val * 128 + d.val), by omega⟩ ?_]
  · rfl
  · funext a
    match a with
    | ⟨0, _⟩ => exact Fin.ext (by show (((t.val * 512 + s.val) * 4 + g.val) * 128 + d.val) / 512 = 512 * t.val + s.val; omega)
    | ⟨1, _⟩ => exact Fin.ext (by show 1024 + (((t.val * 512 + s.val) * 4 + g.val) * 128 + d.val) % 512 = 1024 + (g.val * 128 + d.val); omega)

theorem v91_eq (g : Fin 4) (R : Fin 65536) (d : Fin 128) :
    (val_main_v91 (F := Ideal) x0 x1 x2 (ix3 g R d) : EReal) = outK (wts x1 x2 x3 x4 x5 x6 x7) (xs x0) g R d := by
  rw [val_main_v91_apply, val_main_v84_apply, val_main_v83_apply, val_main_v17_apply,
    v14_eq x0 x1 x2 x3 x4 x5 x6 x7 _ R ⟨1024 + (g.val * 128 + d.val + 512), by omega⟩ ?_]
  · rfl
  · funext a
    match a with
    | ⟨0, _⟩ => exact Fin.ext (by show ((R.val * 4 + g.val) * 128 + d.val) / 512 = R.val; omega)
    | ⟨1, _⟩ => exact Fin.ext (by show 1536 + ((R.val * 4 + g.val) * 128 + d.val) % 512 = 1024 + (g.val * 128 + d.val + 512); omega)

theorem v94_eq (g : Fin 4) (t d : Fin 128) (s : Fin 512) :
    (val_main_v94 (F := Ideal) x0 x1 x2 (ix4 g t d s) : EReal) = outV (wts x1 x2 x3 x4 x5 x6 x7) (xs x0) g t d s := by
  rw [val_main_v94_apply, val_main_v93_apply, val_main_v92_apply, val_main_v18_apply,
    v14_eq x0 x1 x2 x3 x4 x5 x6 x7 _ ⟨512 * t.val + s.val, by omega⟩ ⟨1024 + (g.val * 128 + d.val + 1024), by omega⟩ ?_]
  · rfl
  · funext a
    match a with
    | ⟨0, _⟩ => exact Fin.ext (by show (((t.val * 512 + s.val) * 4 + g.val) * 128 + d.val) / 512 = 512 * t.val + s.val; omega)
    | ⟨1, _⟩ => exact Fin.ext (by show 2048 + (((t.val * 512 + s.val) * 4 + g.val) * 128 + d.val) % 512 = 1024 + (g.val * 128 + d.val + 1024); omega)

end Cert.MixReferenceIdeal.Hand
-- ==== Proof.Mix.Algebraic.lean ====
/- The input mixing's kernel and its reference end at the same four results over the extended reals. -/
module

public import proofs.«01_k».proof.Defs
public import proofs.«01_k».proof.Proof.Mix.Arrays
public import proofs.«01_k».proof.Proof.Mix.Reference
public import proofs.«01_k».proof.Proof.Gen.MixKernelIdeal.Value
public import proofs.«01_k».proof.Proof.Gen.MixReferenceIdeal.Run

@[expose] public section

set_option maxRecDepth 16384

noncomputable section

namespace Cert.MixKernelIdeal.Hand

open Cert.MixKernelIdeal Cert.MixKernelIdeal.Gen Cert.Mix
open Idealize.ShloMosaic Idealize.ShloMosaic.TcCoe Idealize.ShloMosaic.ValueIdx Idealize.SL.Sem

variable (m : (ℓ : Loc nD τ sig) → Buf (Elt Ideal) ℓ) (c : Dev nD)

/-! ## The arguments as the program lays them out -/

theorem V_v0 : V (F := Ideal) m c main_v0 = shapeCast S65536x1024 (m ((c : Thread nD τ).loc main_arg0)) shapeCasts_S8x8192x1024_S65536x1024 := by
  unfold V hostOps0
  rfl

theorem V_v1 : V (F := Ideal) m c main_v1 = shapeCast S1x1024 (m ((c : Thread nD τ).loc main_arg1)) shapeCasts_S1024_S1x1024 := by
  unfold V hostOps0
  rfl

theorem V_v2 : V (F := Ideal) m c main_v2 = m ((c : Thread nD τ).loc main_arg2) := by
  unfold V hostOps0
  rfl

theorem V_v3 : V (F := Ideal) m c main_v3 = shapeCast S1x512 (m ((c : Thread nD τ).loc main_arg3)) shapeCasts_S512_S1x512 := by
  unfold V hostOps0
  rfl

theorem V_v4 : V (F := Ideal) m c main_v4 = shapeCast S1x512 (m ((c : Thread nD τ).loc main_arg4)) shapeCasts_S512_S1x512 := by
  unfold V hostOps0
  rfl

theorem V_v5 : V (F := Ideal) m c main_v5 = broadcastInDim S4x128x1 ![0, 1] bcast_S4x128_S4x128x1_0_1 (m ((c : Thread nD τ).loc main_arg6)) := by
  unfold V hostOps0
  rfl

theorem V_v6 : V (F := Ideal) m c main_v6 = shapeCast S1x512 (m ((c : Thread nD τ).loc main_arg7)) shapeCasts_S512_S1x512 := by
  unfold V hostOps0
  rfl

theorem lay_1024 (b : S1024.Idx → EReal) (k : Fin 1024) : shapeCast S1x1024 b shapeCasts_S1024_S1x1024 (ix2 0 k) = b (ix1 k) := by
  refine shapeCast_apply _ _ _ _ ?_
  rw [Shape.rowMajor_val_one, Shape.rowMajor_val_two]
  show k.val = 0 * 1024 + k.val
  omega

theorem lay_512 (b : S512.Idx → EReal) (k : Fin 512) : shapeCast S1x512 b shapeCasts_S512_S1x512 (ix2 0 k) = b (ix1 k) := by
  refine shapeCast_apply _ _ _ _ ?_
  rw [Shape.rowMajor_val_one, Shape.rowMajor_val_two]
  show k.val = 0 * 512 + k.val
  omega

theorem lay_bias (b : S4x128.Idx → EReal) (g : Fin 4) (i : Fin 128) : broadcastInDim S4x128x1 ![0, 1] bcast_S4x128_S4x128x1_0_1 b (ix3 g i 0) = b (ix2 g i) :=
  broadcastInDim_apply _ bcast_S4x128_S4x128x1_0_1 b (ix3 g i 0) (ix2 g i) (fun a => match a with
    | ⟨0, _⟩ => by show g.val = if (4 : Nat) = 1 then 0 else g.val; rw [if_neg (by decide)]
    | ⟨1, _⟩ => by show i.val = if (128 : Nat) = 1 then 0 else i.val; rw [if_neg (by decide)])

/-- The kernel's parameters are the reference's. -/
theorem parm_eq : parm m c = Cert.MixReferenceIdeal.Hand.wts (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) := by
  unfold parm wts Cert.MixReferenceIdeal.Hand.wts
  rw [V_v1, V_v2, V_v3, V_v4, V_v5, V_v6, V_main_arg5]
  congr 1
  · funext k; exact lay_1024 _ k
  · funext k; exact lay_512 _ k
  · funext k; exact lay_512 _ k
  · funext g i; exact lay_bias _ g i
  · funext k; exact lay_512 _ k

theorem toks_eq : toks m c = Cert.MixReferenceIdeal.Hand.xs (m ((c : Thread nD τ).loc main_arg0)) := by
  unfold toks
  rw [V_v0]
  rfl

end Cert.MixKernelIdeal.Hand

namespace Cert.Mix

open Idealize.ShloMosaic Idealize.ShloMosaic.TcCoe Idealize.ShloMosaic.ValueIdx Idealize.SL.Sem
open Cert.MixKernelIdeal.Hand Cert.MixReferenceIdeal.Read

theorem algebraic : Cert.algebraic_MixKernelIdeal_MixReferenceIdeal := fun m g m' g' _ hm => by
  refine ⟨fun c => G8 m c, fun c => G9 m c, fun c => G10 m c, fun c => G11 m c,
    (θ_run (Cert.MixKernelIdeal.defs (F := Ideal)) _ _).mono (fun _ h c => ⟨(h c).1.trans (final8 m c), (h c).2.1.trans (final9 m c),
      (h c).2.2.1.trans (final10 m c), (h c).2.2.2.1.trans (final11 m c), (h c).2.2.2.2⟩) (Cert.MixKernelIdeal.Value.run_blocks (F := Ideal) m g),
    (θ_run (Cert.MixReferenceIdeal.defs (F := Ideal)) _ _).mono (fun _ h c => ⟨(h c).1.trans ?_, (h c).2.1.trans ((val_main_v90_eq _ _ _).trans ?_),
      (h c).2.2.1.trans ((val_main_v91_eq _ _ _).trans ?_), (h c).2.2.2.1.trans ((val_main_v94_eq _ _ _).trans ?_), (h c).2.2.2.2⟩)
      (Cert.MixReferenceIdeal.Value.run (F := Ideal) m' g')⟩
  · obtain ⟨e0, e1, e2, e3, e4, e5, e6, e7⟩ := hm c
    rw [val_main_v85_eq, e0, e1, e2, e3, e4, e5, e6, e7]
    funext i
    refine Eq.trans ?_ (congrArg₂ (fun P X => outB P X (i 0) (i 1)) (parm_eq m c).symm (toks_eq m c).symm)
    exact (congrArg _ (eq_ix2 i)).trans (Cert.MixReferenceIdeal.Hand.v85_eq _ _ _ _ _ _ _ _ (i 0) (i 1))
  · obtain ⟨e0, e1, e2, -⟩ := hm c
    rw [e0, e1, e2]
    funext i
    refine Eq.trans ?_ (congrArg₂ (fun P X => outQ P X (i 0) (i 1) (i 2) (i 3)) (parm_eq m c).symm (toks_eq m c).symm)
    exact (congrArg _ (eq_ix4 i)).trans (Cert.MixReferenceIdeal.Hand.v90_eq _ _ _ _ _ _ _ _ (i 0) (i 1) (i 2) (i 3))
  · obtain ⟨e0, e1, e2, -⟩ := hm c
    rw [e0, e1, e2]
    funext i
    refine Eq.trans ?_ (congrArg₂ (fun P X => outK P X (i 0) (i 1) (i 2)) (parm_eq m c).symm (toks_eq m c).symm)
    exact (congrArg _ (eq_ix3 i)).trans (Cert.MixReferenceIdeal.Hand.v91_eq _ _ _ _ _ _ _ _ (i 0) (i 1) (i 2))
  · obtain ⟨e0, e1, e2, -⟩ := hm c
    rw [e0, e1, e2]
    funext i
    refine Eq.trans ?_ (congrArg₂ (fun P X => outV P X (i 0) (i 1) (i 2) (i 3)) (parm_eq m c).symm (toks_eq m c).symm)
    exact (congrArg _ (eq_ix4 i)).trans (Cert.MixReferenceIdeal.Hand.v94_eq _ _ _ _ _ _ _ _ (i 0) (i 1) (i 2) (i 3))

end Cert.Mix
-- ==== Proof.Out.Layer.lean ====
/- What the output mixing leaves before the router, written over the extended reals a token at a time: the residual sum and its
   normalised row. -/
module

public import proofs.«01_k».proof.Proof.Mix.Layer

@[expose] public section

noncomputable section

namespace Cert.Out

open Idealize.ShloMosaic Cert.Mix

/-- A token's row, plus its two branches' outputs through the two halves of the projection. -/
def res (x : Fin 1024 → EReal) (a b : Fin 512 → EReal) (W : Fin 1024 → Fin 1024 → EReal) (n : Fin 1024) : EReal :=
  x n + ((∑ k : Fin 512, a k * W ⟨k.val, by omega⟩ n) + ∑ k : Fin 512, b k * W ⟨512 + k.val, by omega⟩ n)

/-- That row over the root of its mean square, times the gains. -/
def hid (x : Fin 1024 → EReal) (a b : Fin 512 → EReal) (W : Fin 1024 → Fin 1024 → EReal) (g : Fin 1024 → EReal) (n : Fin 1024) : EReal :=
  nrm n1024 (res x a b W) g n

end Cert.Out
-- ==== Proof.Out.Payloads.lean ====
/- The output mixing kernel's arithmetic before the router, over the extended reals, read at an index. -/
module

public import proofs.«01_k».proof.Proof.Mix.Payloads
public import proofs.«01_k».proof.Proof.Out.Layer
public import proofs.«01_k».proof.Proof.Gen.OutKernelIdeal.Skeleton

@[expose] public section

set_option maxRecDepth 16384

noncomputable section

namespace Cert.OutKernelIdeal.Hand

open Cert.OutKernelIdeal Cert.OutKernelIdeal.Gen Cert.Mix Cert.Out
open Idealize.ShloMosaic Idealize.ShloMosaic.ValueIdx

/-- A product of 512 rows with 512 weights' rows. -/
theorem half_apply (a : FVec Ideal S512x512 .bf16) (w : FVec Ideal S512x1024 .bf16) (r : Fin 512) (n : Fin 1024) :
    (FloatOps.matmul (F := Ideal) (DotDims.plain 512 512 1024) none (φ₁ := .bf16) (φ₂ := .bf16) a w (constant S512x1024 .f32 0x00000000#32) (ix2 r n) : EReal)
      = ∑ k : Fin 512, (a (ix2 r k) : EReal) * (w (ix2 k n) : EReal) := by
  rw [Ideal.matmul_plain_apply, show (constant (F := Ideal) _ .f32 0x00000000#32 _ : EReal) = 0 from Ideal.ofBits_zero_f32, zero_add]

theorem pay4_apply (a : Vec Ideal S512x512 .bf16) (wa : Vec Ideal S512x1024 .bf16) (b : Vec Ideal S512x512 .bf16) (wb : Vec Ideal S512x1024 .bf16)
    (x : Vec Ideal S512x1024 .f32) (r : Fin 512) (n : Fin 1024) :
    (k0_pay4 (F := Ideal) a wa b wb x (ix2 r n) : EReal)
      = x (ix2 r n) + ((∑ k : Fin 512, (a (ix2 r k) : EReal) * (wa (ix2 k n) : EReal)) + ∑ k : Fin 512, (b (ix2 r k) : EReal) * (wb (ix2 k n) : EReal)) := by
  rw [← half_apply a wa r n, ← half_apply b wb r n]
  unfold k0_pay4
  simp only [shapeCast_self]
  rfl

theorem pay6_apply (a : Vec Ideal S512x512 .bf16) (wa : Vec Ideal S512x1024 .bf16) (b : Vec Ideal S512x512 .bf16) (wb : Vec Ideal S512x1024 .bf16)
    (x : Vec Ideal S512x1024 .f32) (g : Vec Ideal S1x1024 .f32) (r : Fin 512) (n : Fin 1024) :
    (k0_pay6 (F := Ideal) a wa b wb x g (ix2 r n) : EReal)
      = nrm n1024 (fun q => (k0_pay4 (F := Ideal) a wa b wb x (ix2 r q) : EReal)) (fun q => (g (ix2 0 q) : EReal)) n := by
  show (k0_pay5 (F := Ideal) a wa b wb x g (ix2 r n) : EReal) = _
  unfold k0_pay5
  simp only [shapeCast_self]
  exact Cert.MixKernelIdeal.Hand.nrm_apply _ g _ _ _ _ _ _ _ r n

end Cert.OutKernelIdeal.Hand
-- ==== Proof.Out.Blocks.lean ====
/- What the kernel's body leaves in its blocks of the residual and of the normalised rows, whichever way its branch goes. -/
module

public import proofs.«01_k».proof.Proof.Out.Payloads
public import proofs.«01_k».proof.Proof.Gen.OutKernelIdeal.Frame
public import Idealize.ShloMosaic.Lib.WholeRead
public import Idealize.ShloMosaic.Lib.VecWindow

@[expose] public section

set_option maxRecDepth 16384

noncomputable section

namespace Cert.OutKernelIdeal.Hand

open Cert.OutKernelIdeal Cert.OutKernelIdeal.Gen Cert.Mix Cert.Out
open Idealize.ShloMosaic Idealize.ShloMosaic.TcCoe Idealize.ShloMosaic.ValueIdx

variable {F : FTy → Type} [FloatOps F]

/-- The weights' first 512 rows, and the rest. -/
def top (w : Vec F S1024x1024 .bf16) : Vec F S512x1024 .bf16 := fun j => w (ix2 ⟨(j 0).val, lt_trans (j 0).isLt (by decide)⟩ (j 1))
def bot (w : Vec F S1024x1024 .bf16) : Vec F S512x1024 .bf16 := fun j => w (ix2 ⟨512 + (j 0).val, Nat.add_lt_add_left (j 0).isLt 512⟩ (j 1))

theorem load_top (a : Memref sig Kind.tc Space.vmem S1024x1024 EltTy.bf16) (h : a.IsWhole) (w : Vec F S1024x1024 .bf16) :
    View.readAt (Elt F) a.view (Rect.unit ![0, 0] ![512, 1024] inb_S1024x1024_S512x1024_0_0).toLoadRect (h.unread w) = top w := by
  funext j
  refine (h.readAt_unread w _ j).trans (congrArg w (funext fun b => Fin.ext ?_))
  match b with
  | ⟨0, _⟩ => show 0 + 1 * (j 0).val = (j 0).val; omega
  | ⟨1, _⟩ => show 0 + 1 * (j 1).val = (j 1).val; omega

theorem load_bot (a : Memref sig Kind.tc Space.vmem S1024x1024 EltTy.bf16) (h : a.IsWhole) (w : Vec F S1024x1024 .bf16) :
    View.readAt (Elt F) a.view (Rect.unit ![512, 0] ![512, 1024] inb_S1024x1024_S512x1024_512_0).toLoadRect (h.unread w) = bot w := by
  funext j
  refine (h.readAt_unread w _ j).trans (congrArg w (funext fun b => Fin.ext ?_))
  match b with
  | ⟨0, _⟩ => show 512 + 1 * (j 0).val = 512 + (j 0).val; omega
  | ⟨1, _⟩ => show 0 + 1 * (j 1).val = (j 1).val; omega

theorem load_all {s : Shape} {e : EltTy} (a : Memref sig Kind.tc Space.vmem s e) (h : a.IsWhole) (x : Vec F s e) {off : Fin s.rank → ℕ}
    (inb : ∀ b, off b + s.size b ≤ s.size b) : View.readAt (Elt F) a.view (Rect.unit off s.size inb).toLoadRect (h.unread x) = x :=
  (View.readAt_full _ _ inb).trans (h.read_unread x)

variable (c : Dev nD) (i : grid0.Coords) (arg1 : Memref sig .tc .vmem S512x1024 .f32) (harg1 : arg1.IsWhole)
  (arg2 : Memref sig .tc .vmem S512x512 .bf16) (harg2 : arg2.IsWhole) (arg3 : Memref sig .tc .vmem S512x512 .bf16) (harg3 : arg3.IsWhole)
  (arg4 : Memref sig .tc .vmem S1024x1024 .bf16) (harg4 : arg4.IsWhole) (arg5 : Memref sig .tc .vmem S1x1024 .f32) (harg5 : arg5.IsWhole)
  (arg6 : Memref sig .tc .vmem S32x1024 .f32) (harg6 : arg6.IsWhole) (arg7 : Memref sig .tc .vmem S32x1 .f32) (harg7 : arg7.IsWhole)
  (arg8 : Memref sig .tc .vmem S512x1024 .f32) (harg8 : arg8.IsWhole) (arg9 : Memref sig .tc .vmem S512x1024 .bf16) (harg9 : arg9.IsWhole)
  (arg10 : Memref sig .tc .vmem S4x512 .f32) (harg10 : arg10.IsWhole) (arg11 : Memref sig .tc .vmem S4x512 .i32) (harg11 : arg11.IsWhole)
  (arg12 : Memref sig .tc .vmem S32x128 .i32) (harg12 : arg12.IsWhole) (arg13 : Memref sig .tc .vmem S32x128 .i32) (harg13 : arg13.IsWhole)
  (arg14 : Memref sig .tc .vmem S32x128 .i32) (harg14 : arg14.IsWhole) (arg15 : Memref sig .tc .vmem S32x128 .i32) (harg15 : arg15.IsWhole)
  (arg16 : Memref sig .tc .vmem S32x1 .f32) (harg16 : arg16.IsWhole)
  (x0 : Vec F S512x1024 .f32) (x1 x2 : Vec F S512x512 .bf16) (x3 : Vec F S1024x1024 .bf16) (x4 : Vec F S1x1024 .f32)
  (x5 : Vec F S32x1024 .f32) (x6 s0 : Vec F S32x1 .f32)

theorem out_A7 (hc0 : cond0_0 i) : out0_A_7 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 hc0 x0 x1 x2 x3 x4 x5 x6
      = k0_pay4 x1 (top x3) x2 (bot x3) x0 := by
  unfold out0_A_7 kernelRun0_A
  dsimp only
  rw [View.read_writes_full, load_top, load_bot]
  rw [load_all arg1 harg1 x0, load_all arg2 harg2 x1, load_all arg3 harg3 x2]

theorem out_A8 (hc0 : cond0_0 i) : out0_A_8 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 hc0 x0 x1 x2 x3 x4 x5 x6
      = k0_pay6 x1 (top x3) x2 (bot x3) x0 x4 := by
  unfold out0_A_8 kernelRun0_A
  dsimp only
  rw [View.read_writes_full, load_top, load_bot]
  rw [load_all arg1 harg1 x0, load_all arg2 harg2 x1, load_all arg3 harg3 x2, load_all arg5 harg5 x4]

theorem out_B7 (hc0 : ¬cond0_0 i) : out0_B_7 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 hc0 x0 x1 x2 x3 x4 x5 x6 s0
      = k0_pay4 x1 (top x3) x2 (bot x3) x0 := by
  unfold out0_B_7 kernelRun0_B
  dsimp only
  rw [View.read_writes_full, load_top, load_bot]
  rw [load_all arg1 harg1 x0, load_all arg2 harg2 x1, load_all arg3 harg3 x2]

theorem out_B8 (hc0 : ¬cond0_0 i) : out0_B_8 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 hc0 x0 x1 x2 x3 x4 x5 x6 s0
      = k0_pay6 x1 (top x3) x2 (bot x3) x0 x4 := by
  unfold out0_B_8 kernelRun0_B
  dsimp only
  rw [View.read_writes_full, load_top, load_bot]
  rw [load_all arg1 harg1 x0, load_all arg2 harg2 x1, load_all arg3 harg3 x2, load_all arg5 harg5 x4]

end Cert.OutKernelIdeal.Hand
-- ==== Proof.Out.Arrays.lean ====
/- The output mixing's residual and normalised rows, over the extended reals, from the argument arrays. -/
module

public import proofs.«01_k».proof.Proof.Out.Blocks
public import proofs.«01_k».proof.Proof.Gen.OutKernelIdeal.Value

@[expose] public section

set_option maxRecDepth 16384

noncomputable section

namespace Cert.OutKernelIdeal.Hand

open Cert.OutKernelIdeal Cert.OutKernelIdeal.Gen Cert.Mix Cert.Out
open Idealize.ShloMosaic Idealize.ShloMosaic.TcCoe Idealize.SL.Sem Idealize.ShloMosaic.ValueIdx
open Idealize.ShloMosaic.Pipeline (Dat)

theorem coord_eq : ∀ t : Fin cfg0.N, ((grid0.coords t 0 : Fin _) : ℕ) = t.val := by decide +kernel

theorem word_eq (t : Fin cfg0.N) : (BitVec.ofNat 32 (grid0.coords t 0 : Fin _).val).toNat = t.val := by
  have h : t.val < 128 := lt_of_lt_of_eq t.isLt N_0
  rw [coord_eq, BitVec.toNat_ofNat, Nat.mod_eq_of_lt (by omega)]

variable (m : (ℓ : Loc nD τ sig) → Buf (Elt Ideal) ℓ) (ρ : Dev nD → PrngReg) (c : Dev nD) (t : Fin cfg0.N)

/-- The arrays as the launch finds them, a row at a time. -/
def tok (R : Fin 65536) (k : Fin 1024) : EReal := (V m c main_v0 : S65536x1024.Idx → EReal) (ix2 R k)
def one1 (R : Fin 65536) (k : Fin 512) : EReal := (V m c main_arg1 : S65536x512.Idx → EReal) (ix2 R k)
def one2 (R : Fin 65536) (k : Fin 512) : EReal := (V m c main_arg2 : S65536x512.Idx → EReal) (ix2 R k)
def wt (k n : Fin 1024) : EReal := (V m c main_v1 : S1024x1024.Idx → EReal) (ix2 k n)
def gn (k : Fin 1024) : EReal := (V m c main_v2 : S1x1024.Idx → EReal) (ix2 0 k)

theorem iblk0_apply (r : Fin 512) (k : Fin 1024) (R : Fin 65536) (h : R.val = 512 * t.val + r.val) :
    iblk m c 0 t (ix2 r k) = tok m c R k := by
  refine congrArg (V m c main_v0) (funext fun a => Fin.ext ?_)
  match a with
  | ⟨0, _⟩ =>
    show (BitVec.ofNat 32 (grid0.coords t 0 : Fin _).val).toNat * 512 + 1 * r.val = R.val
    rw [word_eq]; omega
  | ⟨1, _⟩ => show 0 * _ + 1 * k.val = k.val; omega

theorem iblk1_apply (r k : Fin 512) (R : Fin 65536) (h : R.val = 512 * t.val + r.val) :
    iblk m c 1 t (ix2 r k) = one1 m c R k := by
  refine congrArg (V m c main_arg1) (funext fun a => Fin.ext ?_)
  match a with
  | ⟨0, _⟩ =>
    show (BitVec.ofNat 32 (grid0.coords t 0 : Fin _).val).toNat * 512 + 1 * r.val = R.val
    rw [word_eq]; omega
  | ⟨1, _⟩ => show 0 * _ + 1 * k.val = k.val; omega

theorem iblk2_apply (r k : Fin 512) (R : Fin 65536) (h : R.val = 512 * t.val + r.val) :
    iblk m c 2 t (ix2 r k) = one2 m c R k := by
  refine congrArg (V m c main_arg2) (funext fun a => Fin.ext ?_)
  match a with
  | ⟨0, _⟩ =>
    show (BitVec.ofNat 32 (grid0.coords t 0 : Fin _).val).toNat * 512 + 1 * r.val = R.val
    rw [word_eq]; omega
  | ⟨1, _⟩ => show 0 * _ + 1 * k.val = k.val; omega

theorem iblk3_eq : iblk m c 3 t = V m c main_v1 := by
  funext j
  refine congrArg (V m c main_v1) (funext fun a => Fin.ext ?_)
  match a with
  | ⟨0, _⟩ => show 0 * _ + 1 * (j 0).val = (j 0).val; omega
  | ⟨1, _⟩ => show 0 * _ + 1 * (j 1).val = (j 1).val; omega

theorem iblk4_eq : iblk m c 4 t = V m c main_v2 := by
  funext j
  refine congrArg (V m c main_v2) (funext fun a => Fin.ext ?_)
  match a with
  | ⟨0, _⟩ => show 0 * _ + 1 * (j 0).val = (j 0).val; omega
  | ⟨1, _⟩ => show 0 * _ + 1 * (j 1).val = (j 1).val; omega

/-- A token's residual, and its normalised row. -/
def resAt (R : Fin 65536) (n : Fin 1024) : EReal := res (tok m c R) (one1 m c R) (one2 m c R) (wt m c) n
def hidAt (R : Fin 65536) (n : Fin 1024) : EReal := hid (tok m c R) (one1 m c R) (one2 m c R) (wt m c) (gn m c) n

def resArr : Buf (Elt Ideal) ((c : Thread nD τ).loc main_v5_0) := fun i : S65536x1024.Idx => resAt m c (i 0) (i 1)
def hidArr : Buf (Elt Ideal) ((c : Thread nD τ).loc main_v5_1) := fun i : S65536x1024.Idx => hidAt m c (i 0) (i 1)

/-- The block of the residual a point computes. -/
def blkRes : Vec Ideal S512x1024 .f32 :=
  k0_pay4 (F := Ideal) (iblk m c 1 t) (top (iblk m c 3 t)) (iblk m c 2 t) (bot (iblk m c 3 t)) (iblk m c 0 t)
def blkHid : Vec Ideal S512x1024 .bf16 :=
  k0_pay6 (F := Ideal) (iblk m c 1 t) (top (iblk m c 3 t)) (iblk m c 2 t) (bot (iblk m c 3 t)) (iblk m c 0 t) (iblk m c 4 t)

theorem blkRes_apply (r : Fin 512) (n : Fin 1024) (R : Fin 65536) (h : R.val = 512 * t.val + r.val) :
    (blkRes m c t (ix2 r n) : EReal) = resAt m c R n := by
  unfold blkRes
  rw [pay4_apply, iblk0_apply m c t r n R h, iblk3_eq]
  refine congrArg (fun s => tok m c R n + s) (congrArg₂ (· + ·) (Finset.sum_congr rfl fun k _ => ?_) (Finset.sum_congr rfl fun k _ => ?_))
  · rw [iblk1_apply m c t r k R h]; rfl
  · rw [iblk2_apply m c t r k R h]; rfl

theorem blkHid_apply (r : Fin 512) (n : Fin 1024) (R : Fin 65536) (h : R.val = 512 * t.val + r.val) :
    (blkHid m c t (ix2 r n) : EReal) = hidAt m c R n := by
  unfold blkHid
  rw [pay6_apply, iblk4_eq]
  exact congrArg (fun x => nrm n1024 x (gn m c) n) (funext fun q => blkRes_apply m c t r q R h)

theorem flushed7_blk : (dats m 0 c).flushed 7 t = (cfg0.win 7).cut (grid0.coords t) (blkRes m c t) := by
  by_cases h0 : t.val % 128 = 0
  · rw [Cert.OutKernelIdeal.Value.flushed7_A m c t h0, out_A7]; rfl
  · rw [Cert.OutKernelIdeal.Value.flushed7_B m c t h0, out_B7]; rfl

theorem flushed8_blk : (dats m 0 c).flushed 8 t = (cfg0.win 8).cut (grid0.coords t) (blkHid m c t) := by
  by_cases h0 : t.val % 128 = 0
  · rw [Cert.OutKernelIdeal.Value.flushed8_A m c t h0, out_A8]; rfl
  · rw [Cert.OutKernelIdeal.Value.flushed8_B m c t h0, out_B8]; rfl

theorem emb7 (j : S512x1024.Idx) (h : 512 * t.val + (j 0).val < 65536) :
    ((cfg0.win 7).blk t).view.emb j = (ix2 ⟨512 * t.val + (j 0).val, h⟩ (j 1) : S65536x1024.Idx) := by
  funext a
  refine Fin.ext ?_
  match a with
  | ⟨0, _⟩ =>
    show (BitVec.ofNat 32 (grid0.coords t 0 : Fin _).val).toNat * 512 + 1 * (j 0).val = 512 * t.val + (j 0).val
    rw [word_eq]; omega
  | ⟨1, _⟩ => show 0 * _ + 1 * (j 1).val = (j 1).val; omega

theorem emb8 (j : S512x1024.Idx) (h : 512 * t.val + (j 0).val < 65536) :
    ((cfg0.win 8).blk t).view.emb j = (ix2 ⟨512 * t.val + (j 0).val, h⟩ (j 1) : S65536x1024.Idx) := by
  funext a
  refine Fin.ext ?_
  match a with
  | ⟨0, _⟩ =>
    show (BitVec.ofNat 32 (grid0.coords t 0 : Fin _).val).toNat * 512 + 1 * (j 0).val = 512 * t.val + (j 0).val
    rw [word_eq]; omega
  | ⟨1, _⟩ => show 0 * _ + 1 * (j 1).val = (j 1).val; omega

/-- What a point writes back is its block of the whole result. -/
theorem flushed7_eq : (dats m 0 c).flushed 7 t = ((cfg0.win 7).blk t).view.read (Elt Ideal) (resArr m c) := by
  have ht : t.val < 128 := lt_of_lt_of_eq t.isLt N_0
  rw [flushed7_blk]
  funext j
  have hj : (j 0).val < 512 := (j 0).isLt
  show blkRes m c t j = resArr m c (((cfg0.win 7).blk t).view.emb j)
  rw [emb7 t j (by omega)]
  exact (congrArg (blkRes m c t) (eq_ix2 j)).trans (blkRes_apply m c t (j 0) (j 1) ⟨512 * t.val + (j 0).val, by omega⟩ rfl)

theorem flushed8_eq : (dats m 0 c).flushed 8 t = ((cfg0.win 8).blk t).view.read (Elt Ideal) (hidArr m c) := by
  have ht : t.val < 128 := lt_of_lt_of_eq t.isLt N_0
  rw [flushed8_blk]
  funext j
  have hj : (j 0).val < 512 := (j 0).isLt
  show blkHid m c t j = hidArr m c (((cfg0.win 8).blk t).view.emb j)
  rw [emb8 t j (by omega)]
  exact (congrArg (blkHid m c t) (eq_ix2 j)).trans (blkHid_apply m c t (j 0) (j 1) ⟨512 * t.val + (j 0).val, by omega⟩ rfl)

/-- Every index of a result lies in some point's block. -/
theorem cover7 (i : S65536x1024.Idx) : ∃ t : Fin cfg0.N, (cfg0.win 7).flush t = true ∧ i ∈ ((cfg0.win 7).blk t).view.set := by
  have h0 : (i 0).val < 65536 := (i 0).isLt
  let t : Fin cfg0.N := ⟨(i 0).val / 512, lt_of_lt_of_eq (by omega) N_0.symm⟩
  refine ⟨t, flush0_7 _, ?_⟩
  have h := ((cfg0.win 7).blk t).view.emb_mem_set (ix2 ⟨(i 0).val % 512, Nat.mod_lt _ (by decide)⟩ (i 1) : S512x1024.Idx)
  have ht : t.val = (i 0).val / 512 := rfl
  rw [emb7 t _ (by show 512 * t.val + (i 0).val % 512 < 65536; omega)] at h
  have e : (ix2 ⟨512 * ((i 0).val / 512) + (i 0).val % 512, by omega⟩ (i 1) : S65536x1024.Idx) = i :=
    (congrArg (fun r => ix2 r (i 1)) (Fin.ext (by show 512 * ((i 0).val / 512) + (i 0).val % 512 = (i 0).val; omega))).trans (eq_ix2 i).symm
  exact e ▸ h

theorem cover8 (i : S65536x1024.Idx) : ∃ t : Fin cfg0.N, (cfg0.win 8).flush t = true ∧ i ∈ ((cfg0.win 8).blk t).view.set := by
  have h0 : (i 0).val < 65536 := (i 0).isLt
  let t : Fin cfg0.N := ⟨(i 0).val / 512, lt_of_lt_of_eq (by omega) N_0.symm⟩
  refine ⟨t, flush0_8 _, ?_⟩
  have h := ((cfg0.win 8).blk t).view.emb_mem_set (ix2 ⟨(i 0).val % 512, Nat.mod_lt _ (by decide)⟩ (i 1) : S512x1024.Idx)
  have ht : t.val = (i 0).val / 512 := rfl
  rw [emb8 t _ (by show 512 * t.val + (i 0).val % 512 < 65536; omega)] at h
  have e : (ix2 ⟨512 * ((i 0).val / 512) + (i 0).val % 512, by omega⟩ (i 1) : S65536x1024.Idx) = i :=
    (congrArg (fun r => ix2 r (i 1)) (Fin.ext (by show 512 * ((i 0).val / 512) + (i 0).val % 512 = (i 0).val; omega))).trans (eq_ix2 i).symm
  exact e ▸ h

theorem final7 : (dats m 0 c).arrAt 7 cfg0.N = resArr m c :=
  (dats m 0 c).arrAt_eq_of_cover 7 (resArr m c) (fun t _ => flushed7_eq m c t) cover7
theorem final8 : (dats m 0 c).arrAt 8 cfg0.N = hidArr m c :=
  (dats m 0 c).arrAt_eq_of_cover 8 (hidArr m c) (fun t _ => flushed8_eq m c t) cover8

end Cert.OutKernelIdeal.Hand
-- ==== Proof.Out.Reference.lean ====
/- The reference's two results of the output mixing, over the extended reals. -/
module

public import proofs.«01_k».proof.Proof.Gen.OutReferenceIdeal.Read
public import proofs.«01_k».proof.Proof.Out.Layer
public import Idealize.ShloMosaic.Lib.Pipeline.Value

@[expose] public section

set_option maxRecDepth 16384

noncomputable section

namespace Cert.OutReferenceIdeal.Hand

open Cert.OutReferenceIdeal Cert.OutReferenceIdeal.Gen Cert.OutReferenceIdeal.Read Cert.Mix Cert.Out
open Idealize.ShloMosaic Idealize.ShloMosaic.ValueIdx

variable (x0 : (⟨S8x8192x1024, .f32⟩ : BufTy).Contents (Elt Ideal)) (x1 x2 : (⟨S65536x512, .bf16⟩ : BufTy).Contents (Elt Ideal))
  (x3 : (⟨S1024x1024, .f32⟩ : BufTy).Contents (Elt Ideal)) (x4 : (⟨S1024, .f32⟩ : BufTy).Contents (Elt Ideal))

def xs (R : Fin 65536) (k : Fin 1024) : EReal := val_main_v3 (F := Ideal) x0 (ix2 R k)
def br (x : (⟨S65536x512, .bf16⟩ : BufTy).Contents (Elt Ideal)) (R : Fin 65536) (k : Fin 512) : EReal := x (ix2 R k)
def ws (k n : Fin 1024) : EReal := x3 (ix2 k n)
def gs (k : Fin 1024) : EReal := x4 (ix1 k)

theorem from_zero (z s : EReal) (h : z = Ideal.ofBits .f32 0x00000000#32) : z + s = s := by
  rw [h, Ideal.ofBits_zero_f32, zero_add]

/-- A sum over 1024 in two halves. -/
theorem sum_halves (f : Fin 1024 → EReal) :
    ∑ k, f k = (∑ k : Fin 512, f ⟨k.val, by omega⟩) + ∑ k : Fin 512, f ⟨512 + k.val, by omega⟩ :=
  Fin.sum_univ_add (show Fin (512 + 512) → EReal from f)

theorem left_eq (i : S65536x1024.Idx) (R : Fin 65536) (k : Fin 512) (hi : i = ix2 R ⟨k.val, by omega⟩) :
    (val_main_v2 (F := Ideal) x1 x2 i : EReal) = br x1 R k := by
  subst hi
  unfold val_main_v2
  exact concatenate_pair_apply_left (t := S65536x1024) 1 (val_main_v0 (F := Ideal) x1) (val_main_v1 (F := Ideal) x2) _ _ rfl (ix2 R k : S65536x512.Idx) (fun b => match b with
    | ⟨0, _⟩ => rfl
    | ⟨1, _⟩ => rfl)

theorem right_eq (i : S65536x1024.Idx) (R : Fin 65536) (k : Fin 512) (hi : i = ix2 R ⟨512 + k.val, by omega⟩) :
    (val_main_v2 (F := Ideal) x1 x2 i : EReal) = br x2 R k := by
  subst hi
  unfold val_main_v2
  exact concatenate_pair_apply_right (t := S65536x1024) 1 (val_main_v0 (F := Ideal) x1) (val_main_v1 (F := Ideal) x2) _ _ rfl rfl (ix2 R k : S65536x512.Idx) (fun b hb => match b with
    | ⟨0, _⟩ => rfl
    | ⟨1, _⟩ => absurd rfl hb) (Nat.add_comm k.val 512)

theorem v5_eq (i : S65536x1024.Idx) (R : Fin 65536) (n : Fin 1024) (hi : i = ix2 R n) :
    (val_main_v5 (F := Ideal) x0 x1 x2 x3 i : EReal) = res (xs x0 R) (br x1 R) (br x2 R) (ws x3) n := by
  subst hi
  rw [val_main_v5_apply, val_main_v4_apply, sum_halves]
  refine congrArg (fun s => xs x0 R n + s) (congrArg₂ (· + ·) (Finset.sum_congr rfl fun k _ => ?_) (Finset.sum_congr rfl fun k _ => ?_))
  · exact congrArg₂ (· * ·) (left_eq x1 x2 _ R k (eq_ix2 _)) (congrArg x3 (eq_ix2 _))
  · exact congrArg₂ (· * ·) (right_eq x1 x2 _ R k (eq_ix2 _)) (congrArg x3 (eq_ix2 _))

theorem v19_eq (i : S65536x1024.Idx) (R : Fin 65536) (n : Fin 1024) (hi : i = ix2 R n) :
    (val_main_v19 (F := Ideal) x0 x1 x2 x3 x4 i : EReal) = hid (xs x0 R) (br x1 R) (br x2 R) (ws x3) (gs x4) n := by
  subst hi
  have hs : (val_main_v7 (F := Ideal) x0 x1 x2 x3 (idx_main_v8 (idx_main_v14 (ix2 R n))) : EReal)
      = ∑ q, res (xs x0 R) (br x1 R) (br x2 R) (ws x3) q * res (xs x0 R) (br x1 R) (br x2 R) (ws x3) q := by
    rw [val_main_v7_apply]
    refine (from_zero _ _ rfl).trans (Finset.sum_congr rfl fun q _ => ?_)
    have e := v5_eq x0 x1 x2 x3 (idx_main_v7 (idx_main_v8 (idx_main_v14 (ix2 R n))) q) R q (eq_ix2 _)
    exact congrArg₂ (· * ·) e e
  have hg : x4 (idx_main_v16 (idx_main_v17 (ix2 R n))) = x4 (ix1 n) := congrArg x4 (eq_ix1 _)
  rw [val_main_v19_apply, val_main_v18_apply, val_main_v15_apply, val_main_v14_apply, val_main_v13_apply, val_main_v12_apply, val_main_v10_apply,
    val_main_v8_apply, hs, val_main_v9_apply, val_main_v11_apply, val_main_v17_apply, val_main_v16_apply, hg, v5_eq x0 x1 x2 x3 _ R n rfl]
  rfl

end Cert.OutReferenceIdeal.Hand
-- ==== Proof.Out.Algebraic.lean ====
/- The output mixing's kernel and its reference end at the same residual and the same normalised rows over the extended reals. -/
module

public import proofs.«01_k».proof.Defs
public import proofs.«01_k».proof.Proof.Out.Arrays
public import proofs.«01_k».proof.Proof.Out.Reference
public import proofs.«01_k».proof.Proof.Gen.OutReferenceIdeal.Run

@[expose] public section

set_option maxRecDepth 16384

noncomputable section

namespace Cert.OutKernelIdeal.Hand

open Cert.OutKernelIdeal Cert.OutKernelIdeal.Gen Cert.Mix Cert.Out
open Idealize.ShloMosaic Idealize.ShloMosaic.TcCoe Idealize.ShloMosaic.ValueIdx Idealize.SL.Sem

variable (m : (ℓ : Loc nD τ sig) → Buf (Elt Ideal) ℓ) (c : Dev nD)

/-! ## The arguments as the program lays them out -/

theorem V_v0 : V (F := Ideal) m c main_v0 = shapeCast S65536x1024 (m ((c : Thread nD τ).loc main_arg0)) shapeCasts_S8x8192x1024_S65536x1024 := by
  unfold V hostOps0
  rfl

theorem V_v1 : V (F := Ideal) m c main_v1 = m ((c : Thread nD τ).loc main_arg3) := by
  unfold V hostOps0
  rfl

theorem V_v2 : V (F := Ideal) m c main_v2 = shapeCast S1x1024 (m ((c : Thread nD τ).loc main_arg4)) shapeCasts_S1024_S1x1024 := by
  unfold V hostOps0
  rfl

theorem lay (b : S1024.Idx → EReal) (k : Fin 1024) : shapeCast S1x1024 b shapeCasts_S1024_S1x1024 (ix2 0 k) = b (ix1 k) := by
  refine shapeCast_apply _ _ _ _ ?_
  rw [Shape.rowMajor_val_one, Shape.rowMajor_val_two]
  show k.val = 0 * 1024 + k.val
  omega

theorem tok_eq : tok m c = Cert.OutReferenceIdeal.Hand.xs (m ((c : Thread nD τ).loc main_arg0)) := by
  unfold tok
  rw [V_v0]
  rfl

theorem one1_eq : one1 m c = Cert.OutReferenceIdeal.Hand.br (m ((c : Thread nD τ).loc main_arg1)) := by
  unfold one1
  rw [V_main_arg1]
  rfl

theorem one2_eq : one2 m c = Cert.OutReferenceIdeal.Hand.br (m ((c : Thread nD τ).loc main_arg2)) := by
  unfold one2
  rw [V_main_arg2]
  rfl

theorem wt_eq : wt m c = Cert.OutReferenceIdeal.Hand.ws (m ((c : Thread nD τ).loc main_arg3)) := by
  unfold wt
  rw [V_v1]
  rfl

theorem gn_eq : gn m c = Cert.OutReferenceIdeal.Hand.gs (m ((c : Thread nD τ).loc main_arg4)) := by
  unfold gn
  rw [V_v2]
  funext k
  exact lay _ k

theorem resAt_eq (R : Fin 65536) (n : Fin 1024) : resAt m c R n = res (Cert.OutReferenceIdeal.Hand.xs (m ((c : Thread nD τ).loc main_arg0)) R)
    (Cert.OutReferenceIdeal.Hand.br (m ((c : Thread nD τ).loc main_arg1)) R) (Cert.OutReferenceIdeal.Hand.br (m ((c : Thread nD τ).loc main_arg2)) R)
    (Cert.OutReferenceIdeal.Hand.ws (m ((c : Thread nD τ).loc main_arg3))) n := by
  unfold resAt
  rw [tok_eq, one1_eq, one2_eq, wt_eq]

theorem hidAt_eq (R : Fin 65536) (n : Fin 1024) : hidAt m c R n = hid (Cert.OutReferenceIdeal.Hand.xs (m ((c : Thread nD τ).loc main_arg0)) R)
    (Cert.OutReferenceIdeal.Hand.br (m ((c : Thread nD τ).loc main_arg1)) R) (Cert.OutReferenceIdeal.Hand.br (m ((c : Thread nD τ).loc main_arg2)) R)
    (Cert.OutReferenceIdeal.Hand.ws (m ((c : Thread nD τ).loc main_arg3))) (Cert.OutReferenceIdeal.Hand.gs (m ((c : Thread nD τ).loc main_arg4))) n := by
  unfold hidAt
  rw [tok_eq, one1_eq, one2_eq, wt_eq, gn_eq]

end Cert.OutKernelIdeal.Hand

namespace Cert.Out

open Idealize.ShloMosaic Idealize.ShloMosaic.TcCoe Idealize.ShloMosaic.ValueIdx Idealize.SL.Sem
open Cert.OutKernelIdeal.Hand Cert.OutReferenceIdeal.Read

theorem algebraic : Cert.algebraic_OutKernelIdeal_OutReferenceIdeal := fun m g m' g' _ hm => by
  refine ⟨fun c => resArr m c, fun c => hidArr m c,
    (θ_run (Cert.OutKernelIdeal.defs (F := Ideal)) _ _).mono (fun _ h c => ⟨(h c).1.trans (final7 m c), (h c).2.1.trans (final8 m c),
      (h c).2.2.2.2.2.2.2.2⟩) (Cert.OutKernelIdeal.Value.run_blocks (F := Ideal) m g),
    (θ_run (Cert.OutReferenceIdeal.defs (F := Ideal)) _ _).mono (fun _ h c => ⟨(h c).1.trans ((val_main_v5_eq _ _ _ _).trans ?_),
      (h c).2.1.trans ((val_main_v19_eq _ _ _ _ _).trans ?_), (h c).2.2⟩)
      (Cert.OutReferenceIdeal.Value.run (F := Ideal) m' g')⟩
  · obtain ⟨e0, e1, e2, e3, -⟩ := hm c
    rw [e0, e1, e2, e3]
    funext i
    exact (Cert.OutReferenceIdeal.Hand.v5_eq _ _ _ _ i (i 0) (i 1) (eq_ix2 i)).trans (resAt_eq m c (i 0) (i 1)).symm
  · obtain ⟨e0, e1, e2, e3, e4, -⟩ := hm c
    rw [e0, e1, e2, e3, e4]
    funext i
    exact (Cert.OutReferenceIdeal.Hand.v19_eq _ _ _ _ _ i (i 0) (i 1) (eq_ix2 i)).trans (hidAt_eq m c (i 0) (i 1)).symm

end Cert.Out
-- ==== Proof.lean ====
module

public import proofs.«01_k».proof.Defs
public import proofs.«01_k».proof.Proof.Frames
public import proofs.«01_k».proof.Proof.Algebraic
public import proofs.«01_k».proof.Proof.Mix.Frames
public import proofs.«01_k».proof.Proof.Out.Frames
public import proofs.«01_k».proof.Proof.Mix.Algebraic
public import proofs.«01_k».proof.Proof.Out.Algebraic
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelPacked
public import proofs.«01_k».proof.Proof.Gen.KernelPacked.Skeleton
public import proofs.«01_k».proof.Proof.Gen.KernelPacked.Loops
public import proofs.«01_k».proof.Proof.Gen.KernelPacked.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MixKernel
public import proofs.«01_k».proof.Proof.Gen.MixKernel.Skeleton
public import proofs.«01_k».proof.Proof.Gen.MixKernelIdeal
public import proofs.«01_k».proof.Proof.Gen.MixKernelIdeal.Skeleton
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.OutKernel
public import proofs.«01_k».proof.Proof.Gen.OutKernel.Skeleton
public import proofs.«01_k».proof.Proof.Gen.OutKernelIdeal
public import proofs.«01_k».proof.Proof.Gen.OutKernelIdeal.Skeleton
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import Idealize.ShloMosaic.Adequacy
public import Idealize.ShloMosaic.Init

@[expose] public section

noncomputable section

theorem Cert.Proof.claim : Cert.Claim :=
  ⟨Cert.KernelPacked.Gen.facts, Cert.Kernel.Gen.facts, Cert.KernelIdeal.Gen.facts, Cert.ReferenceIdeal.Gen.facts,
    Cert.MixKernel.Gen.facts, Cert.MixKernelIdeal.Gen.facts, Cert.MixReferenceIdeal.Gen.facts,
    Cert.OutKernel.Gen.facts, Cert.OutKernelIdeal.Gen.facts, Cert.OutReferenceIdeal.Gen.facts, Cert.Hand.seg_facts,
    Cert.Hand.frame_packed, Cert.Hand.frame_kernel, Cert.Hand.frame_ideal, Cert.Hand.frame_reference,
    Cert.Mix.frame_kernel, Cert.Mix.frame_ideal, Cert.Mix.frame_reference, Cert.Out.frame_kernel, Cert.Out.frame_ideal, Cert.Out.frame_reference,
    trivial, Cert.Hand.algebraic, trivial, Cert.Mix.algebraic, trivial, Cert.Out.algebraic⟩
